-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite16 [hPre_finite16 : Cert.Pre_finite16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite16 [hPre_finite16 : Cert.Pre_finite16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3))) = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Kernel16Ideal_pre_finite16 [hKernel16Ideal : Cert.Kernel16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite16 m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Reference16Ideal_pre_finite16 [hReference16Ideal : Cert.Reference16Ideal.Facts] [hPre_finite16 : Cert.Pre_finite16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite16 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v103_0)) (v1 : (c : Dev Cert.KernelIdeal.nD) → Buf (Elt Ideal) ((c.tc : Thread Cert.KernelIdeal.nD Cert.KernelIdeal.τ).loc Cert.KernelIdeal.main_v103_1)) (v2 : (c : Dev Cert.KernelIdeal.nD) → Buf (Elt Ideal) ((c.tc : Thread Cert.KernelIdeal.nD Cert.KernelIdeal.τ).loc Cert.KernelIdeal.main_v103_2)) (v3 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103_0) = v0 c
          ∧ r.2.mem ((c.tc : Thread Cert.KernelIdeal.nD Cert.KernelIdeal.τ).loc Cert.KernelIdeal.main_v103_1) = v1 c
          ∧ r.2.mem ((c.tc : Thread Cert.KernelIdeal.nD Cert.KernelIdeal.τ).loc Cert.KernelIdeal.main_v103_2) = v2 c
          ∧ r.2.mem ((c.tc : Thread Cert.KernelIdeal.nD Cert.KernelIdeal.τ).loc Cert.KernelIdeal.main_v104) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v206) = v0 c
          ∧ r.2.mem ((c.tc : Thread Cert.ReferenceIdeal.nD Cert.ReferenceIdeal.τ).loc Cert.ReferenceIdeal.main_v193) = v1 c
          ∧ r.2.mem ((c.tc : Thread Cert.ReferenceIdeal.nD Cert.ReferenceIdeal.τ).loc Cert.ReferenceIdeal.main_v180) = v2 c
          ∧ r.2.mem ((c.tc : Thread Cert.ReferenceIdeal.nD Cert.ReferenceIdeal.τ).loc Cert.ReferenceIdeal.main_v155) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v12)) (v1 : (c : Dev Cert.Kernel2Ideal.nD) → Buf (Elt Ideal) ((c.tc : Thread Cert.Kernel2Ideal.nD Cert.Kernel2Ideal.τ).loc Cert.Kernel2Ideal.main_v10_1)) (v2 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_v11) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_v27) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v9)) (v2 : (c : Dev Cert.Kernel3Ideal.nD) → Buf (Elt Ideal) ((c.tc : Thread Cert.Kernel3Ideal.nD Cert.Kernel3Ideal.τ).loc Cert.Kernel3Ideal.main_v8)) (v3 : (c : Dev Cert.Kernel3Ideal.nD) → Buf (Elt Ideal) ((c.tc : Thread Cert.Kernel3Ideal.nD Cert.Kernel3Ideal.τ).loc Cert.Kernel3Ideal.main_v7)) (v4 : (c : Dev Cert.Kernel3Ideal.nD) → Buf (Elt Ideal) ((c.tc : Thread Cert.Kernel3Ideal.nD Cert.Kernel3Ideal.τ).loc Cert.Kernel3Ideal.main_v5)) (v5 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v9) = v1 c
          ∧ r.2.mem ((c.tc : Thread Cert.Kernel3Ideal.nD Cert.Kernel3Ideal.τ).loc Cert.Kernel3Ideal.main_v8) = v2 c
          ∧ r.2.mem ((c.tc : Thread Cert.Kernel3Ideal.nD Cert.Kernel3Ideal.τ).loc Cert.Kernel3Ideal.main_v7) = v3 c
          ∧ r.2.mem ((c.tc : Thread Cert.Kernel3Ideal.nD Cert.Kernel3Ideal.τ).loc Cert.Kernel3Ideal.main_v5) = v4 c
          ∧ r.2.mem ((c.tc : Thread Cert.Kernel3Ideal.nD Cert.Kernel3Ideal.τ).loc Cert.Kernel3Ideal.main_v6) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v62) = v0 c
          ∧ r.2.mem ((c.tc : Thread Cert.Reference3Ideal.nD Cert.Reference3Ideal.τ).loc Cert.Reference3Ideal.main_v65) = v1 c
          ∧ r.2.mem ((c.tc : Thread Cert.Reference3Ideal.nD Cert.Reference3Ideal.τ).loc Cert.Reference3Ideal.main_v69) = v2 c
          ∧ r.2.mem ((c.tc : Thread Cert.Reference3Ideal.nD Cert.Reference3Ideal.τ).loc Cert.Reference3Ideal.main_v47) = v3 c
          ∧ r.2.mem ((c.tc : Thread Cert.Reference3Ideal.nD Cert.Reference3Ideal.τ).loc Cert.Reference3Ideal.main_v41) = v4 c
          ∧ r.2.mem ((c.tc : Thread Cert.Reference3Ideal.nD Cert.Reference3Ideal.τ).loc Cert.Reference3Ideal.main_v35) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v3)) (v2 : (c : Dev Cert.Kernel4Ideal.nD) → Buf (Elt Ideal) ((c.tc : Thread Cert.Kernel4Ideal.nD Cert.Kernel4Ideal.τ).loc Cert.Kernel4Ideal.main_v1)) (v3 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v3) = v1 c
          ∧ r.2.mem ((c.tc : Thread Cert.Kernel4Ideal.nD Cert.Kernel4Ideal.τ).loc Cert.Kernel4Ideal.main_v1) = v2 c
          ∧ r.2.mem ((c.tc : Thread Cert.Kernel4Ideal.nD Cert.Kernel4Ideal.τ).loc Cert.Kernel4Ideal.main_v2) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v57) = v0 c
          ∧ r.2.mem ((c.tc : Thread Cert.Reference4Ideal.nD Cert.Reference4Ideal.τ).loc Cert.Reference4Ideal.main_v42) = v1 c
          ∧ r.2.mem ((c.tc : Thread Cert.Reference4Ideal.nD Cert.Reference4Ideal.τ).loc Cert.Reference4Ideal.main_v36) = v2 c
          ∧ r.2.mem ((c.tc : Thread Cert.Reference4Ideal.nD Cert.Reference4Ideal.τ).loc Cert.Reference4Ideal.main_v30) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v7)) (v1 : (c : Dev Cert.Kernel5Ideal.nD) → Buf (Elt Ideal) ((c.tc : Thread Cert.Kernel5Ideal.nD Cert.Kernel5Ideal.τ).loc Cert.Kernel5Ideal.main_v4_0)) (v2 : (c : Dev Cert.Kernel5Ideal.nD) → Buf (Elt Ideal) ((c.tc : Thread Cert.Kernel5Ideal.nD Cert.Kernel5Ideal.τ).loc Cert.Kernel5Ideal.main_v10)) (v3 : (c : Dev Cert.Kernel5Ideal.nD) → Buf (Elt Ideal) ((c.tc : Thread Cert.Kernel5Ideal.nD Cert.Kernel5Ideal.τ).loc Cert.Kernel5Ideal.main_v9)) (v4 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_v4_0) = v1 c
          ∧ r.2.mem ((c.tc : Thread Cert.Kernel5Ideal.nD Cert.Kernel5Ideal.τ).loc Cert.Kernel5Ideal.main_v10) = v2 c
          ∧ r.2.mem ((c.tc : Thread Cert.Kernel5Ideal.nD Cert.Kernel5Ideal.τ).loc Cert.Kernel5Ideal.main_v9) = v3 c
          ∧ r.2.mem ((c.tc : Thread Cert.Kernel5Ideal.nD Cert.Kernel5Ideal.τ).loc Cert.Kernel5Ideal.main_v8) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_v56) = v1 c
          ∧ r.2.mem ((c.tc : Thread Cert.Reference5Ideal.nD Cert.Reference5Ideal.τ).loc Cert.Reference5Ideal.main_v58) = v2 c
          ∧ r.2.mem ((c.tc : Thread Cert.Reference5Ideal.nD Cert.Reference5Ideal.τ).loc Cert.Reference5Ideal.main_v62) = v3 c
          ∧ r.2.mem ((c.tc : Thread Cert.Reference5Ideal.nD Cert.Reference5Ideal.τ).loc Cert.Reference5Ideal.main_v42) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v1)) (v3 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v1) = v2 c
          ∧ r.2.mem ((c.tc : Thread Cert.Kernel6Ideal.nD Cert.Kernel6Ideal.τ).loc Cert.Kernel6Ideal.main_v2) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v76) = v0 c
          ∧ r.2.mem ((c.tc : Thread Cert.Reference6Ideal.nD Cert.Reference6Ideal.τ).loc Cert.Reference6Ideal.main_v56) = v1 c
          ∧ r.2.mem ((c.tc : Thread Cert.Reference6Ideal.nD Cert.Reference6Ideal.τ).loc Cert.Reference6Ideal.main_v62) = v2 c
          ∧ r.2.mem ((c.tc : Thread Cert.Reference6Ideal.nD Cert.Reference6Ideal.τ).loc Cert.Reference6Ideal.main_v42) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  IdealRules.named_const.Statement Cert.Kernel7Ideal.κ "masked" .f32 0xF149F2CA#32 ⊥

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v20_0)) (v1 : (c : Dev Cert.Kernel7Ideal.nD) → Buf (Elt Ideal) ((c.tc : Thread Cert.Kernel7Ideal.nD Cert.Kernel7Ideal.τ).loc Cert.Kernel7Ideal.main_v20_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v20_0) = v0 c
          ∧ r.2.mem ((c.tc : Thread Cert.Kernel7Ideal.nD Cert.Kernel7Ideal.τ).loc Cert.Kernel7Ideal.main_v20_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v94) = v0 c
          ∧ r.2.mem ((c.tc : Thread Cert.Reference7Ideal.nD Cert.Reference7Ideal.τ).loc Cert.Reference7Ideal.main_v96) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v28) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v18) = v0 c
          ∧ r.2.mem ((c.tc : Thread Cert.Reference11Ideal.nD Cert.Reference11Ideal.τ).loc Cert.Reference11Ideal.main_v23) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v5)) (v1 : (c : Dev Cert.Kernel12Ideal.nD) → Buf (Elt Ideal) ((c.tc : Thread Cert.Kernel12Ideal.nD Cert.Kernel12Ideal.τ).loc Cert.Kernel12Ideal.main_v6)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0 c
          ∧ r.2.mem ((c.tc : Thread Cert.Kernel12Ideal.nD Cert.Kernel12Ideal.τ).loc Cert.Kernel12Ideal.main_v6) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_v2) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v2_0)) (v1 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_0) = v0 c
          ∧ r.2.mem ((c.tc : Thread Cert.Kernel13Ideal.nD Cert.Kernel13Ideal.τ).loc Cert.Kernel13Ideal.main_v3) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_v0) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v8_0)) (v1 : (c : Dev Cert.Kernel14Ideal.nD) → Buf (Elt Ideal) ((c.tc : Thread Cert.Kernel14Ideal.nD Cert.Kernel14Ideal.τ).loc Cert.Kernel14Ideal.main_v8_1)) (v2 : (c : Dev Cert.Kernel14Ideal.nD) → Buf (Elt Ideal) ((c.tc : Thread Cert.Kernel14Ideal.nD Cert.Kernel14Ideal.τ).loc Cert.Kernel14Ideal.main_v8_2)) (v3 : (c : Dev Cert.Kernel14Ideal.nD) → Buf (Elt Ideal) ((c.tc : Thread Cert.Kernel14Ideal.nD Cert.Kernel14Ideal.τ).loc Cert.Kernel14Ideal.main_v8_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v8_0) = v0 c
          ∧ r.2.mem ((c.tc : Thread Cert.Kernel14Ideal.nD Cert.Kernel14Ideal.τ).loc Cert.Kernel14Ideal.main_v8_1) = v1 c
          ∧ r.2.mem ((c.tc : Thread Cert.Kernel14Ideal.nD Cert.Kernel14Ideal.τ).loc Cert.Kernel14Ideal.main_v8_2) = v2 c
          ∧ r.2.mem ((c.tc : Thread Cert.Kernel14Ideal.nD Cert.Kernel14Ideal.τ).loc Cert.Kernel14Ideal.main_v8_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_v27) = v1 c
          ∧ r.2.mem ((c.tc : Thread Cert.Reference14Ideal.nD Cert.Reference14Ideal.τ).loc Cert.Reference14Ideal.main_v8) = v2 c
          ∧ r.2.mem ((c.tc : Thread Cert.Reference14Ideal.nD Cert.Reference14Ideal.τ).loc Cert.Reference14Ideal.main_v14) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v3_0)) (v1 : (c : Dev Cert.Kernel15Ideal.nD) → Buf (Elt Ideal) ((c.tc : Thread Cert.Kernel15Ideal.nD Cert.Kernel15Ideal.τ).loc Cert.Kernel15Ideal.main_v3_1)) (v2 : (c : Dev Cert.Kernel15Ideal.nD) → Buf (Elt Ideal) ((c.tc : Thread Cert.Kernel15Ideal.nD Cert.Kernel15Ideal.τ).loc Cert.Kernel15Ideal.main_v3_2)) (v3 : (c : Dev Cert.Kernel15Ideal.nD) → Buf (Elt Ideal) ((c.tc : Thread Cert.Kernel15Ideal.nD Cert.Kernel15Ideal.τ).loc Cert.Kernel15Ideal.main_v3_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3_0) = v0 c
          ∧ r.2.mem ((c.tc : Thread Cert.Kernel15Ideal.nD Cert.Kernel15Ideal.τ).loc Cert.Kernel15Ideal.main_v3_1) = v1 c
          ∧ r.2.mem ((c.tc : Thread Cert.Kernel15Ideal.nD Cert.Kernel15Ideal.τ).loc Cert.Kernel15Ideal.main_v3_2) = v2 c
          ∧ r.2.mem ((c.tc : Thread Cert.Kernel15Ideal.nD Cert.Kernel15Ideal.τ).loc Cert.Kernel15Ideal.main_v3_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_v27) = v1 c
          ∧ r.2.mem ((c.tc : Thread Cert.Reference15Ideal.nD Cert.Reference15Ideal.τ).loc Cert.Reference15Ideal.main_v8) = v2 c
          ∧ r.2.mem ((c.tc : Thread Cert.Reference15Ideal.nD Cert.Reference15Ideal.τ).loc Cert.Reference15Ideal.main_v14) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  IdealRules.named_const.Statement Cert.Kernel16Ideal.κ "inv_sqrt2" .f32 0x3F3504F3#32 (((Real.sqrt 2)⁻¹ : ℝ) : EReal)
  ∧ IdealRules.named_const.Statement Cert.Kernel16Ideal.κ "inv_sqrt2pi" .f32 0x3ECC422A#32 (((9465531 / 16777216) * (Real.sqrt 2)⁻¹ : ℝ) : EReal)

def algebraic_Kernel16Ideal_Reference16Ideal_pre_finite16 [hKernel16Ideal : Cert.Kernel16Ideal.Facts] [hReference16Ideal : Cert.Reference16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite16 m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v31)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v31) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v40) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v30)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v30) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v25) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v2_0)) (v1 : (c : Dev Cert.Kernel19Ideal.nD) → Buf (Elt Ideal) ((c.tc : Thread Cert.Kernel19Ideal.nD Cert.Kernel19Ideal.τ).loc Cert.Kernel19Ideal.main_v3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2_0) = v0 c
          ∧ r.2.mem ((c.tc : Thread Cert.Kernel19Ideal.nD Cert.Kernel19Ideal.τ).loc Cert.Kernel19Ideal.main_v3) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_v0) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v6)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v6) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v4)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite : Cert.Pre_finite.Facts) (hPre_finite3 : Cert.Pre_finite3.Facts) (hPre_finite4 : Cert.Pre_finite4.Facts) (hPre_finite5 : Cert.Pre_finite5.Facts) (hPre_finite6 : Cert.Pre_finite6.Facts) (hPre_finite7 : Cert.Pre_finite7.Facts) (hPre_finite16 : Cert.Pre_finite16.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Kernel16Ideal_pre_finite16 (hKernel16Ideal := hKernel16Ideal) (hPre_finite16 := hPre_finite16)
    ∧ quiescent_Reference16Ideal (hReference16Ideal := hReference16Ideal)
    ∧ quiescent_Reference16Ideal_pre_finite16 (hReference16Ideal := hReference16Ideal) (hPre_finite16 := hPre_finite16)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal_pre_finite16 (hKernel16Ideal := hKernel16Ideal) (hReference16Ideal := hReference16Ideal) (hPre_finite16 := hPre_finite16)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Pre_finite.lean ====
abbrev S4096x2048 : Shape := ⟨2, ![4096, 2048]⟩
abbrev S4096x256 : Shape := ⟨2, ![4096, 256]⟩
abbrev S1x32 : Shape := ⟨2, ![1, 32]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S1x32 : S_.BroadcastsInDim S1x32 (![] : Fin 0 → Fin S1x32.rank)
  reducesTo_S1x32_S_d0_1 : S1x32.ReducesTo [0, 1] S_

variable [Facts]

def fn_part1 {F : FTy → Type} [FloatOps F] (main_arg4 : FVec F S4096x2048 .f32) (main_v14 : IVec S_ 1) (main_v15 : FVec F S1x32 .f32) (main_cst_5 : FVec F S_ .f32) : IVec S_ 1 :=
  let main_v16 : FVec F S1x32 .f32 := broadcastInDim S1x32 ![] bcast_S_S1x32 main_cst_5
  let main_v17 : IVec S1x32 1 := cmpf .olt main_v15 main_v16
  let main_c_6 : IVec S_ 1 := constantI S_ 1 1#1
  let main_v18 : IVec S_ 1 := (fun x v => Host.reduce IntOp.andi x v reducesTo_S1x32_S_d0_1 h_S_) main_v17 main_c_6
  let main_v19 : IVec S_ 1 := andi main_v14 main_v18
  let main_v20 : FVec F S4096x2048 .f32 := Host.absf main_arg4
  let main_cst_7 : FVec F S_ .f32 := constant S_ .f32 0x7F800000#32
  let main_v21 : FVec F S4096x2048 .f32 := broadcastInDim S4096x2048 ![] bcast_S_S4096x2048 main_cst_7
  let main_v22 : IVec S4096x2048 1 := cmpf .olt main_v20 main_v21
  let main_c_8 : IVec S_ 1 := constantI S_ 1 1#1
  let main_v23 : IVec S_ 1 := (fun x v => Host.reduce IntOp.andi x v reducesTo_S4096x2048_S_d0_1 h_S_) main_v22 main_c_8
  let main_v24 : IVec S_ 1 := andi main_v19 main_v23
  main_v24

def fn {F : FTy → Type} [FloatOps F] (main_arg0 : FVec F S4096x2048 .f32) (main_arg1 : FVec F S4096x256 .f32) (main_arg2 : FVec F S4096x256 .f32) (main_arg3 : FVec F S1x32 .f32) (main_arg4 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_c_0 : IVec S_ 1 := constantI S_ 1 1#1
  let main_v4 : IVec S_ 1 := andi main_c_0 main_v3
  let main_v5 : FVec F S4096x256 .f32 := Host.absf main_arg1
  let main_cst_1 : FVec F S_ .f32 := constant S_ .f32 0x7F800000#32
  let main_v6 : FVec F S4096x256 .f32 := broadcastInDim S4096x256 ![] bcast_S_S4096x256 main_cst_1
  let main_v7 : IVec S4096x256 1 := cmpf .olt main_v5 main_v6
  let main_c_2 : IVec S_ 1 := constantI S_ 1 1#1
  let main_v8 : IVec S_ 1 := (fun x v => Host.reduce IntOp.andi x v reducesTo_S4096x256_S_d0_1 h_S_) main_v7 main_c_2
  let main_v9 : IVec S_ 1 := andi main_v4 main_v8
  let main_v10 : FVec F S4096x256 .f32 := Host.absf main_arg2
  let main_cst_3 : FVec F S_ .f32 := constant S_ .f32 0x7F800000#32
  let main_v11 : FVec F S4096x256 .f32 := broadcastInDim S4096x256 ![] bcast_S_S4096x256 main_cst_3
  let main_v12 : IVec S4096x256 1 := cmpf .olt main_v10 main_v11
  let main_c_4 : IVec S_ 1 := constantI S_ 1 1#1
  let main_v13 : IVec S_ 1 := (fun x v => Host.reduce IntOp.andi x v reducesTo_S4096x256_S_d0_1 h_S_) main_v12 main_c_4
  let main_v14 : IVec S_ 1 := andi main_v9 main_v13
  let main_v15 : FVec F S1x32 .f32 := Host.absf main_arg3
  let main_cst_5 : FVec F S_ .f32 := constant S_ .f32 0x7F800000#32
  fn_part1 (F := F) main_arg4 main_v14 main_v15 main_cst_5
-- ==== Pre_finite16.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v14 : IVec S_ 1) (main_v15 : FVec F S4096x2048 .f32) (main_cst_5 : FVec F S_ .f32) : IVec S_ 1 :=
  let main_v16 : FVec F S4096x2048 .f32 := broadcastInDim S4096x2048 ![] bcast_S_S4096x2048 main_cst_5
  let main_v17 : IVec S4096x2048 1 := cmpf .olt main_v15 main_v16
  let main_c_6 : IVec S_ 1 := constantI S_ 1 1#1
  let main_v18 : IVec S_ 1 := (fun x v => Host.reduce IntOp.andi x v reducesTo_S4096x2048_S_d0_1 h_S_) main_v17 main_c_6
  let main_v19 : IVec S_ 1 := andi main_v14 main_v18
  main_v19

def fn {F : FTy → Type} [FloatOps F] (main_arg0 : FVec F S4096x2048 .f32) (main_arg1 : FVec F S2048x2048 .f32) (main_arg2 : FVec F S1x2048 .f32) (main_arg3 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_c_0 : IVec S_ 1 := constantI S_ 1 1#1
  let main_v4 : IVec S_ 1 := andi main_c_0 main_v3
  let main_v5 : FVec F S2048x2048 .f32 := Host.absf main_arg1
  let main_cst_1 : FVec F S_ .f32 := constant S_ .f32 0x7F800000#32
  let main_v6 : FVec F S2048x2048 .f32 := broadcastInDim S2048x2048 ![] bcast_S_S2048x2048 main_cst_1
  let main_v7 : IVec S2048x2048 1 := cmpf .olt main_v5 main_v6
  let main_c_2 : IVec S_ 1 := constantI S_ 1 1#1
  let main_v8 : IVec S_ 1 := (fun x v => Host.reduce IntOp.andi x v reducesTo_S2048x2048_S_d0_1 h_S_) main_v7 main_c_2
  let main_v9 : IVec S_ 1 := andi main_v4 main_v8
  let main_v10 : FVec F S1x2048 .f32 := Host.absf main_arg2
  let main_cst_3 : FVec F S_ .f32 := constant S_ .f32 0x7F800000#32
  let main_v11 : FVec F S1x2048 .f32 := broadcastInDim S1x2048 ![] bcast_S_S1x2048 main_cst_3
  let main_v12 : IVec S1x2048 1 := cmpf .olt main_v10 main_v11
  let main_c_4 : IVec S_ 1 := constantI S_ 1 1#1
  let main_v13 : IVec S_ 1 := (fun x v => Host.reduce IntOp.andi x v reducesTo_S1x2048_S_d0_1 h_S_) main_v12 main_c_4
  let main_v14 : IVec S_ 1 := andi main_v9 main_v13
  let main_v15 : FVec F S4096x2048 .f32 := Host.absf main_arg3
  let main_cst_5 : FVec F S_ .f32 := constant S_ .f32 0x7F800000#32
  fn_part1 (F := F) main_v14 main_v15 main_cst_5
-- ==== Pre_finite3.lean ====
abbrev S4096x4096 : Shape := ⟨2, ![4096, 4096]⟩
abbrev S1x4096 : Shape := ⟨2, ![1, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S1x4096 : S_.BroadcastsInDim S1x4096 (![] : Fin 0 → Fin S1x4096.rank)
  reducesTo_S1x4096_S_d0_1 : S1x4096.ReducesTo [0, 1] S_

variable [Facts]

def fn_part1 {F : FTy → Type} [FloatOps F] (main_arg4 : FVec F S1x4096 .f32) (main_arg6 : FVec F S4096x4096 .f32) (main_v14 : IVec S_ 1) (main_v15 : FVec F S1x4096 .f32) (main_cst_5 : FVec F S_ .f32) : IVec S_ 1 :=
  let main_v16 : FVec F S1x4096 .f32 := broadcastInDim S1x4096 ![] bcast_S_S1x4096 main_cst_5
  let main_v17 : IVec S1x4096 1 := cmpf .olt main_v15 main_v16
  let main_c_6 : IVec S_ 1 := constantI S_ 1 1#1
  let main_v18 : IVec S_ 1 := (fun x v => Host.reduce IntOp.andi x v reducesTo_S1x4096_S_d0_1 h_S_) main_v17 main_c_6
  let main_v19 : IVec S_ 1 := andi main_v14 main_v18
  let main_v20 : FVec F S1x4096 .f32 := Host.absf main_arg4
  let main_cst_7 : FVec F S_ .f32 := constant S_ .f32 0x7F800000#32
  let main_v21 : FVec F S1x4096 .f32 := broadcastInDim S1x4096 ![] bcast_S_S1x4096 main_cst_7
  let main_v22 : IVec S1x4096 1 := cmpf .olt main_v20 main_v21
  let main_c_8 : IVec S_ 1 := constantI S_ 1 1#1
  let main_v23 : IVec S_ 1 := (fun x v => Host.reduce IntOp.andi x v reducesTo_S1x4096_S_d0_1 h_S_) main_v22 main_c_8
  let main_v24 : IVec S_ 1 := andi main_v19 main_v23
  let main_v25 : FVec F S4096x4096 .f32 := Host.absf main_arg6
  let main_cst_9 : FVec F S_ .f32 := constant S_ .f32 0x7F800000#32
  let main_v26 : FVec F S4096x4096 .f32 := broadcastInDim S4096x4096 ![] bcast_S_S4096x4096 main_cst_9
  let main_v27 : IVec S4096x4096 1 := cmpf .olt main_v25 main_v26
  let main_c_10 : IVec S_ 1 := constantI S_ 1 1#1
  let main_v28 : IVec S_ 1 := (fun x v => Host.reduce IntOp.andi x v reducesTo_S4096x4096_S_d0_1 h_S_) main_v27 main_c_10
  let main_v29 : IVec S_ 1 := andi main_v24 main_v28
  main_v29

def fn {F : FTy → Type} [FloatOps F] (main_arg0 : FVec F S4096x4096 .f32) (main_arg1 : FVec F S4096x4096 .f32) (main_arg2 : FVec F S1x4096 .f32) (main_arg3 : FVec F S1x4096 .f32) (main_arg4 : FVec F S1x4096 .f32) (main_arg5 : FVec F S1x4096 .f32) (main_arg6 : FVec F S4096x4096 .f32) (main_arg7 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_c_0 : IVec S_ 1 := constantI S_ 1 1#1
  let main_v4 : IVec S_ 1 := andi main_c_0 main_v3
  let main_v5 : FVec F S4096x4096 .f32 := Host.absf main_arg1
  let main_cst_1 : FVec F S_ .f32 := constant S_ .f32 0x7F800000#32
  let main_v6 : FVec F S4096x4096 .f32 := broadcastInDim S4096x4096 ![] bcast_S_S4096x4096 main_cst_1
  let main_v7 : IVec S4096x4096 1 := cmpf .olt main_v5 main_v6
  let main_c_2 : IVec S_ 1 := constantI S_ 1 1#1
  let main_v8 : IVec S_ 1 := (fun x v => Host.reduce IntOp.andi x v reducesTo_S4096x4096_S_d0_1 h_S_) main_v7 main_c_2
  let main_v9 : IVec S_ 1 := andi main_v4 main_v8
  let main_v10 : FVec F S1x4096 .f32 := Host.absf main_arg2
  let main_cst_3 : FVec F S_ .f32 := constant S_ .f32 0x7F800000#32
  let main_v11 : FVec F S1x4096 .f32 := broadcastInDim S1x4096 ![] bcast_S_S1x4096 main_cst_3
  let main_v12 : IVec S1x4096 1 := cmpf .olt main_v10 main_v11
  let main_c_4 : IVec S_ 1 := constantI S_ 1 1#1
  let main_v13 : IVec S_ 1 := (fun x v => Host.reduce IntOp.andi x v reducesTo_S1x4096_S_d0_1 h_S_) main_v12 main_c_4
  let main_v14 : IVec S_ 1 := andi main_v9 main_v13
  let main_v15 : FVec F S1x4096 .f32 := Host.absf main_arg3
  let main_cst_5 : FVec F S_ .f32 := constant S_ .f32 0x7F800000#32
  fn_part1 (F := F) main_arg4 main_arg6 main_v14 main_v15 main_cst_5
-- ==== Pre_finite4.lean ====
abbrev S4096x4096 : Shape := ⟨2, ![4096, 4096]⟩
abbrev S1x4096 : Shape := ⟨2, ![1, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S1x4096 : S_.BroadcastsInDim S1x4096 (![] : Fin 0 → Fin S1x4096.rank)
  reducesTo_S1x4096_S_d0_1 : S1x4096.ReducesTo [0, 1] S_

variable [Facts]

def fn_part1 {F : FTy → Type} [FloatOps F] (main_v14 : IVec S_ 1) (main_v15 : FVec F S4096x4096 .f32) (main_cst_5 : FVec F S_ .f32) : IVec S_ 1 :=
  let main_v16 : FVec F S4096x4096 .f32 := broadcastInDim S4096x4096 ![] bcast_S_S4096x4096 main_cst_5
  let main_v17 : IVec S4096x4096 1 := cmpf .olt main_v15 main_v16
  let main_c_6 : IVec S_ 1 := constantI S_ 1 1#1
  let main_v18 : IVec S_ 1 := (fun x v => Host.reduce IntOp.andi x v reducesTo_S4096x4096_S_d0_1 h_S_) main_v17 main_c_6
  let main_v19 : IVec S_ 1 := andi main_v14 main_v18
  main_v19

def fn {F : FTy → Type} [FloatOps F] (main_arg0 : FVec F S4096x4096 .f32) (main_arg1 : FVec F S1x4096 .f32) (main_arg2 : FVec F S1x4096 .f32) (main_arg3 : FVec F S1x4096 .f32) (main_arg4 : FVec F S4096x4096 .f32) (main_arg5 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_c_0 : IVec S_ 1 := constantI S_ 1 1#1
  let main_v4 : IVec S_ 1 := andi main_c_0 main_v3
  let main_v5 : FVec F S1x4096 .f32 := Host.absf main_arg1
  let main_cst_1 : FVec F S_ .f32 := constant S_ .f32 0x7F800000#32
  let main_v6 : FVec F S1x4096 .f32 := broadcastInDim S1x4096 ![] bcast_S_S1x4096 main_cst_1
  let main_v7 : IVec S1x4096 1 := cmpf .olt main_v5 main_v6
  let main_c_2 : IVec S_ 1 := constantI S_ 1 1#1
  let main_v8 : IVec S_ 1 := (fun x v => Host.reduce IntOp.andi x v reducesTo_S1x4096_S_d0_1 h_S_) main_v7 main_c_2
  let main_v9 : IVec S_ 1 := andi main_v4 main_v8
  let main_v10 : FVec F S1x4096 .f32 := Host.absf main_arg2
  let main_cst_3 : FVec F S_ .f32 := constant S_ .f32 0x7F800000#32
  let main_v11 : FVec F S1x4096 .f32 := broadcastInDim S1x4096 ![] bcast_S_S1x4096 main_cst_3
  let main_v12 : IVec S1x4096 1 := cmpf .olt main_v10 main_v11
  let main_c_4 : IVec S_ 1 := constantI S_ 1 1#1
  let main_v13 : IVec S_ 1 := (fun x v => Host.reduce IntOp.andi x v reducesTo_S1x4096_S_d0_1 h_S_) main_v12 main_c_4
  let main_v14 : IVec S_ 1 := andi main_v9 main_v13
  let main_v15 : FVec F S4096x4096 .f32 := Host.absf main_arg4
  let main_cst_5 : FVec F S_ .f32 := constant S_ .f32 0x7F800000#32
  fn_part1 (F := F) main_v14 main_v15 main_cst_5
-- ==== Pre_finite5.lean ====
abbrev S4096x4096 : Shape := ⟨2, ![4096, 4096]⟩
abbrev S1x4096 : Shape := ⟨2, ![1, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S1x4096 : S_.BroadcastsInDim S1x4096 (![] : Fin 0 → Fin S1x4096.rank)
  reducesTo_S1x4096_S_d0_1 : S1x4096.ReducesTo [0, 1] S_

variable [Facts]

def fn_part1 {F : FTy → Type} [FloatOps F] (main_arg4 : FVec F S4096x4096 .f32) (main_v14 : IVec S_ 1) (main_v15 : FVec F S1x4096 .f32) (main_cst_5 : FVec F S_ .f32) : IVec S_ 1 :=
  let main_v16 : FVec F S1x4096 .f32 := broadcastInDim S1x4096 ![] bcast_S_S1x4096 main_cst_5
  let main_v17 : IVec S1x4096 1 := cmpf .olt main_v15 main_v16
  let main_c_6 : IVec S_ 1 := constantI S_ 1 1#1
  let main_v18 : IVec S_ 1 := (fun x v => Host.reduce IntOp.andi x v reducesTo_S1x4096_S_d0_1 h_S_) main_v17 main_c_6
  let main_v19 : IVec S_ 1 := andi main_v14 main_v18
  let main_v20 : FVec F S4096x4096 .f32 := Host.absf main_arg4
  let main_cst_7 : FVec F S_ .f32 := constant S_ .f32 0x7F800000#32
  let main_v21 : FVec F S4096x4096 .f32 := broadcastInDim S4096x4096 ![] bcast_S_S4096x4096 main_cst_7
  let main_v22 : IVec S4096x4096 1 := cmpf .olt main_v20 main_v21
  let main_c_8 : IVec S_ 1 := constantI S_ 1 1#1
  let main_v23 : IVec S_ 1 := (fun x v => Host.reduce IntOp.andi x v reducesTo_S4096x4096_S_d0_1 h_S_) main_v22 main_c_8
  let main_v24 : IVec S_ 1 := andi main_v19 main_v23
  main_v24

def fn {F : FTy → Type} [FloatOps F] (main_arg0 : FVec F S4096x4096 .f32) (main_arg1 : FVec F S4096x4096 .f32) (main_arg2 : FVec F S1x4096 .f32) (main_arg3 : FVec F S1x4096 .f32) (main_arg4 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_c_0 : IVec S_ 1 := constantI S_ 1 1#1
  let main_v4 : IVec S_ 1 := andi main_c_0 main_v3
  let main_v5 : FVec F S4096x4096 .f32 := Host.absf main_arg1
  let main_cst_1 : FVec F S_ .f32 := constant S_ .f32 0x7F800000#32
  let main_v6 : FVec F S4096x4096 .f32 := broadcastInDim S4096x4096 ![] bcast_S_S4096x4096 main_cst_1
  let main_v7 : IVec S4096x4096 1 := cmpf .olt main_v5 main_v6
  let main_c_2 : IVec S_ 1 := constantI S_ 1 1#1
  let main_v8 : IVec S_ 1 := (fun x v => Host.reduce IntOp.andi x v reducesTo_S4096x4096_S_d0_1 h_S_) main_v7 main_c_2
  let main_v9 : IVec S_ 1 := andi main_v4 main_v8
  let main_v10 : FVec F S1x4096 .f32 := Host.absf main_arg2
  let main_cst_3 : FVec F S_ .f32 := constant S_ .f32 0x7F800000#32
  let main_v11 : FVec F S1x4096 .f32 := broadcastInDim S1x4096 ![] bcast_S_S1x4096 main_cst_3
  let main_v12 : IVec S1x4096 1 := cmpf .olt main_v10 main_v11
  let main_c_4 : IVec S_ 1 := constantI S_ 1 1#1
  let main_v13 : IVec S_ 1 := (fun x v => Host.reduce IntOp.andi x v reducesTo_S1x4096_S_d0_1 h_S_) main_v12 main_c_4
  let main_v14 : IVec S_ 1 := andi main_v9 main_v13
  let main_v15 : FVec F S1x4096 .f32 := Host.absf main_arg3
  let main_cst_5 : FVec F S_ .f32 := constant S_ .f32 0x7F800000#32
  fn_part1 (F := F) main_arg4 main_v14 main_v15 main_cst_5
-- ==== Pre_finite6.lean ====
abbrev S4096x2048 : Shape := ⟨2, ![4096, 2048]⟩
abbrev S1x2048 : Shape := ⟨2, ![1, 2048]⟩
abbrev S4096x4096 : Shape := ⟨2, ![4096, 4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S4096x4096 .f32) (main_v14 : IVec S_ 1) (main_v15 : FVec F S1x2048 .f32) (main_cst_5 : FVec F S_ .f32) : IVec S_ 1 :=
  let main_v16 : FVec F S1x2048 .f32 := broadcastInDim S1x2048 ![] bcast_S_S1x2048 main_cst_5
  let main_v17 : IVec S1x2048 1 := cmpf .olt main_v15 main_v16
  let main_c_6 : IVec S_ 1 := constantI S_ 1 1#1
  let main_v18 : IVec S_ 1 := (fun x v => Host.reduce IntOp.andi x v reducesTo_S1x2048_S_d0_1 h_S_) main_v17 main_c_6
  let main_v19 : IVec S_ 1 := andi main_v14 main_v18
  let main_v20 : FVec F S4096x4096 .f32 := Host.absf main_arg4
  let main_cst_7 : FVec F S_ .f32 := constant S_ .f32 0x7F800000#32
  let main_v21 : FVec F S4096x4096 .f32 := broadcastInDim S4096x4096 ![] bcast_S_S4096x4096 main_cst_7
  let main_v22 : IVec S4096x4096 1 := cmpf .olt main_v20 main_v21
  let main_c_8 : IVec S_ 1 := constantI S_ 1 1#1
  let main_v23 : IVec S_ 1 := (fun x v => Host.reduce IntOp.andi x v reducesTo_S4096x4096_S_d0_1 h_S_) main_v22 main_c_8
  let main_v24 : IVec S_ 1 := andi main_v19 main_v23
  main_v24

def fn {F : FTy → Type} [FloatOps F] (main_arg0 : FVec F S4096x2048 .f32) (main_arg1 : FVec F S4096x2048 .f32) (main_arg2 : FVec F S1x2048 .f32) (main_arg3 : FVec F S1x2048 .f32) (main_arg4 : FVec F S4096x4096 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_c_0 : IVec S_ 1 := constantI S_ 1 1#1
  let main_v4 : IVec S_ 1 := andi main_c_0 main_v3
  let main_v5 : FVec F S4096x2048 .f32 := Host.absf main_arg1
  let main_cst_1 : FVec F S_ .f32 := constant S_ .f32 0x7F800000#32
  let main_v6 : FVec F S4096x2048 .f32 := broadcastInDim S4096x2048 ![] bcast_S_S4096x2048 main_cst_1
  let main_v7 : IVec S4096x2048 1 := cmpf .olt main_v5 main_v6
  let main_c_2 : IVec S_ 1 := constantI S_ 1 1#1
  let main_v8 : IVec S_ 1 := (fun x v => Host.reduce IntOp.andi x v reducesTo_S4096x2048_S_d0_1 h_S_) main_v7 main_c_2
  let main_v9 : IVec S_ 1 := andi main_v4 main_v8
  let main_v10 : FVec F S1x2048 .f32 := Host.absf main_arg2
  let main_cst_3 : FVec F S_ .f32 := constant S_ .f32 0x7F800000#32
  let main_v11 : FVec F S1x2048 .f32 := broadcastInDim S1x2048 ![] bcast_S_S1x2048 main_cst_3
  let main_v12 : IVec S1x2048 1 := cmpf .olt main_v10 main_v11
  let main_c_4 : IVec S_ 1 := constantI S_ 1 1#1
  let main_v13 : IVec S_ 1 := (fun x v => Host.reduce IntOp.andi x v reducesTo_S1x2048_S_d0_1 h_S_) main_v12 main_c_4
  let main_v14 : IVec S_ 1 := andi main_v9 main_v13
  let main_v15 : FVec F S1x2048 .f32 := Host.absf main_arg3
  let main_cst_5 : FVec F S_ .f32 := constant S_ .f32 0x7F800000#32
  fn_part1 (F := F) main_arg4 main_v14 main_v15 main_cst_5
-- ==== Pre_finite7.lean ====
abbrev S4096x2048 : Shape := ⟨2, ![4096, 2048]⟩
abbrev S4096x256 : Shape := ⟨2, ![4096, 256]⟩
abbrev S1x32 : Shape := ⟨2, ![1, 32]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S1x32 : S_.BroadcastsInDim S1x32 (![] : Fin 0 → Fin S1x32.rank)
  reducesTo_S1x32_S_d0_1 : S1x32.ReducesTo [0, 1] S_

variable [Facts]

def fn {F : FTy → Type} [FloatOps F] (main_arg0 : FVec F S4096x2048 .f32) (main_arg1 : FVec F S4096x256 .f32) (main_arg2 : FVec F S4096x256 .f32) (main_arg3 : FVec F S1x32 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_c_0 : IVec S_ 1 := constantI S_ 1 1#1
  let main_v4 : IVec S_ 1 := andi main_c_0 main_v3
  let main_v5 : FVec F S4096x256 .f32 := Host.absf main_arg1
  let main_cst_1 : FVec F S_ .f32 := constant S_ .f32 0x7F800000#32
  let main_v6 : FVec F S4096x256 .f32 := broadcastInDim S4096x256 ![] bcast_S_S4096x256 main_cst_1
  let main_v7 : IVec S4096x256 1 := cmpf .olt main_v5 main_v6
  let main_c_2 : IVec S_ 1 := constantI S_ 1 1#1
  let main_v8 : IVec S_ 1 := (fun x v => Host.reduce IntOp.andi x v reducesTo_S4096x256_S_d0_1 h_S_) main_v7 main_c_2
  let main_v9 : IVec S_ 1 := andi main_v4 main_v8
  let main_v10 : FVec F S1x32 .f32 := Host.absf main_arg3
  let main_cst_3 : FVec F S_ .f32 := constant S_ .f32 0x7F800000#32
  let main_v11 : FVec F S1x32 .f32 := broadcastInDim S1x32 ![] bcast_S_S1x32 main_cst_3
  let main_v12 : IVec S1x32 1 := cmpf .olt main_v10 main_v11
  let main_c_4 : IVec S_ 1 := constantI S_ 1 1#1
  let main_v13 : IVec S_ 1 := (fun x v => Host.reduce IntOp.andi x v reducesTo_S1x32_S_d0_1 h_S_) main_v12 main_c_4
  let main_v14 : IVec S_ 1 := andi main_v9 main_v13
  main_v14
-- ==== Kernel.lean ====
abbrev S4096x2048 : Shape := ⟨2, ![4096, 2048]⟩
abbrev S4096x256 : Shape := ⟨2, ![4096, 256]⟩
abbrev S1x32 : Shape := ⟨2, ![1, 32]⟩
abbrev S32 : Shape := ⟨1, ![32]⟩
abbrev S_ : Shape := ⟨0, ![]⟩
abbrev S4096 : Shape := ⟨1, ![4096]⟩
abbrev S4096x1 : Shape := ⟨2, ![4096, 1]⟩
abbrev S4096x32 : Shape := ⟨2, ![4096, 32]⟩
abbrev S4096x32x64 : Shape := ⟨3, ![4096, 32, 64]⟩
abbrev S4096x1x32 : Shape := ⟨3, ![4096, 1, 32]⟩
abbrev S4096x32x32 : Shape := ⟨3, ![4096, 32, 32]⟩
abbrev S4096x4x64 : Shape := ⟨3, ![4096, 4, 64]⟩
abbrev S4096x4x32 : Shape := ⟨3, ![4096, 4, 32]⟩
abbrev S32x128x4x8x64 : Shape := ⟨5, ![32, 128, 4, 8, 64]⟩
abbrev S32x128x4x64 : Shape := ⟨4, ![32, 128, 4, 64]⟩
abbrev S1x128x4x64 : Shape := ⟨4, ![1, 128, 4, 64]⟩
abbrev S31x128x4x64 : Shape := ⟨4, ![31, 128, 4, 64]⟩
abbrev S32x256x4x64 : Shape := ⟨4, ![32, 256, 4, 64]⟩
abbrev S32x4x256x128x8 : Shape := ⟨5, ![32, 4, 256, 128, 8]⟩
abbrev S32x4x8x128x256 : Shape := ⟨5, ![32, 4, 8, 128, 256]⟩
abbrev S1x4x8x1 : Shape := ⟨4, ![1, 4, 8, 1]⟩
abbrev S32x4x8x128 : Shape := ⟨4, ![32, 4, 8, 128]⟩
abbrev S32x4x8x128x1 : Shape := ⟨5, ![32, 4, 8, 128, 1]⟩
abbrev S32x4x64x8x128 : Shape := ⟨5, ![32, 4, 64, 8, 128]⟩
abbrev S32x128x4x8 : Shape := ⟨4, ![32, 128, 4, 8]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S8x32 : Shape := ⟨2, ![8, 32]⟩
abbrev S128x2048 : Shape := ⟨2, ![128, 2048]⟩
abbrev S128x256 : Shape := ⟨2, ![128, 256]⟩
abbrev S128x128 : Shape := ⟨2, ![128, 128]⟩
abbrev S128x32 : Shape := ⟨2, ![128, 32]⟩
abbrev S256x256 : Shape := ⟨2, ![256, 256]⟩
abbrev S1024x256 : Shape := ⟨2, ![1024, 256]⟩
abbrev S128x64 : Shape := ⟨2, ![128, 64]⟩
abbrev S1024x64 : Shape := ⟨2, ![1024, 64]⟩
abbrev S128x1 : Shape := ⟨2, ![128, 1]⟩
abbrev S1024x1 : Shape := ⟨2, ![1024, 1]⟩
abbrev S256x64 : Shape := ⟨2, ![256, 64]⟩
abbrev S1024 : Shape := ⟨1, ![1024]⟩
abbrev S1x1 : Shape := ⟨2, ![1, 1]⟩
abbrev S8x1 : Shape := ⟨2, ![8, 1]⟩
abbrev S16x8x1 : Shape := ⟨3, ![16, 8, 1]⟩

abbrev nBuf : Space → Nat
  | .hbm => 125
  | .vmem => 34
  | .smem => 0
  | _ => 0

abbrev bufTy : (tb : Table) → Fin (tcTables nBuf tb) → BufTy
  | .hbm, ⟨0, _⟩ => ⟨S4096x2048, .f32⟩
  | .hbm, ⟨1, _⟩ => ⟨S4096x256, .f32⟩
  | .hbm, ⟨2, _⟩ => ⟨S4096x256, .f32⟩
  | .hbm, ⟨3, _⟩ => ⟨S1x32, .f32⟩
  | .hbm, ⟨4, _⟩ => ⟨S4096x2048, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S4096, .f32⟩
  | .hbm, ⟨14, _⟩ => ⟨S4096x1, .f32⟩
  | .hbm, ⟨15, _⟩ => ⟨S1x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S32, .f32⟩
  | .hbm, ⟨22, _⟩ => ⟨S4096x32x64, .f32⟩
  | .hbm, ⟨23, _⟩ => ⟨S4096x1x32, .f32⟩
  | .hbm, ⟨24, _⟩ => ⟨S4096x32x32, .f32⟩
  | .hbm, ⟨25, _⟩ => ⟨S4096x1x32, .f32⟩
  | .hbm, ⟨26, _⟩ => ⟨S4096x32x32, .f32⟩
  | .hbm, ⟨27, _⟩ => ⟨S4096x32x32, .f32⟩
  | .hbm, ⟨28, _⟩ => ⟨S4096x32x32, .f32⟩
  | .hbm, ⟨29, _⟩ => ⟨S4096x32x32, .f32⟩
  | .hbm, ⟨30, _⟩ => ⟨S4096x32x32, .f32⟩
  | .hbm, ⟨31, _⟩ => ⟨S4096x32x32, .f32⟩
  | .hbm, ⟨32, _⟩ => ⟨S4096x32x32, .f32⟩
  | .hbm, ⟨33, _⟩ => ⟨S4096x32x32, .f32⟩
  | .hbm, ⟨34, _⟩ => ⟨S4096x32x32, .f32⟩
  | .hbm, ⟨35, _⟩ => ⟨S4096x32x64, .f32⟩
  | .hbm, ⟨36, _⟩ => ⟨S4096x4x64, .f32⟩
  | .hbm, ⟨37, _⟩ => ⟨S4096x1x32, .f32⟩
  | .hbm, ⟨38, _⟩ => ⟨S4096x4x32, .f32⟩
  | .hbm, ⟨39, _⟩ => ⟨S4096x1x32, .f32⟩
  | .hbm, ⟨40, _⟩ => ⟨S4096x4x32, .f32⟩
  | .hbm, ⟨41, _⟩ => ⟨S4096x4x32, .f32⟩
  | .hbm, ⟨42, _⟩ => ⟨S4096x4x32, .f32⟩
  | .hbm, ⟨43, _⟩ => ⟨S4096x4x32, .f32⟩
  | .hbm, ⟨44, _⟩ => ⟨S4096x4x32, .f32⟩
  | .hbm, ⟨45, _⟩ => ⟨S4096x4x32, .f32⟩
  | .hbm, ⟨46, _⟩ => ⟨S4096x4x32, .f32⟩
  | .hbm, ⟨47, _⟩ => ⟨S4096x4x32, .f32⟩
  | .hbm, ⟨48, _⟩ => ⟨S4096x4x32, .f32⟩
  | .hbm, ⟨49, _⟩ => ⟨S4096x4x64, .f32⟩
  | .hbm, ⟨50, _⟩ => ⟨S4096x4x64, .f32⟩
  | .hbm, ⟨51, _⟩ => ⟨S32x128x4x8x64, .f32⟩
  | .hbm, ⟨52, _⟩ => ⟨S32x128x4x64, .f32⟩
  | .hbm, ⟨53, _⟩ => ⟨S_, .f32⟩
  | .hbm, ⟨54, _⟩ => ⟨S1x128x4x64, .f32⟩
  | .hbm, ⟨55, _⟩ => ⟨S31x128x4x64, .f32⟩
  | .hbm, ⟨56, _⟩ => ⟨S32x128x4x64, .f32⟩
  | .hbm, ⟨57, _⟩ => ⟨S32x256x4x64, .f32⟩
  | .hbm, ⟨58, _⟩ => ⟨S32x128x4x64, .f32⟩
  | .hbm, ⟨59, _⟩ => ⟨S_, .f32⟩
  | .hbm, ⟨60, _⟩ => ⟨S1x128x4x64, .f32⟩
  | .hbm, ⟨61, _⟩ => ⟨S31x128x4x64, .f32⟩
  | .hbm, ⟨62, _⟩ => ⟨S32x128x4x64, .f32⟩
  | .hbm, ⟨63, _⟩ => ⟨S32x256x4x64, .f32⟩
  | .hbm, ⟨64, _⟩ => ⟨S32x4x256x128x8, .f32⟩
  | .hbm, ⟨65, _⟩ => ⟨S32x4x8x128x256, .f32⟩
  | .hbm, ⟨66, _⟩ => ⟨S_, .f32⟩
  | .hbm, ⟨67, _⟩ => ⟨S32x4x8x128x256, .f32⟩
  | .hbm, ⟨68, _⟩ => ⟨S32x4x8x128x256, .f32⟩
  | .hbm, ⟨69, _⟩ => ⟨S32x4x8x128x256, .i32⟩
  | .hbm, ⟨70, _⟩ => ⟨S32x4x8x128x256, .i32⟩
  | .hbm, ⟨71, _⟩ => ⟨S32x4x8x128x256, .i32⟩
  | .hbm, ⟨72, _⟩ => ⟨S32x4x8x128x256, .i1⟩
  | .hbm, ⟨73, _⟩ => ⟨S_, .i32⟩
  | .hbm, ⟨74, _⟩ => ⟨S32x4x8x128x256, .i32⟩
  | .hbm, ⟨75, _⟩ => ⟨S32x4x8x128x256, .i32⟩
  | .hbm, ⟨76, _⟩ => ⟨S32x4x8x128x256, .i1⟩
  | .hbm, ⟨77, _⟩ => ⟨S32x4x8x128x256, .i1⟩
  | .hbm, ⟨78, _⟩ => ⟨S_, .i32⟩
  | .hbm, ⟨79, _⟩ => ⟨S32x4x8x128x256, .i32⟩
  | .hbm, ⟨80, _⟩ => ⟨S32x4x8x128x256, .i1⟩
  | .hbm, ⟨81, _⟩ => ⟨S_, .i32⟩
  | .hbm, ⟨82, _⟩ => ⟨S32x4x8x128x256, .i32⟩
  | .hbm, ⟨83, _⟩ => ⟨S32x4x8x128x256, .i1⟩
  | .hbm, ⟨84, _⟩ => ⟨S32x4x8x128x256, .i1⟩
  | .hbm, ⟨85, _⟩ => ⟨S32x4x8x128x256, .i1⟩
  | .hbm, ⟨86, _⟩ => ⟨S_, .f32⟩
  | .hbm, ⟨87, _⟩ => ⟨S32x4x8x128x256, .f32⟩
  | .hbm, ⟨88, _⟩ => ⟨S32x4x8x128x256, .f32⟩
  | .hbm, ⟨89, _⟩ => ⟨S1x4x8x1, .f32⟩
  | .hbm, ⟨90, _⟩ => ⟨S32x4x8x128, .f32⟩
  | .hbm, ⟨91, _⟩ => ⟨S_, .f32⟩
  | .hbm, ⟨92, _⟩ => ⟨S32x4x8x128, .f32⟩
  | .hbm, ⟨93, _⟩ => ⟨S32x4x8x128, .f32⟩
  | .hbm, ⟨94, _⟩ => ⟨S32x4x8x128x1, .f32⟩
  | .hbm, ⟨95, _⟩ => ⟨S32x4x8x128x256, .f32⟩
  | .hbm, ⟨96, _⟩ => ⟨S32x4x8x128x256, .f32⟩
  | .hbm, ⟨97, _⟩ => ⟨S32x4x8x128x256, .f32⟩
  | .hbm, ⟨98, _⟩ => ⟨S_, .f32⟩
  | .hbm, ⟨99, _⟩ => ⟨S32x4x8x128, .f32⟩
  | .hbm, ⟨100, _⟩ => ⟨S32x4x8x128, .f32⟩
  | .hbm, ⟨101, _⟩ => ⟨S32x4x8x128, .f32⟩
  | .hbm, ⟨102, _⟩ => ⟨S32x4x8x128, .f32⟩
  | .hbm, ⟨103, _⟩ => ⟨S32x4x8x128x1, .f32⟩
  | .hbm, ⟨104, _⟩ => ⟨S32x4x8x128x256, .f32⟩
  | .hbm, ⟨105, _⟩ => ⟨S32x4x8x128x256, .f32⟩
  | .hbm, ⟨106, _⟩ => ⟨S32x4x64x8x128, .f32⟩
  | .hbm, ⟨107, _⟩ => ⟨S32x128x4x8x64, .f32⟩
  | .hbm, ⟨108, _⟩ => ⟨S32x4x8x128, .f32⟩
  | .hbm, ⟨109, _⟩ => ⟨S32x4x8x128, .f32⟩
  | .hbm, ⟨110, _⟩ => ⟨S4096x2048, .f32⟩
  | .hbm, ⟨111, _⟩ => ⟨S32x128x4x8, .f32⟩
  | .hbm, ⟨112, _⟩ => ⟨S4096x32, .f32⟩
  | .hbm, ⟨113, _⟩ => ⟨S1x4096x1x32, .f32⟩
  | .hbm, ⟨114, _⟩ => ⟨S1x4096x4x32, .f32⟩
  | .hbm, ⟨115, _⟩ => ⟨S4096x128, .f32⟩
  | .hbm, ⟨116, _⟩ => ⟨S1x4096x1x32, .f32⟩
  | .hbm, ⟨117, _⟩ => ⟨S1x4096x4x32, .f32⟩
  | .hbm, ⟨118, _⟩ => ⟨S4096x128, .f32⟩
  | .hbm, ⟨119, _⟩ => ⟨S4096x2048, .f32⟩
  | .hbm, ⟨120, _⟩ => ⟨S4096x256, .f32⟩
  | .hbm, ⟨121, _⟩ => ⟨S4096x256, .f32⟩
  | .hbm, ⟨122, _⟩ => ⟨S8x32, .f32⟩
  | .hbm, ⟨123, _⟩ => ⟨S_, .f32⟩
  | .hbm, ⟨124, _⟩ => ⟨S32, .f32⟩
  | .local _ .vmem, ⟨0, _⟩ => ⟨S128x2048, .f32⟩
  | .local _ .vmem, ⟨1, _⟩ => ⟨S128x2048, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S1x32, .f32⟩
  | .local _ .vmem, ⟨19, _⟩ => ⟨S128x2048, .f32⟩
  | .local _ .vmem, ⟨20, _⟩ => ⟨S128x2048, .f32⟩
  | .local _ .vmem, ⟨21, _⟩ => ⟨S128x32, .f32⟩
  | .local _ .vmem, ⟨22, _⟩ => ⟨S128x32, .f32⟩
  | .local _ .vmem, ⟨23, _⟩ => ⟨S128x2048, .f32⟩
  | .local _ .vmem, ⟨24, _⟩ => ⟨S128x2048, .f32⟩
  | .local _ .vmem, ⟨25, _⟩ => ⟨S128x2048, .f32⟩
  | .local _ .vmem, ⟨26, _⟩ => ⟨S128x2048, .f32⟩
  | .local _ .vmem, ⟨27, _⟩ => ⟨S128x256, .f32⟩
  | .local _ .vmem, ⟨28, _⟩ => ⟨S128x256, .f32⟩
  | .local _ .vmem, ⟨29, _⟩ => ⟨S128x256, .f32⟩
  | .local _ .vmem, ⟨30, _⟩ => ⟨S128x256, .f32⟩
  | .local _ .vmem, ⟨31, _⟩ => ⟨S8x32, .f32⟩
  | .local _ .vmem, ⟨32, _⟩ => ⟨S128x256, .f32⟩
  | .local _ .vmem, ⟨33, _⟩ => ⟨S128x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_1 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst_2 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_3 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_c : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_c_4 : Ref sig .tc := ⟨.hbm, 78, rfl⟩
abbrev main_v67 : Ref sig .tc := ⟨.hbm, 79, rfl⟩
abbrev main_v68 : Ref sig .tc := ⟨.hbm, 80, rfl⟩
abbrev main_c_5 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_cst_6 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_cst_7 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_cst_8 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103_0 : Ref sig .tc := ⟨.hbm, 119, rfl⟩
abbrev main_v103_1 : Ref sig .tc := ⟨.hbm, 120, rfl⟩
abbrev main_v103_2 : Ref sig .tc := ⟨.hbm, 121, rfl⟩
abbrev main_v103_3 : Ref sig .tc := ⟨.hbm, 122, rfl⟩
abbrev main_cst_9 : Ref sig .tc := ⟨.hbm, 123, rfl⟩
abbrev main_v104 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v9 : BitVec 1 := Scalar.cmpi .slt arg0 c32_i32
  let v10 : BitVec 32 := Scalar.extui v9
  let c0_i32_4 : BitVec 32 := 0#32
  let v11 : BitVec 1 := Scalar.cmpi .ne v10 c0_i32_4
  v11

def k0_cond3 (i : grid0.Coords) : BitVec 1 :=
  let arg0 : BitVec 32 := BitVec.ofNat 32 (i 0).val
  let c32_i32_5 : BitVec 32 := 32#32
  let v12 : BitVec 1 := Scalar.cmpi .eq arg0 c32_i32_5
  let v13 : BitVec 32 := Scalar.extui v12
  let c0_i32_6 : BitVec 32 := 0#32
  let v14 : BitVec 1 := Scalar.cmpi .ne v13 c0_i32_6
  v14

def k0_cond1 (i : grid0.Coords) : BitVec 1 :=
  let arg0 : BitVec 32 := BitVec.ofNat 32 (i 0).val
  let c0_i32 : BitVec 32 := 0#32
  let v6 : BitVec 1 := Scalar.cmpi .eq arg0 c0_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S4096x2048 : Shape := ⟨2, ![4096, 2048]⟩
abbrev S4096x256 : Shape := ⟨2, ![4096, 256]⟩
abbrev S1x32 : Shape := ⟨2, ![1, 32]⟩
abbrev S32 : Shape := ⟨1, ![32]⟩
abbrev S_ : Shape := ⟨0, ![]⟩
abbrev S4096 : Shape := ⟨1, ![4096]⟩
abbrev S4096x1 : Shape := ⟨2, ![4096, 1]⟩
abbrev S4096x32 : Shape := ⟨2, ![4096, 32]⟩
abbrev S4096x32x64 : Shape := ⟨3, ![4096, 32, 64]⟩
abbrev S4096x1x32 : Shape := ⟨3, ![4096, 1, 32]⟩
abbrev S4096x32x32 : Shape := ⟨3, ![4096, 32, 32]⟩
abbrev S4096x4x64 : Shape := ⟨3, ![4096, 4, 64]⟩
abbrev S4096x4x32 : Shape := ⟨3, ![4096, 4, 32]⟩
abbrev S32x128x4x8x64 : Shape := ⟨5, ![32, 128, 4, 8, 64]⟩
abbrev S32x128x4x64 : Shape := ⟨4, ![32, 128, 4, 64]⟩
abbrev S1x128x4x64 : Shape := ⟨4, ![1, 128, 4, 64]⟩
abbrev S31x128x4x64 : Shape := ⟨4, ![31, 128, 4, 64]⟩
abbrev S32x256x4x64 : Shape := ⟨4, ![32, 256, 4, 64]⟩
abbrev S32x4x256x128x8 : Shape := ⟨5, ![32, 4, 256, 128, 8]⟩
abbrev S32x4x8x128x256 : Shape := ⟨5, ![32, 4, 8, 128, 256]⟩
abbrev S1x4x8x1 : Shape := ⟨4, ![1, 4, 8, 1]⟩
abbrev S32x4x8x128 : Shape := ⟨4, ![32, 4, 8, 128]⟩
abbrev S32x4x8x128x1 : Shape := ⟨5, ![32, 4, 8, 128, 1]⟩
abbrev S32x4x64x8x128 : Shape := ⟨5, ![32, 4, 64, 8, 128]⟩
abbrev S32x128x4x8 : Shape := ⟨4, ![32, 128, 4, 8]⟩
abbrev S32x4x64x256 : Shape := ⟨4, ![32, 4, 64, 256]⟩
abbrev S4x8 : Shape := ⟨2, ![4, 8]⟩
abbrev S32x4x128x8x64 : Shape := ⟨5, ![32, 4, 128, 8, 64]⟩
abbrev S32x4x256x64 : Shape := ⟨4, ![32, 4, 256, 64]⟩

abbrev nBuf : Space → Nat
  | .hbm => 247
  | .vmem => 0
  | .smem => 0
  | _ => 0

abbrev hbmTy0_0 (i : Nat) : BufTy := match i % 128 with
  | 0 => ⟨S4096x2048, .f32⟩
  | 1 => ⟨S4096x256, .f32⟩
  | 2 => ⟨S4096x256, .f32⟩
  | 3 => ⟨S1x32, .f32⟩
  | 4 => ⟨S4096x2048, .f32⟩
  | 5 => ⟨S32, .f32⟩
  | 6 => ⟨S32, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S4096, .f32⟩
  | 15 => ⟨S4096x1, .f32⟩
  | 16 => ⟨S1x32, .f32⟩
  | 17 => ⟨S4096x32, .f32⟩
  | 18 => ⟨S4096x32, .f32⟩
  | 19 => ⟨S4096x32, .f32⟩
  | 20 => ⟨S4096x32, .f32⟩
  | 21 => ⟨S4096x32, .f32⟩
  | 22 => ⟨S4096x32x64, .f32⟩
  | 23 => ⟨S4096x1x32, .f32⟩
  | 24 => ⟨S4096x32x32, .f32⟩
  | 25 => ⟨S4096x1x32, .f32⟩
  | 26 => ⟨S4096x32x32, .f32⟩
  | 27 => ⟨S4096x32x32, .f32⟩
  | 28 => ⟨S4096x32x32, .f32⟩
  | 29 => ⟨S4096x32x32, .f32⟩
  | 30 => ⟨S4096x32x32, .f32⟩
  | 31 => ⟨S4096x32x32, .f32⟩
  | 32 => ⟨S4096x32x32, .f32⟩
  | 33 => ⟨S4096x32x32, .f32⟩
  | 34 => ⟨S4096x32x32, .f32⟩
  | 35 => ⟨S4096x32x64, .f32⟩
  | 36 => ⟨S4096x4x64, .f32⟩
  | 37 => ⟨S4096x1x32, .f32⟩
  | 38 => ⟨S4096x4x32, .f32⟩
  | 39 => ⟨S4096x1x32, .f32⟩
  | 40 => ⟨S4096x4x32, .f32⟩
  | 41 => ⟨S4096x4x32, .f32⟩
  | 42 => ⟨S4096x4x32, .f32⟩
  | 43 => ⟨S4096x4x32, .f32⟩
  | 44 => ⟨S4096x4x32, .f32⟩
  | 45 => ⟨S4096x4x32, .f32⟩
  | 46 => ⟨S4096x4x32, .f32⟩
  | 47 => ⟨S4096x4x32, .f32⟩
  | 48 => ⟨S4096x4x32, .f32⟩
  | 49 => ⟨S4096x4x64, .f32⟩
  | 50 => ⟨S4096x4x64, .f32⟩
  | 51 => ⟨S32x128x4x8x64, .f32⟩
  | 52 => ⟨S32x128x4x64, .f32⟩
  | 53 => ⟨S_, .f32⟩
  | 54 => ⟨S1x128x4x64, .f32⟩
  | 55 => ⟨S31x128x4x64, .f32⟩
  | 56 => ⟨S32x128x4x64, .f32⟩
  | 57 => ⟨S_, .f32⟩
  | 58 => ⟨S1x128x4x64, .f32⟩
  | 59 => ⟨S32x256x4x64, .f32⟩
  | 60 => ⟨S32x128x4x64, .f32⟩
  | 61 => ⟨S_, .f32⟩
  | 62 => ⟨S1x128x4x64, .f32⟩
  | 63 => ⟨S31x128x4x64, .f32⟩
  | 64 => ⟨S32x128x4x64, .f32⟩
  | 65 => ⟨S_, .f32⟩
  | 66 => ⟨S1x128x4x64, .f32⟩
  | 67 => ⟨S32x256x4x64, .f32⟩
  | 68 => ⟨S32x4x256x128x8, .f32⟩
  | 69 => ⟨S32x4x8x128x256, .f32⟩
  | 70 => ⟨S_, .f32⟩
  | 71 => ⟨S32x4x8x128x256, .f32⟩
  | 72 => ⟨S32x4x8x128x256, .f32⟩
  | 73 => ⟨S32x4x8x128x256, .i32⟩
  | 74 => ⟨S32x4x8x128x256, .i32⟩
  | 75 => ⟨S32x4x8x128x256, .i32⟩
  | 76 => ⟨S32x4x8x128x256, .i1⟩
  | 77 => ⟨S_, .i32⟩
  | 78 => ⟨S32x4x8x128x256, .i32⟩
  | 79 => ⟨S32x4x8x128x256, .i32⟩
  | 80 => ⟨S32x4x8x128x256, .i1⟩
  | 81 => ⟨S32x4x8x128x256, .i1⟩
  | 82 => ⟨S_, .i32⟩
  | 83 => ⟨S32x4x8x128x256, .i32⟩
  | 84 => ⟨S32x4x8x128x256, .i1⟩
  | 85 => ⟨S_, .i32⟩
  | 86 => ⟨S32x4x8x128x256, .i32⟩
  | 87 => ⟨S32x4x8x128x256, .i1⟩
  | 88 => ⟨S32x4x8x128x256, .i1⟩
  | 89 => ⟨S32x4x8x128x256, .i1⟩
  | 90 => ⟨S_, .f32⟩
  | 91 => ⟨S32x4x8x128x256, .f32⟩
  | 92 => ⟨S32x4x8x128x256, .f32⟩
  | 93 => ⟨S_, .f32⟩
  | 94 => ⟨S32x4x8x128x256, .f32⟩
  | 95 => ⟨S1x4x8x1, .f32⟩
  | 96 => ⟨S32x4x8x128, .f32⟩
  | 97 => ⟨S_, .f32⟩
  | 98 => ⟨S32x4x8x128, .f32⟩
  | 99 => ⟨S32x4x8x128x1, .f32⟩
  | 100 => ⟨S32x4x8x128x256, .f32⟩
  | 101 => ⟨S32x4x8x128x256, .i1⟩
  | 102 => ⟨S32x4x8x128x256, .f32⟩
  | 103 => ⟨S_, .f32⟩
  | 104 => ⟨S32x4x8x128, .f32⟩
  | 105 => ⟨S32x4x8x128, .f32⟩
  | 106 => ⟨S32x4x8x128, .i1⟩
  | 107 => ⟨S32x4x8x128, .i1⟩
  | 108 => ⟨S_, .f32⟩
  | 109 => ⟨S32x4x8x128, .f32⟩
  | 110 => ⟨S_, .f32⟩
  | 111 => ⟨S32x4x8x128, .f32⟩
  | 112 => ⟨S_, .f32⟩
  | 113 => ⟨S32x4x8x128, .f32⟩
  | 114 => ⟨S32x4x8x128, .f32⟩
  | 115 => ⟨S32x4x8x128, .f32⟩
  | 116 => ⟨S32x4x8x128, .i1⟩
  | 117 => ⟨S32x4x8x128, .i1⟩
  | 118 => ⟨S_, .f32⟩
  | 119 => ⟨S32x4x8x128, .f32⟩
  | 120 => ⟨S_, .f32⟩
  | 121 => ⟨S32x4x8x128, .f32⟩
  | 122 => ⟨S_, .f32⟩
  | 123 => ⟨S32x4x8x128, .f32⟩
  | 124 => ⟨S32x4x8x128, .f32⟩
  | 125 => ⟨S32x4x8x128, .f32⟩
  | 126 => ⟨S32x4x8x128x1, .f32⟩
  | 127 => ⟨S32x4x8x128x256, .f32⟩
  | _ => ⟨S4096x2048, .f32⟩

abbrev hbmTy0_1 (i : Nat) : BufTy := match i % 128 with
  | 0 => ⟨S32x4x8x128x256, .f32⟩
  | 1 => ⟨S32x4x8x128x256, .f32⟩
  | 2 => ⟨S_, .f32⟩
  | 3 => ⟨S32x4x8x128, .f32⟩
  | 4 => ⟨S32x4x8x128, .f32⟩
  | 5 => ⟨S32x4x8x128, .f32⟩
  | 6 => ⟨S32x4x8x128, .f32⟩
  | 7 => ⟨S32x4x8x128x1, .f32⟩
  | 8 => ⟨S32x4x8x128x256, .f32⟩
  | 9 => ⟨S32x4x8x128x256, .f32⟩
  | 10 => ⟨S32x4x8x128x1, .f32⟩
  | 11 => ⟨S_, .f32⟩
  | 12 => ⟨S32x4x8x128x1, .f32⟩
  | 13 => ⟨S32x4x8x128x1, .f32⟩
  | 14 => ⟨S32x4x64x8x128, .f32⟩
  | 15 => ⟨S32x128x4x8x64, .f32⟩
  | 16 => ⟨S32x4x8x128, .f32⟩
  | 17 => ⟨S32x4x8x128, .f32⟩
  | 18 => ⟨S4096x2048, .f32⟩
  | 19 => ⟨S32x128x4x8, .f32⟩
  | 20 => ⟨S4096x32, .f32⟩
  | 21 => ⟨S32x128x4x8x64, .f32⟩
  | 22 => ⟨S32x4x64x8x128, .f32⟩
  | 23 => ⟨S32x4x8x128x256, .f32⟩
  | 24 => ⟨S32x4x64x256, .f32⟩
  | 25 => ⟨S32x256x4x64, .f32⟩
  | 26 => ⟨S32x4x8x128x256, .f32⟩
  | 27 => ⟨S32x4x8x128x256, .f32⟩
  | 28 => ⟨S32x4x8x128x256, .f32⟩
  | 29 => ⟨S_, .f32⟩
  | 30 => ⟨S32x4x8x128, .f32⟩
  | 31 => ⟨S32x4x8x128x1, .f32⟩
  | 32 => ⟨S32x4x8x128x1, .f32⟩
  | 33 => ⟨S32x4x8x128x256, .f32⟩
  | 34 => ⟨S32x4x8x128x256, .f32⟩
  | 35 => ⟨S_, .f32⟩
  | 36 => ⟨S32x4x8x128, .f32⟩
  | 37 => ⟨S32x4x8x128, .f32⟩
  | 38 => ⟨S32x4x8x128, .f32⟩
  | 39 => ⟨S32x4x8x128x256, .f32⟩
  | 40 => ⟨S32x4x8x128x256, .f32⟩
  | 41 => ⟨S32x4x8x128x256, .f32⟩
  | 42 => ⟨S32x4x8x128x256, .f32⟩
  | 43 => ⟨S_, .f32⟩
  | 44 => ⟨S32x4x8x128, .f32⟩
  | 45 => ⟨S32x4x8x128x1, .f32⟩
  | 46 => ⟨S_, .f32⟩
  | 47 => ⟨S32x4x8x128, .f32⟩
  | 48 => ⟨S32x4x8x128, .f32⟩
  | 49 => ⟨S32x4x8x128, .f32⟩
  | 50 => ⟨S32x4x8x128, .f32⟩
  | 51 => ⟨S32x4x8x128, .f32⟩
  | 52 => ⟨S32x4x8x128, .f32⟩
  | 53 => ⟨S32x4x8x128x256, .f32⟩
  | 54 => ⟨S32x4x8x128x256, .f32⟩
  | 55 => ⟨S32x4x8x128x256, .f32⟩
  | 56 => ⟨S_, .f32⟩
  | 57 => ⟨S4x8, .f32⟩
  | 58 => ⟨S1x4x8x1, .f32⟩
  | 59 => ⟨S32, .f32⟩
  | 60 => ⟨S_, .f32⟩
  | 61 => ⟨S32x4x8x128x256, .f32⟩
  | 62 => ⟨S32x4x8x128x256, .f32⟩
  | 63 => ⟨S_, .f32⟩
  | 64 => ⟨S32x4x8x128x256, .f32⟩
  | 65 => ⟨S32x4x8x128x256, .f32⟩
  | 66 => ⟨S32x4x256x128x8, .f32⟩
  | 67 => ⟨S32x4x128x8x64, .f32⟩
  | 68 => ⟨S32x128x4x8x64, .f32⟩
  | 69 => ⟨S32x4x256x64, .f32⟩
  | 70 => ⟨S32x256x4x64, .f32⟩
  | 71 => ⟨S32x128x4x64, .f32⟩
  | 72 => ⟨S32x128x4x64, .f32⟩
  | 73 => ⟨S1x128x4x64, .f32⟩
  | 74 => ⟨S31x128x4x64, .f32⟩
  | 75 => ⟨S_, .f32⟩
  | 76 => ⟨S32x128x4x64, .f32⟩
  | 77 => ⟨S32x128x4x64, .f32⟩
  | 78 => ⟨S4096x4x64, .f32⟩
  | 79 => ⟨S32x128x4x64, .f32⟩
  | 80 => ⟨S32x128x4x64, .f32⟩
  | 81 => ⟨S1x128x4x64, .f32⟩
  | 82 => ⟨S31x128x4x64, .f32⟩
  | 83 => ⟨S_, .f32⟩
  | 84 => ⟨S32x128x4x64, .f32⟩
  | 85 => ⟨S32x128x4x64, .f32⟩
  | 86 => ⟨S4096x4x64, .f32⟩
  | 87 => ⟨S4096x32x64, .f32⟩
  | 88 => ⟨S4096x256, .f32⟩
  | 89 => ⟨S4096x4x32, .f32⟩
  | 90 => ⟨S4096x4x32, .f32⟩
  | 91 => ⟨S4096x4x32, .f32⟩
  | 92 => ⟨S4096x4x32, .f32⟩
  | 93 => ⟨S4096x4x32, .f32⟩
  | 94 => ⟨S4096x4x32, .f32⟩
  | 95 => ⟨S4096x4x32, .f32⟩
  | 96 => ⟨S4096x4x32, .f32⟩
  | 97 => ⟨S4096x4x32, .f32⟩
  | 98 => ⟨S_, .f32⟩
  | 99 => ⟨S4096x4x64, .f32⟩
  | 100 => ⟨S_, .f32⟩
  | 101 => ⟨S4096x4x64, .f32⟩
  | 102 => ⟨S4096x4x64, .f32⟩
  | 103 => ⟨S4096x256, .f32⟩
  | 104 => ⟨S4096x32x32, .f32⟩
  | 105 => ⟨S4096x32x32, .f32⟩
  | 106 => ⟨S4096x32x32, .f32⟩
  | 107 => ⟨S4096x32x32, .f32⟩
  | 108 => ⟨S4096x32x32, .f32⟩
  | 109 => ⟨S4096x32x32, .f32⟩
  | 110 => ⟨S4096x32x32, .f32⟩
  | 111 => ⟨S4096x32x32, .f32⟩
  | 112 => ⟨S4096x32x32, .f32⟩
  | 113 => ⟨S_, .f32⟩
  | 114 => ⟨S4096x32x64, .f32⟩
  | 115 => ⟨S_, .f32⟩
  | 116 => ⟨S4096x32x64, .f32⟩
  | 117 => ⟨S4096x32x64, .f32⟩
  | 118 => ⟨S4096x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_1 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_2 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_3 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_4 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_5 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_c : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_c_6 : Ref sig .tc := ⟨.hbm, 82, rfl⟩
abbrev main_v69 : Ref sig .tc := ⟨.hbm, 83, rfl⟩
abbrev main_v70 : Ref sig .tc := ⟨.hbm, 84, rfl⟩
abbrev main_c_7 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_cst_8 : Ref sig .tc := ⟨.hbm, 90, rfl⟩
abbrev main_v75 : Ref sig .tc := ⟨.hbm, 91, rfl⟩
abbrev main_v76 : Ref sig .tc := ⟨.hbm, 92, rfl⟩
abbrev main_cst_9 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_10 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_cst_11 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_cst_12 : Ref sig .tc := ⟨.hbm, 108, rfl⟩
abbrev main_v89 : Ref sig .tc := ⟨.hbm, 109, rfl⟩
abbrev main_cst_13 : Ref sig .tc := ⟨.hbm, 110, rfl⟩
abbrev main_v90 : Ref sig .tc := ⟨.hbm, 111, rfl⟩
abbrev main_cst_14 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_cst_15 : Ref sig .tc := ⟨.hbm, 118, rfl⟩
abbrev main_v96 : Ref sig .tc := ⟨.hbm, 119, rfl⟩
abbrev main_cst_16 : Ref sig .tc := ⟨.hbm, 120, rfl⟩
abbrev main_v97 : Ref sig .tc := ⟨.hbm, 121, rfl⟩
abbrev main_cst_17 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_cst_18 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_cst_19 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_cst_20 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_cst_21 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_cst_22 : Ref sig .tc := ⟨.hbm, 171, rfl⟩
abbrev main_v142 : Ref sig .tc := ⟨.hbm, 172, rfl⟩
abbrev main_v143 : Ref sig .tc := ⟨.hbm, 173, rfl⟩
abbrev main_cst_23 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_cst_24 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_cst_25 : Ref sig .tc := ⟨.hbm, 188, rfl⟩
abbrev main_v156 : Ref sig .tc := ⟨.hbm, 189, rfl⟩
abbrev main_v157 : Ref sig .tc := ⟨.hbm, 190, rfl⟩
abbrev main_cst_26 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_cst_27 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_cst_28 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_cst_29 : Ref sig .tc := ⟨.hbm, 226, rfl⟩
abbrev main_v190 : Ref sig .tc := ⟨.hbm, 227, rfl⟩
abbrev main_cst_30 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_cst_31 : Ref sig .tc := ⟨.hbm, 241, rfl⟩
abbrev main_v203 : Ref sig .tc := ⟨.hbm, 242, rfl⟩
abbrev main_cst_32 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩

abbrev nD : Nat := 1
abbrev τ : Topo := Topo.v7x

variable {F : FTy → Type} [FloatOps F]
-- ==== Kernel2.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S8x2048 : Shape := ⟨2, ![8, 2048]⟩
abbrev S128x2048 : Shape := ⟨2, ![128, 2048]⟩
abbrev S16x8x2048 : Shape := ⟨3, ![16, 8, 2048]⟩
abbrev S2048 : Shape := ⟨1, ![2048]⟩

abbrev nBuf : Space → Nat
  | .hbm => 22
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S1x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .bf16⟩
  | .hbm, ⟨17, _⟩ => ⟨S4096x2048, .f32⟩
  | .hbm, ⟨18, _⟩ => ⟨S8x2048, .f32⟩
  | .hbm, ⟨19, _⟩ => ⟨S_, .f32⟩
  | .hbm, ⟨20, _⟩ => ⟨S2048, .f32⟩
  | .hbm, ⟨21, _⟩ => ⟨S4096x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .bf16⟩
  | .local _ .vmem, ⟨7, _⟩ => ⟨S128x2048, .bf16⟩
  | .local _ .vmem, ⟨8, _⟩ => ⟨S128x2048, .f32⟩
  | .local _ .vmem, ⟨9, _⟩ => ⟨S128x2048, .f32⟩
  | .local _ .vmem, ⟨10, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference2Ideal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩

abbrev nBuf : Space → Nat
  | .hbm => 39
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S1x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S_, .f32⟩
  | .hbm, ⟨38, _⟩ => ⟨S2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel3.lean ====
abbrev S4096x4096 : Shape := ⟨2, ![4096, 4096]⟩
abbrev S1x4096 : Shape := ⟨2, ![1, 4096]⟩
abbrev S8x4096 : Shape := ⟨2, ![8, 4096]⟩
abbrev S128x4096 : Shape := ⟨2, ![128, 4096]⟩
abbrev S128 : Shape := ⟨1, ![128]⟩
abbrev S128x1 : Shape := ⟨2, ![128, 1]⟩
abbrev S16x8x4096 : Shape := ⟨3, ![16, 8, 4096]⟩
abbrev S_ : Shape := ⟨0, ![]⟩
abbrev S4096 : Shape := ⟨1, ![4096]⟩

abbrev nBuf : Space → Nat
  | .hbm => 27
  | .vmem => 19
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .bf16⟩
  | .hbm, ⟨12, _⟩ => ⟨S4096x4096, .f32⟩
  | .hbm, ⟨13, _⟩ => ⟨S4096x4096, .bf16⟩
  | .hbm, ⟨14, _⟩ => ⟨S8x4096, .f32⟩
  | .hbm, ⟨15, _⟩ => ⟨S8x4096, .f32⟩
  | .hbm, ⟨16, _⟩ => ⟨S8x4096, .f32⟩
  | .hbm, ⟨17, _⟩ => ⟨S8x4096, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .bf16⟩
  | .local _ .vmem, ⟨7, _⟩ => ⟨S128x4096, .bf16⟩
  | .local _ .vmem, ⟨8, _⟩ => ⟨S1x4096, .f32⟩
  | .local _ .vmem, ⟨9, _⟩ => ⟨S1x4096, .f32⟩
  | .local _ .vmem, ⟨10, _⟩ => ⟨S1x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .bf16⟩
  | .local _ .vmem, ⟨14, _⟩ => ⟨S128x4096, .bf16⟩
  | .local _ .vmem, ⟨15, _⟩ => ⟨S8x4096, .f32⟩
  | .local _ .vmem, ⟨16, _⟩ => ⟨S8x4096, .f32⟩
  | .local _ .vmem, ⟨17, _⟩ => ⟨S8x4096, .f32⟩
  | .local _ .vmem, ⟨18, _⟩ => ⟨S8x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_cst_2 : Ref sig .tc := ⟨.hbm, 24, rfl⟩
abbrev main_v8 : Ref sig .tc := ⟨.hbm, 25, rfl⟩
abbrev main_v9 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference3Ideal.lean ====
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S4096x1 : Shape := ⟨2, ![4096, 1]⟩

abbrev nBuf : Space → Nat
  | .hbm => 94
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S4096x4096, .f32⟩
  | .hbm, ⟨7, _⟩ => ⟨S4096x4096, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x4096, .f32⟩
  | .hbm, ⟨32, _⟩ => ⟨S4096x4096, .f32⟩
  | .hbm, ⟨33, _⟩ => ⟨S1x4096, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S1x4096, .f32⟩
  | .hbm, ⟨40, _⟩ => ⟨S4096x4096, .f32⟩
  | .hbm, ⟨41, _⟩ => ⟨S4096x4096, .f32⟩
  | .hbm, ⟨42, _⟩ => ⟨S1x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096, .f32⟩
  | .hbm, ⟨48, _⟩ => ⟨S1x4096, .f32⟩
  | .hbm, ⟨49, _⟩ => ⟨S_, .f32⟩
  | .hbm, ⟨50, _⟩ => ⟨S4096, .f32⟩
  | .hbm, ⟨51, _⟩ => ⟨S4096x4096, .f32⟩
  | .hbm, ⟨52, _⟩ => ⟨S_, .f32⟩
  | .hbm, ⟨53, _⟩ => ⟨S4096, .f32⟩
  | .hbm, ⟨54, _⟩ => ⟨S1x4096, .f32⟩
  | .hbm, ⟨55, _⟩ => ⟨S4096x4096, .f32⟩
  | .hbm, ⟨56, _⟩ => ⟨S4096x4096, .f32⟩
  | .hbm, ⟨57, _⟩ => ⟨S_, .f32⟩
  | .hbm, ⟨58, _⟩ => ⟨S4096, .f32⟩
  | .hbm, ⟨59, _⟩ => ⟨S4096x4096, .f32⟩
  | .hbm, ⟨60, _⟩ => ⟨S_, .f32⟩
  | .hbm, ⟨61, _⟩ => ⟨S4096, .f32⟩
  | .hbm, ⟨62, _⟩ => ⟨S1x4096, .f32⟩
  | .hbm, ⟨63, _⟩ => ⟨S4096x4096, .f32⟩
  | .hbm, ⟨64, _⟩ => ⟨S4096x4096, .f32⟩
  | .hbm, ⟨65, _⟩ => ⟨S_, .f32⟩
  | .hbm, ⟨66, _⟩ => ⟨S4096, .f32⟩
  | .hbm, ⟨67, _⟩ => ⟨S4096x4096, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096, .f32⟩
  | .hbm, ⟨80, _⟩ => ⟨S4096x4096, .f32⟩
  | .hbm, ⟨81, _⟩ => ⟨S4096x4096, .f32⟩
  | .hbm, ⟨82, _⟩ => ⟨S4096x4096, .f32⟩
  | .hbm, ⟨83, _⟩ => ⟨S4096x4096, .f32⟩
  | .hbm, ⟨84, _⟩ => ⟨S4096x4096, .f32⟩
  | .hbm, ⟨85, _⟩ => ⟨S4096x4096, .f32⟩
  | .hbm, ⟨86, _⟩ => ⟨S4096x4096, .f32⟩
  | .hbm, ⟨87, _⟩ => ⟨S4096x4096, .f32⟩
  | .hbm, ⟨88, _⟩ => ⟨S4096x4096, .f32⟩
  | .hbm, ⟨89, _⟩ => ⟨S_, .f32⟩
  | .hbm, ⟨90, _⟩ => ⟨S4096, .f32⟩
  | .hbm, ⟨91, _⟩ => ⟨S1x4096, .f32⟩
  | .hbm, ⟨92, _⟩ => ⟨S_, .f32⟩
  | .hbm, ⟨93, _⟩ => ⟨S4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_cst_12 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_13 : Ref sig .tc := ⟨.hbm, 89, rfl⟩
abbrev main_v67 : Ref sig .tc := ⟨.hbm, 90, rfl⟩
abbrev main_v68 : Ref sig .tc := ⟨.hbm, 91, rfl⟩
abbrev main_cst_14 : Ref sig .tc := ⟨.hbm, 92, rfl⟩
abbrev main_v69 : Ref sig .tc := ⟨.hbm, 93, rfl⟩

abbrev nD : Nat := 1
abbrev τ : Topo := Topo.v7x

variable {F : FTy → Type} [FloatOps F]
-- ==== Kernel4.lean ====
abbrev S4096x4096 : Shape := ⟨2, ![4096, 4096]⟩
abbrev S1x4096 : Shape := ⟨2, ![1, 4096]⟩
abbrev S8x4096 : Shape := ⟨2, ![8, 4096]⟩
abbrev S128x4096 : Shape := ⟨2, ![128, 4096]⟩
abbrev S128 : Shape := ⟨1, ![128]⟩
abbrev S128x1 : Shape := ⟨2, ![128, 1]⟩
abbrev S16x8x4096 : Shape := ⟨3, ![16, 8, 4096]⟩
abbrev S_ : Shape := ⟨0, ![]⟩
abbrev S4096 : Shape := ⟨1, ![4096]⟩

abbrev nBuf : Space → Nat
  | .hbm => 16
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S8x4096, .f32⟩
  | .hbm, ⟨8, _⟩ => ⟨S8x4096, .f32⟩
  | .hbm, ⟨9, _⟩ => ⟨S8x4096, .f32⟩
  | .hbm, ⟨10, _⟩ => ⟨S_, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S_, .f32⟩
  | .hbm, ⟨15, _⟩ => ⟨S4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S1x4096, .f32⟩
  | .local _ .vmem, ⟨8, _⟩ => ⟨S128x4096, .f32⟩
  | .local _ .vmem, ⟨9, _⟩ => ⟨S128x4096, .f32⟩
  | .local _ .vmem, ⟨10, _⟩ => ⟨S8x4096, .f32⟩
  | .local _ .vmem, ⟨11, _⟩ => ⟨S8x4096, .f32⟩
  | .local _ .vmem, ⟨12, _⟩ => ⟨S8x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference4Ideal.lean ====
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S4096x1 : Shape := ⟨2, ![4096, 1]⟩

abbrev nBuf : Space → Nat
  | .hbm => 78
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S4096x4096, .f32⟩
  | .hbm, ⟨5, _⟩ => ⟨S4096x4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S4096x4096, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x4096, .f32⟩
  | .hbm, ⟨25, _⟩ => ⟨S4096x4096, .f32⟩
  | .hbm, ⟨26, _⟩ => ⟨S1x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S1x4096, .f32⟩
  | .hbm, ⟨33, _⟩ => ⟨S4096x4096, .f32⟩
  | .hbm, ⟨34, _⟩ => ⟨S4096x4096, .f32⟩
  | .hbm, ⟨35, _⟩ => ⟨S1x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096, .f32⟩
  | .hbm, ⟨41, _⟩ => ⟨S1x4096, .f32⟩
  | .hbm, ⟨42, _⟩ => ⟨S_, .f32⟩
  | .hbm, ⟨43, _⟩ => ⟨S4096, .f32⟩
  | .hbm, ⟨44, _⟩ => ⟨S4096x4096, .f32⟩
  | .hbm, ⟨45, _⟩ => ⟨S_, .f32⟩
  | .hbm, ⟨46, _⟩ => ⟨S4096, .f32⟩
  | .hbm, ⟨47, _⟩ => ⟨S1x4096, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096, .f32⟩
  | .hbm, ⟨52, _⟩ => ⟨S4096x4096, .f32⟩
  | .hbm, ⟨53, _⟩ => ⟨S_, .f32⟩
  | .hbm, ⟨54, _⟩ => ⟨S4096, .f32⟩
  | .hbm, ⟨55, _⟩ => ⟨S1x4096, .f32⟩
  | .hbm, ⟨56, _⟩ => ⟨S4096x4096, .f32⟩
  | .hbm, ⟨57, _⟩ => ⟨S4096x4096, .f32⟩
  | .hbm, ⟨58, _⟩ => ⟨S_, .f32⟩
  | .hbm, ⟨59, _⟩ => ⟨S4096, .f32⟩
  | .hbm, ⟨60, _⟩ => ⟨S4096x4096, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x4096, .f32⟩
  | .hbm, ⟨74, _⟩ => ⟨S4096x4096, .f32⟩
  | .hbm, ⟨75, _⟩ => ⟨S4096x4096, .f32⟩
  | .hbm, ⟨76, _⟩ => ⟨S4096x4096, .f32⟩
  | .hbm, ⟨77, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== Kernel5.lean ====
abbrev S4096x4096 : Shape := ⟨2, ![4096, 4096]⟩
abbrev S1x4096 : Shape := ⟨2, ![1, 4096]⟩
abbrev S8x4096 : Shape := ⟨2, ![8, 4096]⟩
abbrev S128x4096 : Shape := ⟨2, ![128, 4096]⟩
abbrev S128 : Shape := ⟨1, ![128]⟩
abbrev S128x1 : Shape := ⟨2, ![128, 1]⟩
abbrev S16x8x4096 : Shape := ⟨3, ![16, 8, 4096]⟩
abbrev S_ : Shape := ⟨0, ![]⟩
abbrev S4096 : Shape := ⟨1, ![4096]⟩

abbrev nBuf : Space → Nat
  | .hbm => 25
  | .vmem => 15
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S1x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S4096x4096, .f32⟩
  | .hbm, ⟨10, _⟩ => ⟨S4096x4096, .bf16⟩
  | .hbm, ⟨11, _⟩ => ⟨S8x4096, .f32⟩
  | .hbm, ⟨12, _⟩ => ⟨S8x4096, .f32⟩
  | .hbm, ⟨13, _⟩ => ⟨S8x4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .bf16⟩
  | .local _ .vmem, ⟨5, _⟩ => ⟨S128x4096, .bf16⟩
  | .local _ .vmem, ⟨6, _⟩ => ⟨S1x4096, .f32⟩
  | .local _ .vmem, ⟨7, _⟩ => ⟨S1x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .bf16⟩
  | .local _ .vmem, ⟨11, _⟩ => ⟨S128x4096, .bf16⟩
  | .local _ .vmem, ⟨12, _⟩ => ⟨S8x4096, .f32⟩
  | .local _ .vmem, ⟨13, _⟩ => ⟨S8x4096, .f32⟩
  | .local _ .vmem, ⟨14, _⟩ => ⟨S8x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference5Ideal.lean ====
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S4096x1 : Shape := ⟨2, ![4096, 1]⟩

abbrev nBuf : Space → Nat
  | .hbm => 87
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S1x4096, .f32⟩
  | .hbm, ⟨4, _⟩ => ⟨S4096x4096, .f32⟩
  | .hbm, ⟨5, _⟩ => ⟨S4096, .f32⟩
  | .hbm, ⟨6, _⟩ => ⟨S4096, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x4096, .f32⟩
  | .hbm, ⟨27, _⟩ => ⟨S4096x4096, .f32⟩
  | .hbm, ⟨28, _⟩ => ⟨S1x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S4096, .f32⟩
  | .hbm, ⟨57, _⟩ => ⟨S1x4096, .f32⟩
  | .hbm, ⟨58, _⟩ => ⟨S4096x4096, .f32⟩
  | .hbm, ⟨59, _⟩ => ⟨S4096x4096, .f32⟩
  | .hbm, ⟨60, _⟩ => ⟨S_, .f32⟩
  | .hbm, ⟨61, _⟩ => ⟨S4096, .f32⟩
  | .hbm, ⟨62, _⟩ => ⟨S4096x4096, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x4096, .f32⟩
  | .hbm, ⟨67, _⟩ => ⟨S4096x4096, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x4096, .f32⟩
  | .hbm, ⟨75, _⟩ => ⟨S4096x4096, .f32⟩
  | .hbm, ⟨76, _⟩ => ⟨S4096x4096, .f32⟩
  | .hbm, ⟨77, _⟩ => ⟨S4096x4096, .f32⟩
  | .hbm, ⟨78, _⟩ => ⟨S4096x4096, .f32⟩
  | .hbm, ⟨79, _⟩ => ⟨S4096x4096, .f32⟩
  | .hbm, ⟨80, _⟩ => ⟨S4096x4096, .f32⟩
  | .hbm, ⟨81, _⟩ => ⟨S4096x4096, .f32⟩
  | .hbm, ⟨82, _⟩ => ⟨S_, .f32⟩
  | .hbm, ⟨83, _⟩ => ⟨S4096, .f32⟩
  | .hbm, ⟨84, _⟩ => ⟨S1x4096, .f32⟩
  | .hbm, ⟨85, _⟩ => ⟨S_, .f32⟩
  | .hbm, ⟨86, _⟩ => ⟨S4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_cst_8 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_12 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev main_cst_15 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_16 : Ref sig .tc := ⟨.hbm, 82, rfl⟩
abbrev main_v60 : Ref sig .tc := ⟨.hbm, 83, rfl⟩
abbrev main_v61 : Ref sig .tc := ⟨.hbm, 84, rfl⟩
abbrev main_cst_17 : Ref sig .tc := ⟨.hbm, 85, rfl⟩
abbrev main_v62 : Ref sig .tc := ⟨.hbm, 86, rfl⟩

abbrev nD : Nat := 1
abbrev τ : Topo := Topo.v7x

variable {F : FTy → Type} [FloatOps F]
-- ==== Kernel6.lean ====
abbrev S4096x2048 : Shape := ⟨2, ![4096, 2048]⟩
abbrev S1x2048 : Shape := ⟨2, ![1, 2048]⟩
abbrev S4096x4096 : Shape := ⟨2, ![4096, 4096]⟩
abbrev S8x2048 : Shape := ⟨2, ![8, 2048]⟩
abbrev S128x2048 : Shape := ⟨2, ![128, 2048]⟩
abbrev S128x4096 : Shape := ⟨2, ![128, 4096]⟩
abbrev S128 : Shape := ⟨1, ![128]⟩
abbrev S128x1 : Shape := ⟨2, ![128, 1]⟩
abbrev S16x8x2048 : Shape := ⟨3, ![16, 8, 2048]⟩
abbrev S_ : Shape := ⟨0, ![]⟩
abbrev S2048 : Shape := ⟨1, ![2048]⟩

abbrev nBuf : Space → Nat
  | .hbm => 13
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x4096, .f32⟩
  | .hbm, ⟨5, _⟩ => ⟨S4096x2048, .f32⟩
  | .hbm, ⟨6, _⟩ => ⟨S4096x2048, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S2048, .f32⟩
  | .hbm, ⟨11, _⟩ => ⟨S_, .f32⟩
  | .hbm, ⟨12, _⟩ => ⟨S2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x4096, .f32⟩
  | .local _ .vmem, ⟨5, _⟩ => ⟨S128x4096, .f32⟩
  | .local _ .vmem, ⟨6, _⟩ => ⟨S1x2048, .f32⟩
  | .local _ .vmem, ⟨7, _⟩ => ⟨S1x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S8x2048, .f32⟩
  | .local _ .vmem, ⟨13, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference6Ideal.lean ====
abbrev S4096x2048 : Shape := ⟨2, ![4096, 2048]⟩
abbrev S1x2048 : Shape := ⟨2, ![1, 2048]⟩
abbrev S4096x4096 : Shape := ⟨2, ![4096, 4096]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 100
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x4096, .f32⟩
  | .hbm, ⟨5, _⟩ => ⟨S2048, .f32⟩
  | .hbm, ⟨6, _⟩ => ⟨S2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x2048, .f32⟩
  | .hbm, ⟨43, _⟩ => ⟨S4096x2048, .f32⟩
  | .hbm, ⟨44, _⟩ => ⟨S1x2048, .f32⟩
  | .hbm, ⟨45, _⟩ => ⟨S4096x2048, .f32⟩
  | .hbm, ⟨46, _⟩ => ⟨S4096x2048, .f32⟩
  | .hbm, ⟨47, _⟩ => ⟨S4096x4096, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S4096x2048, .f32⟩
  | .hbm, ⟨55, _⟩ => ⟨S4096x2048, .f32⟩
  | .hbm, ⟨56, _⟩ => ⟨S_, .f32⟩
  | .hbm, ⟨57, _⟩ => ⟨S2048, .f32⟩
  | .hbm, ⟨58, _⟩ => ⟨S4096x2048, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x2048, .f32⟩
  | .hbm, ⟨63, _⟩ => ⟨S4096x2048, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S_, .f32⟩
  | .hbm, ⟨77, _⟩ => ⟨S2048, .f32⟩
  | .hbm, ⟨78, _⟩ => ⟨S1x2048, .f32⟩
  | .hbm, ⟨79, _⟩ => ⟨S4096x2048, .f32⟩
  | .hbm, ⟨80, _⟩ => ⟨S4096x2048, .f32⟩
  | .hbm, ⟨81, _⟩ => ⟨S_, .f32⟩
  | .hbm, ⟨82, _⟩ => ⟨S2048, .f32⟩
  | .hbm, ⟨83, _⟩ => ⟨S4096x2048, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S4096x2048, .f32⟩
  | .hbm, ⟨88, _⟩ => ⟨S4096x2048, .f32⟩
  | .hbm, ⟨89, _⟩ => ⟨S4096x1, .f32⟩
  | .hbm, ⟨90, _⟩ => ⟨S_, .f32⟩
  | .hbm, ⟨91, _⟩ => ⟨S4096x1, .f32⟩
  | .hbm, ⟨92, _⟩ => ⟨S4096x1, .f32⟩
  | .hbm, ⟨93, _⟩ => ⟨S_, .f32⟩
  | .hbm, ⟨94, _⟩ => ⟨S4096, .f32⟩
  | .hbm, ⟨95, _⟩ => ⟨S4096x2048, .f32⟩
  | .hbm, ⟨96, _⟩ => ⟨S4096x2048, .f32⟩
  | .hbm, ⟨97, _⟩ => ⟨S4096x2048, .f32⟩
  | .hbm, ⟨98, _⟩ => ⟨S4096x2048, .f32⟩
  | .hbm, ⟨99, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_12 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_13 : Ref sig .tc := ⟨.hbm, 81, rfl⟩
abbrev main_v62 : Ref sig .tc := ⟨.hbm, 82, rfl⟩
abbrev main_v63 : Ref sig .tc := ⟨.hbm, 83, rfl⟩
abbrev main_cst_14 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_15 : Ref sig .tc := ⟨.hbm, 90, rfl⟩
abbrev main_v69 : Ref sig .tc := ⟨.hbm, 91, rfl⟩
abbrev main_v70 : Ref sig .tc := ⟨.hbm, 92, rfl⟩
abbrev main_cst_16 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩

abbrev nD : Nat := 1
abbrev τ : Topo := Topo.v7x

variable {F : FTy → Type} [FloatOps F]
-- ==== Kernel7.lean ====
abbrev S4096x2048 : Shape := ⟨2, ![4096, 2048]⟩
abbrev S4096x256 : Shape := ⟨2, ![4096, 256]⟩
abbrev S1x32 : Shape := ⟨2, ![1, 32]⟩
abbrev S32 : Shape := ⟨1, ![32]⟩
abbrev S_ : Shape := ⟨0, ![]⟩
abbrev S4096 : Shape := ⟨1, ![4096]⟩
abbrev S4096x1 : Shape := ⟨2, ![4096, 1]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S128x2048 : Shape := ⟨2, ![128, 2048]⟩
abbrev S128x256 : Shape := ⟨2, ![128, 256]⟩
abbrev S128x128 : Shape := ⟨2, ![128, 128]⟩
abbrev S128x32 : Shape := ⟨2, ![128, 32]⟩
abbrev S256x256 : Shape := ⟨2, ![256, 256]⟩
abbrev S1024x256 : Shape := ⟨2, ![1024, 256]⟩
abbrev S128x64 : Shape := ⟨2, ![128, 64]⟩
abbrev S1024x64 : Shape := ⟨2, ![1024, 64]⟩
abbrev S256x64 : Shape := ⟨2, ![256, 64]⟩
abbrev S1x1 : Shape := ⟨2, ![1, 1]⟩
abbrev S128x1 : Shape := ⟨2, ![128, 1]⟩
abbrev S1024x1 : Shape := ⟨2, ![1024, 1]⟩
abbrev S1024 : Shape := ⟨1, ![1024]⟩

abbrev nBuf : Space → Nat
  | .hbm => 28
  | .vmem => 23
  | .smem => 0
  | _ => 0

abbrev bufTy : (tb : Table) → Fin (tcTables nBuf tb) → BufTy
  | .hbm, ⟨0, _⟩ => ⟨S4096x2048, .f32⟩
  | .hbm, ⟨1, _⟩ => ⟨S4096x256, .f32⟩
  | .hbm, ⟨2, _⟩ => ⟨S4096x256, .f32⟩
  | .hbm, ⟨3, _⟩ => ⟨S1x32, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S4096, .f32⟩
  | .hbm, ⟨13, _⟩ => ⟨S4096x1, .f32⟩
  | .hbm, ⟨14, _⟩ => ⟨S1x32, .f32⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S1x4096x1x32, .f32⟩
  | .hbm, ⟨21, _⟩ => ⟨S1x4096x4x32, .f32⟩
  | .hbm, ⟨22, _⟩ => ⟨S4096x128, .f32⟩
  | .hbm, ⟨23, _⟩ => ⟨S1x4096x1x32, .f32⟩
  | .hbm, ⟨24, _⟩ => ⟨S1x4096x4x32, .f32⟩
  | .hbm, ⟨25, _⟩ => ⟨S4096x128, .f32⟩
  | .hbm, ⟨26, _⟩ => ⟨S4096x2048, .f32⟩
  | .hbm, ⟨27, _⟩ => ⟨S4096x32, .f32⟩
  | .local _ .vmem, ⟨0, _⟩ => ⟨S128x2048, .f32⟩
  | .local _ .vmem, ⟨1, _⟩ => ⟨S128x2048, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S1x32, .f32⟩
  | .local _ .vmem, ⟨19, _⟩ => ⟨S128x2048, .f32⟩
  | .local _ .vmem, ⟨20, _⟩ => ⟨S128x2048, .f32⟩
  | .local _ .vmem, ⟨21, _⟩ => ⟨S128x32, .f32⟩
  | .local _ .vmem, ⟨22, _⟩ => ⟨S128x32, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20_0 : Ref sig .tc := ⟨.hbm, 26, rfl⟩
abbrev main_v20_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel7Ideal.lean ====
variable {F : FTy → Type} [FloatOps F] [Named F]
def κ : String → Option EReal := fun
  | "masked" => some ⊥
  | _ => none
-- ==== Reference7Ideal.lean ====
abbrev S4096x2048 : Shape := ⟨2, ![4096, 2048]⟩
abbrev S4096x256 : Shape := ⟨2, ![4096, 256]⟩
abbrev S1x32 : Shape := ⟨2, ![1, 32]⟩
abbrev S32 : Shape := ⟨1, ![32]⟩
abbrev S_ : Shape := ⟨0, ![]⟩
abbrev S4096 : Shape := ⟨1, ![4096]⟩
abbrev S4096x1 : Shape := ⟨2, ![4096, 1]⟩
abbrev S4096x32 : Shape := ⟨2, ![4096, 32]⟩
abbrev S4096x32x64 : Shape := ⟨3, ![4096, 32, 64]⟩
abbrev S4096x1x32 : Shape := ⟨3, ![4096, 1, 32]⟩
abbrev S4096x32x32 : Shape := ⟨3, ![4096, 32, 32]⟩
abbrev S4096x4x64 : Shape := ⟨3, ![4096, 4, 64]⟩
abbrev S4096x4x32 : Shape := ⟨3, ![4096, 4, 32]⟩
abbrev S32x128x4x8x64 : Shape := ⟨5, ![32, 128, 4, 8, 64]⟩
abbrev S32x128x4x64 : Shape := ⟨4, ![32, 128, 4, 64]⟩
abbrev S1x128x4x64 : Shape := ⟨4, ![1, 128, 4, 64]⟩
abbrev S31x128x4x64 : Shape := ⟨4, ![31, 128, 4, 64]⟩
abbrev S32x256x4x64 : Shape := ⟨4, ![32, 256, 4, 64]⟩
abbrev S32x4x256x128x8 : Shape := ⟨5, ![32, 4, 256, 128, 8]⟩
abbrev S32x4x8x128x256 : Shape := ⟨5, ![32, 4, 8, 128, 256]⟩
abbrev S1x4x8x1 : Shape := ⟨4, ![1, 4, 8, 1]⟩
abbrev S32x4x8x128 : Shape := ⟨4, ![32, 4, 8, 128]⟩
abbrev S32x4x8x128x1 : Shape := ⟨5, ![32, 4, 8, 128, 1]⟩
abbrev S32x4x64x8x128 : Shape := ⟨5, ![32, 4, 64, 8, 128]⟩
abbrev S32x128x4x8 : Shape := ⟨4, ![32, 128, 4, 8]⟩

abbrev nBuf : Space → Nat
  | .hbm => 112
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x256, .f32⟩
  | .hbm, ⟨2, _⟩ => ⟨S4096x256, .f32⟩
  | .hbm, ⟨3, _⟩ => ⟨S1x32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S4096, .f32⟩
  | .hbm, ⟨14, _⟩ => ⟨S4096x1, .f32⟩
  | .hbm, ⟨15, _⟩ => ⟨S1x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x32x64, .f32⟩
  | .hbm, ⟨22, _⟩ => ⟨S4096x1x32, .f32⟩
  | .hbm, ⟨23, _⟩ => ⟨S4096x32x32, .f32⟩
  | .hbm, ⟨24, _⟩ => ⟨S4096x1x32, .f32⟩
  | .hbm, ⟨25, _⟩ => ⟨S4096x32x32, .f32⟩
  | .hbm, ⟨26, _⟩ => ⟨S4096x32x32, .f32⟩
  | .hbm, ⟨27, _⟩ => ⟨S4096x32x32, .f32⟩
  | .hbm, ⟨28, _⟩ => ⟨S4096x32x32, .f32⟩
  | .hbm, ⟨29, _⟩ => ⟨S4096x32x32, .f32⟩
  | .hbm, ⟨30, _⟩ => ⟨S4096x32x32, .f32⟩
  | .hbm, ⟨31, _⟩ => ⟨S4096x32x32, .f32⟩
  | .hbm, ⟨32, _⟩ => ⟨S4096x32x32, .f32⟩
  | .hbm, ⟨33, _⟩ => ⟨S4096x32x32, .f32⟩
  | .hbm, ⟨34, _⟩ => ⟨S4096x32x64, .f32⟩
  | .hbm, ⟨35, _⟩ => ⟨S4096x4x64, .f32⟩
  | .hbm, ⟨36, _⟩ => ⟨S4096x1x32, .f32⟩
  | .hbm, ⟨37, _⟩ => ⟨S4096x4x32, .f32⟩
  | .hbm, ⟨38, _⟩ => ⟨S4096x1x32, .f32⟩
  | .hbm, ⟨39, _⟩ => ⟨S4096x4x32, .f32⟩
  | .hbm, ⟨40, _⟩ => ⟨S4096x4x32, .f32⟩
  | .hbm, ⟨41, _⟩ => ⟨S4096x4x32, .f32⟩
  | .hbm, ⟨42, _⟩ => ⟨S4096x4x32, .f32⟩
  | .hbm, ⟨43, _⟩ => ⟨S4096x4x32, .f32⟩
  | .hbm, ⟨44, _⟩ => ⟨S4096x4x32, .f32⟩
  | .hbm, ⟨45, _⟩ => ⟨S4096x4x32, .f32⟩
  | .hbm, ⟨46, _⟩ => ⟨S4096x4x32, .f32⟩
  | .hbm, ⟨47, _⟩ => ⟨S4096x4x32, .f32⟩
  | .hbm, ⟨48, _⟩ => ⟨S4096x4x64, .f32⟩
  | .hbm, ⟨49, _⟩ => ⟨S4096x4x64, .f32⟩
  | .hbm, ⟨50, _⟩ => ⟨S32x128x4x8x64, .f32⟩
  | .hbm, ⟨51, _⟩ => ⟨S32x128x4x64, .f32⟩
  | .hbm, ⟨52, _⟩ => ⟨S_, .f32⟩
  | .hbm, ⟨53, _⟩ => ⟨S1x128x4x64, .f32⟩
  | .hbm, ⟨54, _⟩ => ⟨S31x128x4x64, .f32⟩
  | .hbm, ⟨55, _⟩ => ⟨S32x128x4x64, .f32⟩
  | .hbm, ⟨56, _⟩ => ⟨S32x256x4x64, .f32⟩
  | .hbm, ⟨57, _⟩ => ⟨S32x128x4x64, .f32⟩
  | .hbm, ⟨58, _⟩ => ⟨S_, .f32⟩
  | .hbm, ⟨59, _⟩ => ⟨S1x128x4x64, .f32⟩
  | .hbm, ⟨60, _⟩ => ⟨S31x128x4x64, .f32⟩
  | .hbm, ⟨61, _⟩ => ⟨S32x128x4x64, .f32⟩
  | .hbm, ⟨62, _⟩ => ⟨S32x256x4x64, .f32⟩
  | .hbm, ⟨63, _⟩ => ⟨S32x4x256x128x8, .f32⟩
  | .hbm, ⟨64, _⟩ => ⟨S32x4x8x128x256, .f32⟩
  | .hbm, ⟨65, _⟩ => ⟨S_, .f32⟩
  | .hbm, ⟨66, _⟩ => ⟨S32x4x8x128x256, .f32⟩
  | .hbm, ⟨67, _⟩ => ⟨S32x4x8x128x256, .f32⟩
  | .hbm, ⟨68, _⟩ => ⟨S32x4x8x128x256, .i32⟩
  | .hbm, ⟨69, _⟩ => ⟨S32x4x8x128x256, .i32⟩
  | .hbm, ⟨70, _⟩ => ⟨S32x4x8x128x256, .i32⟩
  | .hbm, ⟨71, _⟩ => ⟨S32x4x8x128x256, .i1⟩
  | .hbm, ⟨72, _⟩ => ⟨S_, .i32⟩
  | .hbm, ⟨73, _⟩ => ⟨S32x4x8x128x256, .i32⟩
  | .hbm, ⟨74, _⟩ => ⟨S32x4x8x128x256, .i32⟩
  | .hbm, ⟨75, _⟩ => ⟨S32x4x8x128x256, .i1⟩
  | .hbm, ⟨76, _⟩ => ⟨S32x4x8x128x256, .i1⟩
  | .hbm, ⟨77, _⟩ => ⟨S_, .i32⟩
  | .hbm, ⟨78, _⟩ => ⟨S32x4x8x128x256, .i32⟩
  | .hbm, ⟨79, _⟩ => ⟨S32x4x8x128x256, .i1⟩
  | .hbm, ⟨80, _⟩ => ⟨S_, .i32⟩
  | .hbm, ⟨81, _⟩ => ⟨S32x4x8x128x256, .i32⟩
  | .hbm, ⟨82, _⟩ => ⟨S32x4x8x128x256, .i1⟩
  | .hbm, ⟨83, _⟩ => ⟨S32x4x8x128x256, .i1⟩
  | .hbm, ⟨84, _⟩ => ⟨S32x4x8x128x256, .i1⟩
  | .hbm, ⟨85, _⟩ => ⟨S_, .f32⟩
  | .hbm, ⟨86, _⟩ => ⟨S32x4x8x128x256, .f32⟩
  | .hbm, ⟨87, _⟩ => ⟨S32x4x8x128x256, .f32⟩
  | .hbm, ⟨88, _⟩ => ⟨S1x4x8x1, .f32⟩
  | .hbm, ⟨89, _⟩ => ⟨S32x4x8x128, .f32⟩
  | .hbm, ⟨90, _⟩ => ⟨S_, .f32⟩
  | .hbm, ⟨91, _⟩ => ⟨S32x4x8x128, .f32⟩
  | .hbm, ⟨92, _⟩ => ⟨S32x4x8x128, .f32⟩
  | .hbm, ⟨93, _⟩ => ⟨S32x4x8x128x1, .f32⟩
  | .hbm, ⟨94, _⟩ => ⟨S32x4x8x128x256, .f32⟩
  | .hbm, ⟨95, _⟩ => ⟨S32x4x8x128x256, .f32⟩
  | .hbm, ⟨96, _⟩ => ⟨S32x4x8x128x256, .f32⟩
  | .hbm, ⟨97, _⟩ => ⟨S_, .f32⟩
  | .hbm, ⟨98, _⟩ => ⟨S32x4x8x128, .f32⟩
  | .hbm, ⟨99, _⟩ => ⟨S32x4x8x128, .f32⟩
  | .hbm, ⟨100, _⟩ => ⟨S32x4x8x128, .f32⟩
  | .hbm, ⟨101, _⟩ => ⟨S32x4x8x128, .f32⟩
  | .hbm, ⟨102, _⟩ => ⟨S32x4x8x128x1, .f32⟩
  | .hbm, ⟨103, _⟩ => ⟨S32x4x8x128x256, .f32⟩
  | .hbm, ⟨104, _⟩ => ⟨S32x4x8x128x256, .f32⟩
  | .hbm, ⟨105, _⟩ => ⟨S32x4x64x8x128, .f32⟩
  | .hbm, ⟨106, _⟩ => ⟨S32x128x4x8x64, .f32⟩
  | .hbm, ⟨107, _⟩ => ⟨S32x4x8x128, .f32⟩
  | .hbm, ⟨108, _⟩ => ⟨S32x4x8x128, .f32⟩
  | .hbm, ⟨109, _⟩ => ⟨S4096x2048, .f32⟩
  | .hbm, ⟨110, _⟩ => ⟨S32x128x4x8, .f32⟩
  | .hbm, ⟨111, _⟩ => ⟨S4096x32, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_cst_1 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_cst_2 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_cst_3 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_c : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_c_4 : Ref sig .tc := ⟨.hbm, 77, rfl⟩
abbrev main_v67 : Ref sig .tc := ⟨.hbm, 78, rfl⟩
abbrev main_v68 : Ref sig .tc := ⟨.hbm, 79, rfl⟩
abbrev main_c_5 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_6 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_cst_7 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_cst_8 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩

abbrev nD : Nat := 1
abbrev τ : Topo := Topo.v7x

variable {F : FTy → Type} [FloatOps F]
-- ==== Kernel8.lean ====
abbrev S4096x4096 : Shape := ⟨2, ![4096, 4096]⟩
abbrev S4096x16384 : Shape := ⟨2, ![4096, 16384]⟩
abbrev S16384x4096 : Shape := ⟨2, ![16384, 4096]⟩
abbrev S1024x4096 : Shape := ⟨2, ![1024, 4096]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S16384x4096, .f32⟩
  | .hbm, ⟨3, _⟩ => ⟨S4096x4096, .f32⟩
  | .hbm, ⟨4, _⟩ => ⟨S4096x16384, .f32⟩
  | .hbm, ⟨5, _⟩ => ⟨S4096x16384, .bf16⟩
  | .hbm, ⟨6, _⟩ => ⟨S4096x4096, .bf16⟩
  | .hbm, ⟨7, _⟩ => ⟨S16384x4096, .bf16⟩
  | .hbm, ⟨8, _⟩ => ⟨S4096x16384, .bf16⟩
  | .hbm, ⟨9, _⟩ => ⟨S4096x16384, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x4096 : Shape := ⟨2, ![4096, 4096]⟩
abbrev S4096x16384 : Shape := ⟨2, ![4096, 16384]⟩
abbrev S16384x4096 : Shape := ⟨2, ![16384, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S16384x4096, .f32⟩
  | .hbm, ⟨3, _⟩ => ⟨S4096x4096, .f32⟩
  | .hbm, ⟨4, _⟩ => ⟨S4096x16384, .f32⟩
  | .hbm, ⟨5, _⟩ => ⟨S_, .f32⟩
  | .hbm, ⟨6, _⟩ => ⟨S4096x16384, .f32⟩
  | .hbm, ⟨7, _⟩ => ⟨S4096x16384, .f32⟩
  | .hbm, ⟨8, _⟩ => ⟨S_, .f32⟩
  | .hbm, ⟨9, _⟩ => ⟨S4096x16384, .f32⟩
  | .hbm, ⟨10, _⟩ => ⟨S4096x16384, .i1⟩
  | .hbm, ⟨11, _⟩ => ⟨S_, .f32⟩
  | .hbm, ⟨12, _⟩ => ⟨S4096x16384, .f32⟩
  | .hbm, ⟨13, _⟩ => ⟨S4096x16384, .f32⟩
  | .hbm, ⟨14, _⟩ => ⟨S_, .f32⟩
  | .hbm, ⟨15, _⟩ => ⟨S4096x16384, .f32⟩
  | .hbm, ⟨16, _⟩ => ⟨S4096x16384, .f32⟩
  | .hbm, ⟨17, _⟩ => ⟨S4096x4096, .f32⟩
  | .hbm, ⟨18, _⟩ => ⟨S4096x16384, .f32⟩
  | .hbm, ⟨19, _⟩ => ⟨S4096x16384, .f32⟩
  | .hbm, ⟨20, _⟩ => ⟨S_, .f32⟩
  | .hbm, ⟨21, _⟩ => ⟨S4096x16384, .f32⟩
  | .hbm, ⟨22, _⟩ => ⟨S4096x16384, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]
-- ==== Kernel9.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 6
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S4096x4096, .bf16⟩
  | .hbm, ⟨5, _⟩ => ⟨S4096x4096, .f32⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S128x4096, .bf16⟩
  | .local _ .vmem, ⟨6, _⟩ => ⟨S128x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S4096x1 : Shape := ⟨2, ![4096, 1]⟩

abbrev nBuf : Space → Nat
  | .hbm => 32
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096x4096, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S1x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S1x4096, .f32⟩
  | .hbm, ⟨27, _⟩ => ⟨S4096x4096, .f32⟩
  | .hbm, ⟨28, _⟩ => ⟨S4096x4096, .f32⟩
  | .hbm, ⟨29, _⟩ => ⟨S1x4096, .f32⟩
  | .hbm, ⟨30, _⟩ => ⟨S4096x4096, .f32⟩
  | .hbm, ⟨31, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel10.lean ====
abbrev S4096x2048 : Shape := ⟨2, ![4096, 2048]⟩
abbrev S1x2048 : Shape := ⟨2, ![1, 2048]⟩
abbrev S4096x4096 : Shape := ⟨2, ![4096, 4096]⟩
abbrev S128x2048 : Shape := ⟨2, ![128, 2048]⟩
abbrev S128x4096 : Shape := ⟨2, ![128, 4096]⟩
abbrev S128 : Shape := ⟨1, ![128]⟩
abbrev S128x1 : Shape := ⟨2, ![128, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x4096, .bf16⟩
  | .hbm, ⟨5, _⟩ => ⟨S4096x4096, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S128x4096, .bf16⟩
  | .local _ .vmem, ⟨7, _⟩ => ⟨S128x4096, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 39
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S2048, .f32⟩
  | .hbm, ⟨5, _⟩ => ⟨S2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S1x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S1x2048, .f32⟩
  | .hbm, ⟨36, _⟩ => ⟨S4096x2048, .f32⟩
  | .hbm, ⟨37, _⟩ => ⟨S4096x2048, .f32⟩
  | .hbm, ⟨38, _⟩ => ⟨S4096x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel11.lean ====
abbrev S4096x2048 : Shape := ⟨2, ![4096, 2048]⟩
abbrev S2048x2048 : Shape := ⟨2, ![2048, 2048]⟩
abbrev S1x2048 : Shape := ⟨2, ![1, 2048]⟩
abbrev S512x2048 : Shape := ⟨2, ![512, 2048]⟩
abbrev S2048x1024 : Shape := ⟨2, ![2048, 1024]⟩
abbrev S512x1024 : Shape := ⟨2, ![512, 1024]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S1x2048, .f32⟩
  | .hbm, ⟨3, _⟩ => ⟨S2048x2048, .bf16⟩
  | .hbm, ⟨4, _⟩ => ⟨S4096x2048, .f32⟩
  | .hbm, ⟨5, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference11Ideal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S1x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S2048, .f32⟩
  | .hbm, ⟨14, _⟩ => ⟨S1x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel12.lean ====
abbrev S4096x4096 : Shape := ⟨2, ![4096, 4096]⟩
abbrev S4096x16384 : Shape := ⟨2, ![4096, 16384]⟩
abbrev S4096x8x2048 : Shape := ⟨3, ![4096, 8, 2048]⟩
abbrev S8x4096x2048 : Shape := ⟨3, ![8, 4096, 2048]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 10
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S4096x16384, .bf16⟩
  | .hbm, ⟨3, _⟩ => ⟨S4096x8x2048, .bf16⟩
  | .hbm, ⟨4, _⟩ => ⟨S8x4096x2048, .bf16⟩
  | .hbm, ⟨5, _⟩ => ⟨S4096x4096, .bf16⟩
  | .hbm, ⟨6, _⟩ => ⟨S4096x16384, .bf16⟩
  | .hbm, ⟨7, _⟩ => ⟨S4096x16384, .bf16⟩
  | .hbm, ⟨8, _⟩ => ⟨S4096x16384, .f32⟩
  | .hbm, ⟨9, _⟩ => ⟨S4096x16384, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S4096x4096 : Shape := ⟨2, ![4096, 4096]⟩
abbrev S4096x16384 : Shape := ⟨2, ![4096, 16384]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S4096x16384, .f32⟩
  | .hbm, ⟨3, _⟩ => ⟨S_, .f32⟩
  | .hbm, ⟨4, _⟩ => ⟨S4096x16384, .f32⟩
  | .hbm, ⟨5, _⟩ => ⟨S4096x16384, .f32⟩
  | .hbm, ⟨6, _⟩ => ⟨S4096x16384, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel13.lean ====
abbrev S4096x4096 : Shape := ⟨2, ![4096, 4096]⟩
abbrev S1x4096 : Shape := ⟨2, ![1, 4096]⟩
abbrev S1024x4096 : Shape := ⟨2, ![1024, 4096]⟩
abbrev S4096x512 : Shape := ⟨2, ![4096, 512]⟩
abbrev S1024x512 : Shape := ⟨2, ![1024, 512]⟩
abbrev S1x512 : Shape := ⟨2, ![1, 512]⟩

abbrev nBuf : Space → Nat
  | .hbm => 9
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S4096x4096, .bf16⟩
  | .hbm, ⟨5, _⟩ => ⟨S4096x4096, .bf16⟩
  | .hbm, ⟨6, _⟩ => ⟨S4096x4096, .f32⟩
  | .hbm, ⟨7, _⟩ => ⟨S4096x4096, .bf16⟩
  | .hbm, ⟨8, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference13Ideal.lean ====
abbrev S4096x4096 : Shape := ⟨2, ![4096, 4096]⟩
abbrev S1x4096 : Shape := ⟨2, ![1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel14.lean ====
abbrev S8x4096 : Shape := ⟨2, ![8, 4096]⟩
abbrev S8x3072 : Shape := ⟨2, ![8, 3072]⟩
abbrev S4096x3072 : Shape := ⟨2, ![4096, 3072]⟩
abbrev S_ : Shape := ⟨0, ![]⟩
abbrev S4096x8 : Shape := ⟨2, ![4096, 8]⟩
abbrev S128x8 : Shape := ⟨2, ![128, 8]⟩
abbrev S128x3072 : Shape := ⟨2, ![128, 3072]⟩

abbrev nBuf : Space → Nat
  | .hbm => 19
  | .vmem => 17
  | .smem => 0
  | _ => 0

abbrev bufTy : (tb : Table) → Fin (tcTables nBuf tb) → BufTy
  | .hbm, ⟨0, _⟩ => ⟨S8x4096, .f32⟩
  | .hbm, ⟨1, _⟩ => ⟨S8x3072, .f32⟩
  | .hbm, ⟨2, _⟩ => ⟨S4096x3072, .f32⟩
  | .hbm, ⟨3, _⟩ => ⟨S4096x3072, .f32⟩
  | .hbm, ⟨4, _⟩ => ⟨S4096x3072, .f32⟩
  | .hbm, ⟨5, _⟩ => ⟨S8x4096, .f32⟩
  | .hbm, ⟨6, _⟩ => ⟨S8x4096, .f32⟩
  | .hbm, ⟨7, _⟩ => ⟨S_, .f32⟩
  | .hbm, ⟨8, _⟩ => ⟨S8x4096, .f32⟩
  | .hbm, ⟨9, _⟩ => ⟨S8x4096, .f32⟩
  | .hbm, ⟨10, _⟩ => ⟨S_, .f32⟩
  | .hbm, ⟨11, _⟩ => ⟨S8x4096, .f32⟩
  | .hbm, ⟨12, _⟩ => ⟨S8x4096, .f32⟩
  | .hbm, ⟨13, _⟩ => ⟨S8x4096, .f32⟩
  | .hbm, ⟨14, _⟩ => ⟨S4096x8, .f32⟩
  | .hbm, ⟨15, _⟩ => ⟨S4096x3072, .f32⟩
  | .hbm, ⟨16, _⟩ => ⟨S4096x3072, .f32⟩
  | .hbm, ⟨17, _⟩ => ⟨S4096x3072, .f32⟩
  | .hbm, ⟨18, _⟩ => ⟨S4096x3072, .f32⟩
  | .local _ .vmem, ⟨0, _⟩ => ⟨S128x8, .f32⟩
  | .local _ .vmem, ⟨1, _⟩ => ⟨S128x8, .f32⟩
  | .local _ .vmem, ⟨2, _⟩ => ⟨S8x3072, .f32⟩
  | .local _ .vmem, ⟨3, _⟩ => ⟨S128x3072, .f32⟩
  | .local _ .vmem, ⟨4, _⟩ => ⟨S128x3072, .f32⟩
  | .local _ .vmem, ⟨5, _⟩ => ⟨S128x3072, .f32⟩
  | .local _ .vmem, ⟨6, _⟩ => ⟨S128x3072, .f32⟩
  | .local _ .vmem, ⟨7, _⟩ => ⟨S128x3072, .f32⟩
  | .local _ .vmem, ⟨8, _⟩ => ⟨S128x3072, .f32⟩
  | .local _ .vmem, ⟨9, _⟩ => ⟨S128x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | .local _ .vmem, ⟨14, _⟩ => ⟨S128x3072, .f32⟩
  | .local _ .vmem, ⟨15, _⟩ => ⟨S128x3072, .f32⟩
  | .local _ .vmem, ⟨16, _⟩ => ⟨S128x3072, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S8x4096 : Shape := ⟨2, ![8, 4096]⟩
abbrev S8x3072 : Shape := ⟨2, ![8, 3072]⟩
abbrev S4096x3072 : Shape := ⟨2, ![4096, 3072]⟩
abbrev S_ : Shape := ⟨0, ![]⟩
abbrev S3072x4096 : Shape := ⟨2, ![3072, 4096]⟩

abbrev nBuf : Space → Nat
  | .hbm => 50
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S8x3072, .f32⟩
  | .hbm, ⟨2, _⟩ => ⟨S4096x3072, .f32⟩
  | .hbm, ⟨3, _⟩ => ⟨S4096x3072, .f32⟩
  | .hbm, ⟨4, _⟩ => ⟨S4096x3072, .f32⟩
  | .hbm, ⟨5, _⟩ => ⟨S8x4096, .f32⟩
  | .hbm, ⟨6, _⟩ => ⟨S8x4096, .f32⟩
  | .hbm, ⟨7, _⟩ => ⟨S_, .f32⟩
  | .hbm, ⟨8, _⟩ => ⟨S8x4096, .f32⟩
  | .hbm, ⟨9, _⟩ => ⟨S8x4096, .f32⟩
  | .hbm, ⟨10, _⟩ => ⟨S_, .f32⟩
  | .hbm, ⟨11, _⟩ => ⟨S8x4096, .f32⟩
  | .hbm, ⟨12, _⟩ => ⟨S8x4096, .f32⟩
  | .hbm, ⟨13, _⟩ => ⟨S8x4096, .f32⟩
  | .hbm, ⟨14, _⟩ => ⟨S8x3072, .f32⟩
  | .hbm, ⟨15, _⟩ => ⟨S3072x4096, .f32⟩
  | .hbm, ⟨16, _⟩ => ⟨S4096x3072, .f32⟩
  | .hbm, ⟨17, _⟩ => ⟨S_, .f32⟩
  | .hbm, ⟨18, _⟩ => ⟨S4096x3072, .f32⟩
  | .hbm, ⟨19, _⟩ => ⟨S4096x3072, .f32⟩
  | .hbm, ⟨20, _⟩ => ⟨S_, .f32⟩
  | .hbm, ⟨21, _⟩ => ⟨S4096x3072, .f32⟩
  | .hbm, ⟨22, _⟩ => ⟨S4096x3072, .f32⟩
  | .hbm, ⟨23, _⟩ => ⟨S4096x3072, .f32⟩
  | .hbm, ⟨24, _⟩ => ⟨S_, .f32⟩
  | .hbm, ⟨25, _⟩ => ⟨S4096x3072, .f32⟩
  | .hbm, ⟨26, _⟩ => ⟨S4096x3072, .f32⟩
  | .hbm, ⟨27, _⟩ => ⟨S4096x3072, .f32⟩
  | .hbm, ⟨28, _⟩ => ⟨S_, .f32⟩
  | .hbm, ⟨29, _⟩ => ⟨S4096x3072, .f32⟩
  | .hbm, ⟨30, _⟩ => ⟨S4096x3072, .f32⟩
  | .hbm, ⟨31, _⟩ => ⟨S4096x3072, .f32⟩
  | .hbm, ⟨32, _⟩ => ⟨S_, .f32⟩
  | .hbm, ⟨33, _⟩ => ⟨S4096x3072, .f32⟩
  | .hbm, ⟨34, _⟩ => ⟨S4096x3072, .f32⟩
  | .hbm, ⟨35, _⟩ => ⟨S_, .f32⟩
  | .hbm, ⟨36, _⟩ => ⟨S4096x3072, .f32⟩
  | .hbm, ⟨37, _⟩ => ⟨S4096x3072, .f32⟩
  | .hbm, ⟨38, _⟩ => ⟨S4096x3072, .f32⟩
  | .hbm, ⟨39, _⟩ => ⟨S_, .f32⟩
  | .hbm, ⟨40, _⟩ => ⟨S4096x3072, .f32⟩
  | .hbm, ⟨41, _⟩ => ⟨S4096x3072, .f32⟩
  | .hbm, ⟨42, _⟩ => ⟨S4096x3072, .f32⟩
  | .hbm, ⟨43, _⟩ => ⟨S_, .f32⟩
  | .hbm, ⟨44, _⟩ => ⟨S4096x3072, .f32⟩
  | .hbm, ⟨45, _⟩ => ⟨S4096x3072, .f32⟩
  | .hbm, ⟨46, _⟩ => ⟨S4096x3072, .f32⟩
  | .hbm, ⟨47, _⟩ => ⟨S_, .f32⟩
  | .hbm, ⟨48, _⟩ => ⟨S4096x3072, .f32⟩
  | .hbm, ⟨49, _⟩ => ⟨S4096x3072, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Kernel15.lean ====
abbrev S4096x2048 : Shape := ⟨2, ![4096, 2048]⟩
abbrev S2x4096x2048 : Shape := ⟨3, ![2, 4096, 2048]⟩
abbrev S1x4096x2048 : Shape := ⟨3, ![1, 4096, 2048]⟩
abbrev S128x2048 : Shape := ⟨2, ![128, 2048]⟩
abbrev S2x128x2048 : Shape := ⟨3, ![2, 128, 2048]⟩
abbrev S1x128x2048 : Shape := ⟨3, ![1, 128, 2048]⟩

abbrev nBuf : Space → Nat
  | .hbm => 13
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S2x4096x2048, .f32⟩
  | .hbm, ⟨2, _⟩ => ⟨S1x4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .bf16⟩
  | .hbm, ⟨7, _⟩ => ⟨S2x4096x2048, .bf16⟩
  | .hbm, ⟨8, _⟩ => ⟨S1x4096x2048, .bf16⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .local _ .vmem, ⟨0, _⟩ => ⟨S128x2048, .bf16⟩
  | .local _ .vmem, ⟨1, _⟩ => ⟨S128x2048, .bf16⟩
  | .local _ .vmem, ⟨2, _⟩ => ⟨S2x128x2048, .bf16⟩
  | .local _ .vmem, ⟨3, _⟩ => ⟨S2x128x2048, .bf16⟩
  | .local _ .vmem, ⟨4, _⟩ => ⟨S1x128x2048, .bf16⟩
  | .local _ .vmem, ⟨5, _⟩ => ⟨S1x128x2048, .bf16⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference15Ideal.lean ====
abbrev S4096x2048 : Shape := ⟨2, ![4096, 2048]⟩
abbrev S2x4096x2048 : Shape := ⟨3, ![2, 4096, 2048]⟩
abbrev S1x4096x2048 : Shape := ⟨3, ![1, 4096, 2048]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x4096x2048, .f32⟩
  | .hbm, ⟨2, _⟩ => ⟨S1x4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Kernel16.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S1024x2048 : Shape := ⟨2, ![1024, 2048]⟩
abbrev S1024x1024 : Shape := ⟨2, ![1024, 1024]⟩

abbrev nBuf : Space → Nat
  | .hbm => 43
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S1x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S2048, .f32⟩
  | .hbm, ⟨37, _⟩ => ⟨S1x2048, .f32⟩
  | .hbm, ⟨38, _⟩ => ⟨S_, .f32⟩
  | .hbm, ⟨39, _⟩ => ⟨S2048, .f32⟩
  | .hbm, ⟨40, _⟩ => ⟨S4096x2048, .bf16⟩
  | .hbm, ⟨41, _⟩ => ⟨S2048x2048, .bf16⟩
  | .hbm, ⟨42, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Kernel16Ideal.lean ====
variable {F : FTy → Type} [FloatOps F] [Named F]
def κ : String → Option EReal := fun
  | "inv_sqrt2" => some (((Real.sqrt 2)⁻¹ : ℝ) : EReal)
  | "inv_sqrt2pi" => some (((9465531 / 16777216) * (Real.sqrt 2)⁻¹ : ℝ) : EReal)
  | _ => none
-- ==== Reference16Ideal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S1x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S2048, .f32⟩
  | .hbm, ⟨19, _⟩ => ⟨S1x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S4096x2048, .f32⟩
  | .hbm, ⟨50, _⟩ => ⟨S4096x2048, .f32⟩
  | .hbm, ⟨51, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Kernel17.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 42
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S1x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S_, .f32⟩
  | .hbm, ⟨38, _⟩ => ⟨S2048, .f32⟩
  | .hbm, ⟨39, _⟩ => ⟨S4096x2048, .bf16⟩
  | .hbm, ⟨40, _⟩ => ⟨S2048x2048, .bf16⟩
  | .hbm, ⟨41, _⟩ => ⟨S2048x2048, .f32⟩
  | .local _ .vmem, ⟨0, _⟩ => ⟨S4096x512, .f32⟩
  | .local _ .vmem, ⟨1, _⟩ => ⟨S4096x512, .f32⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩

abbrev nBuf : Space → Nat
  | .hbm => 35
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S1x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S2048x2048, .f32⟩
  | .hbm, ⟨34, _⟩ => ⟨S2048x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel18.lean ====
abbrev S8x4096 : Shape := ⟨2, ![8, 4096]⟩
abbrev S4096x3072 : Shape := ⟨2, ![4096, 3072]⟩
abbrev S1x3072 : Shape := ⟨2, ![1, 3072]⟩
abbrev S8x3072 : Shape := ⟨2, ![8, 3072]⟩
abbrev S4096x1024 : Shape := ⟨2, ![4096, 1024]⟩
abbrev S1x1024 : Shape := ⟨2, ![1, 1024]⟩
abbrev S8x1024 : Shape := ⟨2, ![8, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S4096x3072, .f32⟩
  | .hbm, ⟨2, _⟩ => ⟨S1x3072, .f32⟩
  | .hbm, ⟨3, _⟩ => ⟨S8x3072, .f32⟩
  | .local _ .vmem, ⟨0, _⟩ => ⟨S8x4096, .f32⟩
  | .local _ .vmem, ⟨1, _⟩ => ⟨S4096x1024, .f32⟩
  | .local _ .vmem, ⟨2, _⟩ => ⟨S4096x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S8x4096 : Shape := ⟨2, ![8, 4096]⟩
abbrev S4096x3072 : Shape := ⟨2, ![4096, 3072]⟩
abbrev S1x3072 : Shape := ⟨2, ![1, 3072]⟩
abbrev S_ : Shape := ⟨0, ![]⟩
abbrev S8x3072 : Shape := ⟨2, ![8, 3072]⟩
abbrev S3072 : Shape := ⟨1, ![3072]⟩

abbrev nBuf : Space → Nat
  | .hbm => 17
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S4096x3072, .f32⟩
  | .hbm, ⟨2, _⟩ => ⟨S1x3072, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S8x3072, .f32⟩
  | .hbm, ⟨13, _⟩ => ⟨S3072, .f32⟩
  | .hbm, ⟨14, _⟩ => ⟨S1x3072, .f32⟩
  | .hbm, ⟨15, _⟩ => ⟨S8x3072, .f32⟩
  | .hbm, ⟨16, _⟩ => ⟨S8x3072, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel19.lean ====
abbrev S4096x4096 : Shape := ⟨2, ![4096, 4096]⟩
abbrev S4096x16384 : Shape := ⟨2, ![4096, 16384]⟩
abbrev S16384x4096 : Shape := ⟨2, ![16384, 4096]⟩
abbrev S1x4096 : Shape := ⟨2, ![1, 4096]⟩
abbrev S1024x4096 : Shape := ⟨2, ![1024, 4096]⟩
abbrev S4096x512 : Shape := ⟨2, ![4096, 512]⟩
abbrev S1024x512 : Shape := ⟨2, ![1024, 512]⟩
abbrev S1x512 : Shape := ⟨2, ![1, 512]⟩

abbrev nBuf : Space → Nat
  | .hbm => 9
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S16384x4096, .f32⟩
  | .hbm, ⟨3, _⟩ => ⟨S1x4096, .f32⟩
  | .hbm, ⟨4, _⟩ => ⟨S4096x16384, .bf16⟩
  | .hbm, ⟨5, _⟩ => ⟨S16384x4096, .bf16⟩
  | .hbm, ⟨6, _⟩ => ⟨S4096x4096, .f32⟩
  | .hbm, ⟨7, _⟩ => ⟨S4096x4096, .bf16⟩
  | .hbm, ⟨8, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference19Ideal.lean ====
abbrev S4096x4096 : Shape := ⟨2, ![4096, 4096]⟩
abbrev S4096x16384 : Shape := ⟨2, ![4096, 16384]⟩
abbrev S16384x4096 : Shape := ⟨2, ![16384, 4096]⟩
abbrev S1x4096 : Shape := ⟨2, ![1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S16384x4096, .f32⟩
  | .hbm, ⟨3, _⟩ => ⟨S1x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel20.lean ====
abbrev S4096x4096 : Shape := ⟨2, ![4096, 4096]⟩
abbrev S4096x16384 : Shape := ⟨2, ![4096, 16384]⟩
abbrev S16384x4096 : Shape := ⟨2, ![16384, 4096]⟩
abbrev S_ : Shape := ⟨0, ![]⟩
abbrev S4096x1024 : Shape := ⟨2, ![4096, 1024]⟩
abbrev S1024x1024 : Shape := ⟨2, ![1024, 1024]⟩

abbrev nBuf : Space → Nat
  | .hbm => 13
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S16384x4096, .f32⟩
  | .hbm, ⟨3, _⟩ => ⟨S4096x4096, .f32⟩
  | .hbm, ⟨4, _⟩ => ⟨S4096x16384, .f32⟩
  | .hbm, ⟨5, _⟩ => ⟨S_, .f32⟩
  | .hbm, ⟨6, _⟩ => ⟨S4096x16384, .f32⟩
  | .hbm, ⟨7, _⟩ => ⟨S4096x16384, .f32⟩
  | .hbm, ⟨8, _⟩ => ⟨S4096x16384, .f32⟩
  | .hbm, ⟨9, _⟩ => ⟨S4096x16384, .bf16⟩
  | .hbm, ⟨10, _⟩ => ⟨S4096x4096, .bf16⟩
  | .hbm, ⟨11, _⟩ => ⟨S16384x4096, .bf16⟩
  | .hbm, ⟨12, _⟩ => ⟨S16384x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x4096 : Shape := ⟨2, ![4096, 4096]⟩
abbrev S4096x16384 : Shape := ⟨2, ![4096, 16384]⟩
abbrev S16384x4096 : Shape := ⟨2, ![16384, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S16384x4096, .f32⟩
  | .hbm, ⟨3, _⟩ => ⟨S4096x4096, .f32⟩
  | .hbm, ⟨4, _⟩ => ⟨S4096x16384, .f32⟩
  | .hbm, ⟨5, _⟩ => ⟨S_, .f32⟩
  | .hbm, ⟨6, _⟩ => ⟨S4096x16384, .f32⟩
  | .hbm, ⟨7, _⟩ => ⟨S4096x16384, .f32⟩
  | .hbm, ⟨8, _⟩ => ⟨S4096x16384, .f32⟩
  | .hbm, ⟨9, _⟩ => ⟨S4096x4096, .f32⟩
  | .hbm, ⟨10, _⟩ => ⟨S4096x16384, .f32⟩
  | .hbm, ⟨11, _⟩ => ⟨S16384x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Kernel21.lean ====
abbrev S8x2048x4096 : Shape := ⟨3, ![8, 2048, 4096]⟩
abbrev S4x2048x4096 : Shape := ⟨3, ![4, 2048, 4096]⟩
abbrev S_ : Shape := ⟨0, ![]⟩
abbrev S1 : Shape := ⟨1, ![1]⟩
abbrev S1x256x4096 : Shape := ⟨3, ![1, 256, 4096]⟩
abbrev S256x4096 : Shape := ⟨2, ![256, 4096]⟩

abbrev nBuf : Space → Nat
  | .hbm => 7
  | .vmem => 6
  | .smem => 1
  | _ => 0

abbrev bufTy : (tb : Table) → Fin (tcTables nBuf tb) → BufTy
  | .hbm, ⟨0, _⟩ => ⟨S8x2048x4096, .f32⟩
  | .hbm, ⟨1, _⟩ => ⟨S4x2048x4096, .f32⟩
  | .hbm, ⟨2, _⟩ => ⟨S8x2048x4096, .bf16⟩
  | .hbm, ⟨3, _⟩ => ⟨S4x2048x4096, .bf16⟩
  | .hbm, ⟨4, _⟩ => ⟨S_, .i32⟩
  | .hbm, ⟨5, _⟩ => ⟨S4x2048x4096, .bf16⟩
  | .hbm, ⟨6, _⟩ => ⟨S4x2048x4096, .f32⟩
  | .local _ .vmem, ⟨0, _⟩ => ⟨S1x256x4096, .bf16⟩
  | .local _ .vmem, ⟨1, _⟩ => ⟨S1x256x4096, .bf16⟩
  | .local _ .vmem, ⟨2, _⟩ => ⟨S1x256x4096, .bf16⟩
  | .local _ .vmem, ⟨3, _⟩ => ⟨S1x256x4096, .bf16⟩
  | .local _ .vmem, ⟨4, _⟩ => ⟨S1x256x4096, .bf16⟩
  | .local _ .vmem, ⟨5, _⟩ => ⟨S1x256x4096, .bf16⟩
  | .local _ .smem, ⟨0, _⟩ => ⟨S1, .i32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  ![v2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference21Ideal.lean ====
abbrev S8x2048x4096 : Shape := ⟨3, ![8, 2048, 4096]⟩
abbrev S4x2048x4096 : Shape := ⟨3, ![4, 2048, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4x2048x4096, .f32⟩
  | .hbm, ⟨2, _⟩ => ⟨S4x2048x4096, .f32⟩
  | .hbm, ⟨3, _⟩ => ⟨S4x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Attn.Body.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Tactic
public import Idealize.ShloMosaic.Lib.WordCmp

@[expose] public section

set_option maxRecDepth 16384

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The thirteen input buffers, each whole and holding its block. -/
def staged (c : Dev nD)
  (arg1 : Memref sig .tc .vmem S128x2048 .f32)
  (arg2 : Memref sig .tc .vmem S128x256 .f32)
  (arg3 : Memref sig .tc .vmem S128x256 .f32)
  (arg4 : Memref sig .tc .vmem S128x256 .f32)
  (arg5 : Memref sig .tc .vmem S128x256 .f32)
  (arg6 : Memref sig .tc .vmem S128x128 .f32)
  (arg7 : Memref sig .tc .vmem S128x128 .f32)
  (arg8 : Memref sig .tc .vmem S128x128 .f32)
  (arg9 : Memref sig .tc .vmem S128x128 .f32)
  (arg10 : Memref sig .tc .vmem S1x32 .f32)
  (arg11 : Memref sig .tc .vmem S128x2048 .f32)
  (arg12 : Memref sig .tc .vmem S128x32 .f32)
  (arg13 : Memref sig .tc .vmem S128x2048 .f32)
  (x0 : Vec F S128x2048 .f32) (x1 : Vec F S128x256 .f32) (x2 : Vec F S128x256 .f32) (x3 : Vec F S128x256 .f32) (x4 : Vec F S128x256 .f32) (x5 : Vec F S128x128 .f32) (x6 : Vec F S128x128 .f32) (x7 : Vec F S128x128 .f32) (x8 : Vec F S128x128 .f32) (x9 : Vec F S1x32 .f32) (x10 : Vec F S128x2048 .f32) (x11 : Vec F S128x32 .f32) (x12 : Vec F S128x2048 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12)

/-- The body's three conditions on the grid point: the first block, any block, past the last block. -/
abbrev isFirst (i : grid0.Coords) : Prop := k0_cond1 i = 1#1
abbrev isBlock (i : grid0.Coords) : Prop := k0_cond2 i = 1#1
abbrev isPast (i : grid0.Coords) : Prop := k0_cond3 i = 1#1

theorem isFirst_iff : ∀ t : Fin cfg0.N, isFirst (grid0.coords t) ↔ t.val = 0 :=
  (by decide +kernel : ∀ t : Fin grid0.N, isFirst (grid0.coords t) ↔ t.val = 0)
theorem isBlock_iff : ∀ t : Fin cfg0.N, isBlock (grid0.coords t) ↔ t.val < 32 :=
  (by decide +kernel : ∀ t : Fin grid0.N, isBlock (grid0.coords t) ↔ t.val < 32)
theorem isPast_iff : ∀ t : Fin cfg0.N, isPast (grid0.coords t) ↔ t.val = 32 :=
  (by decide +kernel : ∀ t : Fin grid0.N, isPast (grid0.coords t) ↔ t.val = 32)

end Cert.AttnBwd

end
-- ==== Proof.Attn.Heads.lean ====
module

public import proofs.«01_k».proof.Proof.Attn.Body
public import Idealize.ShloMosaic.Lib.Pipeline.ValueKit

@[expose] public section

set_option maxRecDepth 16384

noncomputable section

namespace Cert.AttnBwd

open Idealize.ShloMosaic Idealize.SL.Sem Cert.KernelIdeal Cert.KernelIdeal.Gen

variable {F : FTy → Type} [FloatOps F]

/-! # One block of the attention backward pass, one key-value head at a time

The body writes its four key-value heads out one after another. Here each of its values is one function
of the head's number `h`: the eight query heads that share head `h` are stacked as 1024 rows. -/

/-- The thirteen input blocks the body reads at a grid point. -/
structure Blocks (F : FTy → Type) where
  q : Vec F S128x2048 .f32
  kp : Vec F S128x256 .f32
  kc : Vec F S128x256 .f32
  vp : Vec F S128x256 .f32
  vc : Vec F S128x256 .f32
  cc : Vec F S128x128 .f32
  sc : Vec F S128x128 .f32
  cp : Vec F S128x128 .f32
  sp : Vec F S128x128 .f32
  sink : Vec F S1x32 .f32
  o : Vec F S128x2048 .f32
  lse : Vec F S128x32 .f32
  dout : Vec F S128x2048 .f32

abbrev whole2048 (x : Vec F S128x2048 .f32) : Vec F S128x2048 .f32 :=
  View.ld x (Rect.unit ![0, 0] S128x2048.size inb_S128x2048_S128x2048_0_0)
abbrev whole256 (x : Vec F S128x256 .f32) : Vec F S128x256 .f32 :=
  View.ld x (Rect.unit ![0, 0] S128x256.size inb_S128x256_S128x256_0_0)
abbrev whole128 (x : Vec F S128x128 .f32) : Vec F S128x128 .f32 :=
  View.ld x (Rect.unit ![0, 0] S128x128.size inb_S128x128_S128x128_0_0)

theorem slices_cols (h : Fin 4) (g : Fin 8) : S128x2048.Slices ![0, 512 * h.val + 64 * g.val] S128x64 :=
  ⟨rfl, fun a => by
    have := h.isLt; have := g.isLt
    match a with
    | ⟨0, _⟩ => show 0 + 128 ≤ 128; omega
    | ⟨1, _⟩ => show 512 * h.val + 64 * g.val + 64 ≤ 2048; omega⟩
theorem slices_kv (h : Fin 4) : S256x256.Slices ![0, 64 * h.val] S256x64 :=
  ⟨rfl, fun a => by
    have := h.isLt
    match a with
    | ⟨0, _⟩ => show 0 + 256 ≤ 256; omega
    | ⟨1, _⟩ => show 64 * h.val + 64 ≤ 256; omega⟩
theorem slices_rows (g : Fin 8) : S1024x64.Slices ![128 * g.val, 0] S128x64 :=
  ⟨rfl, fun a => by
    have := g.isLt
    match a with
    | ⟨0, _⟩ => show 128 * g.val + 128 ≤ 1024; omega
    | ⟨1, _⟩ => show 0 + 64 ≤ 64; omega⟩
theorem slices_col (g : Fin 8) : S1024x1.Slices ![128 * g.val, 0] S128x1 :=
  ⟨rfl, fun a => by
    have := g.isLt
    match a with
    | ⟨0, _⟩ => show 128 * g.val + 128 ≤ 1024; omega
    | ⟨1, _⟩ => show 0 + 1 ≤ 1; omega⟩
theorem inb_lse (h : Fin 4) (g : Fin 8) : ∀ a, (![0, 8 * h.val + g.val] : Fin 2 → Nat) a + S128x1.size a ≤ S128x32.size a := fun a => by
  have := h.isLt; have := g.isLt
  match a with
  | ⟨0, _⟩ => show 0 + 128 ≤ 128; omega
  | ⟨1, _⟩ => show 8 * h.val + g.val + 1 ≤ 32; omega
theorem inb_sink (h : Fin 4) (g : Fin 8) : ∀ a, (![0, 8 * h.val + g.val] : Fin 2 → Nat) a + S1x1.size a ≤ S1x32.size a := fun a => by
  have := h.isLt; have := g.isLt
  match a with
  | ⟨0, _⟩ => show 0 + 1 ≤ 1; omega
  | ⟨1, _⟩ => show 8 * h.val + g.val + 1 ≤ 32; omega
theorem inb_dsink (h : Fin 4) (g : Fin 8) : ∀ a, (![0, 8 * h.val + g.val] : Fin 2 → Nat) a + S8x1.size a ≤ S8x32.size a := fun a => by
  have := h.isLt; have := g.isLt
  match a with
  | ⟨0, _⟩ => show 0 + 8 ≤ 8; omega
  | ⟨1, _⟩ => show 8 * h.val + g.val + 1 ≤ 32; omega
theorem inb_kv (h : Fin 4) : ∀ a, (![0, 64 * h.val] : Fin 2 → Nat) a + S128x64.size a ≤ S128x256.size a := fun a => by
  have := h.isLt
  match a with
  | ⟨0, _⟩ => show 0 + 128 ≤ 128; omega
  | ⟨1, _⟩ => show 64 * h.val + 64 ≤ 256; omega
theorem inb_dq (h : Fin 4) (g : Fin 8) : ∀ a, (![0, 512 * h.val + 64 * g.val] : Fin 2 → Nat) a + S128x64.size a ≤ S128x2048.size a := fun a => by
  have := h.isLt; have := g.isLt
  match a with
  | ⟨0, _⟩ => show 0 + 128 ≤ 128; omega
  | ⟨1, _⟩ => show 512 * h.val + 64 * g.val + 64 ≤ 2048; omega

/-- Eight 128-row pieces stacked. -/
def stack8 {α : Type} (f : Fin 8 → S128x64.Idx → α) : S1024x64.Idx → α :=
  concatenate S1024x64 0 [⟨S128x64, f 0⟩, ⟨S128x64, f 1⟩, ⟨S128x64, f 2⟩, ⟨S128x64, f 3⟩, ⟨S128x64, f 4⟩, ⟨S128x64, f 5⟩, ⟨S128x64, f 6⟩, ⟨S128x64, f 7⟩]
    concatenates_S128x64_S128x64_S128x64_S128x64_S128x64_S128x64_S128x64_S128x64_S1024x64_d0
/-- Eight 128-entry columns stacked. -/
def col8 {α : Type} (f : Fin 8 → S128x1.Idx → α) : S1024x1.Idx → α :=
  concatenate S1024x1 0 [⟨S128x1, f 0⟩, ⟨S128x1, f 1⟩, ⟨S128x1, f 2⟩, ⟨S128x1, f 3⟩, ⟨S128x1, f 4⟩, ⟨S128x1, f 5⟩, ⟨S128x1, f 6⟩, ⟨S128x1, f 7⟩]
    concatenates_S128x1_S128x1_S128x1_S128x1_S128x1_S128x1_S128x1_S128x1_S1024x1_d0

/-- The eight query heads of head `h`, taken out of a row of 32 heads of width 64. -/
def heads8 {φ : FTy} (x : FVec F S128x2048 φ) (h : Fin 4) : FVec F S1024x64 φ :=
  stack8 fun g => extractStridedSlice S128x64 ![0, 512 * h.val + 64 * g.val] x (slices_cols h g)

namespace Blocks

variable (B : Blocks F) (i : grid0.Coords) (h : Fin 4)

def qr : FVec F S128x2048 .bf16 := k0_pay10 (whole128 B.cc) (whole128 B.sc) (whole2048 B.q)
def kk : FVec F S256x256 .bf16 :=
  k0_pay16
    (k0_pay12 (k0_pay2 (whole128 B.sp)) (whole256 B.kp) (k0_pay11 (k0_pay1 (whole128 B.cp)) (whole256 B.kp))
      (iota .tc S128x256 32 [1] iota_S128x256_d1_w32) 64#32 0#1 1#32)
    (whole256 B.kc) (k0_pay13 (k0_pay9 (whole128 B.sc))) (k0_pay14 (k0_pay8 (whole128 B.cc)) (whole256 B.kc)) k0_pay15
def vv : FVec F S256x256 .bf16 := k0_pay17 (whole256 B.vp) (whole256 B.vc)
def valid : IVec S1024x256 1 := k0_pay18 (BitVec.ofNat 32 (i 0).val)
def q8 : FVec F S1024x64 .bf16 := heads8 B.qr h
def k8 : FVec F S256x64 .bf16 := extractStridedSlice S256x64 ![0, 64 * h.val] B.kk (slices_kv h)
def v8 : FVec F S256x64 .bf16 := extractStridedSlice S256x64 ![0, 64 * h.val] B.vv (slices_kv h)
def lse8 : FVec F S1024x1 .f32 :=
  col8 fun g => shapeCast S128x1 (View.ld B.lse (Rect.unit ![0, 8 * h.val + g.val] S128x1.size (inb_lse h g))) shapeCasts_S128x1_S128x1
def sink8 : FVec F S1024x1 .f32 :=
  col8 fun g => broadcastTo S128x1 (shapeCast S1x1 (View.ld B.sink (Rect.unit ![0, 8 * h.val + g.val] S1x1.size (inb_sink h g))) shapeCasts_S1x1_S1x1) broadcasts_S1x1_S128x1
def probs : FVec F S1024x256 .f32 :=
  select (valid i)
    (exp (subf (mulf (matmul dot_S1024x64_S256x64_S1024x256_1_1_0_0_n_n none (B.q8 h) (B.k8 h) (constant S1024x256 .f32 0x00000000#32))
        (broadcast S1024x256 (Scalar.ofBits .f32 0x3E000000#32 : F .f32)))
      (broadcastTo S1024x256 (B.lse8 h) broadcasts_S1024x1_S1024x256)))
    (broadcast S1024x256 (Scalar.ofBits .f32 0x00000000#32 : F .f32))
def do8 : FVec F S1024x64 .f32 := heads8 (whole2048 B.dout) h
def do8b : FVec F S1024x64 .bf16 := truncf .bf16 (B.do8 h) bitsLt_bf16_f32
def delta : FVec F S1024x1 .f32 :=
  shapeCast S1024x1
    (multiReduction .add [1] S1024 (mulf (B.do8 h) (heads8 (shapeCast S128x2048 (whole2048 B.o) shapeCasts_S128x2048_S128x2048) h))
      0x00000000#32 reduces_S1024x64_S1024 (.inl rfl) rfl)
    shapeCasts_S1024_S1024x1
def ds : FVec F S1024x256 .bf16 :=
  truncf .bf16
    (mulf (mulf (B.probs i h)
        (subf (matmul dot_S1024x64_S256x64_S1024x256_1_1_0_0_n_n none (B.do8b h) (B.v8 h) (constant S1024x256 .f32 0x00000000#32))
          (broadcastTo S1024x256 (B.delta h) broadcasts_S1024x1_S1024x256)))
      (broadcast S1024x256 (Scalar.ofBits .f32 0x3E000000#32 : F .f32))) bitsLt_bf16_f32
/-- The query gradient of head `h`, before the transposed rotation. -/
def dq8 : FVec F S1024x64 .f32 :=
  matmul dot_S1024x256_S256x64_S1024x64_1_0_0_1_n_n none (B.ds i h) (B.k8 h) (constant S1024x64 .f32 0x00000000#32)
/-- The key gradient of head `h` over the two blocks of keys, before the transposed rotation. -/
def dk8 : FVec F S256x64 .f32 :=
  matmul dot_S1024x256_S1024x64_S256x64_0_0_1_1_n_n none (B.ds i h) (B.q8 h) (constant S256x64 .f32 0x00000000#32)
/-- The value gradient of head `h` over the two blocks of keys. -/
def dv8 : FVec F S256x64 .f32 :=
  matmul dot_S1024x256_S1024x64_S256x64_0_0_1_1_n_n none (truncf .bf16 (B.probs i h) bitsLt_bf16_f32) (B.do8b h) (constant S256x64 .f32 0x00000000#32)
/-- The sink gradient of head `h`, row by row. -/
def dsink8 : FVec F S1024x1 .f32 :=
  mulf (subf (broadcast S1024x1 (Scalar.ofBits .f32 0x00000000#32 : F .f32)) (exp (subf (B.sink8 h) (B.lse8 h)))) (B.delta h)
/-- The sink gradient of query head `g` of head `h`, summed over every eighth row. -/
def dsinkSum (g : Fin 8) : FVec F S8x1 .f32 :=
  multiReduction .add [0] S8x1
    (shapeCast S16x8x1 (extractStridedSlice S128x1 ![128 * g.val, 0] (B.dsink8 h) (slices_col g)) shapeCasts_S128x1_S16x8x1)
    0x00000000#32 reduces_S16x8x1_S8x1 (.inl rfl) rfl

/-! ### Where the columns of a block lie -/

def kvHead (j : S128x256.Idx) : Fin 4 := ⟨(j 1).val / 64, by have : (j 1).val < 256 := (j 1).isLt; omega⟩
def kvAt (top : Nat) (htop : top ≤ 128) (j : S128x256.Idx) : S256x64.Idx :=
  ix2 ⟨top + (j 0).val, by have : (j 0).val < 128 := (j 0).isLt; omega⟩ ⟨(j 1).val % 64, Nat.mod_lt _ (by decide)⟩
def qHead (j : S128x2048.Idx) : Fin 4 := ⟨(j 1).val / 512, by have : (j 1).val < 2048 := (j 1).isLt; omega⟩
def qAt (j : S128x2048.Idx) : S1024x64.Idx :=
  ix2 ⟨128 * ((j 1).val / 64 % 8) + (j 0).val, by have : (j 0).val < 128 := (j 0).isLt; omega⟩ ⟨(j 1).val % 64, Nat.mod_lt _ (by decide)⟩
def sHead (j : S8x32.Idx) : Fin 4 := ⟨(j 1).val / 8, by have : (j 1).val < 32 := (j 1).isLt; omega⟩
def sQ (j : S8x32.Idx) : Fin 8 := ⟨(j 1).val % 8, Nat.mod_lt _ (by decide)⟩

/-- The query gradient before the transposed rotation. -/
def dqPre : Vec F S128x2048 .f32 := fun j => B.dq8 i (qHead j) (qAt j)
/-- The key gradient's part on the keys of the previous block, and the part on the keys of this one. -/
def dkTop : Vec F S128x256 .f32 := fun j => B.dk8 i (kvHead j) (kvAt 0 (by decide) j)
def dkBot : Vec F S128x256 .f32 := fun j => B.dk8 i (kvHead j) (kvAt 128 (by decide) j)
def dvTop : Vec F S128x256 .f32 := fun j => B.dv8 i (kvHead j) (kvAt 0 (by decide) j)
def dvBot : Vec F S128x256 .f32 := fun j => B.dv8 i (kvHead j) (kvAt 128 (by decide) j)
/-- The sink gradient of the block, added to the sums so far. -/
def sinkOut (y : Vec F S8x32 .f32) : Vec F S8x32 .f32 :=
  fun j => addf y (fun j => B.dsinkSum (sHead j) (sQ j) (ix2 (j 0) 0)) j

/-- The transposed rotation of a row of 32 heads by this block's angles. -/
def rotQ (x : Vec F S128x2048 .f32) : Vec F S128x2048 .f32 :=
  k0_pay179 (k0_pay8 (whole128 B.cc)) (k0_pay9 (whole128 B.sc)) x
/-- The transposed rotation of a row of 4 heads by the previous block's angles. -/
def rotK (x : Vec F S128x256 .f32) : Vec F S128x256 .f32 :=
  k0_pay7 (whole128 B.cp) (whole128 B.sp) x

end Blocks

end Cert.AttnBwd

end
-- ==== Proof.Attn.Heads8.lean ====
module

public import proofs.«01_k».proof.Proof.Attn.Heads
public import Idealize.ShloMosaic.PureOps.Ideal.Laws
public import Idealize.ShloMosaic.Lib.WordCmp

@[expose] public section

set_option maxRecDepth 16384

noncomputable section

namespace Cert.AttnBwd

open Idealize.ShloMosaic Idealize.ShloMosaic.WordCmp Idealize.SL.Sem Cert.KernelIdeal Cert.KernelIdeal.Gen

/-! # The body's values at an index, over the extended reals -/

/-- The row of query row `r` of query head `g` among the stacked rows, and the column of entry `d` of a head. -/
abbrev row8 (g : Fin 8) (r : Fin 128) : Fin 1024 := ⟨128 * g.val + r.val, by omega⟩
abbrev colQ (h : Fin 4) (g : Fin 8) (d : Fin 64) : Fin 2048 := ⟨512 * h.val + 64 * g.val + d.val, by omega⟩
abbrev colK (h : Fin 4) (d : Fin 64) : Fin 256 := ⟨64 * h.val + d.val, by omega⟩
abbrev head32 (h : Fin 4) (g : Fin 8) : Fin 32 := ⟨8 * h.val + g.val, by omega⟩

theorem stack8_apply {α : Type} (f : Fin 8 → S128x64.Idx → α) (g : Fin 8) (r : Fin 128) (d : Fin 64) :
    stack8 f (ix2 (row8 g r) d) = f g (ix2 r d) :=
  concatenate_ofFn_apply 0 f concatenates_S128x64_S128x64_S128x64_S128x64_S128x64_S128x64_S128x64_S128x64_S1024x64_d0 rfl 128 rfl _ g
    (by show (128 * g.val + r.val) / 128 = g.val; omega) _ (by show r.val = (128 * g.val + r.val) % 128; omega) (fun b hb => by
      match b with
      | ⟨0, _⟩ => exact absurd rfl hb
      | ⟨1, _⟩ => rfl)
theorem col8_apply {α : Type} (f : Fin 8 → S128x1.Idx → α) (g : Fin 8) (r : Fin 128) :
    col8 f (ix2 (row8 g r) 0) = f g (ix2 r 0) :=
  concatenate_ofFn_apply 0 f concatenates_S128x1_S128x1_S128x1_S128x1_S128x1_S128x1_S128x1_S128x1_S1024x1_d0 rfl 128 rfl _ g
    (by show (128 * g.val + r.val) / 128 = g.val; omega) _ (by show r.val = (128 * g.val + r.val) % 128; omega) (fun b hb => by
      match b with
      | ⟨0, _⟩ => exact absurd rfl hb
      | ⟨1, _⟩ => rfl)

theorem heads8_apply {φ : FTy} (x : FVec Ideal S128x2048 φ) (h : Fin 4) (g : Fin 8) (r : Fin 128) (d : Fin 64) :
    heads8 x h (ix2 (row8 g r) d) = x (ix2 r (colQ h g d)) := by
  unfold heads8
  rw [stack8_apply]
  pointwise

/-- The scale of the scores. -/
abbrev eighth : EReal := Ideal.ofBits FTy.f32 1040187392#32

/-! ### The rotation of a head -/

/-- The angle that turns entry `d` of a head, and the entry it is turned with. -/
abbrev half (d : Fin 64) : Fin 32 := ⟨d.val % 32, Nat.mod_lt _ (by decide)⟩
abbrev flip (d : Fin 64) : Fin 64 := ⟨(d.val + 32) % 64, Nat.mod_lt _ (by decide)⟩

/-- A head rotated by the angles whose cosines and sines are `C` and `S`, and the transposed rotation. -/
def turn (C S : Fin 32 → EReal) (x : Fin 64 → EReal) (d : Fin 64) : EReal :=
  x d * C (half d) + (if d.val < 32 then -(x (flip d)) else x (flip d)) * S (half d)
def turnBack (C S : Fin 32 → EReal) (x : Fin 64 → EReal) (d : Fin 64) : EReal :=
  x d * C (half d) + (if d.val < 32 then x (flip d) else -(x (flip d))) * S (half d)

theorem step64 : Scalar.select (Scalar.cmpi CmpIPredicate.eq 64#32 0#32) 1#32 64#32 = 64#32 := rfl

/-- The body's test whether a column lies in the first half of its head. -/
theorem lane (c : Fin 2048) (a b : EReal) :
    Scalar.select (IntOp.cmpi CmpIPredicate.slt
      (Scalar.select
        (IntOp.andi
          (IntOp.xori (IntOp.cmpi CmpIPredicate.slt (IntOp.remsi ArithUnit.vector (BitVec.ofNat 32 c.val) 64#32) 0#32)
            (Scalar.cmpi CmpIPredicate.slt 64#32 0#32))
          (IntOp.cmpi CmpIPredicate.ne (IntOp.remsi ArithUnit.vector (BitVec.ofNat 32 c.val) 64#32) 0#32))
        (IntOp.addi (IntOp.remsi ArithUnit.vector (BitVec.ofNat 32 c.val) 64#32) 64#32)
        (IntOp.remsi ArithUnit.vector (BitVec.ofNat 32 c.val) 64#32))
      32#32) a b = if c.val % 64 < 32 then a else b := by
  have key : ∀ c : Fin 2048, IntOp.cmpi CmpIPredicate.slt
      (Scalar.select
        (IntOp.andi
          (IntOp.xori (IntOp.cmpi CmpIPredicate.slt (IntOp.remsi ArithUnit.vector (BitVec.ofNat 32 c.val) 64#32) 0#32)
            (Scalar.cmpi CmpIPredicate.slt 64#32 0#32))
          (IntOp.cmpi CmpIPredicate.ne (IntOp.remsi ArithUnit.vector (BitVec.ofNat 32 c.val) 64#32) 0#32))
        (IntOp.addi (IntOp.remsi ArithUnit.vector (BitVec.ofNat 32 c.val) 64#32) 64#32)
        (IntOp.remsi ArithUnit.vector (BitVec.ofNat 32 c.val) 64#32))
      32#32 = if c.val % 64 < 32 then 1#1 else 0#1 := by decide +kernel
  rw [key c]
  split <;> rfl
theorem lane256 (c : Fin 256) (a b : EReal) :
    Scalar.select (IntOp.cmpi CmpIPredicate.slt
      (Scalar.select
        (IntOp.andi
          (IntOp.xori (IntOp.cmpi CmpIPredicate.slt (IntOp.remsi ArithUnit.vector (BitVec.ofNat 32 c.val) 64#32) 0#32)
            (Scalar.cmpi CmpIPredicate.slt 64#32 0#32))
          (IntOp.cmpi CmpIPredicate.ne (IntOp.remsi ArithUnit.vector (BitVec.ofNat 32 c.val) 64#32) 0#32))
        (IntOp.addi (IntOp.remsi ArithUnit.vector (BitVec.ofNat 32 c.val) 64#32) 64#32)
        (IntOp.remsi ArithUnit.vector (BitVec.ofNat 32 c.val) 64#32))
      32#32) a b = if c.val % 64 < 32 then a else b := lane ⟨c.val, by omega⟩ a b

/-- Sixteen copies of a table side by side. -/
def wide (x : FVec Ideal S128x128 .f32) : FVec Ideal S128x2048 .f32 :=
  concatenate S128x2048 1 [⟨S128x128, x⟩, ⟨S128x128, x⟩, ⟨S128x128, x⟩, ⟨S128x128, x⟩, ⟨S128x128, x⟩, ⟨S128x128, x⟩, ⟨S128x128, x⟩, ⟨S128x128, x⟩, ⟨S128x128, x⟩, ⟨S128x128, x⟩, ⟨S128x128, x⟩, ⟨S128x128, x⟩, ⟨S128x128, x⟩, ⟨S128x128, x⟩, ⟨S128x128, x⟩, ⟨S128x128, x⟩]
    concatenates_S128x128_S128x128_S128x128_S128x128_S128x128_S128x128_S128x128_S128x128_S128x128_S128x128_S128x128_S128x128_S128x128_S128x128_S128x128_S128x128_S128x2048_d1
theorem wide_fold (x : FVec Ideal S128x128 .f32) (h) :
    concatenate S128x2048 1 [⟨S128x128, x⟩, ⟨S128x128, x⟩, ⟨S128x128, x⟩, ⟨S128x128, x⟩, ⟨S128x128, x⟩, ⟨S128x128, x⟩, ⟨S128x128, x⟩, ⟨S128x128, x⟩, ⟨S128x128, x⟩, ⟨S128x128, x⟩, ⟨S128x128, x⟩, ⟨S128x128, x⟩, ⟨S128x128, x⟩, ⟨S128x128, x⟩, ⟨S128x128, x⟩, ⟨S128x128, x⟩] h = wide x := rfl
theorem wide_apply (x : FVec Ideal S128x128 .f32) (r : Fin 128) (c : Fin 2048) :
    wide x (ix2 r c) = x (ix2 r ⟨c.val % 128, Nat.mod_lt _ (by decide)⟩) :=
  concatenate_replicate_apply 1 16 x concatenates_S128x128_S128x128_S128x128_S128x128_S128x128_S128x128_S128x128_S128x128_S128x128_S128x128_S128x128_S128x128_S128x128_S128x128_S128x128_S128x128_S128x2048_d1 rfl _ _ rfl
    (fun b hb => by
      match b with
      | ⟨0, _⟩ => rfl
      | ⟨1, _⟩ => exact absurd rfl hb)

/-- Two copies of a table side by side. -/
theorem pair_apply (x : FVec Ideal S128x128 .f32) (r : Fin 128) (c : Fin 256) :
    (if h : c.val < 128 then x (ix2 r ⟨c.val, h⟩) else x (ix2 r ⟨c.val - 128, by omega⟩))
      = x (ix2 r ⟨c.val % 128, Nat.mod_lt _ (by decide)⟩) := by
  split
  · next h => exact congrArg (fun n => x (ix2 r n)) (Fin.ext (Nat.mod_eq_of_lt h).symm)
  · next h => exact congrArg (fun n => x (ix2 r n)) (Fin.ext (show c.val - 128 = c.val % 128 by omega))

namespace Blocks

variable (B : Blocks Ideal) (i : grid0.Coords) (h : Fin 4)

theorem qr_apply (r : Fin 128) (c : Fin 2048) :
    B.qr (ix2 r c) = B.q (ix2 r c) * B.cc (ix2 r ⟨c.val % 128, Nat.mod_lt _ (by decide)⟩)
      + (if c.val % 64 < 32 then 0 - B.q (ix2 r ⟨(c.val + 32) % 2048, Nat.mod_lt _ (by decide)⟩)
          else B.q (ix2 r ⟨(c.val + 2016) % 2048, Nat.mod_lt _ (by decide)⟩)) * B.sc (ix2 r ⟨c.val % 128, Nat.mod_lt _ (by decide)⟩) := by
  unfold qr whole128 whole2048
  pointwise [k0_pay10, k0_pay8, k0_pay9, ↓wide_fold, wide_apply, step64, lane]
  rfl
theorem kk_top (r : Fin 128) (c : Fin 256) :
    B.kk (ix2 ⟨r.val, by omega⟩ c) = B.kp (ix2 r c) * B.cp (ix2 r ⟨c.val % 128, Nat.mod_lt _ (by decide)⟩)
      + (if c.val % 64 < 32 then 0 - B.kp (ix2 r ⟨(c.val + 32) % 256, Nat.mod_lt _ (by decide)⟩)
          else B.kp (ix2 r ⟨(c.val + 224) % 256, Nat.mod_lt _ (by decide)⟩)) * B.sp (ix2 r ⟨c.val % 128, Nat.mod_lt _ (by decide)⟩) := by
  unfold kk whole128 whole256
  pointwise [k0_pay16, k0_pay15, k0_pay14, k0_pay13, k0_pay12, k0_pay11, k0_pay2, k0_pay1, k0_pay8, k0_pay9, step64, lane256]
  rw [pair_apply B.cp, pair_apply B.sp]
  rfl
theorem kk_bot (r : Fin 128) (c : Fin 256) :
    B.kk (ix2 ⟨128 + r.val, by omega⟩ c) = B.kc (ix2 r c) * B.cc (ix2 r ⟨c.val % 128, Nat.mod_lt _ (by decide)⟩)
      + (if c.val % 64 < 32 then 0 - B.kc (ix2 r ⟨(c.val + 32) % 256, Nat.mod_lt _ (by decide)⟩)
          else B.kc (ix2 r ⟨(c.val + 224) % 256, Nat.mod_lt _ (by decide)⟩)) * B.sc (ix2 r ⟨c.val % 128, Nat.mod_lt _ (by decide)⟩) := by
  unfold kk whole128 whole256
  pointwise [k0_pay16, k0_pay15, k0_pay14, k0_pay13, k0_pay12, k0_pay11, k0_pay2, k0_pay1, k0_pay8, k0_pay9, step64, lane256]
  rw [pair_apply B.cc, pair_apply B.sc]
  rfl
theorem vv_top (r : Fin 128) (c : Fin 256) : B.vv (ix2 ⟨r.val, by omega⟩ c) = B.vp (ix2 r c) := by
  unfold vv whole256
  pointwise [k0_pay17]
theorem vv_bot (r : Fin 128) (c : Fin 256) : B.vv (ix2 ⟨128 + r.val, by omega⟩ c) = B.vc (ix2 r c) := by
  unfold vv whole256
  pointwise [k0_pay17]
theorem low7 (g : Fin 8) (r : Fin 128) : IntOp.andi (BitVec.ofNat 32 (128 * g.val + r.val)) 127#32 = BitVec.ofNat 32 r.val := by
  revert g r; decide +kernel
theorem valid_apply (g : Fin 8) (r : Fin 128) (c : Fin 256) :
    valid i (ix2 (row8 g r) c) = if r.val < c.val ∧ c.val ≤ r.val + 128 ∧ (0 < (i 0).val ∨ 128 ≤ c.val) then 1#1 else 0#1 := by
  have hi : (i 0).val < 33 := (i 0).isLt
  have hr := r.isLt
  have hc := c.isLt
  unfold valid
  pointwise [k0_pay18]
  rw [low7 g r]
  rw [show IntOp.addi (BitVec.ofNat 32 r.val) 128#32 = BitVec.ofNat 32 (r.val + 128) from by
    revert r; decide +kernel]
  rw [show Scalar.cmpi CmpIPredicate.sgt (BitVec.ofNat 32 (i 0).val) 0#32 = IntOp.cmpi .sgt (BitVec.ofNat 32 (i 0).val) (BitVec.ofNat 32 0) from rfl,
    show (128#32) = BitVec.ofNat 32 128 from rfl,
    cmpi_sgt_ofNat (by omega) (by omega), cmpi_sle_ofNat (by omega) (by omega), cmpi_sgt_ofNat (by omega) (by omega),
    cmpi_sge_ofNat (by omega) (by omega), andi_ofBool, ori_ofBool, andi_ofBool]
  by_cases h1 : r.val < c.val <;> by_cases h2 : c.val ≤ r.val + 128 <;> by_cases h3 : 0 < (i 0).val <;> by_cases h4 : 128 ≤ c.val <;> simp [h1, h2, h3, h4]
theorem rotQ_apply (x) (r : Fin 128) (c : Fin 2048) :
    B.rotQ x (ix2 r c) = x (ix2 r c) * B.cc (ix2 r ⟨c.val % 128, Nat.mod_lt _ (by decide)⟩)
      - (if c.val % 64 < 32 then 0 - x (ix2 r ⟨(c.val + 32) % 2048, Nat.mod_lt _ (by decide)⟩)
          else x (ix2 r ⟨(c.val + 2016) % 2048, Nat.mod_lt _ (by decide)⟩)) * B.sc (ix2 r ⟨c.val % 128, Nat.mod_lt _ (by decide)⟩) := by
  unfold rotQ whole128
  pointwise [k0_pay179, k0_pay8, k0_pay9, ↓wide_fold, wide_apply, step64, lane]
  rfl
theorem rotK_apply (x) (r : Fin 128) (c : Fin 256) :
    B.rotK x (ix2 r c) = x (ix2 r c) * B.cp (ix2 r ⟨c.val % 128, Nat.mod_lt _ (by decide)⟩)
      - (if c.val % 64 < 32 then 0 - x (ix2 r ⟨(c.val + 32) % 256, Nat.mod_lt _ (by decide)⟩)
          else x (ix2 r ⟨(c.val + 224) % 256, Nat.mod_lt _ (by decide)⟩)) * B.sp (ix2 r ⟨c.val % 128, Nat.mod_lt _ (by decide)⟩) := by
  unfold rotK whole128
  pointwise [k0_pay7, k0_pay1, k0_pay2, step64, lane256]
  rw [pair_apply B.cp, pair_apply B.sp]
  rfl

/-! ### One head at a time -/

section head
variable (C S : Fin 32 → EReal) (r : Fin 128)

theorem turn_eq {w : Nat} (x : Fin w → EReal) (t₁ t₂ : Fin 128 → EReal) (h₁ : ∀ c, t₁ c = C ⟨c.val % 32, Nat.mod_lt _ (by decide)⟩)
    (h₂ : ∀ c, t₂ c = S ⟨c.val % 32, Nat.mod_lt _ (by decide)⟩) (col : Fin 64 → Fin w) (d : Fin 64) (b : Nat) (hb : b % 64 = 0)
    (hcol : ∀ d, (col d).val = b + d.val) (h0 : 0 < w) (up dn : Fin w) (hup : d.val < 32 → up.val = (col d).val + 32)
    (hdn : 32 ≤ d.val → dn.val + 32 = (col d).val) :
    x (col d) * t₁ ⟨(col d).val % 128, Nat.mod_lt _ (by decide)⟩
      + (if (col d).val % 64 < 32 then 0 - x up else x dn) * t₂ ⟨(col d).val % 128, Nat.mod_lt _ (by decide)⟩
      = turn C S (fun d => x (col d)) d := by
  have hd := d.isLt
  have hm : (col d).val % 64 = d.val := by rw [hcol]; omega
  have h32 : (⟨(col d).val % 128 % 32, Nat.mod_lt _ (by decide)⟩ : Fin 32) = half d := Fin.ext (show _ % 128 % 32 = d.val % 32 by omega)
  rw [h₁, h₂]
  unfold turn
  rw [h32, hm]
  by_cases hlt : d.val < 32
  · rw [if_pos hlt, if_pos hlt, show up = col (flip d) from Fin.ext (by rw [hup hlt, hcol, hcol]; show _ = b + (d.val + 32) % 64; omega), zero_sub]
  · rw [if_neg hlt, if_neg hlt, show dn = col (flip d) from Fin.ext (by
      have := hdn (by omega); rw [hcol] at this ⊢; show _ = b + (d.val + 32) % 64; omega)]
theorem turnBack_eq {w : Nat} (x : Fin w → EReal) (t₁ t₂ : Fin 128 → EReal) (h₁ : ∀ c, t₁ c = C ⟨c.val % 32, Nat.mod_lt _ (by decide)⟩)
    (h₂ : ∀ c, t₂ c = S ⟨c.val % 32, Nat.mod_lt _ (by decide)⟩) (col : Fin 64 → Fin w) (d : Fin 64) (b : Nat) (hb : b % 64 = 0)
    (hcol : ∀ d, (col d).val = b + d.val) (h0 : 0 < w) (up dn : Fin w) (hup : d.val < 32 → up.val = (col d).val + 32)
    (hdn : 32 ≤ d.val → dn.val + 32 = (col d).val) :
    x (col d) * t₁ ⟨(col d).val % 128, Nat.mod_lt _ (by decide)⟩
      - (if (col d).val % 64 < 32 then 0 - x up else x dn) * t₂ ⟨(col d).val % 128, Nat.mod_lt _ (by decide)⟩
      = turnBack C S (fun d => x (col d)) d := by
  have hd := d.isLt
  have hm : (col d).val % 64 = d.val := by rw [hcol]; omega
  have h32 : (⟨(col d).val % 128 % 32, Nat.mod_lt _ (by decide)⟩ : Fin 32) = half d := Fin.ext (show _ % 128 % 32 = d.val % 32 by omega)
  rw [h₁, h₂]
  unfold turnBack
  rw [h32, hm]
  by_cases hlt : d.val < 32
  · rw [if_pos hlt, if_pos hlt, show up = col (flip d) from Fin.ext (by rw [hup hlt, hcol, hcol]; show _ = b + (d.val + 32) % 64; omega), zero_sub,
      sub_eq_add_neg, EReal.neg_mul, neg_neg]
  · rw [if_neg hlt, if_neg hlt, show dn = col (flip d) from Fin.ext (by
      have := hdn (by omega); rw [hcol] at this ⊢; show _ = b + (d.val + 32) % 64; omega), sub_eq_add_neg, EReal.neg_mul]

/-- The angles of row `r` of the current block, and of the previous block. -/
def Turns (t₁ t₂ : Vec Ideal S128x128 .f32) : Prop :=
  (∀ c : Fin 128, t₁ (ix2 r c) = C ⟨c.val % 32, Nat.mod_lt _ (by decide)⟩) ∧ ∀ c : Fin 128, t₂ (ix2 r c) = S ⟨c.val % 32, Nat.mod_lt _ (by decide)⟩

theorem q8_apply (g : Fin 8) (d : Fin 64) (hT : Turns C S r B.cc B.sc) :
    B.q8 h (ix2 (row8 g r) d) = turn C S (fun d => B.q (ix2 r (colQ h g d))) d := by
  have := h.isLt; have := g.isLt; have := d.isLt
  refine (heads8_apply B.qr h g r d).trans ((B.qr_apply r (colQ h g d)).trans ?_)
  exact turn_eq C S (fun c => B.q (ix2 r c)) (fun c => B.cc (ix2 r c)) (fun c => B.sc (ix2 r c)) hT.1 hT.2 (colQ h g) d (512 * h.val + 64 * g.val) (by omega)
    (fun d => rfl) (by decide) _ _ (fun _ => by simp only [colQ]; omega) (fun _ => by simp only [colQ]; omega)
theorem rotQ_head (x) (g : Fin 8) (d : Fin 64) (hT : Turns C S r B.cc B.sc) :
    B.rotQ x (ix2 r (colQ h g d)) = turnBack C S (fun d => x (ix2 r (colQ h g d))) d := by
  have := h.isLt; have := g.isLt; have := d.isLt
  refine (B.rotQ_apply x r (colQ h g d)).trans ?_
  exact turnBack_eq C S (fun c => x (ix2 r c)) (fun c => B.cc (ix2 r c)) (fun c => B.sc (ix2 r c)) hT.1 hT.2 (colQ h g) d (512 * h.val + 64 * g.val) (by omega)
    (fun d => rfl) (by decide) _ _ (fun _ => by simp only [colQ]; omega) (fun _ => by simp only [colQ]; omega)
theorem rotK_head (x) (d : Fin 64) (hT : Turns C S r B.cp B.sp) :
    B.rotK x (ix2 r (colK h d)) = turnBack C S (fun d => x (ix2 r (colK h d))) d := by
  have := h.isLt; have := d.isLt
  refine (B.rotK_apply x r (colK h d)).trans ?_
  exact turnBack_eq C S (fun c => x (ix2 r c)) (fun c => B.cp (ix2 r c)) (fun c => B.sp (ix2 r c)) hT.1 hT.2 (colK h) d (64 * h.val) (by omega)
    (fun d => rfl) (by decide) _ _ (fun _ => by simp only [colK]; omega) (fun _ => by simp only [colK]; omega)
theorem k8_top (d : Fin 64) (hT : Turns C S r B.cp B.sp) :
    B.k8 h (ix2 ⟨r.val, by omega⟩ d) = turn C S (fun d => B.kp (ix2 r (colK h d))) d := by
  have := h.isLt; have := d.isLt
  have e : B.k8 h (ix2 ⟨r.val, by omega⟩ d) = B.kk (ix2 ⟨r.val, by omega⟩ (colK h d)) := by unfold k8; pointwise
  refine e.trans ((B.kk_top r (colK h d)).trans ?_)
  exact turn_eq C S (fun c => B.kp (ix2 r c)) (fun c => B.cp (ix2 r c)) (fun c => B.sp (ix2 r c)) hT.1 hT.2 (colK h) d (64 * h.val) (by omega)
    (fun d => rfl) (by decide) _ _ (fun _ => by simp only [colK]; omega) (fun _ => by simp only [colK]; omega)
theorem k8_bot (d : Fin 64) (hT : Turns C S r B.cc B.sc) :
    B.k8 h (ix2 ⟨128 + r.val, by omega⟩ d) = turn C S (fun d => B.kc (ix2 r (colK h d))) d := by
  have := h.isLt; have := d.isLt
  have e : B.k8 h (ix2 ⟨128 + r.val, by omega⟩ d) = B.kk (ix2 ⟨128 + r.val, by omega⟩ (colK h d)) := by unfold k8; pointwise
  refine e.trans ((B.kk_bot r (colK h d)).trans ?_)
  exact turn_eq C S (fun c => B.kc (ix2 r c)) (fun c => B.cc (ix2 r c)) (fun c => B.sc (ix2 r c)) hT.1 hT.2 (colK h) d (64 * h.val) (by omega)
    (fun d => rfl) (by decide) _ _ (fun _ => by simp only [colK]; omega) (fun _ => by simp only [colK]; omega)
theorem v8_top (d : Fin 64) : B.v8 h (ix2 ⟨r.val, by omega⟩ d) = B.vp (ix2 r (colK h d)) := by
  have e : B.v8 h (ix2 ⟨r.val, by omega⟩ d) = B.vv (ix2 ⟨r.val, by omega⟩ (colK h d)) := by unfold v8; pointwise
  exact e.trans (B.vv_top r (colK h d))
theorem v8_bot (d : Fin 64) : B.v8 h (ix2 ⟨128 + r.val, by omega⟩ d) = B.vc (ix2 r (colK h d)) := by
  have e : B.v8 h (ix2 ⟨128 + r.val, by omega⟩ d) = B.vv (ix2 ⟨128 + r.val, by omega⟩ (colK h d)) := by unfold v8; pointwise
  exact e.trans (B.vv_bot r (colK h d))
end head

section rows
variable (g : Fin 8) (r : Fin 128)

theorem lse8_apply : B.lse8 h (ix2 (row8 g r) 0) = B.lse (ix2 r (head32 h g)) := by
  unfold lse8
  rw [col8_apply]
  pointwise
theorem sink8_apply : B.sink8 h (ix2 (row8 g r) 0) = B.sink (ix2 0 (head32 h g)) := by
  unfold sink8
  rw [col8_apply]
  pointwise
theorem do8_apply (d : Fin 64) : B.do8 h (ix2 (row8 g r) d) = B.dout (ix2 r (colQ h g d)) := by
  unfold do8
  rw [heads8_apply]
  unfold whole2048
  pointwise
theorem o8_apply (d : Fin 64) : heads8 (whole2048 B.o) h (ix2 (row8 g r) d) = B.o (ix2 r (colQ h g d)) := by
  rw [heads8_apply]
  unfold whole2048
  pointwise
theorem delta_apply : B.delta h (ix2 (row8 g r) 0) = ∑ d : Fin 64, B.dout (ix2 r (colQ h g d)) * B.o (ix2 r (colQ h g d)) := by
  unfold delta
  pointwise [do8_apply]
  exact Finset.sum_congr rfl fun d _ => congrArg _ (B.o8_apply h g r d)
theorem probs_apply (j : Fin 256) :
    B.probs i h (ix2 (row8 g r) j) = if r.val < j.val ∧ j.val ≤ r.val + 128 ∧ (0 < (i 0).val ∨ 128 ≤ j.val) then
      Ideal.exp ((∑ d : Fin 64, B.q8 h (ix2 (row8 g r) d) * B.k8 h (ix2 j d)) * eighth - B.lse (ix2 r (head32 h g))) else 0 := by
  unfold probs
  pointwise [valid_apply, lse8_apply]
  split <;> rfl
theorem ds_apply (j : Fin 256) :
    B.ds i h (ix2 (row8 g r) j) = B.probs i h (ix2 (row8 g r) j)
      * (∑ d : Fin 64, B.dout (ix2 r (colQ h g d)) * B.v8 h (ix2 j d) - B.delta h (ix2 (row8 g r) 0)) * eighth := by
  unfold ds do8b
  pointwise [do8_apply]
theorem dq8_apply (d : Fin 64) :
    B.dq8 i h (ix2 (row8 g r) d) = ∑ j : Fin 256, B.ds i h (ix2 (row8 g r) j) * B.k8 h (ix2 j d) := by
  unfold dq8
  pointwise
theorem sum_row8 (f : Fin 1024 → EReal) : (∑ x : Fin 1024, f x) = ∑ g : Fin 8, ∑ r : Fin 128, f (row8 g r) := by
  rw [← Fintype.sum_prod_type']
  exact (Fintype.sum_equiv (finProdFinEquiv (m := 8) (n := 128)) _ _ fun p => congrArg f (Fin.ext (by
    show 128 * p.1.val + p.2.val = p.2.val + 128 * p.1.val; omega))).symm
theorem dk8_apply (j : Fin 256) (d : Fin 64) :
    B.dk8 i h (ix2 j d) = ∑ g : Fin 8, ∑ r : Fin 128, B.ds i h (ix2 (row8 g r) j) * B.q8 h (ix2 (row8 g r) d) := by
  refine Eq.trans ?_ (sum_row8 fun x => B.ds i h (ix2 x j) * B.q8 h (ix2 x d))
  unfold dk8
  pointwise
theorem dv8_apply (j : Fin 256) (d : Fin 64) :
    B.dv8 i h (ix2 j d) = ∑ g : Fin 8, ∑ r : Fin 128, B.probs i h (ix2 (row8 g r) j) * B.dout (ix2 r (colQ h g d)) := by
  refine Eq.trans (b := ∑ g : Fin 8, ∑ r : Fin 128, B.probs i h (ix2 (row8 g r) j) * B.do8 h (ix2 (row8 g r) d)) ?_ ?_
  · refine Eq.trans ?_ (sum_row8 fun x => B.probs i h (ix2 x j) * B.do8 h (ix2 x d))
    unfold dv8 do8b
    pointwise
  · exact Finset.sum_congr rfl fun g _ => Finset.sum_congr rfl fun r _ => congrArg _ (B.do8_apply h g r d)
theorem dsink8_apply : B.dsink8 h (ix2 (row8 g r) 0) = (0 - Ideal.exp (B.sink (ix2 0 (head32 h g)) - B.lse (ix2 r (head32 h g)))) * B.delta h (ix2 (row8 g r) 0) := by
  unfold dsink8
  pointwise [sink8_apply, lse8_apply]
theorem dsinkSum_apply (e : Fin 8) : B.dsinkSum h g (ix2 e 0) = ∑ s : Fin 16, B.dsink8 h (ix2 (row8 g ⟨8 * s.val + e.val, by omega⟩) 0) := by
  unfold dsinkSum
  pointwise
  exact Finset.sum_congr rfl fun s _ => congrArg (fun n => B.dsink8 h (ix2 n 0)) (Fin.ext (by
    show 128 * g.val + (s.val * 8 + e.val) = 128 * g.val + (8 * s.val + e.val); omega))
end rows
end Blocks
end Cert.AttnBwd

end
-- ==== Proof.Attn.Row.lean ====
module

public import Idealize.ShloMosaic.PureOps.Ideal.Laws

@[expose] public section

noncomputable section

namespace Cert.AttnBwd.Row

open Idealize.ShloMosaic

/-! # One row of a softmax with a sink, and its gradient

A row has scores `τ j` where `mk j` holds and `-∞` elsewhere, a sink score `σ`, and the gradients `α j` of its
weights. The gradient the chain rule gives, through the maximum that the softmax subtracts, is the closed form
`p (α - Σ p α)`: what reaches the maximum cancels. -/

variable (mk : Fin 256 → Bool) (τ α : Fin 256 → ℝ) (σ : ℝ) (M : EReal)

/-- A score, the maximum with the sink, the exponentials and their sum. -/
def score (j : Fin 256) : EReal := if mk j then (τ j : EReal) else ⊥
def most : EReal := max M σ
def expo (j : Fin 256) : EReal := Ideal.exp (score mk τ j - most σ M)
def expoSink : EReal := Ideal.exp ((σ : EReal) - most σ M)
def den : EReal := (0 + ∑ j, expo mk τ σ M j) + expoSink σ M
def prob (j : Fin 256) : EReal := Ideal.div (expo mk τ σ M j) (den mk τ σ M)
def lse : EReal := most σ M + Ideal.log (den mk τ σ M)
/-- The chain rule's values: of the sum of the exponentials, of the sink's score, of a score, and of the maximum. -/
def dDen : EReal := 0 + ∑ _k : Fin 1, -(0 + ∑ j, (α j : EReal) * Ideal.div 1 (den mk τ σ M * den mk τ σ M) * expo mk τ σ M j)
def dSink : EReal := dDen mk τ α σ M * expoSink σ M
def dScore (j : Fin 256) : EReal := (Ideal.div (α j) (den mk τ σ M) + dDen mk τ α σ M) * expo mk τ σ M j
def dMost : EReal := -(dSink mk τ α σ M) + (0 + ∑ _k : Fin 1, (0 + ∑ j, -(dScore mk τ α σ M j)))

theorem coe_sum {n : ℕ} (f : Fin n → ℝ) : ((∑ j, f j : ℝ) : EReal) = ∑ j, (f j : EReal) := by
  induction n with
  | zero => simp
  | succ n ih => rw [Fin.sum_univ_succ, Fin.sum_univ_succ, EReal.coe_add, ih]

theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

section
variable {mk τ σ M}
variable (hM : (∀ j, score mk τ j ≤ M) ∧ ∃ j, score mk τ j = M)
include hM

theorem exists_most : ∃ μ : ℝ, most σ M = (μ : EReal) := by
  obtain ⟨_, j, hj⟩ := hM
  unfold most
  rw [← hj]; unfold score
  cases h : mk j with
  | true => exact ⟨max (τ j) σ, by rw [if_pos rfl]; exact (EReal.coe_strictMono.monotone.map_max).symm⟩
  | false => exact ⟨σ, by simp⟩

/-- Every value of the row is a real number. -/
theorem reals : ∃ (μ δ γ : ℝ) (ε : Fin 256 → ℝ), most σ M = (μ : EReal) ∧ (∀ j, expo mk τ σ M j = (ε j : EReal))
    ∧ expoSink σ M = (γ : EReal) ∧ den mk τ σ M = (δ : EReal) ∧ 0 < δ ∧ δ = ∑ j, ε j + γ
    ∧ (∀ j, ε j = if mk j then Real.exp (τ j - μ) else 0) ∧ γ = Real.exp (σ - μ) := by
  obtain ⟨μ, hμ⟩ := exists_most (σ := σ) hM
  have he : ∀ j, expo mk τ σ M j = ((if mk j then Real.exp (τ j - μ) else 0 : ℝ) : EReal) := fun j => by
    unfold expo score
    rw [hμ]
    cases mk j with
    | true => simp only [if_true]; rw [← EReal.coe_sub]; rfl
    | false => simp only [Bool.false_eq_true, if_false]; rw [EReal.bot_sub]; rfl
  have hc : expoSink σ M = ((Real.exp (σ - μ) : ℝ) : EReal) := by
    unfold expoSink; rw [hμ, ← EReal.coe_sub]; rfl
  refine ⟨μ, _, _, _, hμ, he, hc, ?_, ?_, rfl, fun _ => rfl, rfl⟩
  · unfold den; rw [hc, zero_add, Finset.sum_congr rfl fun j _ => he j, ← coe_sum, ← EReal.coe_add]
  · refine add_pos_of_nonneg_of_pos (Finset.sum_nonneg fun j _ => ?_) (Real.exp_pos _)
    split
    · exact (Real.exp_pos _).le
    · exact le_rfl

theorem prob_masked (j : Fin 256) (h : mk j = false) : prob mk τ σ M j = 0 := by
  obtain ⟨μ, δ, γ, ε, hμ, he, hc, hd, hδ, hs, hε, hγ⟩ := reals (σ := σ) hM
  unfold prob
  rw [he, hd, div_coe _ _ hδ.ne', hε, h]; simp

theorem dScore_masked (j : Fin 256) (h : mk j = false) : dScore mk τ α σ M j = 0 := by
  obtain ⟨μ, δ, γ, ε, hμ, he, hc, hd, hδ, hs, hε, hγ⟩ := reals (σ := σ) hM
  unfold dScore
  rw [he, hε, h]; simp

/-- A weight is the exponential of the score less the saved logarithm. -/
theorem prob_eq (j : Fin 256) (h : mk j = true) : Ideal.exp ((τ j : EReal) - lse mk τ σ M) = prob mk τ σ M j := by
  obtain ⟨μ, δ, γ, ε, hμ, he, hc, hd, hδ, hs, hε, hγ⟩ := reals (σ := σ) hM
  unfold prob lse
  rw [he, hμ, hd, div_coe _ _ hδ.ne', hε, h, if_pos rfl]
  rw [show Ideal.log (δ : EReal) = ((Real.log δ : ℝ) : EReal) from if_neg (not_le.2 hδ), ← EReal.coe_add, ← EReal.coe_sub]
  show ((Real.exp _ : ℝ) : EReal) = _
  rw [← sub_sub, Real.exp_sub, Real.exp_log hδ]

theorem sink_eq : Ideal.exp ((σ : EReal) - lse mk τ σ M) = Ideal.div (expoSink σ M) (den mk τ σ M) := by
  obtain ⟨μ, δ, γ, ε, hμ, he, hc, hd, hδ, hs, hε, hγ⟩ := reals (σ := σ) hM
  unfold lse
  rw [hc, hμ, hd, div_coe _ _ hδ.ne', hγ]
  rw [show Ideal.log (δ : EReal) = ((Real.log δ : ℝ) : EReal) from if_neg (not_le.2 hδ), ← EReal.coe_add, ← EReal.coe_sub]
  show ((Real.exp _ : ℝ) : EReal) = _
  rw [← sub_sub, Real.exp_sub, Real.exp_log hδ]

/-- The chain rule's values as real numbers, in `A = Σ α ε / δ²`. -/
theorem dReals : ∃ (μ δ γ A : ℝ) (ε : Fin 256 → ℝ), most σ M = (μ : EReal) ∧ (∀ j, expo mk τ σ M j = (ε j : EReal))
    ∧ expoSink σ M = (γ : EReal) ∧ den mk τ σ M = (δ : EReal) ∧ 0 < δ ∧ δ = ∑ j, ε j + γ
    ∧ A * δ * δ = ∑ j, α j * ε j ∧ dDen mk τ α σ M = ((-A : ℝ) : EReal) ∧ dSink mk τ α σ M = ((-A * γ : ℝ) : EReal)
    ∧ ∀ j, dScore mk τ α σ M j = (((α j / δ + -A) * ε j : ℝ) : EReal) := by
  obtain ⟨μ, δ, γ, ε, hμ, he, hc, hd, hδ, hs, hε, hγ⟩ := reals (σ := σ) hM
  have hA : dDen mk τ α σ M = ((-(∑ j, α j * (1 / (δ * δ)) * ε j) : ℝ) : EReal) := by
    unfold dDen
    rw [hd, ← EReal.coe_mul, show (1 : EReal) = ((1 : ℝ) : EReal) from rfl, div_coe _ _ (mul_pos hδ hδ).ne']
    simp only [he, ← EReal.coe_mul, ← coe_sum, zero_add, ← EReal.coe_neg, Fin.sum_univ_one]
  refine ⟨μ, δ, γ, _, ε, hμ, he, hc, hd, hδ, hs, ?_, hA, ?_, fun j => ?_⟩
  · rw [Finset.sum_mul, Finset.sum_mul]
    refine Finset.sum_congr rfl fun j _ => ?_
    field_simp
  · unfold dSink; rw [hA, hc, EReal.coe_mul]
  · unfold dScore; rw [hA, hd, he, div_coe _ _ hδ.ne', ← EReal.coe_add, ← EReal.coe_mul]

/-- What reaches the maximum is zero. -/
theorem dMost_eq : dMost mk τ α σ M = 0 := by
  obtain ⟨μ, δ, γ, A, ε, hμ, he, hc, hd, hδ, hs, hA, hD, hS, hU⟩ := dReals α (σ := σ) hM
  unfold dMost
  simp only [hS, hU, ← EReal.coe_neg, ← coe_sum, zero_add, Fin.sum_univ_one, ← EReal.coe_add]
  rw [show (0 : EReal) = ((0 : ℝ) : EReal) from rfl]
  congr 1
  have h1 : ∑ j, -((α j / δ + -A) * ε j) = -(∑ j, α j * ε j) / δ + A * ∑ j, ε j := by
    rw [← Finset.sum_neg_distrib, Finset.sum_div, Finset.mul_sum, ← Finset.sum_add_distrib]
    exact Finset.sum_congr rfl fun j _ => by ring
  rw [h1, ← hA, show ∑ j, ε j = δ - γ by rw [hs]; ring]
  field_simp
  ring

/-- The weighted sum of the weights' gradients. -/
theorem weighted : ∑ j, prob mk τ σ M j * (α j : EReal) = Ideal.div (∑ j, expo mk τ σ M j * (α j : EReal)) (den mk τ σ M) := by
  obtain ⟨μ, δ, γ, ε, hμ, he, hc, hd, hδ, hs, hε, hγ⟩ := reals (σ := σ) hM
  unfold prob
  simp only [he, hd, div_coe _ _ hδ.ne', ← EReal.coe_mul, ← coe_sum]
  rw [Finset.sum_div]
  congr 1
  exact Finset.sum_congr rfl fun j _ => by ring

/-- The closed form of a score's gradient. -/
theorem score_eq (j : Fin 256) :
    prob mk τ σ M j * ((α j : EReal) - ∑ j, prob mk τ σ M j * (α j : EReal)) = dScore mk τ α σ M j := by
  obtain ⟨μ, δ, γ, A, ε, hμ, he, hc, hd, hδ, hs, hA, hD, hS, hU⟩ := dReals α (σ := σ) hM
  rw [weighted α hM, hU]
  unfold prob
  simp only [he, hd, ← EReal.coe_mul, ← coe_sum, div_coe _ _ hδ.ne', ← EReal.coe_sub]
  congr 1
  rw [show ∑ j, ε j * α j = A * δ * δ by rw [hA]; exact Finset.sum_congr rfl fun j _ => mul_comm _ _]
  field_simp
  ring

/-- The closed form of the sink's gradient. -/
theorem dSink_eq :
    (0 - Ideal.exp ((σ : EReal) - lse mk τ σ M)) * (∑ j, prob mk τ σ M j * (α j : EReal)) = dSink mk τ α σ M := by
  obtain ⟨μ, δ, γ, A, ε, hμ, he, hc, hd, hδ, hs, hA, hD, hS, hU⟩ := dReals α (σ := σ) hM
  rw [sink_eq hM, weighted α hM, hS]
  simp only [he, hd, hc, ← EReal.coe_mul, ← coe_sum, div_coe _ _ hδ.ne', zero_sub, ← EReal.coe_neg]
  congr 1
  rw [show ∑ j, ε j * α j = A * δ * δ by rw [hA]; exact Finset.sum_congr rfl fun j _ => mul_comm _ _]
  field_simp

end

end Cert.AttnBwd.Row

end
-- ==== Proof.Finite.lean ====
module

public import Idealize.ShloMosaic.PureOps.Ideal.Laws
public import Idealize.ShloMosaic.Lib.ReduceAll

@[expose] public section

noncomputable section

namespace Cert.Finite

open Idealize.ShloMosaic

/-! # Extended reals that are real numbers -/

/-- The value is a real number. -/
def IsReal (x : EReal) : Prop := ∃ r : ℝ, x = (r : EReal)

theorem IsReal.coe_toReal {x : EReal} (h : IsReal x) : ((x.toReal : ℝ) : EReal) = x := by
  obtain ⟨r, rfl⟩ := h; rfl
theorem isReal_zero : IsReal 0 := ⟨0, rfl⟩
theorem isReal_one : IsReal 1 := ⟨1, rfl⟩
theorem isReal_coe (r : ℝ) : IsReal (r : EReal) := ⟨r, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  rw [sub_eq_add_neg]; exact hx.add hy.neg
theorem IsReal.ite {p : Prop} [Decidable p] {x y : EReal} (hx : IsReal x) (hy : IsReal y) : IsReal (if p then x else y) := by
  split <;> assumption
theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih
theorem IsReal.cos {x : EReal} (hx : IsReal x) : IsReal (Ideal.cos x) := by
  obtain ⟨a, rfl⟩ := hx; exact ⟨Real.cos a, rfl⟩
theorem IsReal.sin {x : EReal} (hx : IsReal x) : IsReal (Ideal.sin x) := by
  obtain ⟨a, rfl⟩ := hx; exact ⟨Real.sin a, rfl⟩
theorem IsReal.pow {x y : EReal} (hx : IsReal x) (hy : IsReal y) : IsReal (Ideal.pow x y) := by
  obtain ⟨a, rfl⟩ := hx; obtain ⟨b, rfl⟩ := hy; exact ⟨Real.rpow a b, rfl⟩
theorem IsReal.div {x y : EReal} (hx : IsReal x) (hy : IsReal y) (h : y ≠ 0) : IsReal (Ideal.div x y) := by
  obtain ⟨a, rfl⟩ := hx; obtain ⟨b, rfl⟩ := hy
  exact ⟨a * b⁻¹, by unfold Ideal.div; rw [if_neg h, ← EReal.coe_inv, ← EReal.coe_mul]⟩
theorem isReal_ieee {e m w : Nat} (b : BitVec w) (h : (b.extractLsb' m e).toNat ≠ 2 ^ e - 1) : IsReal (Ideal.ieee e m b) := by
  unfold Ideal.ieee
  simp only [if_neg h]
  split <;> exact ⟨_, rfl⟩
theorem isReal_eighth : IsReal (Ideal.ofBits .f32 0x3E000000#32) := by
  unfold Ideal.ofBits
  exact isReal_ieee (e := 8) (m := 23) _ (by decide)
theorem ofBits_thirtyTwo : Ideal.ofBits .f32 0x42000000#32 = ((32 : ℝ) : EReal) := by
  simp [Ideal.ofBits, Ideal.ieee]; norm_num
  rw [← EReal.coe_mul]; norm_num
theorem ofBits_inf : Ideal.ofBits .f32 0x7F800000#32 = ⊤ := by
  simp [Ideal.ofBits, Ideal.ieee]
theorem ofBits_neg_inf : Ideal.ofBits .f32 0xFF800000#32 = ⊥ := by
  simp [Ideal.ofBits, Ideal.ieee]

/-- A value whose magnitude lies below `+∞` is a real number. -/
theorem isReal_of_abs_lt (x : EReal) (h : max x (-x) < ⊤) : IsReal x := by
  induction x using EReal.rec with
  | bot => simp at h
  | top => simp at h
  | coe r => exact ⟨r, rfl⟩

/-- The sum over the reals. -/
theorem sum_mul_comm_real {n k : Nat} (a : Fin n → ℝ) (b : Fin k → ℝ) (f : Fin n → Fin k → ℝ) :
    ∑ i, a i * ∑ j, f i j * b j = ∑ j, (∑ i, a i * f i j) * b j := by
  simp only [Finset.mul_sum, Finset.sum_mul, mul_assoc]
  exact Finset.sum_comm

end Cert.Finite

end
-- ==== Proof.Attn.Ref1.lean ====
module

public import proofs.«01_k».proof.Proof.Gen.ReferenceIdeal.Read
public import proofs.«01_k».proof.Proof.Attn.Heads8
public import proofs.«01_k».proof.Proof.Attn.Row
public import proofs.«01_k».proof.Proof.Finite

@[expose] public section

set_option maxRecDepth 16384

noncomputable section

namespace Cert.AttnBwd

open Idealize.ShloMosaic Idealize.ShloMosaic.WordCmp Idealize.SL.Sem Cert.Finite Cert.ReferenceIdeal
open Cert.ReferenceIdeal.Read

/-! # The reference's forward values, entry by entry -/

/-- Row `r` of block `n` of 128 rows. -/
abbrev row (n : Fin 32) (r : Fin 128) : Fin 4096 := ⟨128 * n.val + r.val, by omega⟩

variable (x0 : S4096x2048.Idx → EReal) (x1 x2 : S4096x256.Idx → EReal) (x3 : S1x32.Idx → EReal) (x4 : S4096x2048.Idx → EReal)

/-- The cosines and sines of a row's angles. -/
abbrev cosT (t : Fin 4096) (a : Fin 32) : EReal := val_main_v13 (F := Ideal) (ix2 t a)
abbrev sinT (t : Fin 4096) (a : Fin 32) : EReal := val_main_v14 (F := Ideal) (ix2 t a)

theorem fin_ext {n : Nat} {a b : Fin n} (h : a.val = b.val) : a = b := Fin.ext h

theorem turn_split (C S : Fin 32 → EReal) (x : Fin 64 → EReal) (d : Fin 64) :
    turn C S x d = if h : d.val < 32 then x d * C ⟨d.val, h⟩ - x ⟨32 + d.val, by omega⟩ * S ⟨d.val, h⟩
      else x d * C ⟨d.val - 32, by omega⟩ + x ⟨d.val - 32, by omega⟩ * S ⟨d.val - 32, by omega⟩ := by
  unfold turn
  have := d.isLt
  by_cases h : d.val < 32
  · rw [dif_pos h, if_pos h, show half d = ⟨d.val, h⟩ from Fin.ext (Nat.mod_eq_of_lt h),
      show flip d = ⟨32 + d.val, by omega⟩ from Fin.ext (show (d.val + 32) % 64 = 32 + d.val by omega), sub_eq_add_neg, EReal.neg_mul]
  · rw [dif_neg h, if_neg h, show half d = ⟨d.val - 32, by omega⟩ from Fin.ext (show d.val % 32 = d.val - 32 by omega),
      show flip d = ⟨d.val - 32, by omega⟩ from Fin.ext (show (d.val + 32) % 64 = d.val - 32 by omega)]

theorem v28_apply (t : Fin 4096) (e : Fin 32) (d : Fin 64) :
    val_main_v28 (F := Ideal) x0 (ix3 t e d) = turn (cosT t) (sinT t) (fun d => x0 (ix2 t ⟨e.val * 64 + d.val, by omega⟩)) d := by
  rw [turn_split]
  pointwise [val_main_v28, val_main_v27, val_main_v26, val_main_v25, val_main_v24, val_main_v23, val_main_v22, val_main_v21, val_main_v20, val_main_v19, val_main_v18, val_main_v17, val_main_v16, val_main_v15]
  have := d.isLt
  split
  · rfl
  · next h =>
    rw [show (⟨e.val * 64 + (32 + (d.val - 32)), by omega⟩ : Fin 2048) = ⟨e.val * 64 + d.val, by omega⟩ from fin_ext (by simp only []; omega)]
theorem v42_apply (t : Fin 4096) (e : Fin 4) (d : Fin 64) :
    val_main_v42 (F := Ideal) x1 (ix3 t e d) = turn (cosT t) (sinT t) (fun d => x1 (ix2 t ⟨e.val * 64 + d.val, by omega⟩)) d := by
  rw [turn_split]
  pointwise [val_main_v42, val_main_v41, val_main_v40, val_main_v39, val_main_v38, val_main_v37, val_main_v36, val_main_v35, val_main_v34, val_main_v33, val_main_v32, val_main_v31, val_main_v30, val_main_v29]
  have := d.isLt
  split
  · rfl
  · next h =>
    rw [show (⟨e.val * 64 + (32 + (d.val - 32)), by omega⟩ : Fin 256) = ⟨e.val * 64 + d.val, by omega⟩ from fin_ext (by simp only []; omega)]
theorem v44_apply (n : Fin 32) (r : Fin 128) (h : Fin 4) (g : Fin 8) (d : Fin 64) :
    val_main_v44 (F := Ideal) x0 (ix5 n r h g d) = turn (cosT (row n r)) (sinT (row n r)) (fun d => x0 (ix2 (row n r) (colQ h g d))) d := by
  refine Eq.trans ?_ ((v28_apply x0 (row n r) (head32 h g) d).trans ?_)
  · pointwise [val_main_v44]
    rw [show (⟨n.val * 128 + r.val, by omega⟩ : Fin 4096) = row n r from fin_ext (by simp only []; omega),
      show (⟨h.val * 8 + g.val, by omega⟩ : Fin 32) = head32 h g from fin_ext (by simp only []; omega)]
  · exact congrArg (fun f => turn _ _ f d) (funext fun d => congrArg (fun c => x0 (ix2 (row n r) c)) (fin_ext (by simp only []; omega)))
theorem v50_bot (n : Fin 32) (r : Fin 128) (h : Fin 4) (d : Fin 64) :
    val_main_v50 (F := Ideal) x1 (ix4 n ⟨128 + r.val, by omega⟩ h d) = turn (cosT (row n r)) (sinT (row n r)) (fun d => x1 (ix2 (row n r) (colK h d))) d := by
  refine Eq.trans ?_ ((v42_apply x1 (row n r) h d).trans ?_)
  · pointwise [val_main_v50, val_main_v48, val_main_v47, val_main_v45]
    rw [show (⟨n.val * 128 + r.val, by omega⟩ : Fin 4096) = row n r from fin_ext (by simp only []; omega)]
  · exact congrArg (fun f => turn _ _ f d) (funext fun d => congrArg (fun c => x1 (ix2 (row n r) c)) (fin_ext (by simp only []; omega)))
theorem v50_top (n : Fin 32) (hn : 0 < n.val) (r : Fin 128) (h : Fin 4) (d : Fin 64) :
    val_main_v50 (F := Ideal) x1 (ix4 n ⟨r.val, by omega⟩ h d)
      = turn (cosT (row ⟨n.val - 1, by omega⟩ r)) (sinT (row ⟨n.val - 1, by omega⟩ r)) (fun d => x1 (ix2 (row ⟨n.val - 1, by omega⟩ r) (colK h d))) d := by
  refine Eq.trans ?_ ((v42_apply x1 (row ⟨n.val - 1, by omega⟩ r) h d).trans ?_)
  · pointwise [val_main_v50, val_main_v48, val_main_v47, val_main_v45]
    rw [dif_neg (by omega), show (⟨(n.val - 1) * 128 + r.val, by omega⟩ : Fin 4096) = row ⟨n.val - 1, by omega⟩ r from fin_ext (by simp only []; omega)]
  · exact congrArg (fun f => turn _ _ f d) (funext fun d => congrArg (fun c => x1 (ix2 (row ⟨n.val - 1, by omega⟩ r) c)) (fin_ext (by simp only []; omega)))
theorem v50_zero (n : Fin 32) (hn : n.val = 0) (r : Fin 128) (h : Fin 4) (d : Fin 64) :
    val_main_v50 (F := Ideal) x1 (ix4 n ⟨r.val, by omega⟩ h d) = 0 := by
  pointwise [val_main_v50, val_main_v48, val_main_v47, val_main_v46, val_main_v45, val_main_cst_1]
  rw [dif_pos (by omega)]
theorem v56_bot (n : Fin 32) (r : Fin 128) (h : Fin 4) (d : Fin 64) :
    val_main_v56 (F := Ideal) x2 (ix4 n ⟨128 + r.val, by omega⟩ h d) = x2 (ix2 (row n r) (colK h d)) := by
  pointwise [val_main_v56, val_main_v54, val_main_v53, val_main_v51, val_main_v43]
  rw [show (⟨n.val * 128 + r.val, by omega⟩ : Fin 4096) = row n r from fin_ext (by simp only []; omega),
    show (⟨h.val * 64 + d.val, by omega⟩ : Fin 256) = colK h d from fin_ext (by simp only []; omega)]
theorem v56_top (n : Fin 32) (hn : 0 < n.val) (r : Fin 128) (h : Fin 4) (d : Fin 64) :
    val_main_v56 (F := Ideal) x2 (ix4 n ⟨r.val, by omega⟩ h d) = x2 (ix2 (row ⟨n.val - 1, by omega⟩ r) (colK h d)) := by
  pointwise [val_main_v56, val_main_v54, val_main_v53, val_main_v51, val_main_v43]
  rw [dif_neg (by omega), show (⟨(n.val - 1) * 128 + r.val, by omega⟩ : Fin 4096) = row ⟨n.val - 1, by omega⟩ r from fin_ext (by simp only []; omega),
    show (⟨h.val * 64 + d.val, by omega⟩ : Fin 256) = colK h d from fin_ext (by simp only []; omega)]
theorem v56_zero (n : Fin 32) (hn : n.val = 0) (r : Fin 128) (h : Fin 4) (d : Fin 64) :
    val_main_v56 (F := Ideal) x2 (ix4 n ⟨r.val, by omega⟩ h d) = 0 := by
  pointwise [val_main_v56, val_main_v54, val_main_v53, val_main_v52, val_main_v51, val_main_v43, val_main_cst_3]
  rw [dif_pos (by omega)]

/-! ### Every entry is a real number -/

/-- Every entry of an array is a real number. -/
abbrev AllReal {s : Shape} (x : s.Idx → EReal) : Prop := ∀ i, IsReal (x i)

theorem v12_real : ∀ i, IsReal (val_main_v12 (F := Ideal) i) := fun i => by
  idx_vars i
  pointwise [val_main_v12, val_main_v11, val_main_v10, val_main_v9, val_main_v8, val_main_v7, val_main_v6, val_main_v5, val_main_v4, val_main_v3, val_main_v2, val_main_v1, val_main_cst, val_main_cst_0]
  exact (isReal_coe _).mul ((show IsReal (Ideal.ofBits .f32 0x461C4000#32) by
    unfold Ideal.ofBits; exact isReal_ieee (e := 8) (m := 23) _ (by decide)).pow ((isReal_coe _).neg.div
      (by rw [ofBits_thirtyTwo]; exact isReal_coe _) (by rw [ofBits_thirtyTwo]; exact_mod_cast (by norm_num : (32 : ℝ) ≠ 0))))
theorem cosT_real (t : Fin 4096) (a : Fin 32) : IsReal (cosT t a) := (v12_real _).cos
theorem sinT_real (t : Fin 4096) (a : Fin 32) : IsReal (sinT t a) := (v12_real _).sin
theorem turn_real (C S : Fin 32 → EReal) (x : Fin 64 → EReal) (hC : ∀ a, IsReal (C a)) (hS : ∀ a, IsReal (S a)) (hx : ∀ d, IsReal (x d)) (d : Fin 64) :
    IsReal (turn C S x d) :=
  ((hx d).mul (hC _)).add (((hx _).neg.ite (hx _)).mul (hS _))
theorem v44_real (h0 : AllReal x0) (n : Fin 32) (r : Fin 128) (h : Fin 4) (g : Fin 8) (d : Fin 64) : IsReal (val_main_v44 (F := Ideal) x0 (ix5 n r h g d)) := by
  rw [v44_apply]
  exact turn_real _ _ _ (fun _ => cosT_real _ _) (fun _ => sinT_real _ _) (fun _ => h0 _) d
/-- A key of the pair of blocks is one of the previous block or one of this block. -/
theorem key_cases (j : Fin 256) : (∃ r : Fin 128, j = ⟨r.val, by omega⟩) ∨ ∃ r : Fin 128, j = ⟨128 + r.val, by omega⟩ := by
  by_cases h : j.val < 128
  · exact .inl ⟨⟨j.val, h⟩, rfl⟩
  · exact .inr ⟨⟨j.val - 128, by omega⟩, Fin.ext (show j.val = 128 + (j.val - 128) by omega)⟩
theorem v50_real (h1 : AllReal x1) (n : Fin 32) (j : Fin 256) (h : Fin 4) (d : Fin 64) : IsReal (val_main_v50 (F := Ideal) x1 (ix4 n j h d)) := by
  rcases key_cases j with ⟨r, rfl⟩ | ⟨r, rfl⟩
  · by_cases hn : 0 < n.val
    · rw [v50_top x1 n hn]
      exact turn_real _ _ _ (fun _ => cosT_real _ _) (fun _ => sinT_real _ _) (fun _ => h1 _) d
    · rw [v50_zero x1 n (by omega)]; exact isReal_zero
  · rw [v50_bot]
    exact turn_real _ _ _ (fun _ => cosT_real _ _) (fun _ => sinT_real _ _) (fun _ => h1 _) d
theorem v56_real (h2 : AllReal x2) (n : Fin 32) (j : Fin 256) (h : Fin 4) (d : Fin 64) : IsReal (val_main_v56 (F := Ideal) x2 (ix4 n j h d)) := by
  rcases key_cases j with ⟨r, rfl⟩ | ⟨r, rfl⟩
  · by_cases hn : 0 < n.val
    · rw [v56_top x2 n hn]; exact h2 _
    · rw [v56_zero x2 n (by omega)]; exact isReal_zero
  · rw [v56_bot]; exact h2 _

section row
variable (n : Fin 32) (h : Fin 4) (g : Fin 8) (r : Fin 128)

/-- Whether a query may look at a key. -/
def mask (j : Fin 256) : Bool := decide (r.val < j.val ∧ j.val ≤ r.val + 128 ∧ (0 < n.val ∨ 128 ≤ j.val))

theorem v60_apply (j : Fin 256) : val_main_v60 (F := Ideal) x0 x1 (ix5 n h g r j)
    = (∑ d : Fin 64, val_main_v50 (F := Ideal) x1 (ix4 n j h d) * val_main_v44 (F := Ideal) x0 (ix5 n r h g d)) * eighth := by
  pointwise [val_main_v60, val_main_v59, val_main_v58, val_main_v57, val_main_cst_5]
theorem v74_apply (j : Fin 256) : val_main_v74 (F := Ideal) (ix5 n h g r j) = BitVec.ofBool (mask n r j) := by
  have hi := n.isLt
  have hr := r.isLt
  have hc := j.isLt
  pointwise [val_main_v74, val_main_v73, val_main_v72, val_main_v71, val_main_v70, val_main_v69, val_main_v68, val_main_v67, val_main_v66, val_main_v65, val_main_v64, val_main_v63, val_main_v62, val_main_v61, val_main_c, val_main_c_6, val_main_c_7]
  rw [show IntOp.addi (BitVec.ofNat 32 r.val) 128#32 = BitVec.ofNat 32 (r.val + 128) from by
    revert r; decide +kernel]
  rw [show (0#32) = BitVec.ofNat 32 0 from rfl, show (128#32) = BitVec.ofNat 32 128 from rfl,
    cmpi_sgt_ofNat (by omega) (by omega), cmpi_sle_ofNat (by omega) (by omega), cmpi_sgt_ofNat (by omega) (by omega),
    cmpi_sge_ofNat (by omega) (by omega), andi_ofBool, ori_ofBool, andi_ofBool]
  unfold mask
  congr 1
  simp [Bool.and_assoc]
theorem v76_apply (j : Fin 256) : val_main_v76 (F := Ideal) x0 x1 (ix5 n h g r j)
    = if mask n r j then val_main_v60 (F := Ideal) x0 x1 (ix5 n h g r j) else ⊥ := by
  pointwise [val_main_v76, val_main_v75, val_main_cst_8, v74_apply]
  rw [ofBits_neg_inf]
theorem v79_apply : val_main_v79 (F := Ideal) x3 (ix4 n h g r) = x3 (ix2 0 (head32 h g)) := by
  pointwise [val_main_v79, val_main_v78, val_main_v0]
  rw [show (⟨h.val * 8 + g.val, by omega⟩ : Fin 32) = head32 h g from fin_ext (by simp only []; omega)]

theorem fold_max {k : Nat} (f : Fin (k + 1) → EReal) : (∀ j, f j ≤ Finset.univ.fold max ⊥ f) ∧ ∃ j, f j = Finset.univ.fold max ⊥ f := by
  have e : Finset.univ.fold max ⊥ f = Finset.univ.sup f := rfl
  rw [e]
  exact ⟨fun j => Finset.le_sup (Finset.mem_univ j), by
    obtain ⟨j, _, hj⟩ := Finset.exists_mem_eq_sup Finset.univ Finset.univ_nonempty f
    exact ⟨j, hj.symm⟩⟩
theorem v80_apply : (∀ j, val_main_v76 (F := Ideal) x0 x1 (ix5 n h g r j) ≤ val_main_v80 (F := Ideal) x0 x1 (ix4 n h g r))
    ∧ ∃ j, val_main_v76 (F := Ideal) x0 x1 (ix5 n h g r j) = val_main_v80 (F := Ideal) x0 x1 (ix4 n h g r) := by
  have e : val_main_v80 (F := Ideal) x0 x1 (ix4 n h g r) = Finset.univ.fold max ⊥ fun j => val_main_v76 (F := Ideal) x0 x1 (ix5 n h g r j) := by
    pointwise [val_main_v80, val_main_cst_10]
    rw [ofBits_neg_inf]
  rw [e]
  exact fold_max (k := 255) fun j => val_main_v76 (F := Ideal) x0 x1 (ix5 n h g r j)
theorem v85_apply : val_main_v85 (F := Ideal) x0 x1 (ix4 n h g r) ≠ 0 := by
  obtain ⟨j, hj⟩ := (v80_apply x0 x1 n h g r).2
  pointwise [val_main_v85, val_main_v84, val_main_v83, val_main_v82, val_main_v81, val_main_cst_11]
  have nn : ∀ b : Bool, (0 : EReal) ≤ FloatOps.uitofp (F := Ideal) FTy.f32 (BitVec.ofBool b) := fun b => by
    show (0 : EReal) ≤ (((BitVec.ofBool b).toNat : ℝ) : EReal)
    exact_mod_cast Nat.zero_le _
  have pos : (0 : EReal) < FloatOps.uitofp (F := Ideal) FTy.f32 (BitVec.ofBool (decide (val_main_v76 (F := Ideal) x0 x1 (ix5 n h g r j) = val_main_v80 (F := Ideal) x0 x1 (ix4 n h g r)))) := by
    rw [decide_eq_true hj]
    show (0 : EReal) < (((BitVec.ofBool true).toNat : ℝ) : EReal)
    exact_mod_cast Nat.one_pos
  exact (lt_of_lt_of_le pos (Finset.single_le_sum (f := fun x => FloatOps.uitofp (F := Ideal) FTy.f32 (BitVec.ofBool (decide (val_main_v76 (F := Ideal) x0 x1 (ix5 n h g r x) = val_main_v80 (F := Ideal) x0 x1 (ix4 n h g r))))) (fun _ _ => nn _) (Finset.mem_univ j))).ne'
end row
end Cert.AttnBwd

end
-- ==== Proof.Attn.Ref2.lean ====
module

public import proofs.«01_k».proof.Proof.Attn.Ref1

@[expose] public section

set_option maxRecDepth 16384

noncomputable section

namespace Cert.AttnBwd

open Idealize.ShloMosaic Idealize.SL.Sem Cert.ReferenceIdeal Cert.Finite
open Cert.ReferenceIdeal.Read

/-! # The reference's softmax and its gradient, row by row -/

variable (x0 : S4096x2048.Idx → EReal) (x1 x2 : S4096x256.Idx → EReal) (x3 : S1x32.Idx → EReal) (x4 : S4096x2048.Idx → EReal)
variable (n : Fin 32) (h : Fin 4) (g : Fin 8) (r : Fin 128)

/-- A row's scores, its sink's score, the gradients of its weights and its greatest score. -/
def τ' (j : Fin 256) : ℝ := (val_main_v60 (F := Ideal) x0 x1 (ix5 n h g r j)).toReal
def σ' : ℝ := (x3 (ix2 0 (head32 h g))).toReal
def α' (j : Fin 256) : ℝ := (val_main_v124 (F := Ideal) x2 x4 (ix5 n h g r j)).toReal
def M' : EReal := val_main_v80 (F := Ideal) x0 x1 (ix4 n h g r)

theorem v124_apply (j : Fin 256) : val_main_v124 (F := Ideal) x2 x4 (ix5 n h g r j)
    = ∑ d : Fin 64, x4 (ix2 (row n r) (colQ h g d)) * val_main_v56 (F := Ideal) x2 (ix4 n j h d) := by
  pointwise [val_main_v124, val_main_v123, val_main_v122]
  refine Finset.sum_congr rfl fun d _ => ?_
  rw [show (⟨n.val * 128 + r.val, by omega⟩ : Fin 4096) = row n r from fin_ext (by simp only []; omega),
    show (⟨h.val * 512 + g.val * 64 + d.val, by omega⟩ : Fin 2048) = colQ h g d from fin_ext (by simp only []; omega)]

variable (h0 : AllReal x0) (h1 : AllReal x1) (h2 : AllReal x2) (h3 : AllReal x3) (h4 : AllReal x4)

include h0 h1 in
theorem v60_eq (j : Fin 256) : val_main_v60 (F := Ideal) x0 x1 (ix5 n h g r j) = (τ' x0 x1 n h g r j : EReal) := by
  refine (IsReal.coe_toReal ?_).symm
  rw [v60_apply]
  exact (IsReal.sum _ fun d => (v50_real x1 h1 n j h d).mul (v44_real x0 h0 n r h g d)).mul isReal_eighth
include h3 in
theorem sink_eq : x3 (ix2 0 (head32 h g)) = (σ' x3 h g : EReal) := (h3 _).coe_toReal.symm
include h2 h4 in
theorem v124_eq (j : Fin 256) : val_main_v124 (F := Ideal) x2 x4 (ix5 n h g r j) = (α' x2 x4 n h g r j : EReal) := by
  refine (IsReal.coe_toReal ?_).symm
  rw [v124_apply]
  exact IsReal.sum _ fun d => (h4 _).mul (v56_real x2 h2 n j h d)

include h0 h1 in
theorem v76_eq (j : Fin 256) : val_main_v76 (F := Ideal) x0 x1 (ix5 n h g r j) = Row.score (mask n r) (τ' x0 x1 n h g r) j := by
  rw [v76_apply, v60_eq x0 x1 n h g r h0 h1]
  unfold Row.score
  rfl
include h0 h1 in
theorem hM : (∀ j, Row.score (mask n r) (τ' x0 x1 n h g r) j ≤ M' x0 x1 n h g r) ∧ ∃ j, Row.score (mask n r) (τ' x0 x1 n h g r) j = M' x0 x1 n h g r := by
  have := v80_apply x0 x1 n h g r
  simp only [v76_eq x0 x1 n h g r h0 h1] at this
  unfold M'
  exact this
include h3 in
theorem v86_eq : val_main_v86 (F := Ideal) x0 x1 x3 (ix4 n h g r) = Row.most (σ' x3 h g) (M' x0 x1 n h g r) := by
  rw [val_main_v86_apply, v79_apply, sink_eq x3 h g h3]
  unfold Row.most M'
  generalize val_main_v80 (F := Ideal) x0 x1 (ix4 n h g r) = y
  rfl
include h0 h1 h3 in
theorem v104_eq (j : Fin 256) : val_main_v104 (F := Ideal) x0 x1 x3 (ix5 n h g r j)
    = Row.expo (mask n r) (τ' x0 x1 n h g r) (σ' x3 h g) (M' x0 x1 n h g r) j := by
  pointwise [val_main_v104, val_main_v103, val_main_v102, val_main_v101]
  rw [v76_eq x0 x1 n h g r h0 h1, v86_eq x0 x1 x3 n h g r h3]
  unfold Row.expo
  with_reducible rfl
include h3 in
theorem v107_eq : val_main_v107 (F := Ideal) x0 x1 x3 (ix4 n h g r) = Row.expoSink (σ' x3 h g) (M' x0 x1 n h g r) := by
  pointwise [val_main_v107, val_main_v106, v79_apply]
  rw [v86_eq x0 x1 x3 n h g r h3, sink_eq x3 h g h3]
  unfold Row.expoSink
  with_reducible rfl
include h0 h1 h3 in
theorem v108_eq : val_main_v108 (F := Ideal) x0 x1 x3 (ix4 n h g r)
    = Row.den (mask n r) (τ' x0 x1 n h g r) (σ' x3 h g) (M' x0 x1 n h g r) := by
  pointwise [val_main_v108, val_main_v105, val_main_cst_18]
  rw [v107_eq x0 x1 x3 n h g r h3]
  simp only [v104_eq x0 x1 x3 n h g r h0 h1 h3]
  unfold Row.den
  rw [zero_add]
include h0 h1 h3 in
theorem v111_eq (j : Fin 256) : val_main_v111 (F := Ideal) x0 x1 x3 (ix5 n h g r j)
    = Row.prob (mask n r) (τ' x0 x1 n h g r) (σ' x3 h g) (M' x0 x1 n h g r) j := by
  pointwise [val_main_v111, val_main_v110, val_main_v109]
  rw [v104_eq x0 x1 x3 n h g r h0 h1 h3, v108_eq x0 x1 x3 n h g r h0 h1 h3]
  unfold Row.prob
  with_reducible rfl
include h0 h1 h3 in
theorem v118_eq : val_main_v118 (F := Ideal) x0 x1 x3 (ix4 n h g r)
    = Row.lse (mask n r) (τ' x0 x1 n h g r) (σ' x3 h g) (M' x0 x1 n h g r) := by
  rw [val_main_v118_apply, val_main_v117_apply, v86_eq x0 x1 x3 n h g r h3, v108_eq x0 x1 x3 n h g r h0 h1 h3]
  unfold Row.lse
  generalize Row.most (σ' x3 h g) (M' x0 x1 n h g r) = y
  generalize Row.den (mask n r) (τ' x0 x1 n h g r) (σ' x3 h g) (M' x0 x1 n h g r) = z
  rfl
include h0 h1 h2 h3 h4 in
theorem v135_eq : val_main_v135 (F := Ideal) x0 x1 x2 x3 x4 (ix4 n h g r)
    = Row.dDen (mask n r) (τ' x0 x1 n h g r) (α' x2 x4 n h g r) (σ' x3 h g) (M' x0 x1 n h g r) := by
  pointwise [val_main_v135, val_main_v132, val_main_v131, val_main_v130, val_main_v129, val_main_v128, val_main_v127, val_main_v114, val_main_v113, val_main_v112, val_main_v109, val_main_cst_21, val_main_cst_20, val_main_cst_19]
  simp only [v108_eq x0 x1 x3 n h g r h0 h1 h3, v104_eq x0 x1 x3 n h g r h0 h1 h3, v124_eq x2 x4 n h g r h2 h4]
  unfold Row.dDen
  simp only [zero_add, Fin.sum_univ_one]
include h0 h1 h2 h3 h4 in
theorem v136_eq : val_main_v136 (F := Ideal) x0 x1 x2 x3 x4 (ix4 n h g r)
    = Row.dSink (mask n r) (τ' x0 x1 n h g r) (α' x2 x4 n h g r) (σ' x3 h g) (M' x0 x1 n h g r) := by
  pointwise [val_main_v136]
  rw [v135_eq x0 x1 x2 x3 x4 n h g r h0 h1 h2 h3 h4, v107_eq x0 x1 x3 n h g r h3]
  unfold Row.dSink
  with_reducible rfl
include h0 h1 h2 h3 h4 in
theorem v140_eq (j : Fin 256) : val_main_v140 (F := Ideal) x0 x1 x2 x3 x4 (ix5 n h g r j)
    = Row.dScore (mask n r) (τ' x0 x1 n h g r) (α' x2 x4 n h g r) (σ' x3 h g) (M' x0 x1 n h g r) j := by
  pointwise [val_main_v140, val_main_v139, val_main_v138, val_main_v134, val_main_v133, val_main_v109]
  rw [v135_eq x0 x1 x2 x3 x4 n h g r h0 h1 h2 h3 h4, v108_eq x0 x1 x3 n h g r h0 h1 h3, v104_eq x0 x1 x3 n h g r h0 h1 h3, v124_eq x2 x4 n h g r h2 h4]
  unfold Row.dScore
  with_reducible rfl
include h0 h1 h2 h3 h4 in
/-- What the chain rule sends into the greatest score. -/
theorem v145_eq : val_main_v145 (F := Ideal) x0 x1 x2 x3 x4 (ix4 n h g r) = 0 := by
  refine Eq.trans ?_ (Row.dMost_eq (α := α' x2 x4 n h g r) (hM x0 x1 n h g r h0 h1) (σ := σ' x3 h g))
  pointwise [val_main_v145, val_main_v144, val_main_v143, val_main_v142, val_main_v141, val_main_v137, val_main_cst_22, val_main_cst_23]
  rw [v136_eq x0 x1 x2 x3 x4 n h g r h0 h1 h2 h3 h4]
  simp only [v140_eq x0 x1 x2 x3 x4 n h g r h0 h1 h2 h3 h4]
  unfold Row.dMost
  simp only [zero_add, Fin.sum_univ_one]
include h0 h1 h2 h3 h4 in
theorem v147_eq : val_main_v147 (F := Ideal) x0 x1 x2 x3 x4 (ix4 n h g r)
    = Row.dSink (mask n r) (τ' x0 x1 n h g r) (α' x2 x4 n h g r) (σ' x3 h g) (M' x0 x1 n h g r) := by
  pointwise [val_main_v147, val_main_v146]
  rw [v145_eq x0 x1 x2 x3 x4 n h g r h0 h1 h2 h3 h4, v136_eq x0 x1 x2 x3 x4 n h g r h0 h1 h2 h3 h4]
  exact (congrArg _ (zero_mul _)).trans (add_zero _)
include h0 h1 h2 h3 h4 in
theorem v159_eq (j : Fin 256) : val_main_v159 (F := Ideal) x0 x1 x2 x3 x4 (ix5 n h g r j)
    = Row.dScore (mask n r) (τ' x0 x1 n h g r) (α' x2 x4 n h g r) (σ' x3 h g) (M' x0 x1 n h g r) j * eighth := by
  pointwise [val_main_v159, val_main_v158, val_main_v157, val_main_v156, val_main_v152, val_main_v151, val_main_v150, val_main_v149, val_main_v148, val_main_cst_25, val_main_cst_26, v74_apply]
  rw [v145_eq x0 x1 x2 x3 x4 n h g r h0 h1 h2 h3 h4, v140_eq x0 x1 x2 x3 x4 n h g r h0 h1 h2 h3 h4]
  have z : Ideal.div (0 * val_main_v93 (F := Ideal) x0 x1 x3 (ix4 n h g r)) (val_main_v85 (F := Ideal) x0 x1 (ix4 n h g r)) * val_main_v84 (F := Ideal) x0 x1 (ix5 n h g r j) = 0 := by
    unfold Ideal.div
    rw [if_neg (v85_apply x0 x1 n h g r), zero_mul, zero_mul, zero_mul]
  rw [z, add_zero]
  cases hm : mask n r j with
  | true => rw [if_pos rfl]
  | false => rw [if_neg (by decide), Row.dScore_masked _ (hM x0 x1 n h g r h0 h1) (σ := σ' x3 h g) j hm]

end Cert.AttnBwd

end
-- ==== Proof.Attn.Ref3.lean ====
module

public import proofs.«01_k».proof.Proof.Attn.Ref2
public import Idealize.ShloMosaic.Lib.TwoAxisContraction

@[expose] public section

set_option maxRecDepth 16384

noncomputable section

namespace Cert.AttnBwd

open Idealize.ShloMosaic Idealize.SL.Sem Cert.ReferenceIdeal Cert.Finite
open Cert.ReferenceIdeal.Read

/-! # The reference's results, entry by entry -/

variable (x0 : S4096x2048.Idx → EReal) (x1 x2 : S4096x256.Idx → EReal) (x3 : S1x32.Idx → EReal) (x4 : S4096x2048.Idx → EReal)
variable (n : Fin 32) (h : Fin 4)

theorem v119_apply (g : Fin 8) (r : Fin 128) (d : Fin 64) : val_main_v119 (F := Ideal) x0 x1 x2 x3 (ix2 (row n r) (colQ h g d))
    = ∑ j : Fin 256, val_main_v56 (F := Ideal) x2 (ix4 n j h d) * val_main_v111 (F := Ideal) x0 x1 x3 (ix5 n h g r j) := by
  rw [show (row n r : Fin 4096) = ⟨n.val * 128 + r.val, by omega⟩ from fin_ext (by simp only []; omega),
    show colQ h g d = ⟨h.val * 512 + g.val * 64 + d.val, by omega⟩ from fin_ext (by simp only []; omega)]
  pointwise [val_main_v119, val_main_v116, val_main_v115]
theorem v121_apply (g : Fin 8) (r : Fin 128) : val_main_v121 (F := Ideal) x0 x1 x3 (ix2 (row n r) (head32 h g))
    = val_main_v118 (F := Ideal) x0 x1 x3 (ix4 n h g r) := by
  rw [show (row n r : Fin 4096) = ⟨n.val * 128 + r.val, by omega⟩ from fin_ext (by simp only []; omega),
    show head32 h g = ⟨h.val * 8 + g.val, by omega⟩ from fin_ext (by simp only []; omega)]
  pointwise [val_main_v121, val_main_v120]
theorem v162_apply (g : Fin 8) (r : Fin 128) (d : Fin 64) : val_main_v162 (F := Ideal) x0 x1 x2 x3 x4 (ix5 n r h g d)
    = ∑ j : Fin 256, val_main_v159 (F := Ideal) x0 x1 x2 x3 x4 (ix5 n h g r j) * val_main_v50 (F := Ideal) x1 (ix4 n j h d) := by
  pointwise [val_main_v162, val_main_v161, val_main_v160]
theorem v164_apply (j : Fin 256) (d : Fin 64) : val_main_v164 (F := Ideal) x0 x1 x2 x3 x4 (ix4 n j h d)
    = ∑ g : Fin 8, ∑ r : Fin 128, val_main_v159 (F := Ideal) x0 x1 x2 x3 x4 (ix5 n h g r j) * val_main_v44 (F := Ideal) x0 (ix5 n r h g d) := by
  rw [Finset.sum_comm]
  pointwise [val_main_v164, val_main_v163, val_main_v160]
theorem v126_apply (j : Fin 256) (d : Fin 64) : val_main_v126 (F := Ideal) x0 x1 x3 x4 (ix4 n j h d)
    = ∑ g : Fin 8, ∑ r : Fin 128, x4 (ix2 (row n r) (colQ h g d)) * val_main_v111 (F := Ideal) x0 x1 x3 (ix5 n h g r j) := by
  pointwise [val_main_v126, val_main_v125, val_main_v123, val_main_v122]
  refine Finset.sum_congr rfl fun g _ => Finset.sum_congr rfl fun r _ => ?_
  rw [show (⟨n.val * 128 + r.val, by omega⟩ : Fin 4096) = row n r from fin_ext (by simp only []; omega),
    show (⟨h.val * 512 + g.val * 64 + d.val, by omega⟩ : Fin 2048) = colQ h g d from fin_ext (by simp only []; omega)]

/-- The gradient of a block's values and keys: the part from its own queries and the part from the next block's. -/
theorem v180_apply (r : Fin 128) (d : Fin 64) : val_main_v180 (F := Ideal) x0 x1 x3 x4 (ix2 (row n r) (colK h d))
    = val_main_v126 (F := Ideal) x0 x1 x3 x4 (ix4 n ⟨128 + r.val, by omega⟩ h d)
      + if hn : n.val < 31 then val_main_v126 (F := Ideal) x0 x1 x3 x4 (ix4 ⟨n.val + 1, by omega⟩ ⟨r.val, by omega⟩ h d) else 0 := by
  rw [show (row n r : Fin 4096) = ⟨n.val * 128 + r.val, by omega⟩ from fin_ext (by simp only []; omega),
    show colK h d = ⟨h.val * 64 + d.val, by omega⟩ from fin_ext (by simp only []; omega)]
  pointwise [val_main_v180, val_main_v171, val_main_v170, val_main_v169, val_main_v168, val_main_v166, val_main_v165, val_main_cst_27]
  by_cases hn : n.val < 31
  · rw [dif_pos hn, dif_pos hn, show (⟨1 + n.val, by omega⟩ : Fin 32) = ⟨n.val + 1, by omega⟩ from fin_ext (by simp only []; omega)]
  · rw [dif_neg hn, dif_neg hn]
theorem v178_apply (r : Fin 128) (d : Fin 64) : val_main_v178 (F := Ideal) x0 x1 x2 x3 x4 (ix3 (row n r) h d)
    = val_main_v164 (F := Ideal) x0 x1 x2 x3 x4 (ix4 n ⟨128 + r.val, by omega⟩ h d)
      + if hn : n.val < 31 then val_main_v164 (F := Ideal) x0 x1 x2 x3 x4 (ix4 ⟨n.val + 1, by omega⟩ ⟨r.val, by omega⟩ h d) else 0 := by
  rw [show (row n r : Fin 4096) = ⟨n.val * 128 + r.val, by omega⟩ from fin_ext (by simp only []; omega)]
  pointwise [val_main_v178, val_main_v177, val_main_v176, val_main_v175, val_main_v173, val_main_v172, val_main_cst_28]
  by_cases hn : n.val < 31
  · rw [dif_pos hn, dif_pos hn, show (⟨1 + n.val, by omega⟩ : Fin 32) = ⟨n.val + 1, by omega⟩ from fin_ext (by simp only []; omega)]
  · rw [dif_neg hn, dif_neg hn]
theorem turnBack_split (C S : Fin 32 → EReal) (x : Fin 64 → EReal) (d : Fin 64) (p q : Prop) [Decidable p] [Decidable q]
    (hp : p ↔ 32 ≤ d.val) (hq : q ↔ d.val < 32) :
    (if h : p then x ⟨32 + (d.val - 32), by have := hp.1 h; omega⟩ * C ⟨d.val - 32, by omega⟩ + -x ⟨d.val - 32, by omega⟩ * S ⟨d.val - 32, by omega⟩ else 0)
      + (if h : q then x ⟨32 + d.val, by have := hq.1 h; omega⟩ * S ⟨d.val, hq.1 h⟩ + x d * C ⟨d.val, hq.1 h⟩ else 0) = turnBack C S x d := by
  unfold turnBack
  have := d.isLt
  by_cases h : d.val < 32
  · rw [dif_neg (fun e => by have := hp.1 e; omega), dif_pos (hq.2 h), if_pos h, show half d = ⟨d.val, h⟩ from Fin.ext (Nat.mod_eq_of_lt h),
      show flip d = ⟨32 + d.val, by omega⟩ from Fin.ext (show (d.val + 32) % 64 = 32 + d.val by omega), zero_add, add_comm]
  · rw [dif_pos (hp.2 (by omega)), dif_neg (fun e => h (hq.1 e)), if_neg h, show half d = ⟨d.val - 32, by omega⟩ from Fin.ext (show d.val % 32 = d.val - 32 by omega),
      show flip d = ⟨d.val - 32, by omega⟩ from Fin.ext (show (d.val + 32) % 64 = d.val - 32 by omega), add_zero,
      show (⟨32 + (d.val - 32), by omega⟩ : Fin 64) = d from Fin.ext (show 32 + (d.val - 32) = d.val by omega)]
theorem v193_apply (t : Fin 4096) (d : Fin 64) : val_main_v193 (F := Ideal) x0 x1 x2 x3 x4 (ix2 t (colK h d))
    = turnBack (cosT t) (sinT t) (fun d => val_main_v178 (F := Ideal) x0 x1 x2 x3 x4 (ix3 t h d)) d := by
  rw [show colK h d = ⟨h.val * 64 + d.val, by omega⟩ from fin_ext (by simp only []; omega)]
  pointwise [val_main_v193, val_main_v192, val_main_v191, val_main_v190, val_main_v189, val_main_v188, val_main_v187, val_main_v186, val_main_v185, val_main_v184, val_main_v183, val_main_v182, val_main_v181, val_main_v33, val_main_v32, val_main_v31, val_main_v30, val_main_cst_29, val_main_cst_30]
  exact turnBack_split (cosT t) (sinT t) (fun d => val_main_v178 (F := Ideal) x0 x1 x2 x3 x4 (ix3 t h d)) d _ _ ⟨fun e => e.1, fun e => ⟨e, by omega⟩⟩ Iff.rfl
theorem v206_apply (g : Fin 8) (r : Fin 128) (d : Fin 64) : val_main_v206 (F := Ideal) x0 x1 x2 x3 x4 (ix2 (row n r) (colQ h g d))
    = turnBack (cosT (row n r)) (sinT (row n r)) (fun d => val_main_v162 (F := Ideal) x0 x1 x2 x3 x4 (ix5 n r h g d)) d := by
  rw [show (row n r : Fin 4096) = ⟨n.val * 128 + r.val, by omega⟩ from fin_ext (by simp only []; omega),
    show colQ h g d = ⟨h.val * 512 + g.val * 64 + d.val, by omega⟩ from fin_ext (by simp only []; omega)]
  pointwise [val_main_v206, val_main_v205, val_main_v204, val_main_v203, val_main_v202, val_main_v201, val_main_v200, val_main_v199, val_main_v198, val_main_v197, val_main_v196, val_main_v195, val_main_v194, val_main_v179, val_main_v19, val_main_v18, val_main_v17, val_main_v16, val_main_cst_31, val_main_cst_32]
  exact turnBack_split (cosT ⟨n.val * 128 + r.val, by omega⟩) (sinT ⟨n.val * 128 + r.val, by omega⟩) (fun d => val_main_v162 (F := Ideal) x0 x1 x2 x3 x4 (ix5 n r h g d)) d _ _
    ⟨fun e => e.2.2.1, fun e => ⟨by omega, by omega, e, by omega⟩⟩ ⟨fun e => e.2.2, fun e => ⟨by omega, by omega, e⟩⟩
theorem v155_apply (g : Fin 8) : val_main_v155 (F := Ideal) x0 x1 x2 x3 x4 (ix1 (head32 h g))
    = ∑ n : Fin 32, ∑ r : Fin 128, val_main_v147 (F := Ideal) x0 x1 x2 x3 x4 (ix4 n h g r) := by
  rw [show head32 h g = ⟨h.val * 8 + g.val, by omega⟩ from fin_ext (by simp only []; omega)]
  pointwise [val_main_v155, val_main_v154, val_main_v153, val_main_cst_24]
  unfold Ideal.hostReduceAdd
  rw [zero_add, ← Fintype.sum_prod_type']
  have kept : ∀ i : S32x4x8x128.Idx, Gen.reducesTo_S32x4x8x128_S4x8_d0_3.drop i = ix2 (i 1) (i 2) := fun i => funext fun a => by
    match a with
    | ⟨0, _⟩ => rfl
    | ⟨1, _⟩ => rfl
  refine Finset.sum_nbij' (fun i => (i 0, i 3)) (fun p => ix4 p.1 h g p.2) (fun _ _ => Finset.mem_univ _) (fun p _ => ?_) (fun i hi => ?_) (fun p _ => rfl) (fun i hi => ?_)
  · exact Finset.mem_filter.2 ⟨Finset.mem_univ _, kept _⟩
  · have e := (kept i).symm.trans (Finset.mem_filter.1 hi).2
    have e1 : i 1 = h := congrFun e 0
    have e2 : i 2 = g := congrFun e 1
    rw [← e1, ← e2]
    exact funext fun a => by
      match a with
      | ⟨0, _⟩ => rfl
      | ⟨1, _⟩ => rfl
      | ⟨2, _⟩ => rfl
      | ⟨3, _⟩ => rfl
  · have e := (kept i).symm.trans (Finset.mem_filter.1 hi).2
    have e1 : i 1 = h := congrFun e 0
    have e2 : i 2 = g := congrFun e 1
    rw [← e1, ← e2]
    refine congrArg _ (funext fun a => ?_)
    match a with
    | ⟨0, _⟩ => rfl
    | ⟨1, _⟩ => rfl
    | ⟨2, _⟩ => rfl
    | ⟨3, _⟩ => rfl
end Cert.AttnBwd

end
-- ==== Proof.Attn.Match.lean ====
module

public import proofs.«01_k».proof.Proof.Attn.Ref3

@[expose] public section

set_option maxRecDepth 16384

noncomputable section

namespace Cert.AttnBwd

open Idealize.ShloMosaic Idealize.SL.Sem Cert.ReferenceIdeal Cert.Finite
open Cert.ReferenceIdeal.Read

/-! # One block of the kernel computes the reference's values of that block -/

/-- The block before, at the first block the block itself. -/
abbrev before (n : Fin 32) : Fin 32 := ⟨n.val - 1, by omega⟩

/-- The blocks the body reads are block `n` of the arrays, the keys and values those of the previous block too. -/
structure IsBlock (B : Blocks Ideal) (i : Cert.KernelIdeal.grid0.Coords) (n : Fin 32) (x0 : S4096x2048.Idx → EReal) (x1 x2 : S4096x256.Idx → EReal)
    (x3 : S1x32.Idx → EReal) (x4 : S4096x2048.Idx → EReal) : Prop where
  point : (i 0).val = n.val
  q : ∀ r c, B.q (ix2 r c) = x0 (ix2 (row n r) c)
  kc : ∀ r c, B.kc (ix2 r c) = x1 (ix2 (row n r) c)
  kp : ∀ r c, B.kp (ix2 r c) = x1 (ix2 (row (before n) r) c)
  vc : ∀ r c, B.vc (ix2 r c) = x2 (ix2 (row n r) c)
  vp : ∀ r c, B.vp (ix2 r c) = x2 (ix2 (row (before n) r) c)
  now : ∀ r, Blocks.Turns (cosT (row n r)) (sinT (row n r)) r B.cc B.sc
  old : ∀ r, Blocks.Turns (cosT (row (before n) r)) (sinT (row (before n) r)) r B.cp B.sp
  sink : ∀ e, B.sink (ix2 0 e) = x3 (ix2 0 e)
  o : ∀ r c, B.o (ix2 r c) = val_main_v119 (F := Ideal) x0 x1 x2 x3 (ix2 (row n r) c)
  lse : ∀ r e, B.lse (ix2 r e) = val_main_v121 (F := Ideal) x0 x1 x3 (ix2 (row n r) e)
  dout : ∀ r c, B.dout (ix2 r c) = x4 (ix2 (row n r) c)

variable {x0 : S4096x2048.Idx → EReal} {x1 x2 : S4096x256.Idx → EReal} {x3 : S1x32.Idx → EReal} {x4 : S4096x2048.Idx → EReal}
variable {B : Blocks Ideal} {i : Cert.KernelIdeal.grid0.Coords} {n : Fin 32} (H : IsBlock B i n x0 x1 x2 x3 x4)
variable (h : Fin 4) (g : Fin 8) (r : Fin 128)
include H

theorem q8_eq (d : Fin 64) : B.q8 h (ix2 (row8 g r) d) = val_main_v44 (F := Ideal) x0 (ix5 n r h g d) := by
  rw [v44_apply, B.q8_apply h (cosT (row n r)) (sinT (row n r)) r g d (H.now r)]
  simp only [H.q]

theorem k8_eq (j : Fin 256) (hj : 0 < n.val ∨ 128 ≤ j.val) (d : Fin 64) : B.k8 h (ix2 j d) = val_main_v50 (F := Ideal) x1 (ix4 n j h d) := by
  rcases key_cases j with ⟨r, rfl⟩ | ⟨r, rfl⟩
  · rw [v50_top x1 n (by rcases hj with hj | hj; exact hj; exact absurd hj (by simp only []; omega)),
      B.k8_top h (cosT (row (before n) r)) (sinT (row (before n) r)) r d (H.old r)]
    simp only [H.kp]
  · rw [v50_bot, B.k8_bot h (cosT (row n r)) (sinT (row n r)) r d (H.now r)]
    simp only [H.kc]

theorem v8_eq (j : Fin 256) (hj : 0 < n.val ∨ 128 ≤ j.val) (d : Fin 64) : B.v8 h (ix2 j d) = val_main_v56 (F := Ideal) x2 (ix4 n j h d) := by
  rcases key_cases j with ⟨r, rfl⟩ | ⟨r, rfl⟩
  · rw [v56_top x2 n (by rcases hj with hj | hj; exact hj; exact absurd hj (by simp only []; omega)), B.v8_top h r d, H.vp]
  · rw [v56_bot, B.v8_bot h r d, H.vc]

variable (h0 : AllReal x0) (h1 : AllReal x1) (h2 : AllReal x2) (h3 : AllReal x3) (h4 : AllReal x4)

include h0 h1 h3 in
theorem probs_eq (j : Fin 256) : B.probs i h (ix2 (row8 g r) j) = val_main_v111 (F := Ideal) x0 x1 x3 (ix5 n h g r j) := by
  rw [B.probs_apply, v111_eq x0 x1 x3 n h g r h0 h1 h3, H.point]
  cases hm : mask n r j with
  | true =>
    have c : r.val < j.val ∧ j.val ≤ r.val + 128 ∧ (0 < n.val ∨ 128 ≤ j.val) := of_decide_eq_true hm
    refine (if_pos c).trans ?_
    rw [← Row.prob_eq (hM x0 x1 n h g r h0 h1) (σ := σ' x3 h g) j hm, ← v60_eq x0 x1 n h g r h0 h1, v60_apply,
      H.lse, v121_apply, v118_eq x0 x1 x3 n h g r h0 h1 h3]
    have e : ∑ d : Fin 64, B.q8 h (ix2 (row8 g r) d) * B.k8 h (ix2 j d)
        = ∑ d : Fin 64, val_main_v50 (F := Ideal) x1 (ix4 n j h d) * val_main_v44 (F := Ideal) x0 (ix5 n r h g d) :=
      Finset.sum_congr rfl fun d _ => by rw [q8_eq H, k8_eq H h j c.2.2, mul_comm]
    rw [e]
  | false =>
    have c : ¬(r.val < j.val ∧ j.val ≤ r.val + 128 ∧ (0 < n.val ∨ 128 ≤ j.val)) := of_decide_eq_false hm
    refine (if_neg c).trans ?_
    rw [Row.prob_masked (hM x0 x1 n h g r h0 h1) (σ := σ' x3 h g) j hm]

include h0 h1 h2 h3 h4 in
/-- The product of the output with its gradient is the weighted sum of the weights' gradients. -/
theorem delta_eq : B.delta h (ix2 (row8 g r) 0)
    = ∑ j, Row.prob (mask n r) (τ' x0 x1 n h g r) (σ' x3 h g) (M' x0 x1 n h g r) j * (α' x2 x4 n h g r j : EReal) := by
  have hp : ∀ j, IsReal (Row.prob (mask n r) (τ' x0 x1 n h g r) (σ' x3 h g) (M' x0 x1 n h g r) j) := fun j => by
    obtain ⟨μ, δ, γ, ε, hμ, he, hc, hd, hδ, -⟩ := Row.reals (hM x0 x1 n h g r h0 h1) (σ := σ' x3 h g)
    unfold Row.prob
    rw [he, hd]
    exact (isReal_coe _).div (isReal_coe _) (by exact_mod_cast hδ.ne')
  rw [B.delta_apply]
  simp only [H.dout, H.o, v119_apply, v111_eq x0 x1 x3 n h g r h0 h1 h3, ← v124_eq x2 x4 n h g r h2 h4, v124_apply]
  choose a ha using fun d => h4 (ix2 (row n r) (colQ h g d))
  choose p hp using hp
  choose v hv using fun (j : Fin 256) (d : Fin 64) => v56_real x2 h2 n j h d
  simp only [ha, hp, hv, ← EReal.coe_mul, ← Row.coe_sum]
  congr 1
  simp only [Finset.mul_sum]
  rw [Finset.sum_comm]
  exact Finset.sum_congr rfl fun j _ => Finset.sum_congr rfl fun d _ => by ring

include h0 h1 h2 h3 h4 in
theorem ds_eq (j : Fin 256) : B.ds i h (ix2 (row8 g r) j) = val_main_v159 (F := Ideal) x0 x1 x2 x3 x4 (ix5 n h g r j) := by
  rw [B.ds_apply, v159_eq x0 x1 x2 x3 x4 n h g r h0 h1 h2 h3 h4, probs_eq H h g r h0 h1 h3, v111_eq x0 x1 x3 n h g r h0 h1 h3,
    delta_eq H h g r h0 h1 h2 h3 h4]
  cases hm : mask n r j with
  | true =>
    have c : r.val < j.val ∧ j.val ≤ r.val + 128 ∧ (0 < n.val ∨ 128 ≤ j.val) := of_decide_eq_true hm
    rw [← Row.score_eq (α' x2 x4 n h g r) (hM x0 x1 n h g r h0 h1) (σ := σ' x3 h g), ← v124_eq x2 x4 n h g r h2 h4 j, v124_apply]
    refine congrArg (fun s => _ * (s - _) * eighth) (Finset.sum_congr rfl fun d _ => ?_)
    rw [H.dout, v8_eq H h j c.2.2]
  | false =>
    rw [Row.prob_masked (hM x0 x1 n h g r h0 h1) (σ := σ' x3 h g) j hm, Row.dScore_masked _ (hM x0 x1 n h g r h0 h1) (σ := σ' x3 h g) j hm, zero_mul]

include h0 h1 h2 h3 h4 in
theorem ds_zero (j : Fin 256) (hm : mask n r j = false) : B.ds i h (ix2 (row8 g r) j) = 0 := by
  rw [ds_eq H h g r h0 h1 h2 h3 h4, v159_eq x0 x1 x2 x3 x4 n h g r h0 h1 h2 h3 h4, Row.dScore_masked _ (hM x0 x1 n h g r h0 h1) (σ := σ' x3 h g) j hm, zero_mul]

include h0 h1 h2 h3 h4 in
theorem dq8_eq (d : Fin 64) : B.dq8 i h (ix2 (row8 g r) d) = val_main_v162 (F := Ideal) x0 x1 x2 x3 x4 (ix5 n r h g d) := by
  rw [B.dq8_apply, v162_apply]
  refine Finset.sum_congr rfl fun j _ => ?_
  cases hm : mask n r j with
  | true =>
    have c : r.val < j.val ∧ j.val ≤ r.val + 128 ∧ (0 < n.val ∨ 128 ≤ j.val) := of_decide_eq_true hm
    rw [ds_eq H h g r h0 h1 h2 h3 h4, k8_eq H h j c.2.2]
  | false => rw [← ds_eq H h g r h0 h1 h2 h3 h4, ds_zero H h g r h0 h1 h2 h3 h4 j hm, zero_mul, zero_mul]

include h0 h1 h2 h3 h4 in
theorem dk8_eq (j : Fin 256) (d : Fin 64) : B.dk8 i h (ix2 j d) = val_main_v164 (F := Ideal) x0 x1 x2 x3 x4 (ix4 n j h d) := by
  rw [B.dk8_apply, v164_apply]
  refine Finset.sum_congr rfl fun g _ => Finset.sum_congr rfl fun r _ => ?_
  rw [ds_eq H h g r h0 h1 h2 h3 h4, q8_eq H]

include h0 h1 h3 in
theorem dv8_eq (j : Fin 256) (d : Fin 64) : B.dv8 i h (ix2 j d) = val_main_v126 (F := Ideal) x0 x1 x3 x4 (ix4 n j h d) := by
  rw [B.dv8_apply, v126_apply]
  refine Finset.sum_congr rfl fun g _ => Finset.sum_congr rfl fun r _ => ?_
  rw [probs_eq H h g r h0 h1 h3, H.dout, mul_comm]

include h0 h1 h2 h3 h4 in
theorem dsink8_eq : B.dsink8 h (ix2 (row8 g r) 0) = val_main_v147 (F := Ideal) x0 x1 x2 x3 x4 (ix4 n h g r) := by
  rw [B.dsink8_apply, v147_eq x0 x1 x2 x3 x4 n h g r h0 h1 h2 h3 h4, ← Row.dSink_eq (α' x2 x4 n h g r) (hM x0 x1 n h g r h0 h1) (σ := σ' x3 h g),
    delta_eq H h g r h0 h1 h2 h3 h4, H.lse, v121_apply, v118_eq x0 x1 x3 n h g r h0 h1 h3, H.sink, sink_eq x3 h g h3]

end Cert.AttnBwd

end
-- ==== Proof.Attn.Columns.lean ====
module

public import proofs.«01_k».proof.Proof.Attn.Match

@[expose] public section

set_option maxRecDepth 16384

noncomputable section

namespace Cert.AttnBwd

open Idealize.ShloMosaic Idealize.SL.Sem Cert.KernelIdeal Cert.KernelIdeal.Gen Cert.Finite
open Cert.ReferenceIdeal.Read

/-! # What one block adds to each result, column by column -/

theorem kvHead_col (r : Fin 128) (h : Fin 4) (d : Fin 64) : Blocks.kvHead (ix2 r (colK h d)) = h :=
  Fin.ext (show (64 * h.val + d.val) / 64 = h.val by omega)
theorem kvAt_col (top : Nat) (ht : top ≤ 128) (r : Fin 128) (h : Fin 4) (d : Fin 64) :
    Blocks.kvAt top ht (ix2 r (colK h d)) = ix2 ⟨top + r.val, by omega⟩ d :=
  congrArg (ix2 _) (Fin.ext (show (64 * h.val + d.val) % 64 = d.val by omega))
theorem qHead_col (r : Fin 128) (h : Fin 4) (g : Fin 8) (d : Fin 64) : Blocks.qHead (ix2 r (colQ h g d)) = h :=
  Fin.ext (show (512 * h.val + 64 * g.val + d.val) / 512 = h.val by omega)
theorem qAt_col (r : Fin 128) (h : Fin 4) (g : Fin 8) (d : Fin 64) : Blocks.qAt (ix2 r (colQ h g d)) = ix2 (row8 g r) d :=
  congrArg₂ ix2 (Fin.ext (show 128 * ((512 * h.val + 64 * g.val + d.val) / 64 % 8) + r.val = 128 * g.val + r.val by omega))
    (Fin.ext (show (512 * h.val + 64 * g.val + d.val) % 64 = d.val by omega))

section
variable {x0 : Cert.ReferenceIdeal.S4096x2048.Idx → EReal} {x1 x2 : Cert.ReferenceIdeal.S4096x256.Idx → EReal} {x3 : Cert.ReferenceIdeal.S1x32.Idx → EReal} {x4 : Cert.ReferenceIdeal.S4096x2048.Idx → EReal}
variable {B : Blocks Ideal} {i : grid0.Coords} {n : Fin 32} (H : IsBlock B i n x0 x1 x2 x3 x4)
variable (h0 : AllReal x0) (h1 : AllReal x1) (h2 : AllReal x2) (h3 : AllReal x3) (h4 : AllReal x4)
variable (h : Fin 4) (g : Fin 8) (r : Fin 128) (d : Fin 64)
include H h0 h1 h3

theorem dvTop_eq : B.dvTop i (ix2 r (colK h d)) = val_main_v126 (F := Ideal) x0 x1 x3 x4 (ix4 n ⟨r.val, by omega⟩ h d) := by
  unfold Blocks.dvTop
  rw [kvHead_col, kvAt_col, dv8_eq H h h0 h1 h3]
  exact congrArg (fun j => val_main_v126 (F := Ideal) x0 x1 x3 x4 (ix4 n j h d)) (Fin.ext (Nat.zero_add _))
theorem dvBot_eq : B.dvBot i (ix2 r (colK h d)) = val_main_v126 (F := Ideal) x0 x1 x3 x4 (ix4 n ⟨128 + r.val, by omega⟩ h d) := by
  unfold Blocks.dvBot
  rw [kvHead_col, kvAt_col, dv8_eq H h h0 h1 h3]

include h2 h4
theorem dqPre_eq : B.dqPre i (ix2 r (colQ h g d)) = val_main_v162 (F := Ideal) x0 x1 x2 x3 x4 (ix5 n r h g d) := by
  unfold Blocks.dqPre
  rw [qHead_col, qAt_col, dq8_eq H h g r h0 h1 h2 h3 h4]
theorem dkTop_eq : B.dkTop i (ix2 r (colK h d)) = val_main_v164 (F := Ideal) x0 x1 x2 x3 x4 (ix4 n ⟨r.val, by omega⟩ h d) := by
  unfold Blocks.dkTop
  rw [kvHead_col, kvAt_col, dk8_eq H h h0 h1 h2 h3 h4]
  exact congrArg (fun j => val_main_v164 (F := Ideal) x0 x1 x2 x3 x4 (ix4 n j h d)) (Fin.ext (Nat.zero_add _))
theorem dkBot_eq : B.dkBot i (ix2 r (colK h d)) = val_main_v164 (F := Ideal) x0 x1 x2 x3 x4 (ix4 n ⟨128 + r.val, by omega⟩ h d) := by
  unfold Blocks.dkBot
  rw [kvHead_col, kvAt_col, dk8_eq H h h0 h1 h2 h3 h4]

/-- The block's addition to the sums of the sink's gradient. -/
theorem sinkOut_eq (y : Vec Ideal S8x32 .f32) (e : Fin 8) : B.sinkOut y (ix2 e (head32 h g))
    = y (ix2 e (head32 h g)) + ∑ s : Fin 16, val_main_v147 (F := Ideal) x0 x1 x2 x3 x4 (ix4 n h g ⟨8 * s.val + e.val, by omega⟩) := by
  have a : Blocks.sHead (ix2 e (head32 h g)) = h := Fin.ext (show (8 * h.val + g.val) / 8 = h.val by omega)
  have b : Blocks.sQ (ix2 e (head32 h g)) = g := Fin.ext (show (8 * h.val + g.val) % 8 = g.val by omega)
  have s : B.dsinkSum h g (ix2 e 0) = ∑ s : Fin 16, val_main_v147 (F := Ideal) x0 x1 x2 x3 x4 (ix4 n h g ⟨8 * s.val + e.val, by omega⟩) := by
    rw [B.dsinkSum_apply]
    exact Finset.sum_congr rfl fun s _ => dsink8_eq H h g _ h0 h1 h2 h3 h4
  unfold Blocks.sinkOut
  rw [← s]
  show y (ix2 e (head32 h g)) + B.dsinkSum (Blocks.sHead (ix2 e (head32 h g))) (Blocks.sQ (ix2 e (head32 h g))) (ix2 e 0) = _
  rw [a, b]
end

end Cert.AttnBwd

end
-- ==== Proof.Attn.Pieces.lean ====
module

public import proofs.«01_k».proof.Proof.Attn.Heads
public import Idealize.ShloMosaic.Lib.Pipeline.ReadBack

@[expose] public section

set_option maxRecDepth 16384

noncomputable section

namespace Cert.AttnBwd

open Idealize.ShloMosaic Idealize.SL.Sem Cert.KernelIdeal Cert.KernelIdeal.Gen

variable {F : FTy → Type} [FloatOps F]

/-- A store over the whole buffer is what the buffer holds. -/
theorem read_whole {S : Shape} (v : View sig .tc .vmem S .f32) (f : v.ty.Contents (Elt F)) (off : Fin S.rank → Nat) (h0 : off = fun _ => 0)
    (inb : ∀ a, off a + S.size a ≤ S.size a) (w : Vec F S .f32) (L : List (View.Piece (Elt F) S .f32)) :
    v.read (Elt F) (v.writes (Elt F) f (⟨Rect.unit off S.size inb, w⟩ :: L)) = w :=
  (View.read_writes_eq_canon v f _ fun y => ⟨_, List.mem_cons_self, View.mem_set_unit_zero h0 inb y⟩).trans
    (View.canon_cons_unit_zero h0 inb w L)

/-- A load of the whole buffer after the stores `L`. -/
theorem readCov_whole {S : Shape} (v : View sig .tc .vmem S .f32) (off : Fin S.rank → Nat) (h0 : off = fun _ => 0)
    (inb : ∀ a, off a + S.size a ≤ S.size a) (L : List (View.Piece (Elt F) S .f32)) :
    v.readCov L (Rect.unit off S.size inb).toLoadRect = View.canon L :=
  (View.readCov_eq_canon' v L _).trans (View.ld_unit_zero h0 inb (View.canon L))

namespace Blocks
variable (B : Blocks F) (i : grid0.Coords) (h : Fin 4) (g : Fin 8)

theorem dq_piece (x : S128x64.Idx) :
    extractStridedSlice S128x64 ![128 * g.val, 0] (B.dq8 i h) (slices_rows g) x
      = B.dqPre i ((Rect.unit (s := S128x2048) ![0, 512 * h.val + 64 * g.val] S128x64.size (inb_dq h g)).emb x) := by
  have h0 := h.isLt; have h1 := g.isLt
  have x0 : (x 0).val < 128 := (x 0).isLt
  have x1 : (x 1).val < 64 := (x 1).isLt
  unfold dqPre
  generalize hj : (Rect.unit (s := S128x2048) ![0, 512 * h.val + 64 * g.val] S128x64.size (inb_dq h g)).emb x = j
  have j0 : (j 0).val = (x 0).val := by rw [← hj, Rect.emb_apply]; show 0 + 1 * (x 0).val = _; omega
  have j1 : (j 1).val = 512 * h.val + 64 * g.val + (x 1).val := by
    rw [← hj, Rect.emb_apply]; show 512 * h.val + 64 * g.val + 1 * (x 1).val = _; omega
  have hh : qHead j = h := Fin.ext (by show (j 1).val / 512 = h.val; omega)
  rw [hh]
  refine congrArg (B.dq8 i h) (funext fun a => Fin.ext ?_)
  match a with
  | ⟨0, _⟩ => show 128 * g.val + (x 0).val = 128 * ((j 1).val / 64 % 8) + (j 0).val; omega
  | ⟨1, _⟩ => show 0 + (x 1).val = (j 1).val % 64; omega

theorem kv_emb (x : S128x64.Idx) (j : S128x256.Idx)
    (hj : (Rect.unit (s := S128x256) ![0, 64 * h.val] S128x64.size (inb_kv h)).emb x = j) :
    kvHead j = h ∧ (j 0).val = (x 0).val ∧ (j 1).val % 64 = (x 1).val := by
  have h0 := h.isLt
  have x1 : (x 1).val < 64 := (x 1).isLt
  have j0 : (j 0).val = (x 0).val := by rw [← hj, Rect.emb_apply]; show 0 + 1 * (x 0).val = _; omega
  have j1 : (j 1).val = 64 * h.val + (x 1).val := by
    rw [← hj, Rect.emb_apply]; show 64 * h.val + 1 * (x 1).val = _; omega
  exact ⟨Fin.ext (by show (j 1).val / 64 = h.val; omega), j0, by omega⟩

theorem kv_piece (X : Fin 4 → S256x64.Idx → F .f32) (top : Nat) (htop : top ≤ 128) (hs : S256x64.Slices ![top, 0] S128x64) (x : S128x64.Idx) :
    extractStridedSlice S128x64 ![top, 0] (X h) hs x
      = (fun j => X (kvHead j) (kvAt top htop j)) ((Rect.unit (s := S128x256) ![0, 64 * h.val] S128x64.size (inb_kv h)).emb x) := by
  generalize hj : (Rect.unit (s := S128x256) ![0, 64 * h.val] S128x64.size (inb_kv h)).emb x = j
  obtain ⟨hh, j0, j1⟩ := kv_emb h x j hj
  beta_reduce
  rw [hh]
  refine congrArg (X h) (funext fun a => Fin.ext ?_)
  match a with
  | ⟨0, _⟩ => show top + (x 0).val = top + (j 0).val; omega
  | ⟨1, _⟩ => show 0 + (x 1).val = (j 1).val % 64; omega

theorem dkBot_piece (x : S128x64.Idx) :
    shapeCast S128x64 (extractStridedSlice S128x64 ![128, 0] (B.dk8 i h) slices_S256x64_o128_0_S128x64) shapeCasts_S128x64_S128x64 x
      = B.dkBot i ((Rect.unit (s := S128x256) ![0, 64 * h.val] S128x64.size (inb_kv h)).emb x) := by
  rw [shapeCast_self]; exact kv_piece h (B.dk8 i) 128 (by decide) _ x
theorem dvBot_piece (x : S128x64.Idx) :
    shapeCast S128x64 (extractStridedSlice S128x64 ![128, 0] (B.dv8 i h) slices_S256x64_o128_0_S128x64) shapeCasts_S128x64_S128x64 x
      = B.dvBot i ((Rect.unit (s := S128x256) ![0, 64 * h.val] S128x64.size (inb_kv h)).emb x) := by
  rw [shapeCast_self]; exact kv_piece h (B.dv8 i) 128 (by decide) _ x
theorem dkTop_piece (y : Vec F S128x256 .f32) (w : Vec F S128x64 .f32)
    (hw : ∀ x, w x = y ((Rect.unit (s := S128x256) ![0, 64 * h.val] S128x64.size (inb_kv h)).emb x)) (x : S128x64.Idx) :
    addf w (extractStridedSlice S128x64 ![0, 0] (B.dk8 i h) slices_S256x64_o0_0_S128x64) x
      = addf y (B.dkTop i) ((Rect.unit (s := S128x256) ![0, 64 * h.val] S128x64.size (inb_kv h)).emb x) :=
  congrArg₂ FloatOps.addf (hw x) (kv_piece h (B.dk8 i) 0 (by decide) _ x)
theorem dvTop_piece (y : Vec F S128x256 .f32) (w : Vec F S128x64 .f32)
    (hw : ∀ x, w x = y ((Rect.unit (s := S128x256) ![0, 64 * h.val] S128x64.size (inb_kv h)).emb x)) (x : S128x64.Idx) :
    addf w (extractStridedSlice S128x64 ![0, 0] (B.dv8 i h) slices_S256x64_o0_0_S128x64) x
      = addf y (B.dvTop i) ((Rect.unit (s := S128x256) ![0, 64 * h.val] S128x64.size (inb_kv h)).emb x) :=
  congrArg₂ FloatOps.addf (hw x) (kv_piece h (B.dv8 i) 0 (by decide) _ x)
theorem sink_piece (y : Vec F S8x32 .f32) (w : Vec F S8x1 .f32)
    (hw : ∀ x, w x = y ((Rect.unit (s := S8x32) ![0, 8 * h.val + g.val] S8x1.size (inb_dsink h g)).emb x)) (x : S8x1.Idx) :
    addf (shapeCast S8x1 w shapeCasts_S8x1_S8x1) (B.dsinkSum h g) x
      = B.sinkOut y ((Rect.unit (s := S8x32) ![0, 8 * h.val + g.val] S8x1.size (inb_dsink h g)).emb x) := by
  rw [shapeCast_self]
  refine congrArg₂ FloatOps.addf (hw x) ?_
  generalize hj : (Rect.unit (s := S8x32) ![0, 8 * h.val + g.val] S8x1.size (inb_dsink h g)).emb x = j
  have h0 := h.isLt; have h1 := g.isLt
  have x1 : (x 1).val < 1 := (x 1).isLt
  have j0 : (j 0).val = (x 0).val := by rw [← hj, Rect.emb_apply]; show 0 + 1 * (x 0).val = _; omega
  have j1 : (j 1).val = 8 * h.val + g.val := by
    rw [← hj, Rect.emb_apply]; show 8 * h.val + g.val + 1 * (x 1).val = _; omega
  have hh : sHead j = h := Fin.ext (by show (j 1).val / 8 = h.val; omega)
  have hg : sQ j = g := Fin.ext (by show (j 1).val % 8 = g.val; omega)
  beta_reduce
  rw [hh, hg]
  refine congrArg (B.dsinkSum h g) (funext fun a => Fin.ext ?_)
  match a with
  | ⟨0, _⟩ => show (x 0).val = (j 0).val; omega
  | ⟨1, _⟩ => show (x 1).val = 0; omega

/-! ### The stores of a block, the last one first -/

/-- The key-value heads, and the query heads of one of them, last first. -/
def kvHeads : List (Fin 4) := [⟨3, by decide⟩, ⟨2, by decide⟩, ⟨1, by decide⟩, ⟨0, by decide⟩]
def qHeads : List (Fin 4 × Fin 8) :=
  kvHeads.flatMap fun h => [(h, ⟨7, by decide⟩), (h, ⟨6, by decide⟩), (h, ⟨5, by decide⟩), (h, ⟨4, by decide⟩), (h, ⟨3, by decide⟩), (h, ⟨2, by decide⟩), (h, ⟨1, by decide⟩), (h, ⟨0, by decide⟩)]

def dqPieces : List (View.Piece (Elt F) S128x2048 .f32) :=
  qHeads.map fun p => ⟨Rect.unit ![0, 512 * p.1.val + 64 * p.2.val] S128x64.size (inb_dq p.1 p.2),
    extractStridedSlice S128x64 ![128 * p.2.val, 0] (B.dq8 i p.1) (slices_rows p.2)⟩
def dkBotPieces : List (View.Piece (Elt F) S128x256 .f32) :=
  kvHeads.map fun h => ⟨Rect.unit ![0, 64 * h.val] S128x64.size (inb_kv h),
    shapeCast S128x64 (extractStridedSlice S128x64 ![128, 0] (B.dk8 i h) slices_S256x64_o128_0_S128x64) shapeCasts_S128x64_S128x64⟩
def dvBotPieces : List (View.Piece (Elt F) S128x256 .f32) :=
  kvHeads.map fun h => ⟨Rect.unit ![0, 64 * h.val] S128x64.size (inb_kv h),
    shapeCast S128x64 (extractStridedSlice S128x64 ![128, 0] (B.dv8 i h) slices_S256x64_o128_0_S128x64) shapeCasts_S128x64_S128x64⟩
/-- With `w` the columns of the sum so far. -/
def dkTopPieces (w : Fin 4 → Vec F S128x64 .f32) : List (View.Piece (Elt F) S128x256 .f32) :=
  kvHeads.map fun h => ⟨Rect.unit ![0, 64 * h.val] S128x64.size (inb_kv h),
    addf (w h) (extractStridedSlice S128x64 ![0, 0] (B.dk8 i h) slices_S256x64_o0_0_S128x64)⟩
def dvTopPieces (w : Fin 4 → Vec F S128x64 .f32) : List (View.Piece (Elt F) S128x256 .f32) :=
  kvHeads.map fun h => ⟨Rect.unit ![0, 64 * h.val] S128x64.size (inb_kv h),
    addf (w h) (extractStridedSlice S128x64 ![0, 0] (B.dv8 i h) slices_S256x64_o0_0_S128x64)⟩
def sinkPieces (w : Fin 4 → Fin 8 → Vec F S8x1 .f32) : List (View.Piece (Elt F) S8x32 .f32) :=
  qHeads.map fun p => ⟨Rect.unit ![0, 8 * p.1.val + p.2.val] S8x1.size (inb_dsink p.1 p.2),
    addf (shapeCast S8x1 (w p.1 p.2) shapeCasts_S8x1_S8x1) (B.dsinkSum p.1 p.2)⟩

/-! ### What the stores leave -/

theorem piecesOf_map {S : Shape} {e : EltTy} {ι : Type} (G : S.Idx → Elt F e) (f : ι → View.Piece (Elt F) S e) (H : ∀ p, ∀ x, (f p).2 x = G ((f p).1.emb x)) :
    ∀ l : List ι, View.PiecesOf G (l.map f)
  | [] => trivial
  | p :: l => ⟨H p, piecesOf_map G f H l⟩

theorem canon_of_piecesOf {S : Shape} {e : EltTy} (G : S.Idx → Elt F e) (L : List (View.Piece (Elt F) S e)) (hL : View.PiecesOf G L)
    (hc : ∀ y, ∃ p ∈ L, y ∈ p.1.set) : View.canon L = G :=
  funext fun y => (congrArg (fun l => View.canon l y) (List.append_nil L).symm).trans (View.canon_append_of_piecesOf G [] L hL y (hc y))

theorem dq_cover (y : S128x2048.Idx) : ∃ p ∈ B.dqPieces i, y ∈ p.1.set := View.cover_of_tiledL (B.dqPieces i) S128x64.size (by sl_kernel_rfl) y
theorem dkBot_cover (y : S128x256.Idx) : ∃ p ∈ B.dkBotPieces i, y ∈ p.1.set := View.cover_of_tiledL (B.dkBotPieces i) S128x64.size (by sl_kernel_rfl) y
theorem dvBot_cover (y : S128x256.Idx) : ∃ p ∈ B.dvBotPieces i, y ∈ p.1.set := View.cover_of_tiledL (B.dvBotPieces i) S128x64.size (by sl_kernel_rfl) y
theorem dkTop_cover (w : Fin 4 → Vec F S128x64 .f32) (y : S128x256.Idx) : ∃ p ∈ B.dkTopPieces i w, y ∈ p.1.set :=
  View.cover_of_tiledL (B.dkTopPieces i w) S128x64.size (by sl_kernel_rfl) y
theorem dvTop_cover (w : Fin 4 → Vec F S128x64 .f32) (y : S128x256.Idx) : ∃ p ∈ B.dvTopPieces i w, y ∈ p.1.set :=
  View.cover_of_tiledL (B.dvTopPieces i w) S128x64.size (by sl_kernel_rfl) y
theorem sink_cover (w : Fin 4 → Fin 8 → Vec F S8x1 .f32) (y : S8x32.Idx) : ∃ p ∈ B.sinkPieces w, y ∈ p.1.set :=
  View.cover_of_tiledL (B.sinkPieces w) S8x1.size (by sl_kernel_rfl) y

theorem dq_canon : View.canon (B.dqPieces i) = B.dqPre i :=
  canon_of_piecesOf _ _ (piecesOf_map _ _ (fun p => B.dq_piece i p.1 p.2) _) (B.dq_cover i)
theorem dkBot_pieces (l : List (Fin 4)) : View.PiecesOf (B.dkBot i) (l.map fun h => (⟨Rect.unit ![0, 64 * h.val] S128x64.size (inb_kv h),
    shapeCast S128x64 (extractStridedSlice S128x64 ![128, 0] (B.dk8 i h) slices_S256x64_o128_0_S128x64) shapeCasts_S128x64_S128x64⟩ : View.Piece (Elt F) S128x256 .f32)) :=
  piecesOf_map _ _ (fun h => B.dkBot_piece i h) l
theorem dvBot_pieces (l : List (Fin 4)) : View.PiecesOf (B.dvBot i) (l.map fun h => (⟨Rect.unit ![0, 64 * h.val] S128x64.size (inb_kv h),
    shapeCast S128x64 (extractStridedSlice S128x64 ![128, 0] (B.dv8 i h) slices_S256x64_o128_0_S128x64) shapeCasts_S128x64_S128x64⟩ : View.Piece (Elt F) S128x256 .f32)) :=
  piecesOf_map _ _ (fun h => B.dvBot_piece i h) l
theorem dkBot_canon : View.canon (B.dkBotPieces i) = B.dkBot i := canon_of_piecesOf _ _ (B.dkBot_pieces i _) (B.dkBot_cover i)
theorem dvBot_canon : View.canon (B.dvBotPieces i) = B.dvBot i := canon_of_piecesOf _ _ (B.dvBot_pieces i _) (B.dvBot_cover i)
theorem dkTop_canon (y : Vec F S128x256 .f32) (w : Fin 4 → Vec F S128x64 .f32)
    (hw : ∀ h x, w h x = y ((Rect.unit (s := S128x256) ![0, 64 * h.val] S128x64.size (inb_kv h)).emb x)) :
    View.canon (B.dkTopPieces i w) = addf y (B.dkTop i) :=
  canon_of_piecesOf _ _ (piecesOf_map _ _ (fun h => B.dkTop_piece i h y (w h) (hw h)) _) (B.dkTop_cover i w)
theorem dvTop_canon (y : Vec F S128x256 .f32) (w : Fin 4 → Vec F S128x64 .f32)
    (hw : ∀ h x, w h x = y ((Rect.unit (s := S128x256) ![0, 64 * h.val] S128x64.size (inb_kv h)).emb x)) :
    View.canon (B.dvTopPieces i w) = addf y (B.dvTop i) :=
  canon_of_piecesOf _ _ (piecesOf_map _ _ (fun h => B.dvTop_piece i h y (w h) (hw h)) _) (B.dvTop_cover i w)
theorem sink_canon (y : Vec F S8x32 .f32) (w : Fin 4 → Fin 8 → Vec F S8x1 .f32)
    (hw : ∀ h g x, w h g x = y ((Rect.unit (s := S8x32) ![0, 8 * h.val + g.val] S8x1.size (inb_dsink h g)).emb x)) :
    View.canon (B.sinkPieces w) = B.sinkOut y :=
  canon_of_piecesOf _ _ (piecesOf_map _ _ (fun p => B.sink_piece p.1 p.2 y (w p.1 p.2) (hw p.1 p.2)) _) (B.sink_cover w)

/-! ### The first block, whose columns are read back over the zero fill -/

theorem kv_emb_not_mem (h h' : Fin 4) (hne : h ≠ h') (x : S128x64.Idx) :
    (Rect.unit (s := S128x256) ![0, 64 * h.val] S128x64.size (inb_kv h)).emb x
      ∉ (Rect.unit (s := S128x256) ![0, 64 * h'.val] S128x64.size (inb_kv h')).set := fun hm => by
  obtain ⟨x', hx'⟩ := LoadRect.exists_idx_of_mem _ hm
  exact hne ((kv_emb h x _ rfl).1.symm.trans (kv_emb h' x' _ hx').1)

/-- The carried columns of the heads `hs`, stored over a fill. -/
def dkFrom (fill : Vec F S128x256 .f32) (hs : List (Fin 4)) : List (View.Piece (Elt F) S128x256 .f32) :=
  (hs.map fun h => (⟨Rect.unit ![0, 64 * h.val] S128x64.size (inb_kv h),
    shapeCast S128x64 (extractStridedSlice S128x64 ![128, 0] (B.dk8 i h) slices_S256x64_o128_0_S128x64) shapeCasts_S128x64_S128x64⟩ : View.Piece (Elt F) S128x256 .f32))
    ++ [⟨Rect.unit ![0, 0] S128x256.size inb_S128x256_S128x256_0_0, fill⟩]
def dvFrom (fill : Vec F S128x256 .f32) (hs : List (Fin 4)) : List (View.Piece (Elt F) S128x256 .f32) :=
  (hs.map fun h => (⟨Rect.unit ![0, 64 * h.val] S128x64.size (inb_kv h),
    shapeCast S128x64 (extractStridedSlice S128x64 ![128, 0] (B.dv8 i h) slices_S256x64_o128_0_S128x64) shapeCasts_S128x64_S128x64⟩ : View.Piece (Elt F) S128x256 .f32))
    ++ [⟨Rect.unit ![0, 0] S128x256.size inb_S128x256_S128x256_0_0, fill⟩]

theorem canon_map_append_of_not_mem (f : Fin 4 → Vec F S128x64 .f32) (L : List (View.Piece (Elt F) S128x256 .f32)) (h : Fin 4) (x : S128x64.Idx) :
    ∀ hs : List (Fin 4), h ∉ hs →
      View.canon ((hs.map fun h => (⟨Rect.unit ![0, 64 * h.val] S128x64.size (inb_kv h), f h⟩ : View.Piece (Elt F) S128x256 .f32)) ++ L)
          ((Rect.unit (s := S128x256) ![0, 64 * h.val] S128x64.size (inb_kv h)).emb x)
        = View.canon L ((Rect.unit (s := S128x256) ![0, 64 * h.val] S128x64.size (inb_kv h)).emb x)
  | [], _ => rfl
  | h' :: hs, hn => by
    rw [List.map_cons, List.cons_append, View.canon_cons_of_not_mem]
    · exact canon_map_append_of_not_mem f L h x hs fun hm => hn (List.mem_cons_of_mem _ hm)
    · exact kv_emb_not_mem h h' (fun e => hn (e ▸ List.mem_cons_self)) x

theorem fill_canon {S : Shape} (fill : Vec F S .f32) (off : Fin S.rank → Nat) (h0 : off = fun _ => 0) (inb : ∀ a, off a + S.size a ≤ S.size a) :
    View.canon ([⟨Rect.unit off S.size inb, fill⟩] : List (View.Piece (Elt F) S .f32)) = fill :=
  View.canon_cons_unit_zero h0 inb fill []

theorem dkFrom_col (fill : Vec F S128x256 .f32) (hs : List (Fin 4)) (h : Fin 4) (hn : h ∉ hs) (x : S128x64.Idx) :
    View.canon (B.dkFrom i fill hs) ((Rect.unit (s := S128x256) ![0, 64 * h.val] S128x64.size (inb_kv h)).emb x)
      = fill ((Rect.unit (s := S128x256) ![0, 64 * h.val] S128x64.size (inb_kv h)).emb x) :=
  (canon_map_append_of_not_mem _ _ h x hs hn).trans (congrFun (fill_canon fill _ (by decide) _) _)
theorem dvFrom_col (fill : Vec F S128x256 .f32) (hs : List (Fin 4)) (h : Fin 4) (hn : h ∉ hs) (x : S128x64.Idx) :
    View.canon (B.dvFrom i fill hs) ((Rect.unit (s := S128x256) ![0, 64 * h.val] S128x64.size (inb_kv h)).emb x)
      = fill ((Rect.unit (s := S128x256) ![0, 64 * h.val] S128x64.size (inb_kv h)).emb x) :=
  (canon_map_append_of_not_mem _ _ h x hs hn).trans (congrFun (fill_canon fill _ (by decide) _) _)

theorem dkFrom_cover (fill : Vec F S128x256 .f32) (hs : List (Fin 4)) (y : S128x256.Idx) : ∃ q ∈ B.dkFrom i fill hs, y ∈ q.1.set :=
  ⟨_, List.mem_append_right _ List.mem_cons_self, View.mem_set_unit_zero (by decide) inb_S128x256_S128x256_0_0 y⟩
theorem dvFrom_cover (fill : Vec F S128x256 .f32) (hs : List (Fin 4)) (y : S128x256.Idx) : ∃ q ∈ B.dvFrom i fill hs, y ∈ q.1.set :=
  ⟨_, List.mem_append_right _ List.mem_cons_self, View.mem_set_unit_zero (by decide) inb_S128x256_S128x256_0_0 y⟩

theorem dkFrom_canon (fill : Vec F S128x256 .f32) : View.canon (B.dkFrom i fill kvHeads) = B.dkBot i :=
  funext fun y => View.canon_append_of_piecesOf _ _ _ (B.dkBot_pieces i _) y (B.dkBot_cover i y)
theorem dvFrom_canon (fill : Vec F S128x256 .f32) : View.canon (B.dvFrom i fill kvHeads) = B.dvBot i :=
  funext fun y => View.canon_append_of_piecesOf _ _ _ (B.dvBot_pieces i _) y (B.dvBot_cover i y)

/-- The heads stored before head `h`. -/
def below (h : Fin 4) : List (Fin 4) := kvHeads.drop (4 - h.val)
theorem not_mem_below : ∀ h : Fin 4, h ∉ below h := by decide

/-- The sink columns of the query heads `ps` stored over a fill, each read back before it is stored. -/
def sinkFrom (v : View sig .tc .vmem S8x32 .f32) (fill : Vec F S8x32 .f32) : List (Fin 4 × Fin 8) → List (View.Piece (Elt F) S8x32 .f32)
  | [] => [⟨Rect.unit ![0, 0] S8x32.size inb_S8x32_S8x32_0_0, fill⟩]
  | p :: ps => ⟨Rect.unit ![0, 8 * p.1.val + p.2.val] S8x1.size (inb_dsink p.1 p.2),
      addf (shapeCast S8x1 (v.readCov (sinkFrom v fill ps) (Rect.unit (s := S8x32) ![0, 8 * p.1.val + p.2.val] S8x1.size (inb_dsink p.1 p.2)).toLoadRect) shapeCasts_S8x1_S8x1)
        (B.dsinkSum p.1 p.2)⟩ :: sinkFrom v fill ps

theorem sink_emb_not_mem (p p' : Fin 4 × Fin 8) (hne : p ≠ p') (x : S8x1.Idx) :
    (Rect.unit (s := S8x32) ![0, 8 * p.1.val + p.2.val] S8x1.size (inb_dsink p.1 p.2)).emb x
      ∉ (Rect.unit (s := S8x32) ![0, 8 * p'.1.val + p'.2.val] S8x1.size (inb_dsink p'.1 p'.2)).set := fun hm => by
  obtain ⟨x', hx'⟩ := LoadRect.exists_idx_of_mem _ hm
  have e := congrArg (fun y : S8x32.Idx => (y 1).val) hx'
  have e' : 8 * p'.1.val + p'.2.val + 1 * (x' 1).val = 8 * p.1.val + p.2.val + 1 * (x 1).val := e
  have x1 : (x 1).val < 1 := (x 1).isLt
  have x1' : (x' 1).val < 1 := (x' 1).isLt
  have := p.2.isLt; have := p'.2.isLt
  exact hne (Prod.ext (Fin.ext (by omega)) (Fin.ext (by omega)))

theorem sinkFrom_col (v : View sig .tc .vmem S8x32 .f32) (fill : Vec F S8x32 .f32) (p : Fin 4 × Fin 8) (x : S8x1.Idx) :
    ∀ ps : List (Fin 4 × Fin 8), p ∉ ps →
      View.canon (B.sinkFrom v fill ps) ((Rect.unit (s := S8x32) ![0, 8 * p.1.val + p.2.val] S8x1.size (inb_dsink p.1 p.2)).emb x)
        = fill ((Rect.unit (s := S8x32) ![0, 8 * p.1.val + p.2.val] S8x1.size (inb_dsink p.1 p.2)).emb x)
  | [], _ => congrFun (fill_canon fill _ (by decide) _) _
  | p' :: ps, hn => by
    rw [sinkFrom, View.canon_cons_of_not_mem]
    · exact sinkFrom_col v fill p x ps fun hm => hn (List.mem_cons_of_mem _ hm)
    · exact sink_emb_not_mem p p' (fun e => hn (e ▸ List.mem_cons_self)) x

theorem sinkFrom_mem (v : View sig .tc .vmem S8x32 .f32) (fill : Vec F S8x32 .f32) (y : S8x32.Idx) :
    ∀ ps : List (Fin 4 × Fin 8), ps.Nodup →
      (∃ p ∈ ps, y ∈ (Rect.unit (s := S8x32) ![0, 8 * p.1.val + p.2.val] S8x1.size (inb_dsink p.1 p.2)).set) →
      View.canon (B.sinkFrom v fill ps) y = B.sinkOut fill y
  | [], _, ⟨_, hp, _⟩ => absurd hp List.not_mem_nil
  | p' :: ps, hnd, ⟨p, hp, hy⟩ => by
    by_cases hm : y ∈ (Rect.unit (s := S8x32) ![0, 8 * p'.1.val + p'.2.val] S8x1.size (inb_dsink p'.1 p'.2)).set
    · obtain ⟨x, hx⟩ := LoadRect.exists_idx_of_mem _ hm
      rw [← hx, sinkFrom]
      refine (View.canon_cons_emb _ _ _ x).trans (B.sink_piece p'.1 p'.2 fill _ (fun x => ?_) x)
      rw [View.readCov_eq_canon']
      exact B.sinkFrom_col v fill p' x ps (List.nodup_cons.mp hnd).1
    · rw [sinkFrom, View.canon_cons_of_not_mem]
      · refine sinkFrom_mem v fill y ps (List.nodup_cons.mp hnd).2 ⟨p, ?_, hy⟩
        rcases List.mem_cons.mp hp with e | hp
        · exact absurd (e ▸ hy) hm
        · exact hp
      · exact hm

theorem sinkFrom_cover (v : View sig .tc .vmem S8x32 .f32) (fill : Vec F S8x32 .f32) (y : S8x32.Idx) :
    ∀ ps : List (Fin 4 × Fin 8), ∃ q ∈ B.sinkFrom v fill ps, y ∈ q.1.set
  | [] => ⟨_, List.mem_cons_self, View.mem_set_unit_zero (by decide) inb_S8x32_S8x32_0_0 y⟩
  | _ :: ps => (sinkFrom_cover v fill y ps).imp fun _ h => ⟨List.mem_cons_of_mem _ h.1, h.2⟩

theorem mem_qHeads : ∀ p : Fin 4 × Fin 8, p ∈ qHeads := by decide

theorem sinkFrom_canon (v : View sig .tc .vmem S8x32 .f32) (fill : Vec F S8x32 .f32) :
    View.canon (B.sinkFrom v fill qHeads) = B.sinkOut fill := funext fun y => by
  refine B.sinkFrom_mem v fill y qHeads (by decide) ?_
  have h0 : (y 0).val < 8 := (y 0).isLt
  have h1 : (y 1).val < 32 := (y 1).isLt
  refine ⟨(⟨(y 1).val / 8, by omega⟩, ⟨(y 1).val % 8, by omega⟩), mem_qHeads _, Rect.mem_set_unit.mpr fun a => ?_⟩
  match a with
  | 0 => exact ⟨Nat.zero_le _, by show (y 0).val < 0 + 8; omega⟩
  | 1 => exact ⟨by show 8 * ((y 1).val / 8) + (y 1).val % 8 ≤ (y 1).val; omega,
      by show (y 1).val < 8 * ((y 1).val / 8) + (y 1).val % 8 + 1; omega⟩

end Blocks

variable
  (arg1 : Memref sig .tc .vmem S128x2048 .f32) (harg1 : arg1.IsWhole)
  (arg2 : Memref sig .tc .vmem S128x256 .f32) (harg2 : arg2.IsWhole)
  (arg3 : Memref sig .tc .vmem S128x256 .f32) (harg3 : arg3.IsWhole)
  (arg4 : Memref sig .tc .vmem S128x256 .f32) (harg4 : arg4.IsWhole)
  (arg5 : Memref sig .tc .vmem S128x256 .f32) (harg5 : arg5.IsWhole)
  (arg6 : Memref sig .tc .vmem S128x128 .f32) (harg6 : arg6.IsWhole)
  (arg7 : Memref sig .tc .vmem S128x128 .f32) (harg7 : arg7.IsWhole)
  (arg8 : Memref sig .tc .vmem S128x128 .f32) (harg8 : arg8.IsWhole)
  (arg9 : Memref sig .tc .vmem S128x128 .f32) (harg9 : arg9.IsWhole)
  (arg10 : Memref sig .tc .vmem S1x32 .f32) (harg10 : arg10.IsWhole)
  (arg11 : Memref sig .tc .vmem S128x2048 .f32) (harg11 : arg11.IsWhole)
  (arg12 : Memref sig .tc .vmem S128x32 .f32) (harg12 : arg12.IsWhole)
  (arg13 : Memref sig .tc .vmem S128x2048 .f32) (harg13 : arg13.IsWhole)
  (x0 : Vec F S128x2048 .f32) (x1 : Vec F S128x256 .f32) (x2 : Vec F S128x256 .f32) (x3 : Vec F S128x256 .f32) (x4 : Vec F S128x256 .f32) (x5 : Vec F S128x128 .f32) (x6 : Vec F S128x128 .f32) (x7 : Vec F S128x128 .f32) (x8 : Vec F S128x128 .f32) (x9 : Vec F S1x32 .f32) (x10 : Vec F S128x2048 .f32) (x11 : Vec F S128x32 .f32) (x12 : Vec F S128x2048 .f32)
/-- The thirteen blocks, read back out of the buffers that hold them. -/
abbrev held : Blocks F :=
  Blocks.mk (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8)) (arg10.view.read (Elt F) (harg10.unread x9)) (arg11.view.read (Elt F) (harg11.unread x10)) (arg12.view.read (Elt F) (harg12.unread x11)) (arg13.view.read (Elt F) (harg13.unread x12))

theorem held_eq : held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12 = ⟨x0, x1, x2, x3, x4, x5, x6, x7, x8, x9, x10, x11, x12⟩ := by
  unfold held
  rw [harg1.read_unread, harg2.read_unread, harg3.read_unread, harg4.read_unread, harg5.read_unread, harg6.read_unread, harg7.read_unread, harg8.read_unread, harg9.read_unread, harg10.read_unread, harg11.read_unread, harg12.read_unread, harg13.read_unread]

end Cert.AttnBwd

end
-- ==== Proof.Attn.RunFirst.lean ====
module

public import proofs.«01_k».proof.Proof.Attn.Body

@[expose] public section

set_option maxRecDepth 16384

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (c : Dev nD) (i : grid0.Coords)
  (arg1 : Memref sig .tc .vmem S128x2048 .f32) (harg1 : arg1.IsWhole)
  (arg2 : Memref sig .tc .vmem S128x256 .f32) (harg2 : arg2.IsWhole)
  (arg3 : Memref sig .tc .vmem S128x256 .f32) (harg3 : arg3.IsWhole)
  (arg4 : Memref sig .tc .vmem S128x256 .f32) (harg4 : arg4.IsWhole)
  (arg5 : Memref sig .tc .vmem S128x256 .f32) (harg5 : arg5.IsWhole)
  (arg6 : Memref sig .tc .vmem S128x128 .f32) (harg6 : arg6.IsWhole)
  (arg7 : Memref sig .tc .vmem S128x128 .f32) (harg7 : arg7.IsWhole)
  (arg8 : Memref sig .tc .vmem S128x128 .f32) (harg8 : arg8.IsWhole)
  (arg9 : Memref sig .tc .vmem S128x128 .f32) (harg9 : arg9.IsWhole)
  (arg10 : Memref sig .tc .vmem S1x32 .f32) (harg10 : arg10.IsWhole)
  (arg11 : Memref sig .tc .vmem S128x2048 .f32) (harg11 : arg11.IsWhole)
  (arg12 : Memref sig .tc .vmem S128x32 .f32) (harg12 : arg12.IsWhole)
  (arg13 : Memref sig .tc .vmem S128x2048 .f32) (harg13 : arg13.IsWhole)
  (arg14 : Memref sig .tc .vmem S128x2048 .f32) (harg14 : arg14.IsWhole)
  (arg15 : Memref sig .tc .vmem S128x256 .f32) (harg15 : arg15.IsWhole)
  (arg16 : Memref sig .tc .vmem S128x256 .f32) (harg16 : arg16.IsWhole)
  (arg17 : Memref sig .tc .vmem S8x32 .f32) (harg17 : arg17.IsWhole)
  (arg18 : Memref sig .tc .vmem S128x256 .f32) (harg18 : arg18.IsWhole)
  (arg19 : Memref sig .tc .vmem S128x256 .f32) (harg19 : arg19.IsWhole)
  (x0 : Vec F S128x2048 .f32) (x1 : Vec F S128x256 .f32) (x2 : Vec F S128x256 .f32) (x3 : Vec F S128x256 .f32) (x4 : Vec F S128x256 .f32) (x5 : Vec F S128x128 .f32) (x6 : Vec F S128x128 .f32) (x7 : Vec F S128x128 .f32) (x8 : Vec F S128x128 .f32) (x9 : Vec F S1x32 .f32) (x10 : Vec F S128x2048 .f32) (x11 : Vec F S128x32 .f32) (x12 : Vec F S128x2048 .f32)

set_option maxHeartbeats 4000000 in
/-- The body at the first block: what it stores into the four outputs and the two carried buffers, as pieces (last first), with the run that finds them. -/
def runFirst (hc0 : isFirst i) (hc1 : isBlock i) (hc2 : ¬isPast i)  :
    Σ' (L13 : List (View.Piece (Elt F) S128x2048 .f32)), Σ' (L14 : List (View.Piece (Elt F) S128x256 .f32)), Σ' (L15 : List (View.Piece (Elt F) S128x256 .f32)), Σ' (L16 : List (View.Piece (Elt F) S8x32 .f32)), Σ' (L17 : List (View.Piece (Elt F) S128x256 .f32)), { L18 : List (View.Piece (Elt F) S128x256 .f32) //
      ∀ (E : Set ℕ) (K : PUnit → sProp 𝕄),
        iprop(staged c arg1 arg2 arg3 arg4 arg5 arg6 arg7 arg8 arg9 arg10 arg11 arg12 arg13 x0 x1 x2 x3 x4 x5 x6 x7 x8 x9 x10 x11 x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(staged c arg1 arg2 arg3 arg4 arg5 arg6 arg7 arg8 arg9 arg10 arg11 arg12 arg13 x0 x1 x2 x3 x4 x5 x6 x7 x8 x9 x10 x11 x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold staged owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | sl_exact hc0 | sl_exact hc1 | sl_exact hc2)
    sl_step
    iapply Hk
    isplitl [H0 H1 H2 H3 H4 H5 H6 H7 H8 H9 H10 H11 H12]
    · isplitl [H0]; · iexists _; isplitr; ipureintro; exact harg1.read_unread _; iexact H0
      isplitl [H1]; · iexists _; isplitr; ipureintro; exact harg2.read_unread _; iexact H1
      isplitl [H2]; · iexists _; isplitr; ipureintro; exact harg3.read_unread _; iexact H2
      isplitl [H3]; · iexists _; isplitr; ipureintro; exact harg4.read_unread _; iexact H3
      isplitl [H4]; · iexists _; isplitr; ipureintro; exact harg5.read_unread _; iexact H4
      isplitl [H5]; · iexists _; isplitr; ipureintro; exact harg6.read_unread _; iexact H5
      isplitl [H6]; · iexists _; isplitr; ipureintro; exact harg7.read_unread _; iexact H6
      isplitl [H7]; · iexists _; isplitr; ipureintro; exact harg8.read_unread _; iexact H7
      isplitl [H8]; · iexists _; isplitr; ipureintro; exact harg9.read_unread _; iexact H8
      isplitl [H9]; · iexists _; isplitr; ipureintro; exact harg10.read_unread _; iexact H9
      isplitl [H10]; · iexists _; isplitr; ipureintro; exact harg11.read_unread _; iexact H10
      isplitl [H11]; · iexists _; isplitr; ipureintro; exact harg12.read_unread _; iexact H11
      iexists _; isplitr; ipureintro; exact harg13.read_unread _; iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18

end Cert.AttnBwd

end
-- ==== Proof.Attn.PiecesFirst.lean ====
module

public import proofs.«01_k».proof.Proof.Attn.Pieces
public import proofs.«01_k».proof.Proof.Attn.RunFirst

@[expose] public section

set_option maxRecDepth 16384

noncomputable section

namespace Cert.AttnBwd

open Idealize.ShloMosaic Idealize.SL.Sem Cert.KernelIdeal Cert.KernelIdeal.Gen

variable {F : FTy → Type} [FloatOps F]

variable (c : Dev nD) (i : grid0.Coords)
  (arg1 : Memref sig .tc .vmem S128x2048 .f32) (harg1 : arg1.IsWhole)
  (arg2 : Memref sig .tc .vmem S128x256 .f32) (harg2 : arg2.IsWhole)
  (arg3 : Memref sig .tc .vmem S128x256 .f32) (harg3 : arg3.IsWhole)
  (arg4 : Memref sig .tc .vmem S128x256 .f32) (harg4 : arg4.IsWhole)
  (arg5 : Memref sig .tc .vmem S128x256 .f32) (harg5 : arg5.IsWhole)
  (arg6 : Memref sig .tc .vmem S128x128 .f32) (harg6 : arg6.IsWhole)
  (arg7 : Memref sig .tc .vmem S128x128 .f32) (harg7 : arg7.IsWhole)
  (arg8 : Memref sig .tc .vmem S128x128 .f32) (harg8 : arg8.IsWhole)
  (arg9 : Memref sig .tc .vmem S128x128 .f32) (harg9 : arg9.IsWhole)
  (arg10 : Memref sig .tc .vmem S1x32 .f32) (harg10 : arg10.IsWhole)
  (arg11 : Memref sig .tc .vmem S128x2048 .f32) (harg11 : arg11.IsWhole)
  (arg12 : Memref sig .tc .vmem S128x32 .f32) (harg12 : arg12.IsWhole)
  (arg13 : Memref sig .tc .vmem S128x2048 .f32) (harg13 : arg13.IsWhole)
  (arg14 : Memref sig .tc .vmem S128x2048 .f32) (harg14 : arg14.IsWhole)
  (arg15 : Memref sig .tc .vmem S128x256 .f32) (harg15 : arg15.IsWhole)
  (arg16 : Memref sig .tc .vmem S128x256 .f32) (harg16 : arg16.IsWhole)
  (arg17 : Memref sig .tc .vmem S8x32 .f32) (harg17 : arg17.IsWhole)
  (arg18 : Memref sig .tc .vmem S128x256 .f32) (harg18 : arg18.IsWhole)
  (arg19 : Memref sig .tc .vmem S128x256 .f32) (harg19 : arg19.IsWhole)
  (x0 : Vec F S128x2048 .f32) (x1 : Vec F S128x256 .f32) (x2 : Vec F S128x256 .f32) (x3 : Vec F S128x256 .f32) (x4 : Vec F S128x256 .f32) (x5 : Vec F S128x128 .f32) (x6 : Vec F S128x128 .f32) (x7 : Vec F S128x128 .f32) (x8 : Vec F S128x128 .f32) (x9 : Vec F S1x32 .f32) (x10 : Vec F S128x2048 .f32) (x11 : Vec F S128x32 .f32) (x12 : Vec F S128x2048 .f32)

variable (hc0 : isFirst i) (hc1 : isBlock i) (hc2 : ¬isPast i)

theorem first_dq : (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc0 hc1 hc2).1 = (⟨(Rect.unit ![0, 0] S128x2048.size inb_S128x2048_S128x2048_0_0), (held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12).rotQ (arg14.view.readCov ((held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12).dqPieces i) (Rect.unit ![0, 0] S128x2048.size inb_S128x2048_S128x2048_0_0).toLoadRect)⟩ : View.Piece (Elt F) S128x2048 .f32) :: (held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12).dqPieces i := by
  sl_kernel_rfl

/-- What the block leaves as the query gradient. -/
theorem first_dq_read (f : arg14.view.ty.Contents (Elt F)) : arg14.view.read (Elt F) (arg14.view.writes (Elt F) f (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc0 hc1 hc2).1) = (⟨x0, x1, x2, x3, x4, x5, x6, x7, x8, x9, x10, x11, x12⟩ : Blocks F).rotQ ((⟨x0, x1, x2, x3, x4, x5, x6, x7, x8, x9, x10, x11, x12⟩ : Blocks F).dqPre i) := by
  rw [first_dq]
  refine (read_whole _ f _ (by decide) _ _ _).trans ?_
  rw [readCov_whole _ _ (by decide) _ ((held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12).dqPieces i), Blocks.dq_canon, held_eq arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12]

theorem first_dk : (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc0 hc1 hc2).2.1 = (⟨(Rect.unit ![0, 0] S128x256.size inb_S128x256_S128x256_0_0), (held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12).rotK (shapeCast S128x256 (arg15.view.readCov ((held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12).dkTopPieces i (fun h => arg18.view.readCov ((held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12).dkFrom i k0_pay3 (Blocks.below h)) (Rect.unit (s := S128x256) ![0, 64 * h.val] S128x64.size (inb_kv h)).toLoadRect)) (Rect.unit ![0, 0] S128x256.size inb_S128x256_S128x256_0_0).toLoadRect) shapeCasts_S128x256_S128x256)⟩ : View.Piece (Elt F) S128x256 .f32) :: (held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12).dkTopPieces i (fun h => arg18.view.readCov ((held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12).dkFrom i k0_pay3 (Blocks.below h)) (Rect.unit (s := S128x256) ![0, 64 * h.val] S128x64.size (inb_kv h)).toLoadRect) := by
  sl_kernel_rfl

/-- What the block leaves as the finished key gradient. -/
theorem first_dk_read (f : arg15.view.ty.Contents (Elt F)) : arg15.view.read (Elt F) (arg15.view.writes (Elt F) f (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc0 hc1 hc2).2.1) = (⟨x0, x1, x2, x3, x4, x5, x6, x7, x8, x9, x10, x11, x12⟩ : Blocks F).rotK (addf k0_pay3 ((⟨x0, x1, x2, x3, x4, x5, x6, x7, x8, x9, x10, x11, x12⟩ : Blocks F).dkTop i)) := by
  rw [first_dk]
  refine (read_whole _ f _ (by decide) _ _ _).trans ?_
  rw [← held_eq arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12]
  refine congrArg ((held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12)).rotK ((shapeCast_self _ _).trans ((readCov_whole _ _ (by decide) _ ((held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12).dkTopPieces i _)).trans ?_))
  refine (Blocks.dkTop_canon (held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12) i k0_pay3 _ fun h x => ?_)
  rw [View.readCov_eq_canon']; exact (Blocks.dkFrom_col (held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12) i k0_pay3 _ h (Blocks.not_mem_below h) x)

theorem first_dv : (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc0 hc1 hc2).2.2.1 = (held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12).dvTopPieces i (fun h => arg19.view.readCov ((held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12).dvFrom i k0_pay4 (Blocks.below h)) (Rect.unit (s := S128x256) ![0, 64 * h.val] S128x64.size (inb_kv h)).toLoadRect) := by
  sl_kernel_rfl

/-- What the block leaves as the finished value gradient. -/
theorem first_dv_read (f : arg16.view.ty.Contents (Elt F)) : arg16.view.read (Elt F) (arg16.view.writes (Elt F) f (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc0 hc1 hc2).2.2.1) = addf k0_pay4 ((⟨x0, x1, x2, x3, x4, x5, x6, x7, x8, x9, x10, x11, x12⟩ : Blocks F).dvTop i) := by
  rw [first_dv]
  refine (View.read_writes_eq_canon arg16.view f _ (Blocks.dvTop_cover _ _ _)).trans ?_
  refine (Blocks.dvTop_canon (held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12) i k0_pay4 _ fun h x => ?_).trans ?_
  · rw [View.readCov_eq_canon']; exact (Blocks.dvFrom_col (held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12) i k0_pay4 _ h (Blocks.not_mem_below h) x)
  · rw [held_eq arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12]

theorem first_ds : (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc0 hc1 hc2).2.2.2.1 = (held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12).sinkFrom arg17.view k0_pay5 Blocks.qHeads := by
  sl_kernel_rfl

/-- What the block leaves as the sink gradient. -/
theorem first_ds_read (f : arg17.view.ty.Contents (Elt F)) : arg17.view.read (Elt F) (arg17.view.writes (Elt F) f (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc0 hc1 hc2).2.2.2.1) = (⟨x0, x1, x2, x3, x4, x5, x6, x7, x8, x9, x10, x11, x12⟩ : Blocks F).sinkOut k0_pay5 := by
  rw [first_ds]
  refine (View.read_writes_eq_canon arg17.view f _ (fun y => Blocks.sinkFrom_cover _ _ _ y _)).trans ?_
  rw [Blocks.sinkFrom_canon, held_eq arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12]

theorem first_dkc : (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc0 hc1 hc2).2.2.2.2.1 = (held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12).dkFrom i k0_pay3 Blocks.kvHeads := by
  sl_kernel_rfl

/-- What the block leaves as the key gradient carried on. -/
theorem first_dkc_read (f : arg18.view.ty.Contents (Elt F)) : arg18.view.read (Elt F) (arg18.view.writes (Elt F) f (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc0 hc1 hc2).2.2.2.2.1) = (⟨x0, x1, x2, x3, x4, x5, x6, x7, x8, x9, x10, x11, x12⟩ : Blocks F).dkBot i := by
  rw [first_dkc]
  refine (View.read_writes_eq_canon arg18.view f _ (Blocks.dkFrom_cover _ _ _ _)).trans ?_
  rw [Blocks.dkFrom_canon, held_eq arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12]

theorem first_dvc : (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc0 hc1 hc2).2.2.2.2.2.val = (held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12).dvFrom i k0_pay4 Blocks.kvHeads := by
  sl_kernel_rfl

/-- What the block leaves as the value gradient carried on. -/
theorem first_dvc_read (f : arg19.view.ty.Contents (Elt F)) : arg19.view.read (Elt F) (arg19.view.writes (Elt F) f (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc0 hc1 hc2).2.2.2.2.2.val) = (⟨x0, x1, x2, x3, x4, x5, x6, x7, x8, x9, x10, x11, x12⟩ : Blocks F).dvBot i := by
  rw [first_dvc]
  refine (View.read_writes_eq_canon arg19.view f _ (Blocks.dvFrom_cover _ _ _ _)).trans ?_
  rw [Blocks.dvFrom_canon, held_eq arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12]

end Cert.AttnBwd

end
-- ==== Proof.Attn.RunMid.lean ====
module

public import proofs.«01_k».proof.Proof.Attn.Body

@[expose] public section

set_option maxRecDepth 16384

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (c : Dev nD) (i : grid0.Coords)
  (arg1 : Memref sig .tc .vmem S128x2048 .f32) (harg1 : arg1.IsWhole)
  (arg2 : Memref sig .tc .vmem S128x256 .f32) (harg2 : arg2.IsWhole)
  (arg3 : Memref sig .tc .vmem S128x256 .f32) (harg3 : arg3.IsWhole)
  (arg4 : Memref sig .tc .vmem S128x256 .f32) (harg4 : arg4.IsWhole)
  (arg5 : Memref sig .tc .vmem S128x256 .f32) (harg5 : arg5.IsWhole)
  (arg6 : Memref sig .tc .vmem S128x128 .f32) (harg6 : arg6.IsWhole)
  (arg7 : Memref sig .tc .vmem S128x128 .f32) (harg7 : arg7.IsWhole)
  (arg8 : Memref sig .tc .vmem S128x128 .f32) (harg8 : arg8.IsWhole)
  (arg9 : Memref sig .tc .vmem S128x128 .f32) (harg9 : arg9.IsWhole)
  (arg10 : Memref sig .tc .vmem S1x32 .f32) (harg10 : arg10.IsWhole)
  (arg11 : Memref sig .tc .vmem S128x2048 .f32) (harg11 : arg11.IsWhole)
  (arg12 : Memref sig .tc .vmem S128x32 .f32) (harg12 : arg12.IsWhole)
  (arg13 : Memref sig .tc .vmem S128x2048 .f32) (harg13 : arg13.IsWhole)
  (arg14 : Memref sig .tc .vmem S128x2048 .f32) (harg14 : arg14.IsWhole)
  (arg15 : Memref sig .tc .vmem S128x256 .f32) (harg15 : arg15.IsWhole)
  (arg16 : Memref sig .tc .vmem S128x256 .f32) (harg16 : arg16.IsWhole)
  (arg17 : Memref sig .tc .vmem S8x32 .f32) (harg17 : arg17.IsWhole)
  (arg18 : Memref sig .tc .vmem S128x256 .f32) (harg18 : arg18.IsWhole)
  (arg19 : Memref sig .tc .vmem S128x256 .f32) (harg19 : arg19.IsWhole)
  (x0 : Vec F S128x2048 .f32) (x1 : Vec F S128x256 .f32) (x2 : Vec F S128x256 .f32) (x3 : Vec F S128x256 .f32) (x4 : Vec F S128x256 .f32) (x5 : Vec F S128x128 .f32) (x6 : Vec F S128x128 .f32) (x7 : Vec F S128x128 .f32) (x8 : Vec F S128x128 .f32) (x9 : Vec F S1x32 .f32) (x10 : Vec F S128x2048 .f32) (x11 : Vec F S128x32 .f32) (x12 : Vec F S128x2048 .f32)

set_option maxHeartbeats 4000000 in
/-- The body at a later block, the sums of the sink gradient and the two carried buffers holding `y16`, `y17`, `y18`. -/
def runMid (hc0 : ¬isFirst i) (hc1 : isBlock i) (hc2 : ¬isPast i) (y16 : Vec F S8x32 .f32) (y17 y18 : Vec F S128x256 .f32) :
    Σ' (L13 : List (View.Piece (Elt F) S128x2048 .f32)), Σ' (L14 : List (View.Piece (Elt F) S128x256 .f32)), Σ' (L15 : List (View.Piece (Elt F) S128x256 .f32)), Σ' (L16 : List (View.Piece (Elt F) S8x32 .f32)), Σ' (L17 : List (View.Piece (Elt F) S128x256 .f32)), { L18 : List (View.Piece (Elt F) S128x256 .f32) //
      ∀ (E : Set ℕ) (K : PUnit → sProp 𝕄),
        iprop(staged c arg1 arg2 arg3 arg4 arg5 arg6 arg7 arg8 arg9 arg10 arg11 arg12 arg13 x0 x1 x2 x3 x4 x5 x6 x7 x8 x9 x10 x11 x12 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare y16 ∗ owns (c : Thread nD τ) arg18 fullShare y17 ∗ owns (c : Thread nD τ) arg19 fullShare y18
            ∗ (iprop(staged c arg1 arg2 arg3 arg4 arg5 arg6 arg7 arg8 arg9 arg10 arg11 arg12 arg13 x0 x1 x2 x3 x4 x5 x6 x7 x8 x9 x10 x11 x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold staged owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%d13, %f13, -, H13⟩, ⟨%d14, %f14, -, H14⟩, ⟨%d15, %f15, -, H15⟩, ⟨%f16, %hf16, H16⟩, ⟨%f17, %hf17, H17⟩, ⟨%f18, %hf18, H18⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    obtain rfl := harg17.eq_unread hf16; obtain rfl := harg18.eq_unread hf17; obtain rfl := harg19.eq_unread hf18
    sl_exec (disch := first | sl_exact hc0 | sl_exact hc1 | sl_exact hc2)
    sl_step
    iapply Hk
    isplitl [H0 H1 H2 H3 H4 H5 H6 H7 H8 H9 H10 H11 H12]
    · isplitl [H0]; · iexists _; isplitr; ipureintro; exact harg1.read_unread _; iexact H0
      isplitl [H1]; · iexists _; isplitr; ipureintro; exact harg2.read_unread _; iexact H1
      isplitl [H2]; · iexists _; isplitr; ipureintro; exact harg3.read_unread _; iexact H2
      isplitl [H3]; · iexists _; isplitr; ipureintro; exact harg4.read_unread _; iexact H3
      isplitl [H4]; · iexists _; isplitr; ipureintro; exact harg5.read_unread _; iexact H4
      isplitl [H5]; · iexists _; isplitr; ipureintro; exact harg6.read_unread _; iexact H5
      isplitl [H6]; · iexists _; isplitr; ipureintro; exact harg7.read_unread _; iexact H6
      isplitl [H7]; · iexists _; isplitr; ipureintro; exact harg8.read_unread _; iexact H7
      isplitl [H8]; · iexists _; isplitr; ipureintro; exact harg9.read_unread _; iexact H8
      isplitl [H9]; · iexists _; isplitr; ipureintro; exact harg10.read_unread _; iexact H9
      isplitl [H10]; · iexists _; isplitr; ipureintro; exact harg11.read_unread _; iexact H10
      isplitl [H11]; · iexists _; isplitr; ipureintro; exact harg12.read_unread _; iexact H11
      iexists _; isplitr; ipureintro; exact harg13.read_unread _; iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18

end Cert.AttnBwd

end
-- ==== Proof.Attn.PiecesMid.lean ====
module

public import proofs.«01_k».proof.Proof.Attn.Pieces
public import proofs.«01_k».proof.Proof.Attn.RunMid

@[expose] public section

set_option maxRecDepth 16384

noncomputable section

namespace Cert.AttnBwd

open Idealize.ShloMosaic Idealize.SL.Sem Cert.KernelIdeal Cert.KernelIdeal.Gen

variable {F : FTy → Type} [FloatOps F]

variable (c : Dev nD) (i : grid0.Coords)
  (arg1 : Memref sig .tc .vmem S128x2048 .f32) (harg1 : arg1.IsWhole)
  (arg2 : Memref sig .tc .vmem S128x256 .f32) (harg2 : arg2.IsWhole)
  (arg3 : Memref sig .tc .vmem S128x256 .f32) (harg3 : arg3.IsWhole)
  (arg4 : Memref sig .tc .vmem S128x256 .f32) (harg4 : arg4.IsWhole)
  (arg5 : Memref sig .tc .vmem S128x256 .f32) (harg5 : arg5.IsWhole)
  (arg6 : Memref sig .tc .vmem S128x128 .f32) (harg6 : arg6.IsWhole)
  (arg7 : Memref sig .tc .vmem S128x128 .f32) (harg7 : arg7.IsWhole)
  (arg8 : Memref sig .tc .vmem S128x128 .f32) (harg8 : arg8.IsWhole)
  (arg9 : Memref sig .tc .vmem S128x128 .f32) (harg9 : arg9.IsWhole)
  (arg10 : Memref sig .tc .vmem S1x32 .f32) (harg10 : arg10.IsWhole)
  (arg11 : Memref sig .tc .vmem S128x2048 .f32) (harg11 : arg11.IsWhole)
  (arg12 : Memref sig .tc .vmem S128x32 .f32) (harg12 : arg12.IsWhole)
  (arg13 : Memref sig .tc .vmem S128x2048 .f32) (harg13 : arg13.IsWhole)
  (arg14 : Memref sig .tc .vmem S128x2048 .f32) (harg14 : arg14.IsWhole)
  (arg15 : Memref sig .tc .vmem S128x256 .f32) (harg15 : arg15.IsWhole)
  (arg16 : Memref sig .tc .vmem S128x256 .f32) (harg16 : arg16.IsWhole)
  (arg17 : Memref sig .tc .vmem S8x32 .f32) (harg17 : arg17.IsWhole)
  (arg18 : Memref sig .tc .vmem S128x256 .f32) (harg18 : arg18.IsWhole)
  (arg19 : Memref sig .tc .vmem S128x256 .f32) (harg19 : arg19.IsWhole)
  (x0 : Vec F S128x2048 .f32) (x1 : Vec F S128x256 .f32) (x2 : Vec F S128x256 .f32) (x3 : Vec F S128x256 .f32) (x4 : Vec F S128x256 .f32) (x5 : Vec F S128x128 .f32) (x6 : Vec F S128x128 .f32) (x7 : Vec F S128x128 .f32) (x8 : Vec F S128x128 .f32) (x9 : Vec F S1x32 .f32) (x10 : Vec F S128x2048 .f32) (x11 : Vec F S128x32 .f32) (x12 : Vec F S128x2048 .f32)

variable (hc0 : ¬isFirst i) (hc1 : isBlock i) (hc2 : ¬isPast i) (y16 : Vec F S8x32 .f32) (y17 y18 : Vec F S128x256 .f32)

theorem mid_dq : (runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc0 hc1 hc2 y16 y17 y18).1 = (⟨(Rect.unit ![0, 0] S128x2048.size inb_S128x2048_S128x2048_0_0), (held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12).rotQ (arg14.view.readCov ((held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12).dqPieces i) (Rect.unit ![0, 0] S128x2048.size inb_S128x2048_S128x2048_0_0).toLoadRect)⟩ : View.Piece (Elt F) S128x2048 .f32) :: (held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12).dqPieces i := by
  sl_kernel_rfl

/-- What the block leaves as the query gradient. -/
theorem mid_dq_read (f : arg14.view.ty.Contents (Elt F)) : arg14.view.read (Elt F) (arg14.view.writes (Elt F) f (runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc0 hc1 hc2 y16 y17 y18).1) = (⟨x0, x1, x2, x3, x4, x5, x6, x7, x8, x9, x10, x11, x12⟩ : Blocks F).rotQ ((⟨x0, x1, x2, x3, x4, x5, x6, x7, x8, x9, x10, x11, x12⟩ : Blocks F).dqPre i) := by
  rw [mid_dq]
  refine (read_whole _ f _ (by decide) _ _ _).trans ?_
  rw [readCov_whole _ _ (by decide) _ ((held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12).dqPieces i), Blocks.dq_canon, held_eq arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12]

theorem mid_dk : (runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc0 hc1 hc2 y16 y17 y18).2.1 = (⟨(Rect.unit ![0, 0] S128x256.size inb_S128x256_S128x256_0_0), (held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12).rotK (shapeCast S128x256 (arg15.view.readCov ((held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12).dkTopPieces i (fun h => View.readAt (Elt F) arg18.view (Rect.unit (s := S128x256) ![0, 64 * h.val] S128x64.size (inb_kv h)).toLoadRect (harg18.unread y17))) (Rect.unit ![0, 0] S128x256.size inb_S128x256_S128x256_0_0).toLoadRect) shapeCasts_S128x256_S128x256)⟩ : View.Piece (Elt F) S128x256 .f32) :: (held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12).dkTopPieces i (fun h => View.readAt (Elt F) arg18.view (Rect.unit (s := S128x256) ![0, 64 * h.val] S128x64.size (inb_kv h)).toLoadRect (harg18.unread y17)) := by
  sl_kernel_rfl

/-- What the block leaves as the finished key gradient. -/
theorem mid_dk_read (f : arg15.view.ty.Contents (Elt F)) : arg15.view.read (Elt F) (arg15.view.writes (Elt F) f (runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc0 hc1 hc2 y16 y17 y18).2.1) = (⟨x0, x1, x2, x3, x4, x5, x6, x7, x8, x9, x10, x11, x12⟩ : Blocks F).rotK (addf y17 ((⟨x0, x1, x2, x3, x4, x5, x6, x7, x8, x9, x10, x11, x12⟩ : Blocks F).dkTop i)) := by
  rw [mid_dk]
  refine (read_whole _ f _ (by decide) _ _ _).trans ?_
  rw [← held_eq arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12]
  refine congrArg ((held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12)).rotK ((shapeCast_self _ _).trans ((readCov_whole _ _ (by decide) _ ((held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12).dkTopPieces i _)).trans ?_))
  refine (Blocks.dkTop_canon (held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12) i y17 _ fun h x => ?_)
  exact congrFun (harg18.read_unread y17) _

theorem mid_dv : (runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc0 hc1 hc2 y16 y17 y18).2.2.1 = (held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12).dvTopPieces i (fun h => View.readAt (Elt F) arg19.view (Rect.unit (s := S128x256) ![0, 64 * h.val] S128x64.size (inb_kv h)).toLoadRect (harg19.unread y18)) := by
  sl_kernel_rfl

/-- What the block leaves as the finished value gradient. -/
theorem mid_dv_read (f : arg16.view.ty.Contents (Elt F)) : arg16.view.read (Elt F) (arg16.view.writes (Elt F) f (runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc0 hc1 hc2 y16 y17 y18).2.2.1) = addf y18 ((⟨x0, x1, x2, x3, x4, x5, x6, x7, x8, x9, x10, x11, x12⟩ : Blocks F).dvTop i) := by
  rw [mid_dv]
  refine (View.read_writes_eq_canon arg16.view f _ (Blocks.dvTop_cover _ _ _)).trans ?_
  refine (Blocks.dvTop_canon (held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12) i y18 _ fun h x => ?_).trans ?_
  · exact congrFun (harg19.read_unread y18) _
  · rw [held_eq arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12]

theorem mid_ds : (runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc0 hc1 hc2 y16 y17 y18).2.2.2.1 = (held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12).sinkPieces (fun h g => View.readAt (Elt F) arg17.view (Rect.unit (s := S8x32) ![0, 8 * h.val + g.val] S8x1.size (inb_dsink h g)).toLoadRect (harg17.unread y16)) := by
  sl_kernel_rfl

/-- What the block leaves as the sink gradient. -/
theorem mid_ds_read (f : arg17.view.ty.Contents (Elt F)) : arg17.view.read (Elt F) (arg17.view.writes (Elt F) f (runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc0 hc1 hc2 y16 y17 y18).2.2.2.1) = (⟨x0, x1, x2, x3, x4, x5, x6, x7, x8, x9, x10, x11, x12⟩ : Blocks F).sinkOut y16 := by
  rw [mid_ds]
  refine (View.read_writes_eq_canon arg17.view f _ (Blocks.sink_cover _ _)).trans ?_
  refine (Blocks.sink_canon _ y16 _ fun h g x => ?_).trans ?_
  · exact congrFun (harg17.read_unread y16) _
  · rw [held_eq arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12]

theorem mid_dkc : (runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc0 hc1 hc2 y16 y17 y18).2.2.2.2.1 = (held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12).dkBotPieces i := by
  sl_kernel_rfl

/-- What the block leaves as the key gradient carried on. -/
theorem mid_dkc_read (f : arg18.view.ty.Contents (Elt F)) : arg18.view.read (Elt F) (arg18.view.writes (Elt F) f (runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc0 hc1 hc2 y16 y17 y18).2.2.2.2.1) = (⟨x0, x1, x2, x3, x4, x5, x6, x7, x8, x9, x10, x11, x12⟩ : Blocks F).dkBot i := by
  rw [mid_dkc]
  refine (View.read_writes_eq_canon arg18.view f _ (Blocks.dkBot_cover _ _)).trans ?_
  rw [Blocks.dkBot_canon, held_eq arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12]

theorem mid_dvc : (runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc0 hc1 hc2 y16 y17 y18).2.2.2.2.2.val = (held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12).dvBotPieces i := by
  sl_kernel_rfl

/-- What the block leaves as the value gradient carried on. -/
theorem mid_dvc_read (f : arg19.view.ty.Contents (Elt F)) : arg19.view.read (Elt F) (arg19.view.writes (Elt F) f (runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc0 hc1 hc2 y16 y17 y18).2.2.2.2.2.val) = (⟨x0, x1, x2, x3, x4, x5, x6, x7, x8, x9, x10, x11, x12⟩ : Blocks F).dvBot i := by
  rw [mid_dvc]
  refine (View.read_writes_eq_canon arg19.view f _ (Blocks.dvBot_cover _ _)).trans ?_
  rw [Blocks.dvBot_canon, held_eq arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12]

end Cert.AttnBwd

end
-- ==== Proof.Attn.RunLast.lean ====
module

public import proofs.«01_k».proof.Proof.Attn.Body

@[expose] public section

set_option maxRecDepth 16384

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (c : Dev nD) (i : grid0.Coords)
  (arg1 : Memref sig .tc .vmem S128x2048 .f32) (harg1 : arg1.IsWhole)
  (arg2 : Memref sig .tc .vmem S128x256 .f32) (harg2 : arg2.IsWhole)
  (arg3 : Memref sig .tc .vmem S128x256 .f32) (harg3 : arg3.IsWhole)
  (arg4 : Memref sig .tc .vmem S128x256 .f32) (harg4 : arg4.IsWhole)
  (arg5 : Memref sig .tc .vmem S128x256 .f32) (harg5 : arg5.IsWhole)
  (arg6 : Memref sig .tc .vmem S128x128 .f32) (harg6 : arg6.IsWhole)
  (arg7 : Memref sig .tc .vmem S128x128 .f32) (harg7 : arg7.IsWhole)
  (arg8 : Memref sig .tc .vmem S128x128 .f32) (harg8 : arg8.IsWhole)
  (arg9 : Memref sig .tc .vmem S128x128 .f32) (harg9 : arg9.IsWhole)
  (arg10 : Memref sig .tc .vmem S1x32 .f32) (harg10 : arg10.IsWhole)
  (arg11 : Memref sig .tc .vmem S128x2048 .f32) (harg11 : arg11.IsWhole)
  (arg12 : Memref sig .tc .vmem S128x32 .f32) (harg12 : arg12.IsWhole)
  (arg13 : Memref sig .tc .vmem S128x2048 .f32) (harg13 : arg13.IsWhole)
  (arg14 : Memref sig .tc .vmem S128x2048 .f32) (harg14 : arg14.IsWhole)
  (arg15 : Memref sig .tc .vmem S128x256 .f32) (harg15 : arg15.IsWhole)
  (arg16 : Memref sig .tc .vmem S128x256 .f32) (harg16 : arg16.IsWhole)
  (arg17 : Memref sig .tc .vmem S8x32 .f32) (harg17 : arg17.IsWhole)
  (arg18 : Memref sig .tc .vmem S128x256 .f32) (harg18 : arg18.IsWhole)
  (arg19 : Memref sig .tc .vmem S128x256 .f32) (harg19 : arg19.IsWhole)
  (x0 : Vec F S128x2048 .f32) (x1 : Vec F S128x256 .f32) (x2 : Vec F S128x256 .f32) (x3 : Vec F S128x256 .f32) (x4 : Vec F S128x256 .f32) (x5 : Vec F S128x128 .f32) (x6 : Vec F S128x128 .f32) (x7 : Vec F S128x128 .f32) (x8 : Vec F S128x128 .f32) (x9 : Vec F S1x32 .f32) (x10 : Vec F S128x2048 .f32) (x11 : Vec F S128x32 .f32) (x12 : Vec F S128x2048 .f32)

set_option maxHeartbeats 4000000 in
/-- The body past the last block: the carried buffers go out, and keep what they hold. -/
def runLast (hc0 : ¬isFirst i) (hc1 : ¬isBlock i) (hc2 : isPast i) (y17 y18 : Vec F S128x256 .f32) :
    Σ' (L14 : List (View.Piece (Elt F) S128x256 .f32)), { L15 : List (View.Piece (Elt F) S128x256 .f32) //
      ∀ (E : Set ℕ) (K : PUnit → sProp 𝕄),
        iprop(staged c arg1 arg2 arg3 arg4 arg5 arg6 arg7 arg8 arg9 arg10 arg11 arg12 arg13 x0 x1 x2 x3 x4 x5 x6 x7 x8 x9 x10 x11 x12 ∗ (∃ d, owns (c : Thread nD τ) arg15 fullShare d) ∗ (∃ d, owns (c : Thread nD τ) arg16 fullShare d) ∗ owns (c : Thread nD τ) arg18 fullShare y17 ∗ owns (c : Thread nD τ) arg19 fullShare y18
            ∗ (iprop(staged c arg1 arg2 arg3 arg4 arg5 arg6 arg7 arg8 arg9 arg10 arg11 arg12 arg13 x0 x1 x2 x3 x4 x5 x6 x7 x8 x9 x10 x11 x12 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ owns (c : Thread nD τ) arg18 fullShare y17 ∗ owns (c : Thread nD τ) arg19 fullShare y18) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun E K => ?run⟩
  case run =>
    simp only [cc0_attn_bwd_eq_skeleton]; unfold cc0_attn_bwd_skel
    unfold staged owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%d14, %f14, -, H14⟩, ⟨%d15, %f15, -, H15⟩, ⟨%f17, %hf17, H17⟩, ⟨%f18, %hf18, H18⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    obtain rfl := harg18.eq_unread hf17; obtain rfl := harg19.eq_unread hf18
    sl_exec (disch := first | sl_exact hc0 | sl_exact hc1 | sl_exact hc2)
    sl_step
    iapply Hk
    isplitl [H0 H1 H2 H3 H4 H5 H6 H7 H8 H9 H10 H11 H12]
    · isplitl [H0]; · iexists _; isplitr; ipureintro; exact harg1.read_unread _; iexact H0
      isplitl [H1]; · iexists _; isplitr; ipureintro; exact harg2.read_unread _; iexact H1
      isplitl [H2]; · iexists _; isplitr; ipureintro; exact harg3.read_unread _; iexact H2
      isplitl [H3]; · iexists _; isplitr; ipureintro; exact harg4.read_unread _; iexact H3
      isplitl [H4]; · iexists _; isplitr; ipureintro; exact harg5.read_unread _; iexact H4
      isplitl [H5]; · iexists _; isplitr; ipureintro; exact harg6.read_unread _; iexact H5
      isplitl [H6]; · iexists _; isplitr; ipureintro; exact harg7.read_unread _; iexact H6
      isplitl [H7]; · iexists _; isplitr; ipureintro; exact harg8.read_unread _; iexact H7
      isplitl [H8]; · iexists _; isplitr; ipureintro; exact harg9.read_unread _; iexact H8
      isplitl [H9]; · iexists _; isplitr; ipureintro; exact harg10.read_unread _; iexact H9
      isplitl [H10]; · iexists _; isplitr; ipureintro; exact harg11.read_unread _; iexact H10
      isplitl [H11]; · iexists _; isplitr; ipureintro; exact harg12.read_unread _; iexact H11
      iexists _; isplitr; ipureintro; exact harg13.read_unread _; iexact H12
    isplitl [H14]; · iexists _; iexact H14
    isplitl [H15]; · iexists _; iexact H15
    isplitl [H17]; · iexists _; isplitr; ipureintro; exact harg18.read_unread _; iexact H17
    iexists _; isplitr; ipureintro; exact harg19.read_unread _; iexact H18

end Cert.AttnBwd

end
-- ==== Proof.Attn.PiecesLast.lean ====
module

public import proofs.«01_k».proof.Proof.Attn.Pieces
public import proofs.«01_k».proof.Proof.Attn.RunLast

@[expose] public section

set_option maxRecDepth 16384

noncomputable section

namespace Cert.AttnBwd

open Idealize.ShloMosaic Idealize.SL.Sem Cert.KernelIdeal Cert.KernelIdeal.Gen

variable {F : FTy → Type} [FloatOps F]

variable (c : Dev nD) (i : grid0.Coords)
  (arg1 : Memref sig .tc .vmem S128x2048 .f32) (harg1 : arg1.IsWhole)
  (arg2 : Memref sig .tc .vmem S128x256 .f32) (harg2 : arg2.IsWhole)
  (arg3 : Memref sig .tc .vmem S128x256 .f32) (harg3 : arg3.IsWhole)
  (arg4 : Memref sig .tc .vmem S128x256 .f32) (harg4 : arg4.IsWhole)
  (arg5 : Memref sig .tc .vmem S128x256 .f32) (harg5 : arg5.IsWhole)
  (arg6 : Memref sig .tc .vmem S128x128 .f32) (harg6 : arg6.IsWhole)
  (arg7 : Memref sig .tc .vmem S128x128 .f32) (harg7 : arg7.IsWhole)
  (arg8 : Memref sig .tc .vmem S128x128 .f32) (harg8 : arg8.IsWhole)
  (arg9 : Memref sig .tc .vmem S128x128 .f32) (harg9 : arg9.IsWhole)
  (arg10 : Memref sig .tc .vmem S1x32 .f32) (harg10 : arg10.IsWhole)
  (arg11 : Memref sig .tc .vmem S128x2048 .f32) (harg11 : arg11.IsWhole)
  (arg12 : Memref sig .tc .vmem S128x32 .f32) (harg12 : arg12.IsWhole)
  (arg13 : Memref sig .tc .vmem S128x2048 .f32) (harg13 : arg13.IsWhole)
  (arg14 : Memref sig .tc .vmem S128x2048 .f32) (harg14 : arg14.IsWhole)
  (arg15 : Memref sig .tc .vmem S128x256 .f32) (harg15 : arg15.IsWhole)
  (arg16 : Memref sig .tc .vmem S128x256 .f32) (harg16 : arg16.IsWhole)
  (arg17 : Memref sig .tc .vmem S8x32 .f32) (harg17 : arg17.IsWhole)
  (arg18 : Memref sig .tc .vmem S128x256 .f32) (harg18 : arg18.IsWhole)
  (arg19 : Memref sig .tc .vmem S128x256 .f32) (harg19 : arg19.IsWhole)
  (x0 : Vec F S128x2048 .f32) (x1 : Vec F S128x256 .f32) (x2 : Vec F S128x256 .f32) (x3 : Vec F S128x256 .f32) (x4 : Vec F S128x256 .f32) (x5 : Vec F S128x128 .f32) (x6 : Vec F S128x128 .f32) (x7 : Vec F S128x128 .f32) (x8 : Vec F S128x128 .f32) (x9 : Vec F S1x32 .f32) (x10 : Vec F S128x2048 .f32) (x11 : Vec F S128x32 .f32) (x12 : Vec F S128x2048 .f32)

variable (hc0 : ¬isFirst i) (hc1 : ¬isBlock i) (hc2 : isPast i) (y17 y18 : Vec F S128x256 .f32)

theorem last_dk : (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc0 hc1 hc2 y17 y18).1 = [(⟨(Rect.unit ![0, 0] S128x256.size inb_S128x256_S128x256_0_0), (held arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12).rotK (View.readAt (Elt F) arg18.view (Rect.unit ![0, 0] S128x256.size inb_S128x256_S128x256_0_0).toLoadRect (harg18.unread y17))⟩ : View.Piece (Elt F) S128x256 .f32)] := by
  sl_kernel_rfl

/-- What the last point leaves as the finished key gradient. -/
theorem last_dk_read (f : arg15.view.ty.Contents (Elt F)) : arg15.view.read (Elt F) (arg15.view.writes (Elt F) f (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc0 hc1 hc2 y17 y18).1) = (⟨x0, x1, x2, x3, x4, x5, x6, x7, x8, x9, x10, x11, x12⟩ : Blocks F).rotK y17 := by
  rw [last_dk]
  refine (read_whole _ f _ (by decide) _ _ _).trans ?_
  rw [held_eq arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12]
  exact congrArg _ ((View.ld_unit_zero (by decide) _ _).trans (harg18.read_unread y17))

theorem last_dv : (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc0 hc1 hc2 y17 y18).2.val = [(⟨(Rect.unit ![0, 0] S128x256.size inb_S128x256_S128x256_0_0), View.readAt (Elt F) arg19.view (Rect.unit ![0, 0] S128x256.size inb_S128x256_S128x256_0_0).toLoadRect (harg19.unread y18)⟩ : View.Piece (Elt F) S128x256 .f32)] := by
  sl_kernel_rfl

/-- What the last point leaves as the finished value gradient. -/
theorem last_dv_read (f : arg16.view.ty.Contents (Elt F)) : arg16.view.read (Elt F) (arg16.view.writes (Elt F) f (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 hc0 hc1 hc2 y17 y18).2.val) = y18 := by
  rw [last_dv]
  exact (read_whole _ f _ (by decide) _ _ _).trans ((View.ld_unit_zero (by decide) _ _).trans (harg19.read_unread y18))

end Cert.AttnBwd

end
-- ==== Proof.Attn.Frame.lean ====
module

public import proofs.«01_k».proof.Proof.Attn.PiecesFirst
public import proofs.«01_k».proof.Proof.Attn.PiecesMid
public import proofs.«01_k».proof.Proof.Attn.PiecesLast
public import Idealize.ShloMosaic.Lib.Pipeline.TableIdle
public import Idealize.ShloMosaic.Lib.Claim

@[expose] public section

set_option maxRecDepth 16384

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### What each point leaves -/

theorem point_lt (t : Fin cfg0.N) : t.val < 33 := lt_of_lt_of_eq t.isLt (show cfg0.N = 33 from N_0)

/-- The thirteen blocks the body reads at point `t`. -/
def blocks (c : Dev nD) (t : Fin cfg0.N) : Blocks F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t⟩

/-- The last point at or before `t` that works on a block of queries, and the point before `t`. -/
def upTo (t : Fin cfg0.N) : Fin cfg0.N := ⟨min t.val 31, lt_of_le_of_lt (Nat.min_le_left _ _) t.isLt⟩
def prev (t : Fin cfg0.N) : Fin cfg0.N := ⟨t.val - 1, by omega⟩

theorem upTo_of_lt (t : Fin cfg0.N) (h : t.val < 32) : upTo t = t := Fin.ext (by show min t.val 31 = t.val; omega)

/-- The query gradient's block after point `t`. -/
def dqAt (c : Dev nD) (t : Fin cfg0.N) : Vec F S128x2048 .f32 :=
  (blocks m c (upTo t)).rotQ ((blocks m c (upTo t)).dqPre (grid0.coords (upTo t)))
/-- The key and value gradients of the newest block of keys, carried to the next point. -/
def dkCarry (c : Dev nD) (t : Fin cfg0.N) : Vec F S128x256 .f32 := (blocks m c (upTo t)).dkBot (grid0.coords (upTo t))
def dvCarry (c : Dev nD) (t : Fin cfg0.N) : Vec F S128x256 .f32 := (blocks m c (upTo t)).dvBot (grid0.coords (upTo t))
/-- The key gradient's block after point `t`: what was carried, and what this block of queries adds. -/
def dkAt (c : Dev nD) (t : Fin cfg0.N) : Vec F S128x256 .f32 :=
  (blocks m c t).rotK (if t.val = 0 then addf k0_pay3 ((blocks m c t).dkTop (grid0.coords t))
    else if t.val < 32 then addf (dkCarry m c (prev t)) ((blocks m c t).dkTop (grid0.coords t)) else dkCarry m c (prev t))
def dvAt (c : Dev nD) (t : Fin cfg0.N) : Vec F S128x256 .f32 :=
  if t.val = 0 then addf k0_pay4 ((blocks m c t).dvTop (grid0.coords t))
    else if t.val < 32 then addf (dvCarry m c (prev t)) ((blocks m c t).dvTop (grid0.coords t)) else dvCarry m c (prev t)
/-- The sink gradient's sums after point `n`. -/
def sinkAt (c : Dev nD) : (n : ℕ) → n < cfg0.N → Vec F S8x32 .f32
  | 0, h => (blocks m c ⟨0, h⟩).sinkOut k0_pay5
  | n + 1, h => if n + 1 < 32 then (blocks m c ⟨n + 1, h⟩).sinkOut (sinkAt c n (Nat.lt_of_succ_lt h)) else sinkAt c n (Nat.lt_of_succ_lt h)

theorem dqAt_of_lt (c : Dev nD) (t : Fin cfg0.N) (h : t.val < 32) :
    dqAt m c t = (blocks m c t).rotQ ((blocks m c t).dqPre (grid0.coords t)) := by unfold dqAt; rw [upTo_of_lt t h]
theorem dkCarry_of_lt (c : Dev nD) (t : Fin cfg0.N) (h : t.val < 32) :
    dkCarry m c t = (blocks m c t).dkBot (grid0.coords t) := by unfold dkCarry; rw [upTo_of_lt t h]
theorem dvCarry_of_lt (c : Dev nD) (t : Fin cfg0.N) (h : t.val < 32) :
    dvCarry m c t = (blocks m c t).dvBot (grid0.coords t) := by unfold dvCarry; rw [upTo_of_lt t h]
theorem upTo_last (t : Fin cfg0.N) (h : t.val = 32) : upTo t = upTo (prev t) :=
  Fin.ext (by show min t.val 31 = min (t.val - 1) 31; omega)
theorem dqAt_last (c : Dev nD) (t : Fin cfg0.N) (h : t.val = 32) : dqAt m c t = dqAt m c (prev t) := by unfold dqAt; rw [upTo_last t h]
theorem dkCarry_last (c : Dev nD) (t : Fin cfg0.N) (h : t.val = 32) : dkCarry m c t = dkCarry m c (prev t) := by unfold dkCarry; rw [upTo_last t h]
theorem dvCarry_last (c : Dev nD) (t : Fin cfg0.N) (h : t.val = 32) : dvCarry m c t = dvCarry m c (prev t) := by unfold dvCarry; rw [upTo_last t h]
theorem sinkAt_first (c : Dev nD) (t : Fin cfg0.N) (h : t.val = 0) : sinkAt m c t.val t.isLt = (blocks m c t).sinkOut k0_pay5 := by
  obtain ⟨n, hn⟩ := t; obtain rfl : n = 0 := h; rfl
theorem sinkAt_mid (c : Dev nD) (t : Fin cfg0.N) (h : t.val ≠ 0) (h' : t.val < 32) :
    sinkAt m c t.val t.isLt = (blocks m c t).sinkOut (sinkAt m c (prev t).val (prev t).isLt) := by
  obtain ⟨n, hn⟩ := t
  cases n with
  | zero => exact absurd rfl h
  | succ n => exact if_pos h'
theorem sinkAt_last (c : Dev nD) (t : Fin cfg0.N) (h : t.val = 32) : sinkAt m c t.val t.isLt = sinkAt m c (prev t).val (prev t).isLt := by
  obtain ⟨n, hn⟩ := t; obtain rfl : n = 32 := h; exact if_neg (by decide)

/-! ### The proof data -/

abbrev scM0_0 : Memref sig .tc .vmem S128x256 .f32 := Memref.whole cc0_scratch0
abbrev scM0_1 : Memref sig .tc .vmem S128x256 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The invariant before position `n`: the two carried buffers at what the point before left in them. -/
def PhiS (c : Dev nD) : (n : ℕ) → n ≤ cfg0.N → sProp 𝕄
  | 0, _ => Pipeline.ΦA spec0 c
  | n + 1, hn => iprop(iprop(owns (c : Thread nD τ) scM0_0 fullShare (dkCarry m c ⟨n, hn⟩) ∗ owns (c : Thread nD τ) scM0_1 fullShare (dvCarry m c ⟨n, hn⟩)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (t : Fin cfg0.N) :
    PhiS m c (t.val + 1) t.isLt = iprop(iprop(owns (c : Thread nD τ) scM0_0 fullShare (dkCarry m c t) ∗ owns (c : Thread nD τ) scM0_1 fullShare (dvCarry m c t)) ∗ (∃ r, prngReg c r)) := rfl
theorem PhiS_pos (c : Dev nD) (n : ℕ) (h : n ≤ cfg0.N) (hz : n ≠ 0) :
    PhiS m c n h = iprop(iprop(owns (c : Thread nD τ) scM0_0 fullShare (dkCarry m c ⟨n - 1, by omega⟩) ∗ owns (c : Thread nD τ) scM0_1 fullShare (dvCarry m c ⟨n - 1, by omega⟩)) ∗ (∃ r, prngReg c r)) := by
  cases n with
  | zero => exact absurd rfl hz
  | succ n => rfl

/-- The proof data: every input's buffer at its block, every output's at what the point leaves, the carried buffers as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => dqAt m c t
    | ⟨14, _⟩ => dkAt m c t
    | ⟨15, _⟩ => dvAt m c t
    | ⟨16, _⟩ => sinkAt m c t.val t.isLt
    | ⟨_ + 17, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = dqAt m c t := by dsimp only [dats]
theorem after0_14 (c : Dev nD) (t : Fin cfg0.N) : (dats m 0 c).after 14 t = dkAt m c t := by dsimp only [dats]
theorem after0_15 (c : Dev nD) (t : Fin cfg0.N) : (dats m 0 c).after 15 t = dvAt m c t := by dsimp only [dats]
theorem after0_16 (c : Dev nD) (t : Fin cfg0.N) : (dats m 0 c).after 16 t = sinkAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ### What the two kept outputs hold before a point -/

/-- Output 13 is fresh at every position but the last, output 16 at the first only. -/
def freshTab13 : ℕ → Bool := fun n => n != 32
def freshTab16 : ℕ → Bool := fun n => n == 0 || n == 33

theorem fresh13 (t : Fin cfg0.N) : cfg0.fresh 13 t.val = freshTab13 t.val :=
  Pipeline.Cfg.fresh_tab cfg0 13 freshTab13 rfl
    (by decide +kernel : ∀ t : Fin cfg0.N, freshTab13 (t.val + 1) = ((cfg0.win 13).flush t || (cfg0.idle 13 (cfg0.grid.coords t) && freshTab13 t.val)))
    t.val (Nat.le_of_lt t.isLt)
theorem fresh16 (t : Fin cfg0.N) : cfg0.fresh 16 t.val = freshTab16 t.val :=
  Pipeline.Cfg.fresh_tab cfg0 16 freshTab16 rfl
    (by decide +kernel : ∀ t : Fin cfg0.N, freshTab16 (t.val + 1) = ((cfg0.win 16).flush t || (cfg0.idle 16 (cfg0.grid.coords t) && freshTab16 t.val)))
    t.val (Nat.le_of_lt t.isLt)

theorem idle13 : ∀ t : Fin cfg0.N, cfg0.idle 13 (grid0.coords t) = true → t.val = 32 := by decide +kernel
theorem idle16 : ∀ t : Fin cfg0.N, cfg0.idle 16 (grid0.coords t) = true → t.val = 32 := by decide +kernel

theorem before13_last (c : Dev nD) (t : Fin cfg0.N) (h : t.val = 32) (d) : (dats m 0 c).before 13 t d = dqAt m c t := by
  rw [Dat.before_out_traj _ 13 rfl (fun _ _ => rfl) (fun t _ hi _ => by
      rw [after0_13, after0_13]; exact dqAt_last m c t (idle13 t hi)) t.val t rfl d,
    if_neg (by rw [fresh13, h]; decide)]
  rw [after0_13]
  exact (dqAt_last m c t h).symm
theorem before16 (c : Dev nD) (t : Fin cfg0.N) (h : t.val ≠ 0) (d) :
    (dats m 0 c).before 16 t d = sinkAt m c (prev t).val (prev t).isLt := by
  rw [Dat.before_out_traj _ 16 rfl (fun _ _ => rfl) (fun t _ hi _ => by
      rw [after0_16, after0_16]; exact sinkAt_last m c t (idle16 t hi)) t.val t rfl d,
    if_neg (by
      rw [fresh16]; unfold freshTab16
      have := point_lt t
      simp only [Bool.or_eq_true, beq_iff_eq]; omega)]
  rw [after0_16]; rfl

/-! ### The body at every point -/

theorem kept (w : Fin cfg0.W) (c : Dev nD) (t : Fin cfg0.N) (h : cfg0.idle w (grid0.coords t) = false ∨ (cfg0.win w).flush t = true) :
    (dats m 0 c).leavesExact w t = owns (c : Thread nD τ) ((cfg0.win w).stage (cfg0.slots t w)) fullShare ((dats m 0 c).after w t) := by
  unfold Dat.leavesExact
  rcases h with h | h
  · rw [show cfg0.idle w (cfg0.grid.coords t) = false from h]
  · cases cfg0.idle w (cfg0.grid.coords t)
    · rfl
    · rw [h]
theorem kept13 : ∀ t : Fin cfg0.N, cfg0.idle 13 (grid0.coords t) = false ∨ (cfg0.win 13).flush t = true := by decide +kernel
theorem kept14 : ∀ t : Fin cfg0.N, cfg0.idle 14 (grid0.coords t) = false ∨ (cfg0.win 14).flush t = true := by decide +kernel
theorem kept15 : ∀ t : Fin cfg0.N, cfg0.idle 15 (grid0.coords t) = false ∨ (cfg0.win 15).flush t = true := by decide +kernel
theorem kept16 : ∀ t : Fin cfg0.N, cfg0.idle 16 (grid0.coords t) = false ∨ (cfg0.win 16).flush t = true := by decide +kernel

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

/-- What the body returns, each buffer at what the point leaves. -/
theorem bodyPost_eq (c : Dev nD) (t : Fin cfg0.N) :
    bodyPost m c t = iprop(iprop(iprop(owns (c : Thread nD τ) scM0_0 fullShare (dkCarry m c t) ∗ owns (c : Thread nD τ) scM0_1 fullShare (dvCarry m c t)) ∗ (∃ r, prngReg c r))
      ∗ (dats m 0 c).owesAt () t.castSucc
      ∗ owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ owns (c : Thread nD τ) (st0_3 t) fullShare (iblk m c 3 t)
      ∗ owns (c : Thread nD τ) (st0_4 t) fullShare (iblk m c 4 t)
      ∗ owns (c : Thread nD τ) (st0_5 t) fullShare (iblk m c 5 t)
      ∗ owns (c : Thread nD τ) (st0_6 t) fullShare (iblk m c 6 t)
      ∗ owns (c : Thread nD τ) (st0_7 t) fullShare (iblk m c 7 t)
      ∗ owns (c : Thread nD τ) (st0_8 t) fullShare (iblk m c 8 t)
      ∗ owns (c : Thread nD τ) (st0_9 t) fullShare (iblk m c 9 t)
      ∗ owns (c : Thread nD τ) (st0_10 t) fullShare (iblk m c 10 t)
      ∗ owns (c : Thread nD τ) (st0_11 t) fullShare (iblk m c 11 t)
      ∗ owns (c : Thread nD τ) (st0_12 t) fullShare (iblk m c 12 t)
      ∗ owns (c : Thread nD τ) (st0_13 t) fullShare (dqAt m c t)
      ∗ owns (c : Thread nD τ) (st0_14 t) fullShare (dkAt m c t)
      ∗ owns (c : Thread nD τ) (st0_15 t) fullShare (dvAt m c t)
      ∗ owns (c : Thread nD τ) (st0_16 t) fullShare (sinkAt m c t.val t.isLt)) := by
  unfold bodyPost
  rw [kept m 0 c t (.inl rfl), kept m 1 c t (.inl rfl), kept m 2 c t (.inl rfl), kept m 3 c t (.inl rfl), kept m 4 c t (.inl rfl), kept m 5 c t (.inl rfl), kept m 6 c t (.inl rfl), kept m 7 c t (.inl rfl), kept m 8 c t (.inl rfl), kept m 9 c t (.inl rfl), kept m 10 c t (.inl rfl), kept m 11 c t (.inl rfl), kept m 12 c t (.inl rfl), kept m 13 c t (kept13 t), kept m 14 c t (kept14 t), kept m 15 c t (kept15 t), kept m 16 c t (kept16 t),
    after0_0, after0_1, after0_2, after0_3, after0_4, after0_5, after0_6, after0_7, after0_8, after0_9, after0_10, after0_11, after0_12, after0_13, after0_14, after0_15, after0_16]
  rw [show (dats m 0 c).owesAt () t.succ = (dats m 0 c).owesAt () t.castSucc from rfl]
  rw [show (dats m 0 c).Φ t.succ = PhiS m c (t.val + 1) t.isLt from rfl, PhiS_succ]

set_option maxHeartbeats 4800000 in
theorem body_first (c : Dev nD) (t : Fin cfg0.N) (h : t.val = 0) :
    bodyPre m c t ⊢ wp frame (wpE (defs₀ (F := F)) Variants.none c none) Set.univ (bodyAt0 t) (fun _ => bodyPost m c t) := by
  have hb : t.val < 32 := by omega
  rw [bodyPost_eq, dqAt_of_lt m c t hb, dkCarry_of_lt m c t hb, dvCarry_of_lt m c t hb, sinkAt_first m c t h]
  unfold bodyPre bodyAt0 dkAt dvAt
  simp only [before0_0, before0_1, before0_2, before0_3, before0_4, before0_5, before0_6, before0_7, before0_8, before0_9, before0_10, before0_11, before0_12, if_pos h]
  rw [PhiS_castSucc m c t, PhiS_zero m c _ _ h, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((runFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((isFirst_iff t).mpr h) ((isBlock_iff t).mpr hb) (fun e => by have := (isPast_iff t).mp e; omega)).2.2.2.2.2.property Set.univ _)
  unfold staged
  isplitl [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H13]; · iexists _; iexact H13
  isplitl [H14]; · iexists _; iexact H14
  isplitl [H15]; · iexists _; iexact H15
  isplitl [H16]; · iexists _; iexact H16
  isplitl [HS0]; · iexact HS0
  isplitl [HS1]; · iexact HS1
  iintro ⟨⟨H0, H1, H2, H3, H4, H5, H6, H7, H8, H9, H10, H11, H12⟩, ⟨%e13, H13⟩, ⟨%e14, H14⟩, ⟨%e15, H15⟩, ⟨%e16, H16⟩, ⟨%es0, HS0⟩, ⟨%es1, HS1⟩⟩
  isplitl [HS0 HS1 Hg]
  · isplitl [HS0 HS1]
    · isplitl [HS0]
      · unfold owns; iexists _; isplitr
        swap; · iexact HS0
        ipureintro; exact first_dkc_read ..
      unfold owns; iexists _; isplitr
      swap; · iexact HS1
      ipureintro; exact first_dvc_read ..
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact first_dq_read ..
  isplitl [H14]
  · unfold owns; iexists _; isplitr
    swap; · iexact H14
    ipureintro; exact first_dk_read ..
  isplitl [H15]
  · unfold owns; iexists _; isplitr
    swap; · iexact H15
    ipureintro; exact first_dv_read ..
  unfold owns; iexists _; isplitr
  swap; · iexact H16
  ipureintro; exact first_ds_read ..

set_option maxHeartbeats 4800000 in
theorem body_mid (c : Dev nD) (t : Fin cfg0.N) (h : t.val ≠ 0) (hb : t.val < 32) :
    bodyPre m c t ⊢ wp frame (wpE (defs₀ (F := F)) Variants.none c none) Set.univ (bodyAt0 t) (fun _ => bodyPost m c t) := by
  rw [bodyPost_eq, dqAt_of_lt m c t hb, dkCarry_of_lt m c t hb, dvCarry_of_lt m c t hb, sinkAt_mid m c t h hb]
  unfold bodyPre bodyAt0 dkAt dvAt
  simp only [before0_0, before0_1, before0_2, before0_3, before0_4, before0_5, before0_6, before0_7, before0_8, before0_9, before0_10, before0_11, before0_12, before16 m c t h, if_neg h, if_pos hb]
  rw [PhiS_castSucc m c t, PhiS_pos m c _ _ h]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((runMid c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (fun e => h ((isFirst_iff t).mp e)) ((isBlock_iff t).mpr hb) (fun e => by have := (isPast_iff t).mp e; omega) (sinkAt m c (prev t).val (prev t).isLt) (dkCarry m c (prev t)) (dvCarry m c (prev t))).2.2.2.2.2.property Set.univ _)
  unfold staged
  isplitl [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H13]; · iexists _; iexact H13
  isplitl [H14]; · iexists _; iexact H14
  isplitl [H15]; · iexists _; iexact H15
  isplitl [H16]; · iexact H16
  isplitl [HS0]; · iexact HS0
  isplitl [HS1]; · iexact HS1
  iintro ⟨⟨H0, H1, H2, H3, H4, H5, H6, H7, H8, H9, H10, H11, H12⟩, ⟨%e13, H13⟩, ⟨%e14, H14⟩, ⟨%e15, H15⟩, ⟨%e16, H16⟩, ⟨%es0, HS0⟩, ⟨%es1, HS1⟩⟩
  isplitl [HS0 HS1 Hg]
  · isplitl [HS0 HS1]
    · isplitl [HS0]
      · unfold owns; iexists _; isplitr
        swap; · iexact HS0
        ipureintro; exact mid_dkc_read ..
      unfold owns; iexists _; isplitr
      swap; · iexact HS1
      ipureintro; exact mid_dvc_read ..
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact mid_dq_read ..
  isplitl [H14]
  · unfold owns; iexists _; isplitr
    swap; · iexact H14
    ipureintro; exact mid_dk_read ..
  isplitl [H15]
  · unfold owns; iexists _; isplitr
    swap; · iexact H15
    ipureintro; exact mid_dv_read ..
  unfold owns; iexists _; isplitr
  swap; · iexact H16
  ipureintro; exact mid_ds_read ..

set_option maxHeartbeats 4800000 in
theorem body_last (c : Dev nD) (t : Fin cfg0.N) (h : t.val = 32) :
    bodyPre m c t ⊢ wp frame (wpE (defs₀ (F := F)) Variants.none c none) Set.univ (bodyAt0 t) (fun _ => bodyPost m c t) := by
  have h0 : t.val ≠ 0 := by omega
  have hb : ¬t.val < 32 := by omega
  rw [bodyPost_eq, dkCarry_last m c t h, dvCarry_last m c t h, sinkAt_last m c t h]
  unfold bodyPre bodyAt0 dkAt dvAt
  simp only [before0_0, before0_1, before0_2, before0_3, before0_4, before0_5, before0_6, before0_7, before0_8, before0_9, before0_10, before0_11, before0_12, before13_last m c t h, before16 m c t h0, if_neg h0, if_neg hb]
  rw [PhiS_castSucc m c t, PhiS_pos m c _ _ h0]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((runLast c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (fun e => h0 ((isFirst_iff t).mp e)) (fun e => hb ((isBlock_iff t).mp e)) ((isPast_iff t).mpr h) (dkCarry m c (prev t)) (dvCarry m c (prev t))).2.property Set.univ _)
  unfold staged
  isplitl [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H14]; · iexists _; iexact H14
  isplitl [H15]; · iexists _; iexact H15
  isplitl [HS0]; · iexact HS0
  isplitl [HS1]; · iexact HS1
  iintro ⟨⟨H0, H1, H2, H3, H4, H5, H6, H7, H8, H9, H10, H11, H12⟩, ⟨%e14, H14⟩, ⟨%e15, H15⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact last_dk_read ..
  isplitl [H15]
  · unfold owns; iexists _; isplitr
    swap; · iexact H15
    ipureintro; exact last_dv_read ..
  iexact H16

theorem sound_body (c : Dev nD) (t : Fin cfg0.N) :
    bodyPre m c t ⊢ wp frame (wpE (defs₀ (F := F)) Variants.none c none) Set.univ (bodyAt0 t) (fun _ => bodyPost m c t) := by
  by_cases h : t.val = 0
  · exact body_first m c t h
  · by_cases hb : t.val < 32
    · exact body_mid m c t h hb
    · exact body_last m c t (by have := point_lt t; omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 33 := N_0; omega), PhiA0_eq]
  iintro ⟨⟨HS0, HS1⟩, Hg⟩
  isplitl [HS0 HS1]
  · isplitl [HS0]
    · iexists _; iexact HS0
    iexists _; iexact HS1
  iexact Hg

/-! ### The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every argument array is left as it was, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.AttnBwd

end
-- ==== Proof.Attn.Host.lean ====
module

public import proofs.«01_k».proof.Proof.Gen.KernelIdeal.Frame
public import proofs.«01_k».proof.Proof.Gen.ReferenceIdeal.Read
public import Idealize.ShloMosaic.Lib.Pipeline.ValueKit

@[expose] public section

set_option maxRecDepth 16384

noncomputable section

namespace Cert.AttnBwd

open Idealize.ShloMosaic Idealize.ShloMosaic.TcCoe Idealize.SL.Sem Cert.KernelIdeal Cert.KernelIdeal.Gen
open Cert.ReferenceIdeal.Read

variable {F : FTy → Type} [FloatOps F]
variable (m : (ℓ : Loc nD τ sig) → Buf (Elt F) ℓ)

/-! # What the host lines before the call leave: the forward values of the reference -/

theorem V_cos (c : Dev nD) : V m c main_v12 = val_main_v13 (F := F) := by
  unfold V V0
  simp only [List.flatten_cons, List.flatten_nil, List.append_nil]
  after_results
  sl_kernel_rfl

theorem V_out (c : Dev nD) : V m c main_v94 = val_main_v119 (F := F) (m ((c.tc : Thread nD τ).loc main_arg0)) (m ((c.tc : Thread nD τ).loc main_arg1)) (m ((c.tc : Thread nD τ).loc main_arg2)) (m ((c.tc : Thread nD τ).loc main_arg3)) := by
  unfold V V0
  simp only [List.flatten_cons, List.flatten_nil, List.append_nil]
  after_results
  sl_kernel_rfl

theorem V_lse (c : Dev nD) : V m c main_v96 = val_main_v121 (F := F) (m ((c.tc : Thread nD τ).loc main_arg0)) (m ((c.tc : Thread nD τ).loc main_arg1)) (m ((c.tc : Thread nD τ).loc main_arg3)) := by
  unfold V V0
  simp only [List.flatten_cons, List.flatten_nil, List.append_nil]
  after_results
  sl_kernel_rfl

theorem V_sin (c : Dev nD) : V m c main_v13 = val_main_v14 (F := F) := by
  unfold V V0
  simp only [List.flatten_cons, List.flatten_nil, List.append_nil]
  after_results
  sl_kernel_rfl

/-- Four copies of a table side by side. -/
theorem V_cos4 (c : Dev nD) (t : Fin 4096) (k : Fin 128) :
    (V m c main_v99 : S4096x128.Idx → Elt F .f32) (ix2 t k) = val_main_v13 (F := F) (ix2 t ⟨k.val % 32, Nat.mod_lt _ (by decide)⟩) := by
  rw [← V_cos m c]
  unfold V V0
  simp only [List.flatten_cons, List.flatten_nil, List.append_nil]
  after_results
  pointwise
theorem V_sin4 (c : Dev nD) (t : Fin 4096) (k : Fin 128) :
    (V m c main_v102 : S4096x128.Idx → Elt F .f32) (ix2 t k) = val_main_v14 (F := F) (ix2 t ⟨k.val % 32, Nat.mod_lt _ (by decide)⟩) := by
  rw [← V_sin m c]
  unfold V V0
  simp only [List.flatten_cons, List.flatten_nil, List.append_nil]
  after_results
  pointwise

end Cert.AttnBwd

end
-- ==== Proof.Attn.Inputs.lean ====
module

public import proofs.«01_k».proof.Proof.Attn.Match
public import proofs.«01_k».proof.Proof.Attn.Frame
public import proofs.«01_k».proof.Proof.Attn.Host

@[expose] public section

set_option maxRecDepth 16384

noncomputable section

namespace Cert.AttnBwd

open Idealize.ShloMosaic Idealize.ShloMosaic.TcCoe Idealize.SL.Sem Cert.KernelIdeal Cert.KernelIdeal.Gen Cert.Finite
open Cert.ReferenceIdeal.Read

/-! # The blocks the kernel's body reads -/

variable (m : (ℓ : Loc nD τ sig) → Buf (Elt Ideal) ℓ) (c : Dev nD)

/-- The five arguments. -/
def X0 : S4096x2048.Idx → EReal := m ((c.tc : Thread nD τ).loc main_arg0)
def X1 : S4096x256.Idx → EReal := m ((c.tc : Thread nD τ).loc main_arg1)
def X2 : S4096x256.Idx → EReal := m ((c.tc : Thread nD τ).loc main_arg2)
def X3 : S1x32.Idx → EReal := m ((c.tc : Thread nD τ).loc main_arg3)
def X4 : S4096x2048.Idx → EReal := m ((c.tc : Thread nD τ).loc main_arg4)

/-- The tables of the angles, and what the forward pass saved. -/
def Cos : S4096x128.Idx → EReal := V m c main_v99
def Sin : S4096x128.Idx → EReal := V m c main_v102
def Out : S4096x2048.Idx → EReal := V m c main_v94
def Lse : S4096x32.Idx → EReal := V m c main_v96

theorem V_Cos : V m c main_v99 = Cos m c := rfl
theorem V_Sin : V m c main_v102 = Sin m c := rfl
theorem V_Out : V m c main_v94 = Out m c := rfl
theorem V_Lse : V m c main_v96 = Lse m c := rfl

theorem Cos_eq (t : Fin 4096) (k : Fin 128) : Cos m c (ix2 t k) = cosT t ⟨k.val % 32, Nat.mod_lt _ (by decide)⟩ := V_cos4 m c t k
theorem Sin_eq (t : Fin 4096) (k : Fin 128) : Sin m c (ix2 t k) = sinT t ⟨k.val % 32, Nat.mod_lt _ (by decide)⟩ := V_sin4 m c t k
theorem Out_eq : Out m c = val_main_v119 (F := Ideal) (X0 m c) (X1 m c) (X2 m c) (X3 m c) := V_out m c
theorem Lse_eq : Lse m c = val_main_v121 (F := Ideal) (X0 m c) (X1 m c) (X3 m c) := V_lse m c

theorem V_X0 : V m c main_arg0 = X0 m c := V_main_arg0 m c
theorem V_X1 : V m c main_arg1 = X1 m c := V_main_arg1 m c
theorem V_X2 : V m c main_arg2 = X2 m c := V_main_arg2 m c
theorem V_X3 : V m c main_arg3 = X3 m c := V_main_arg3 m c
theorem V_X4 : V m c main_arg4 = X4 m c := V_main_arg4 m c

theorem idxIn : ∀ t : Fin cfg0.N, win0_0.index t = ![min t.val 31, 0] ∧ win0_1.index t = ![min t.val 31 - 1, 0] ∧ win0_2.index t = ![min t.val 31, 0]
    ∧ win0_3.index t = ![min t.val 31 - 1, 0] ∧ win0_4.index t = ![min t.val 31, 0] ∧ win0_5.index t = ![min t.val 31, 0] ∧ win0_6.index t = ![min t.val 31, 0]
    ∧ win0_7.index t = ![t.val - 1, 0] ∧ win0_8.index t = ![t.val - 1, 0] ∧ win0_9.index t = ![0, 0] ∧ win0_10.index t = ![min t.val 31, 0]
    ∧ win0_11.index t = ![min t.val 31, 0] ∧ win0_12.index t = ![min t.val 31, 0] :=
  (by decide +kernel : ∀ t : Fin grid0.N, _)
theorem coord0 : ∀ t : Fin cfg0.N, (grid0.coords t 0).val = t.val := (by decide +kernel : ∀ t : Fin grid0.N, _)

/-! ### The blocks the body reads -/

/-- The block of keys that point `t` finishes. -/
def done (t : Fin cfg0.N) : Fin 32 := ⟨t.val - 1, by have := point_lt t; omega⟩

section blocks
variable (t : Fin cfg0.N) (r : Fin 128)

section
variable (h : t.val < 32)
include h

theorem at0 (k : Fin 2048) : iblk m c 0 t (ix2 r k) = X0 m c (ix2 (row ⟨t.val, h⟩ r) k) := by
  obtain ⟨e0, e1, e2, e3, e4, e5, e6, e7, e8, e9, e10, e11, e12⟩ := idxIn t
  rw [← V_X0]; blk_point [iblk, e0]
theorem at1 (k : Fin 256) : iblk m c 1 t (ix2 r k) = X1 m c (ix2 (row (before ⟨t.val, h⟩) r) k) := by
  obtain ⟨e0, e1, e2, e3, e4, e5, e6, e7, e8, e9, e10, e11, e12⟩ := idxIn t
  rw [← V_X1]; blk_point [iblk, e1]
theorem at2 (k : Fin 256) : iblk m c 2 t (ix2 r k) = X1 m c (ix2 (row ⟨t.val, h⟩ r) k) := by
  obtain ⟨e0, e1, e2, e3, e4, e5, e6, e7, e8, e9, e10, e11, e12⟩ := idxIn t
  rw [← V_X1]; blk_point [iblk, e2]
theorem at3 (k : Fin 256) : iblk m c 3 t (ix2 r k) = X2 m c (ix2 (row (before ⟨t.val, h⟩) r) k) := by
  obtain ⟨e0, e1, e2, e3, e4, e5, e6, e7, e8, e9, e10, e11, e12⟩ := idxIn t
  rw [← V_X2]; blk_point [iblk, e3]
theorem at4 (k : Fin 256) : iblk m c 4 t (ix2 r k) = X2 m c (ix2 (row ⟨t.val, h⟩ r) k) := by
  obtain ⟨e0, e1, e2, e3, e4, e5, e6, e7, e8, e9, e10, e11, e12⟩ := idxIn t
  rw [← V_X2]; blk_point [iblk, e4]
theorem at5 (k : Fin 128) : iblk m c 5 t (ix2 r k) = cosT (row ⟨t.val, h⟩ r) ⟨k.val % 32, Nat.mod_lt _ (by decide)⟩ := by
  obtain ⟨e0, e1, e2, e3, e4, e5, e6, e7, e8, e9, e10, e11, e12⟩ := idxIn t
  rw [← Cos_eq m c, ← V_Cos]; blk_point [iblk, e5]
theorem at6 (k : Fin 128) : iblk m c 6 t (ix2 r k) = sinT (row ⟨t.val, h⟩ r) ⟨k.val % 32, Nat.mod_lt _ (by decide)⟩ := by
  obtain ⟨e0, e1, e2, e3, e4, e5, e6, e7, e8, e9, e10, e11, e12⟩ := idxIn t
  rw [← Sin_eq m c, ← V_Sin]; blk_point [iblk, e6]
theorem read10 (A : S4096x2048.Idx → EReal) (k : Fin 2048) :
    (((cfg0.win 10).blk t).view.read (Elt Ideal) A : S128x2048.Idx → EReal) (ix2 r k) = A (ix2 (row ⟨t.val, h⟩ r) k) := by
  obtain ⟨e0, e1, e2, e3, e4, e5, e6, e7, e8, e9, e10, e11, e12⟩ := idxIn t
  blk_point [e10]
theorem read11 (A : S4096x32.Idx → EReal) (k : Fin 32) :
    (((cfg0.win 11).blk t).view.read (Elt Ideal) A : S128x32.Idx → EReal) (ix2 r k) = A (ix2 (row ⟨t.val, h⟩ r) k) := by
  obtain ⟨e0, e1, e2, e3, e4, e5, e6, e7, e8, e9, e10, e11, e12⟩ := idxIn t
  blk_point [e11]
theorem at10 (k : Fin 2048) : iblk m c 10 t (ix2 r k) = val_main_v119 (F := Ideal) (X0 m c) (X1 m c) (X2 m c) (X3 m c) (ix2 (row ⟨t.val, h⟩ r) k) := by
  obtain ⟨e0, e1, e2, e3, e4, e5, e6, e7, e8, e9, e10, e11, e12⟩ := idxIn t
  rw [← Out_eq]; exact read10 t r h (Out m c) k
theorem at11 (k : Fin 32) : iblk m c 11 t (ix2 r k) = val_main_v121 (F := Ideal) (X0 m c) (X1 m c) (X3 m c) (ix2 (row ⟨t.val, h⟩ r) k) := by
  obtain ⟨e0, e1, e2, e3, e4, e5, e6, e7, e8, e9, e10, e11, e12⟩ := idxIn t
  rw [← Lse_eq]; exact read11 t r h (Lse m c) k
theorem at12 (k : Fin 2048) : iblk m c 12 t (ix2 r k) = X4 m c (ix2 (row ⟨t.val, h⟩ r) k) := by
  obtain ⟨e0, e1, e2, e3, e4, e5, e6, e7, e8, e9, e10, e11, e12⟩ := idxIn t
  rw [← V_X4]; blk_point [iblk, e12]
end

theorem at7 (k : Fin 128) : iblk m c 7 t (ix2 r k) = cosT (row (done t) r) ⟨k.val % 32, Nat.mod_lt _ (by decide)⟩ := by
  obtain ⟨e0, e1, e2, e3, e4, e5, e6, e7, e8, e9, e10, e11, e12⟩ := idxIn t
  rw [← Cos_eq m c, ← V_Cos]; unfold done; blk_point [iblk, e7]
theorem at8 (k : Fin 128) : iblk m c 8 t (ix2 r k) = sinT (row (done t) r) ⟨k.val % 32, Nat.mod_lt _ (by decide)⟩ := by
  obtain ⟨e0, e1, e2, e3, e4, e5, e6, e7, e8, e9, e10, e11, e12⟩ := idxIn t
  rw [← Sin_eq m c, ← V_Sin]; unfold done; blk_point [iblk, e8]
theorem at9 (k : Fin 32) : iblk m c 9 t (ix2 0 k) = X3 m c (ix2 0 k) := by
  obtain ⟨e0, e1, e2, e3, e4, e5, e6, e7, e8, e9, e10, e11, e12⟩ := idxIn t
  rw [← V_X3]; blk_point [iblk, e9]

theorem blocks_cp : (blocks m c t).cp = iblk m c 7 t := rfl
theorem blocks_sp : (blocks m c t).sp = iblk m c 8 t := rfl
theorem old_tables : Blocks.Turns (cosT (row (done t) r)) (sinT (row (done t) r)) r (blocks m c t).cp (blocks m c t).sp := by
  rw [blocks_cp, blocks_sp]
  exact ⟨fun k => at7 m c t r k, fun k => at8 m c t r k⟩

theorem blocks_q : (blocks m c t).q = iblk m c 0 t := rfl
theorem blocks_kp : (blocks m c t).kp = iblk m c 1 t := rfl
theorem blocks_kc : (blocks m c t).kc = iblk m c 2 t := rfl
theorem blocks_vp : (blocks m c t).vp = iblk m c 3 t := rfl
theorem blocks_vc : (blocks m c t).vc = iblk m c 4 t := rfl
theorem blocks_cc : (blocks m c t).cc = iblk m c 5 t := rfl
theorem blocks_sc : (blocks m c t).sc = iblk m c 6 t := rfl
theorem blocks_sink : (blocks m c t).sink = iblk m c 9 t := rfl
theorem blocks_o : (blocks m c t).o = iblk m c 10 t := rfl
theorem blocks_lse : (blocks m c t).lse = iblk m c 11 t := rfl
theorem blocks_dout : (blocks m c t).dout = iblk m c 12 t := rfl

theorem pointBlock (h : t.val < 32) : IsBlock (blocks m c t) (grid0.coords t) ⟨t.val, h⟩ (X0 m c) (X1 m c) (X2 m c) (X3 m c) (X4 m c) := by
  have now : ∀ r, Blocks.Turns (cosT (row ⟨t.val, h⟩ r)) (sinT (row ⟨t.val, h⟩ r)) r (blocks m c t).cc (blocks m c t).sc := fun r => by
    rw [blocks_cc, blocks_sc]
    exact ⟨fun k => at5 m c t r h k, fun k => at6 m c t r h k⟩
  have old := old_tables m c t
  constructor
  · exact coord0 t
  · intro r k; rw [blocks_q]; exact at0 m c t r h k
  · intro r k; rw [blocks_kc]; exact at2 m c t r h k
  · intro r k; rw [blocks_kp]; exact at1 m c t r h k
  · intro r k; rw [blocks_vc]; exact at4 m c t r h k
  · intro r k; rw [blocks_vp]; exact at3 m c t r h k
  · exact now
  · exact old
  · intro k; rw [blocks_sink]; exact at9 m c t k
  · intro r k; rw [blocks_o]; exact at10 m c t r h k
  · intro r k; rw [blocks_lse]; exact at11 m c t r h k
  · intro r k; rw [blocks_dout]; exact at12 m c t r h k

end blocks

end Cert.AttnBwd

end
-- ==== Proof.Attn.Arrays.lean ====
module

public import proofs.«01_k».proof.Proof.Attn.Columns
public import proofs.«01_k».proof.Proof.Attn.Inputs

@[expose] public section

set_option maxRecDepth 16384

noncomputable section

namespace Cert.AttnBwd

open Idealize.ShloMosaic Idealize.ShloMosaic.TcCoe Idealize.SL.Sem Cert.KernelIdeal Cert.KernelIdeal.Gen Cert.Finite
open Cert.ReferenceIdeal.Read

/-! # The arrays the kernel leaves -/

variable (m : (ℓ : Loc nD τ sig) → Buf (Elt Ideal) ℓ) (c : Dev nD)

theorem idxOut : ∀ t : Fin cfg0.N, win0_13.index t = ![min t.val 31, 0] ∧ win0_14.index t = ![t.val - 1, 0] ∧ win0_15.index t = ![t.val - 1, 0]
    ∧ win0_16.index t = ![0, 0] :=
  (by decide +kernel : ∀ t : Fin grid0.N, _)

/-! ### What each point leaves, entry by entry -/

section points
variable (h0 : AllReal (X0 m c)) (h1 : AllReal (X1 m c)) (h2 : AllReal (X2 m c)) (h3 : AllReal (X3 m c)) (h4 : AllReal (X4 m c))
variable (t : Fin cfg0.N)

include h0 h1 h2 h3 h4

theorem dqAt_eq (h : Fin 4) (g : Fin 8) (r : Fin 128) (d : Fin 64) : dqAt m c t (ix2 r (colQ h g d))
    = val_main_v206 (F := Ideal) (X0 m c) (X1 m c) (X2 m c) (X3 m c) (X4 m c) (ix2 (row ⟨min t.val 31, by omega⟩ r) (colQ h g d)) := by
  have hu : (upTo t).val < 32 := show min t.val 31 < 32 by omega
  have H := pointBlock m c (upTo t) hu
  unfold dqAt
  rw [v206_apply, Blocks.rotQ_head _ h _ _ r _ g d (H.now r)]
  simp only [dqPre_eq H h0 h1 h2 h3 h4]
  rfl

/-- Before the rotation, the key gradient's block at point `t`. -/
theorem dkSum_eq (ht : t.val ≠ 0) (h : Fin 4) (r : Fin 128) (d : Fin 64) :
    (if t.val = 0 then addf k0_pay3 ((blocks m c t).dkTop (grid0.coords t))
      else if t.val < 32 then addf (dkCarry m c (prev t)) ((blocks m c t).dkTop (grid0.coords t)) else dkCarry m c (prev t)) (ix2 r (colK h d))
    = val_main_v178 (F := Ideal) (X0 m c) (X1 m c) (X2 m c) (X3 m c) (X4 m c) (ix3 (row (done t) r) h d) := by
  have lt := point_lt t
  have hp : (prev t).val < 32 := show t.val - 1 < 32 by omega
  rw [if_neg ht, v178_apply, dkCarry_of_lt m c _ hp]
  have bot := dkBot_eq (pointBlock m c (prev t) hp) h0 h1 h2 h3 h4 h r d
  by_cases hb : t.val < 32
  · rw [if_pos hb, dif_pos (show (done t).val < 31 from show t.val - 1 < 31 by omega)]
    have top := dkTop_eq (pointBlock m c t hb) h0 h1 h2 h3 h4 h r d
    refine (congrArg₂ (· + ·) bot top).trans (congrArg₂ (· + ·) rfl ?_)
    exact congrArg (fun n => val_main_v164 (F := Ideal) (X0 m c) (X1 m c) (X2 m c) (X3 m c) (X4 m c) (ix4 n _ h d))
      (Fin.ext (show t.val = t.val - 1 + 1 by omega))
  · rw [if_neg hb, dif_neg (show ¬(done t).val < 31 from show ¬t.val - 1 < 31 by omega), add_zero]
    exact bot

theorem dkAt_eq (ht : t.val ≠ 0) (h : Fin 4) (r : Fin 128) (d : Fin 64) : dkAt m c t (ix2 r (colK h d))
    = val_main_v193 (F := Ideal) (X0 m c) (X1 m c) (X2 m c) (X3 m c) (X4 m c) (ix2 (row (done t) r) (colK h d)) := by
  unfold dkAt
  rw [v193_apply, Blocks.rotK_head _ h _ _ r _ d (old_tables m c t r)]
  simp only [dkSum_eq m c h0 h1 h2 h3 h4 t ht]

theorem dvAt_eq (ht : t.val ≠ 0) (h : Fin 4) (r : Fin 128) (d : Fin 64) : dvAt m c t (ix2 r (colK h d))
    = val_main_v180 (F := Ideal) (X0 m c) (X1 m c) (X3 m c) (X4 m c) (ix2 (row (done t) r) (colK h d)) := by
  have lt := point_lt t
  have hp : (prev t).val < 32 := show t.val - 1 < 32 by omega
  unfold dvAt
  rw [if_neg ht, v180_apply, dvCarry_of_lt m c _ hp]
  have bot := dvBot_eq (pointBlock m c (prev t) hp) h0 h1 h3 h r d
  by_cases hb : t.val < 32
  · rw [if_pos hb, dif_pos (show (done t).val < 31 from show t.val - 1 < 31 by omega)]
    have top := dvTop_eq (pointBlock m c t hb) h0 h1 h3 h r d
    refine (congrArg₂ (· + ·) bot top).trans (congrArg₂ (· + ·) rfl ?_)
    exact congrArg (fun n => val_main_v126 (F := Ideal) (X0 m c) (X1 m c) (X3 m c) (X4 m c) (ix4 n _ h d))
      (Fin.ext (show t.val = t.val - 1 + 1 by omega))
  · rw [if_neg hb, dif_neg (show ¬(done t).val < 31 from show ¬t.val - 1 < 31 by omega), add_zero]
    exact bot

/-- One block's part of the sums of the sink's gradient, zero past the last block. -/
def sinkPart (h : Fin 4) (g : Fin 8) (e : Fin 8) (n : ℕ) : EReal :=
  if hn : n < 32 then ∑ s : Fin 16, val_main_v147 (F := Ideal) (X0 m c) (X1 m c) (X2 m c) (X3 m c) (X4 m c) (ix4 ⟨n, hn⟩ h g ⟨8 * s.val + e.val, by omega⟩) else 0

theorem sinkAt_eq (h : Fin 4) (g : Fin 8) (e : Fin 8) : ∀ (n : ℕ) (hn : n < cfg0.N), n < 32 →
    sinkAt m c n hn (ix2 e (head32 h g)) = ∑ i ∈ Finset.range (n + 1), sinkPart m c h g e i
  | 0, hn, hb => by
    rw [sinkAt_first m c ⟨0, hn⟩ rfl, sinkOut_eq (pointBlock m c ⟨0, hn⟩ hb) h0 h1 h2 h3 h4, Finset.sum_range_one, sinkPart, dif_pos hb]
    have z : k0_pay5 (F := Ideal) (ix2 e (head32 h g)) = 0 := by pointwise [k0_pay5]
    rw [z, zero_add]
  | n + 1, hn, hb => by
    have e' := sinkAt_mid m c ⟨n + 1, hn⟩ (Nat.succ_ne_zero n) hb
    rw [e', sinkOut_eq (pointBlock m c ⟨n + 1, hn⟩ hb) h0 h1 h2 h3 h4, Finset.sum_range_succ, sinkPart, dif_pos hb]
    exact congrArg (· + _) (sinkAt_eq h g e n (by omega) (by omega))

theorem sinkAt_end (h : Fin 4) (g : Fin 8) (e : Fin 8) (hn : 32 < cfg0.N) : sinkAt m c 32 hn (ix2 e (head32 h g))
    = ∑ n : Fin 32, ∑ s : Fin 16, val_main_v147 (F := Ideal) (X0 m c) (X1 m c) (X2 m c) (X3 m c) (X4 m c) (ix4 n h g ⟨8 * s.val + e.val, by omega⟩) := by
  have e' := sinkAt_last m c ⟨32, hn⟩ rfl
  rw [e']
  refine (sinkAt_eq m c h0 h1 h2 h3 h4 h g e 31 _ (by decide)).trans ?_
  rw [Finset.sum_range]
  exact Finset.sum_congr rfl fun n _ => by rw [sinkPart, dif_pos n.isLt]

end points

/-! ### The arrays the kernel leaves -/

section arrays
variable (h0 : AllReal (X0 m c)) (h1 : AllReal (X1 m c)) (h2 : AllReal (X2 m c)) (h3 : AllReal (X3 m c)) (h4 : AllReal (X4 m c))
include h0 h1 h2 h3 h4

omit h0 h1 h2 h3 h4 in
theorem colQ_cases (k : Fin 2048) : ∃ h g d, k = colQ h g d :=
  ⟨⟨k.val / 512, by omega⟩, ⟨k.val / 64 % 8, by omega⟩, ⟨k.val % 64, by omega⟩,
    Fin.ext (show k.val = 512 * (k.val / 512) + 64 * (k.val / 64 % 8) + k.val % 64 by omega)⟩
omit h0 h1 h2 h3 h4 in
theorem colK_cases (k : Fin 256) : ∃ h d, k = colK h d :=
  ⟨⟨k.val / 64, by omega⟩, ⟨k.val % 64, by omega⟩, Fin.ext (show k.val = 64 * (k.val / 64) + k.val % 64 by omega)⟩
omit h0 h1 h2 h3 h4 in
theorem head32_cases (k : Fin 32) : ∃ h g, k = head32 h g :=
  ⟨⟨k.val / 8, by omega⟩, ⟨k.val % 8, by omega⟩, Fin.ext (show k.val = 8 * (k.val / 8) + k.val % 8 by omega)⟩

omit h0 h1 h2 h3 h4 in
theorem emb13 (t : Fin cfg0.N) (r : Fin 128) (k : Fin 2048) :
    (win0_13.blk t).view.emb (ix2 r k : S128x2048.Idx) = (ix2 (row ⟨min t.val 31, by omega⟩ r) k : S4096x2048.Idx) := by
  obtain ⟨e13, e14, e15, e16⟩ := idxOut t
  blk_ext [e13]
omit h0 h1 h2 h3 h4 in
theorem emb14 (t : Fin cfg0.N) (r : Fin 128) (k : Fin 256) :
    (win0_14.blk t).view.emb (ix2 r k : S128x256.Idx) = (ix2 (row (done t) r) k : S4096x256.Idx) := by
  obtain ⟨e13, e14, e15, e16⟩ := idxOut t
  unfold done
  blk_ext [e14]
omit h0 h1 h2 h3 h4 in
theorem emb15 (t : Fin cfg0.N) (r : Fin 128) (k : Fin 256) :
    (win0_15.blk t).view.emb (ix2 r k : S128x256.Idx) = (ix2 (row (done t) r) k : S4096x256.Idx) := by
  obtain ⟨e13, e14, e15, e16⟩ := idxOut t
  unfold done
  blk_ext [e15]

omit h0 h1 h2 h3 h4 in
/-- The key and value gradients are written at every point but the first. -/
theorem flush14 : ∀ t : Fin cfg0.N, (cfg0.win 14).flush t = true → t.val ≠ 0 := by decide +kernel
omit h0 h1 h2 h3 h4 in
theorem flush15 : ∀ t : Fin cfg0.N, (cfg0.win 15).flush t = true → t.val ≠ 0 := by decide +kernel

theorem arr_dq : (dats m 0 c).arrAt 13 cfg0.N = val_main_v206 (F := Ideal) (X0 m c) (X1 m c) (X2 m c) (X3 m c) (X4 m c) := by
  refine (dats m 0 c).arrAt_eq_of_covers 13 _ (by decide +kernel) fun t hf y => ?_
  blk_simp
  rw [after0_13]
  obtain ⟨r, k, rfl⟩ : ∃ (r : Fin 128) (k : Fin 2048), y = ix2 r k := ⟨y 0, y 1, by idx_vars y⟩
  obtain ⟨h, g, d, rfl⟩ := colQ_cases k
  rw [emb13, dqAt_eq m c h0 h1 h2 h3 h4]

theorem arr_dk : (dats m 0 c).arrAt 14 cfg0.N = val_main_v193 (F := Ideal) (X0 m c) (X1 m c) (X2 m c) (X3 m c) (X4 m c) := by
  refine (dats m 0 c).arrAt_eq_of_covers 14 _ (by decide +kernel) fun t hf y => ?_
  blk_simp
  rw [after0_14]
  obtain ⟨r, k, rfl⟩ : ∃ (r : Fin 128) (k : Fin 256), y = ix2 r k := ⟨y 0, y 1, by idx_vars y⟩
  obtain ⟨h, d, rfl⟩ := colK_cases k
  rw [emb14, dkAt_eq m c h0 h1 h2 h3 h4 t (flush14 t hf)]

theorem arr_dv : (dats m 0 c).arrAt 15 cfg0.N = val_main_v180 (F := Ideal) (X0 m c) (X1 m c) (X3 m c) (X4 m c) := by
  refine (dats m 0 c).arrAt_eq_of_covers 15 _ (by decide +kernel) fun t hf y => ?_
  blk_simp
  rw [after0_15]
  obtain ⟨r, k, rfl⟩ : ∃ (r : Fin 128) (k : Fin 256), y = ix2 r k := ⟨y 0, y 1, by idx_vars y⟩
  obtain ⟨h, d, rfl⟩ := colK_cases k
  rw [emb15, dvAt_eq m c h0 h1 h2 h3 h4 t (flush15 t hf)]

omit h0 h1 h2 h3 h4 in
/-- The sums of the sink's gradient, one row of them per residue of a row's number modulo eight. -/
theorem arr_sink : (dats m 0 c).arrAt 16 cfg0.N = sinkAt m c 32 (by decide) := by
  refine (dats m 0 c).arrAt_eq_of_after_last 16 ⟨32, by decide⟩ (by decide +kernel) _ fun y => ?_
  rw [after0_16]
  blk_simp
  rfl

omit h0 h1 h2 h3 h4 in
theorem tail_sink : Pipeline.afterTail₀ cfgs (dats m) 0 (V0 m) [hostOps1] c main_v104 =
    Host.reduceAdd (F := Ideal) ((dats m 0 c).arrAt 16 cfg0.N) (constant S_ .f32 0x00000000#32) reducesTo_S8x32_S32_d0 h_S_ := by
  unfold Pipeline.afterTail₀
  simp only [List.flatten_cons, List.flatten_nil, List.append_nil]
  after_results
  exact congrArg (fun x => Host.reduceAdd (F := Ideal) x _ reducesTo_S8x32_S32_d0 h_S_)
    ((dats m 0 c).withArrays_arrAt launch₀0.sharedIn _ (A_eq m c) 16)

theorem sink_eq_ref : Pipeline.afterTail₀ cfgs (dats m) 0 (V0 m) [hostOps1] c main_v104
    = val_main_v155 (F := Ideal) (X0 m c) (X1 m c) (X2 m c) (X3 m c) (X4 m c) := by
  rw [tail_sink, arr_sink]
  funext i
  obtain ⟨k, rfl⟩ : ∃ k : Fin 32, i = ix1 k := ⟨i 0, by idx_vars i⟩
  obtain ⟨h, g, rfl⟩ := head32_cases k
  rw [v155_apply]
  refine Eq.trans (b := ∑ e : Fin 8, sinkAt m c 32 (by decide) (ix2 e (head32 h g))) ?_ ?_
  · pointwise
  · simp only [sinkAt_end m c h0 h1 h2 h3 h4]
    rw [Finset.sum_comm]
    refine Finset.sum_congr rfl fun n _ => ?_
    rw [Finset.sum_comm, ← Fintype.sum_prod_type', ← Equiv.sum_comp (finProdFinEquiv (m := 16) (n := 8))]
    refine Finset.sum_congr rfl fun a _ => congrArg (fun r => val_main_v147 (F := Ideal) (X0 m c) (X1 m c) (X2 m c) (X3 m c) (X4 m c) (ix4 n h g r)) (Fin.ext ?_)
    simp only [finProdFinEquiv, Equiv.coe_fn_mk]; omega

omit h0 h1 h2 h3 h4 in
/-- The run leaves the four gradients. -/
theorem kernel_run (ρ : Dev nD → PrngReg)
    (h : ∀ c : Dev nD, AllReal (X0 m c) ∧ AllReal (X1 m c) ∧ AllReal (X2 m c) ∧ AllReal (X3 m c) ∧ AllReal (X4 m c)) :
    θ_run defs (onTc (τ := τ) (main (F := Ideal))) ⟨m, fun _ => 0, ρ⟩ (fun r => ∀ c : Dev nD,
      r.2.mem ((c.tc : Thread nD τ).loc main_v103_0) = val_main_v206 (F := Ideal) (X0 m c) (X1 m c) (X2 m c) (X3 m c) (X4 m c)
      ∧ r.2.mem ((c.tc : Thread nD τ).loc main_v103_1) = val_main_v193 (F := Ideal) (X0 m c) (X1 m c) (X2 m c) (X3 m c) (X4 m c)
      ∧ r.2.mem ((c.tc : Thread nD τ).loc main_v103_2) = val_main_v180 (F := Ideal) (X0 m c) (X1 m c) (X3 m c) (X4 m c)
      ∧ r.2.mem ((c.tc : Thread nD τ).loc main_v104) = val_main_v155 (F := Ideal) (X0 m c) (X1 m c) (X2 m c) (X3 m c) (X4 m c)) :=
  (θ_run defs _ _).mono (fun _ k c => by
    obtain ⟨h0, h1, h2, h3, h4⟩ := h c
    exact ⟨(k.out_eq c 13).trans (arr_dq m c h0 h1 h2 h3 h4), (k.out_eq c 14).trans (arr_dk m c h0 h1 h2 h3 h4),
      (k.out_eq c 15).trans (arr_dv m c h0 h1 h2 h3 h4),
      (k.rest_eq c main_v104 (Pipeline.mem_restRefs_of main_v104 (by decide) (by decide))).trans (sink_eq_ref m c h0 h1 h2 h3 h4)⟩) (run_main m ρ)

end arrays

end Cert.AttnBwd

end
-- ==== Proof.Reals.lean ====
/- What a finiteness precondition says: an array whose magnitudes all compare below `+∞` holds real numbers. -/
module

public import proofs.«01_k».proof.Proof.Finite
public import Idealize.ShloMosaic.PureOps.Ideal.Laws

@[expose] public section

noncomputable section

namespace Cert.Finite

open Idealize.ShloMosaic

/-- An array all of whose magnitudes compare below `+∞` holds real numbers. -/
theorem allReal_of_reduce {s t u : Shape} {axes : List (Fin s.rank)} [Subsingleton t.Idx] (x : s.Idx → EReal) (b : FVec Ideal s .f32) (hb : ∀ i, b i = ⊤)
    (init : u.Idx → BitVec 1) (h : s.ReducesTo axes t) (hu : 0 < u.numel) (j : t.Idx)
    (e : Host.reduce IntOp.andi (cmpf .olt (Host.absf (F := Ideal) (x : FVec Ideal s .f32)) b) init h hu j = 1#1) : ∀ i, IsReal (x i) := fun i => by
  have k := Host.reduce_andi_all _ init h hu j e i
  refine isReal_of_abs_lt (x i) ?_
  have hb' := hb i
  by_contra hc
  have : cmpf (F := Ideal) .olt (Host.absf (F := Ideal) (x : FVec Ideal s .f32)) b i = 0#1 := by
    show BitVec.ofBool (decide (max (x i) (-(x i)) < b i)) = 0#1
    rw [hb', decide_eq_false hc]; rfl
  rw [this] at k
  exact absurd k (by decide)

end Cert.Finite
end
-- ==== Proof.AttnClaims.lean ====
module

public import proofs.«01_k».proof.Defs
public import proofs.«01_k».proof.Proof.Attn.Arrays
public import proofs.«01_k».proof.Proof.Reals
public import proofs.«01_k».proof.Proof.Gen.Kernel
public import proofs.«01_k».proof.Proof.Gen.Pre_finite

@[expose] public section

set_option maxRecDepth 16384

noncomputable section

namespace Cert.AttnBwd

open Idealize.ShloMosaic Idealize.ShloMosaic.TcCoe Idealize.SL.Sem Cert.KernelIdeal Cert.KernelIdeal.Gen Cert.Finite

/-- The frame's statement at the machine's floats, over the idealized program's text. -/
def MachineFrame : Prop :=
  ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

theorem machine_frame_eq : MachineFrame = Cert.quiescent_Kernel := by sl_kernel_rfl

/-- The frame of the program at the machine's floats: its text is the idealized program's. -/
theorem frame_machine : Cert.quiescent_Kernel :=
  machine_frame_eq.mp fun m ρ _ => frame m ρ

/-- What the precondition says: every argument holds real numbers. -/
theorem allReal_of_finite (m : (ℓ : Loc nD τ sig) → Buf (Elt Ideal) ℓ) (h : Cert.Pre_KernelIdeal_finite m) (c : Dev nD) :
    AllReal (X0 m c) ∧ AllReal (X1 m c) ∧ AllReal (X2 m c) ∧ AllReal (X3 m c) ∧ AllReal (X4 m c) := by
  have e := congrFun (h c) ix0
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨-, e0⟩ := IntOp.andi_eq_one.1 e
  haveI : Subsingleton (Cert.Pre_finite.S_).Idx := ⟨fun a b => funext fun i => i.elim0⟩
  exact ⟨allReal_of_reduce _ _ (fun _ => ofBits_inf) _ _ _ _ e0, allReal_of_reduce _ _ (fun _ => ofBits_inf) _ _ _ _ e1,
    allReal_of_reduce _ _ (fun _ => ofBits_inf) _ _ _ _ e2, allReal_of_reduce _ _ (fun _ => ofBits_inf) _ _ _ _ e3,
    allReal_of_reduce _ _ (fun _ => ofBits_inf) _ _ _ _ e4⟩

theorem frame_ref : Cert.quiescent_ReferenceIdeal := fun m ρ _ => by
  refine (θ_run Cert.ReferenceIdeal.defs _ _).mono (fun r h => ⟨fun c => (h c).2.2.2.2, sem_eq_zero_of_no_sems (by decide) r.2⟩)
    (Cert.ReferenceIdeal.Value.run (F := Ideal) m ρ)

theorem algebraic : Cert.algebraic_KernelIdeal_ReferenceIdeal_pre_finite := by
  intro m ρ m' ρ' hpre hagree
  refine ⟨_, _, _, _, (θ_run defs _ _).mono (fun r h c => ⟨(h.1 c).1, (h.1 c).2.1, (h.1 c).2.2.1, (h.1 c).2.2.2, (h.2 c)⟩)
    (θ_run_and (kernel_run m ρ (allReal_of_finite m hpre)) (unchanged m ρ)), ?_⟩
  refine (θ_run Cert.ReferenceIdeal.defs _ _).mono (fun _ h c => ?_) (Cert.ReferenceIdeal.Value.run (F := Ideal) m' ρ')
  obtain ⟨h0, h1, h2, h3, hargs⟩ := h c
  obtain ⟨a0, a1, a2, a3, a4⟩ := hagree c
  rw [Cert.ReferenceIdeal.Read.val_main_v206_eq] at h0
  rw [Cert.ReferenceIdeal.Read.val_main_v193_eq] at h1
  rw [Cert.ReferenceIdeal.Read.val_main_v180_eq] at h2
  rw [Cert.ReferenceIdeal.Read.val_main_v155_eq] at h3
  have e0 : StableHlo.launchContents m' c (Proc.tc.devRef Cert.ReferenceIdeal.main_arg0) = X0 m c := a0
  have e1 : StableHlo.launchContents m' c (Proc.tc.devRef Cert.ReferenceIdeal.main_arg1) = X1 m c := a1
  have e2 : StableHlo.launchContents m' c (Proc.tc.devRef Cert.ReferenceIdeal.main_arg2) = X2 m c := a2
  have e3 : StableHlo.launchContents m' c (Proc.tc.devRef Cert.ReferenceIdeal.main_arg3) = X3 m c := a3
  have e4 : StableHlo.launchContents m' c (Proc.tc.devRef Cert.ReferenceIdeal.main_arg4) = X4 m c := a4
  rw [e0, e1, e2, e3, e4] at h0 h1 h3
  rw [e0, e1, e3, e4] at h2
  exact ⟨h0, h1, h2, h3, hargs⟩

end Cert.AttnBwd

end
-- ==== Proof.Rows.lean ====
/- Sums over the rows of a tall array, as a row-tiled kernel with an eight-sublane accumulator forms them: tile by tile,
   in each tile by groups of eight rows, the eight sublanes added last. -/
module

public import Mathlib.Algebra.BigOperators.Fin
public import Mathlib.Logic.Equiv.Fin.Basic

@[expose] public section

namespace Cert.Rows

/-- The row at place `x`, sublane `q` of tile `p`: `128 p + 8 x + q`. -/
theorem row_lt {p x q N : Nat} (hp : p < N) (hx : x < 16) (hq : q < 8) : p * 128 + (x * 8 + q) < N * 128 := by omega

/-- Adding the eight sublanes of the tiles' sums is adding all rows. -/
theorem sum_rows {M : Type*} [AddCommMonoid M] {N R : Nat} (hR : N * 128 = R) (g : Fin R → M) :
    ∑ q : Fin 8, ∑ p : Fin N, ∑ x : Fin 16, g ⟨p * 128 + (x * 8 + q), hR ▸ row_lt p.isLt x.isLt q.isLt⟩ = ∑ r, g r := by
  subst hR
  have inner : ∀ p : Fin N, ∑ q : Fin 8, ∑ x : Fin 16, g ⟨p * 128 + (x * 8 + q), row_lt p.isLt x.isLt q.isLt⟩
      = ∑ l : Fin (16 * 8), g ⟨p * 128 + l, by omega⟩ := by
    intro p
    rw [Finset.sum_comm, ← Fintype.sum_prod_type', ← Equiv.sum_comp (finProdFinEquiv (m := 16) (n := 8))]
    refine Finset.sum_congr rfl fun a _ => congrArg g (Fin.ext ?_)
    simp only [finProdFinEquiv, Equiv.coe_fn_mk]; omega
  rw [Finset.sum_comm]
  simp only [inner]
  rw [← Fintype.sum_prod_type', ← Equiv.sum_comp (finProdFinEquiv (m := N) (n := 128))]
  refine Finset.sum_congr rfl fun a _ => congrArg g (Fin.ext ?_)
  simp only [finProdFinEquiv, Equiv.coe_fn_mk]; omega

end Cert.Rows
-- ==== Proof.Glu.lean ====
module

public import proofs.«01_k».proof.Proof.Gen.Kernel2Ideal.Frame
public import proofs.«01_k».proof.Proof.Gen.Reference2Ideal.Read
public import proofs.«01_k».proof.Proof.Rows
public import Idealize.ShloMosaic.Lib.Pipeline.ValueKit
public import Idealize.ShloMosaic.PureOps.Ideal.Laws

@[expose] public section

set_option maxRecDepth 16384

noncomputable section

namespace Cert.Glu

open Idealize.ShloMosaic Idealize.ShloMosaic.TcCoe Idealize.SL.Sem Cert.Kernel2Ideal Cert.Kernel2Ideal.Gen

/-- The gate: the logistic function as the kernel divides it out. -/
def sg (z : EReal) : EReal := Ideal.div 1 (1 + Ideal.exp (-z))

/-- The exact gelu, its two constants as the program's words. -/
def gelu (y : EReal) : EReal := (Ideal.ofBits .f32 0x3F000000#32 * y) * (1 + Ideal.erf (y * Ideal.ofBits .f32 0x3F3504F3#32))

/-- The cotangent of the gate's argument at one element. -/
def dzAt (d y z : EReal) : EReal := d * gelu y * sg z * (1 - sg z)

theorem pay4_apply (a z : Vec Ideal S128x2048 .f32) (j : S128x2048.Idx) : k0_pay4 a z j = a j * sg (z j) := by
  pointwise [k0_pay4, k0_pay2]
  rw [sg, zero_sub]

theorem pay3_apply (a y z : Vec Ideal S128x2048 .f32) (j : S128x2048.Idx) : k0_pay3 a y z j = dzAt (a j) (y j) (z j) := by
  pointwise [k0_pay3, k0_pay2]
  rw [dzAt, gelu, sg, zero_sub]; rfl

theorem pay5_apply (a y z : Vec Ideal S128x2048 .f32) (j : S128x2048.Idx) : k0_pay5 a y z j = dzAt (a j) (y j) (z j) := by
  rw [← pay3_apply]
  pointwise [k0_pay5]

/-- The row of a tile that sublane `q` of group `x` holds. -/
abbrev sub (x : Fin 16) (q : Fin 8) : Fin 128 := ⟨x.val * 8 + q.val, by omega⟩

/-- One tile's addition to the accumulator: sixteen groups of eight rows. -/
def part (a y z : Vec Ideal S128x2048 .f32) (j : S8x2048.Idx) : EReal :=
  ∑ x : Fin 16, dzAt (a (ix2 (sub x (j 0)) (j 1))) (y (ix2 (sub x (j 0)) (j 1))) (z (ix2 (sub x (j 0)) (j 1)))

theorem pay1_apply (v : FVec Ideal S8x2048 .f32) (a y z : Vec Ideal S128x2048 .f32) (j : S8x2048.Idx) :
    k0_pay1 (k0_pay7 v) (k0_pay8 a y z) j = v j + part a y z j := by
  pointwise [k0_pay1, k0_pay7, k0_pay8]
  simp only [pay3_apply]
  rfl

theorem pay6_apply (j : S8x2048.Idx) : k0_pay6 (F := Ideal) j = 0 := by
  pointwise [k0_pay6]

variable (m : (ℓ : Loc nD τ sig) → Buf (Elt Ideal) ℓ)

/-- The cotangent that arrives, the gate's argument before gelu, and after the product and bias. -/
def D (c : Dev nD) : S4096x2048.Idx → EReal := m ((c.tc : Thread nD τ).loc main_arg3)
def Y (c : Dev nD) : S4096x2048.Idx → EReal := m ((c.tc : Thread nD τ).loc main_arg0)
def Z (c : Dev nD) : S4096x2048.Idx → EReal := V m c main_v9

theorem tail_bias (c : Dev nD) :
    Pipeline.afterTail₀ cfgs (dats m) 0 (V0 m) [hostOps1] c main_v11 =
      Host.reduceAdd (F := Ideal) ((dats m 0 c).arrAt 5 cfg0.N) (constant S_ .f32 0x00000000#32) reducesTo_S8x2048_S2048_d0 h_S_ := by
  unfold Pipeline.afterTail₀
  simp only [List.flatten_cons, List.flatten_nil, List.append_nil]
  after_results
  exact congrArg (fun x => Host.reduceAdd (F := Ideal) x _ reducesTo_S8x2048_S2048_d0 h_S_)
    (Pipeline.withArrays_arr spec0 launch0.win.arr_inj c _ _ 5)

theorem tail_dz (c : Dev nD) :
    Pipeline.afterTail₀ cfgs (dats m) 0 (V0 m) [hostOps1] c main_v12 =
      extf (F := Ideal) .f32 ((dats m 0 c).arrAt 3 cfg0.N) bitsLt_bf16_f32 := by
  unfold Pipeline.afterTail₀
  simp only [List.flatten_cons, List.flatten_nil, List.append_nil]
  after_results
  exact congrArg (fun x => extf (F := Ideal) .f32 x bitsLt_bf16_f32)
    (Pipeline.withArrays_arr spec0 launch0.win.arr_inj c _ _ 3)

theorem entry_z (c : Dev nD) (i : S4096x2048.Idx) : Z m c i =
    ∑ k : Fin 2048, gelu (Y m c (ix2 (i 0) k)) * (m ((c.tc : Thread nD τ).loc main_arg1) : S2048x2048.Idx → EReal) (ix2 k (i 1))
      + (m ((c.tc : Thread nD τ).loc main_arg2) : S1x2048.Idx → EReal) (ix2 0 (i 1)) := by
  unfold Z V V0
  simp only [List.flatten_cons, List.flatten_nil, List.append_nil]
  after_results
  pointwise
  simp only [neg_mul, Ideal.erfc_neg]
  rfl

theorem idx0 : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] :=
  (by decide +kernel : ∀ t : Fin grid0.N, _)

theorem V_D (c : Dev nD) : V m c main_arg3 = D m c := V_main_arg3 m c
theorem V_Y (c : Dev nD) : V m c main_arg0 = Y m c := V_main_arg0 m c
theorem V_Z (c : Dev nD) : V m c main_v9 = Z m c := rfl

theorem arr_dyg (c : Dev nD) : (dats m 0 c).arrAt 4 cfg0.N = fun i => D m c i * sg (Z m c i) := by
  refine (dats m 0 c).arrAt_eq_of_covers 4 _ (by decide +kernel) fun t hf y => ?_
  obtain ⟨e0, e1, e2, e3, e4, e5⟩ := idx0 t
  have point : k0_pay4 (iblk m c 0 t) (iblk m c 2 t) y = D m c (((cfg0.win 4).blk t).view.emb y) * sg (Z m c (((cfg0.win 4).blk t).view.emb y)) := by
    rw [pay4_apply, ← V_D, ← V_Z]
    blk_point [iblk, e0, e2, e4]
  blk_simp
  rw [after0_4]
  by_cases h : t.val % 32 = 0
  · rw [outsAt0_A m c t h]
    frame_out
    exact point
  · rw [outsAt0_B m c t h]
    frame_out
    exact point

theorem arr_dz (c : Dev nD) : (dats m 0 c).arrAt 3 cfg0.N = fun i => dzAt (D m c i) (Y m c i) (Z m c i) := by
  refine (dats m 0 c).arrAt_eq_of_covers 3 _ (by decide +kernel) fun t hf y => ?_
  obtain ⟨e0, e1, e2, e3, e4, e5⟩ := idx0 t
  have point : k0_pay5 (iblk m c 0 t) (iblk m c 1 t) (iblk m c 2 t) y =
      (fun i => dzAt (D m c i) (Y m c i) (Z m c i)) (((cfg0.win 3).blk t).view.emb y) := by
    rw [pay5_apply, ← V_D, ← V_Y, ← V_Z]
    blk_point [iblk, e0, e1, e2, e3]
  blk_simp
  rw [after0_3]
  by_cases h : t.val % 32 = 0
  · rw [outsAt0_A m c t h]
    frame_out
    exact point
  · rw [outsAt0_B m c t h]
    frame_out
    exact point

/-- The accumulator at the end: every tile's addition. -/
theorem arr_acc (c : Dev nD) : (dats m 0 c).arrAt 5 cfg0.N =
    fun j : S8x2048.Idx => ∑ t : Fin cfg0.N, part (iblk m c 0 t) (iblk m c 1 t) (iblk m c 2 t) j := by
  refine (dats m 0 c).arrAt_eq_of_after_last 5 ⟨31, by decide⟩ (by decide +kernel) _ fun y => ?_
  rw [after0_5]
  have run : ∀ j : S8x2048.Idx, (outsAt0 m c 31 (by decide)).2.2 j =
      0 + ∑ t : Fin cfg0.N, part (iblk m c 0 t) (iblk m c 1 t) (iblk m c 2 t) j := fun j =>
    Pipeline.eq_sum_fin_of_reset_step_apply_last (fun n h => (outsAt0 m c n h).2.2) 32 (fun _ => 0)
      (fun t j => part (iblk m c 0 t) (iblk m c 1 t) (iblk m c 2 t) j)
      (fun t h j => by rw [outsAt0_A m c t h]; frame_out; rw [pay1_apply, pay6_apply])
      (fun t h j => by rw [outsAt0_B m c t h]; frame_out; rw [pay1_apply])
      (le_of_eq N_0) ⟨31, by decide⟩ rfl j
  blk_simp
  exact (run _).trans (zero_add _)

theorem part_apply (a y z : Vec Ideal S128x2048 .f32) (q : Fin 8) (k : Fin 2048) : part a y z (ix2 q k) =
    ∑ x : Fin 16, dzAt (a (ix2 (sub x q) k)) (y (ix2 (sub x q) k)) (z (ix2 (sub x q) k)) := rfl

/-- The bias's cotangent: the sum over all rows. -/
theorem bias_eq (c : Dev nD) :
    Pipeline.afterTail₀ cfgs (dats m) 0 (V0 m) [hostOps1] c main_v11 =
      fun i : S2048.Idx => ∑ r : Fin 4096, dzAt (D m c (ix2 r (i 0))) (Y m c (ix2 r (i 0))) (Z m c (ix2 r (i 0))) := by
  rw [tail_bias, arr_acc]
  funext i
  pointwise
  rw [← Rows.sum_rows (N := 32) rfl]
  refine Fin.sum_fin_congr fun q => Fin.sum_fin_congr fun t => (part_apply _ _ _ _ _).trans (Fin.sum_fin_congr fun x => ?_)
  obtain ⟨e0, e1, e2, e3, e4, e5⟩ := idx0 t
  rw [← V_D, ← V_Y, ← V_Z]
  blk_point [iblk, e0, e1, e2]

/-! ## The reference -/

section Reference

open Cert.Reference2Ideal.Read

/-- The derivative's three results are the same functions of the arguments. -/
theorem ref_z (c : Dev nD) (i : S4096x2048.Idx) :
    val_main_v11 (F := Ideal) (m ((c.tc : Thread nD τ).loc main_arg0)) (m ((c.tc : Thread nD τ).loc main_arg1)) (m ((c.tc : Thread nD τ).loc main_arg2)) i = Z m c i := by
  rw [entry_z]
  pointwise [val_main_v11, val_main_v10, val_main_v9, val_main_v8, val_main_v7, val_main_v6, val_main_v5, val_main_v4, val_main_v3, val_main_v2,
    val_main_v1, val_main_v0, val_main_cst, val_main_cst_0]
  simp only [neg_mul, Ideal.erfc_neg]
  rfl

theorem ref_dyg (c : Dev nD) :
    val_main_v23 (F := Ideal) (m ((c.tc : Thread nD τ).loc main_arg0)) (m ((c.tc : Thread nD τ).loc main_arg1))
      (m ((c.tc : Thread nD τ).loc main_arg2)) (m ((c.tc : Thread nD τ).loc main_arg3)) = fun i => D m c i * sg (Z m c i) := by
  funext i
  pointwise [val_main_v23, val_main_v17, val_main_v16, val_main_v15, val_main_v14, val_main_v13, val_main_v12, val_main_cst_1, val_main_cst_2]
  rw [ref_z]
  rfl

theorem ref_dz (c : Dev nD) :
    val_main_v24 (F := Ideal) (m ((c.tc : Thread nD τ).loc main_arg0)) (m ((c.tc : Thread nD τ).loc main_arg1))
      (m ((c.tc : Thread nD τ).loc main_arg2)) (m ((c.tc : Thread nD τ).loc main_arg3)) = fun i => dzAt (D m c i) (Y m c i) (Z m c i) := by
  funext i
  pointwise [val_main_v24, val_main_v22, val_main_v21, val_main_v20, val_main_v19, val_main_v18, val_main_cst_3, val_main_v17, val_main_v16, val_main_v15, val_main_v14, val_main_v13, val_main_v12, val_main_cst_1, val_main_cst_2,
     val_main_v6, val_main_v5, val_main_v4, val_main_v3, val_main_v2, val_main_v1, val_main_v0, val_main_cst, val_main_cst_0]
  rw [ref_z]
  simp only [neg_mul, Ideal.erfc_neg]
  have assoc : ∀ g d s r : EReal, g * d * (s * r) = d * g * s * r := fun g d s r => by rw [mul_comm g d, mul_assoc, mul_assoc, mul_assoc]
  exact assoc _ _ _ _

theorem ref_bias (c : Dev nD) :
    val_main_v27 (F := Ideal) (m ((c.tc : Thread nD τ).loc main_arg0)) (m ((c.tc : Thread nD τ).loc main_arg1))
      (m ((c.tc : Thread nD τ).loc main_arg2)) (m ((c.tc : Thread nD τ).loc main_arg3)) =
    fun i => ∑ r : Fin 4096, dzAt (D m c (ix2 r (i 0))) (Y m c (ix2 r (i 0))) (Z m c (ix2 r (i 0))) := by
  funext i
  pointwise [val_main_v27, val_main_v26, val_main_v25, val_main_cst_5, val_main_cst_4]
  rw [ref_dz]
  exact Fin.sum_univ_one _

end Reference

/-! ## The claims -/

theorem kernel_run (ρ : Dev nD → PrngReg) :
    θ_run defs (onTc (τ := τ) (main (F := Ideal))) ⟨m, fun _ => 0, ρ⟩ (fun r => ∀ c : Dev nD,
      r.2.mem ((c.tc : Thread nD τ).loc main_v12) = (fun i => dzAt (D m c i) (Y m c i) (Z m c i))
      ∧ r.2.mem ((c.tc : Thread nD τ).loc main_v10_1) = (fun i => D m c i * sg (Z m c i))
      ∧ r.2.mem ((c.tc : Thread nD τ).loc main_v11) =
          (fun i : S2048.Idx => ∑ r : Fin 4096, dzAt (D m c (ix2 r (i 0))) (Y m c (ix2 r (i 0))) (Z m c (ix2 r (i 0))))) :=
  (θ_run defs _ _).mono (fun _ h c =>
    ⟨(h.rest_eq c main_v12 (Pipeline.mem_restRefs_of main_v12 (by decide) (by decide))).trans ((tail_dz m c).trans (by rw [arr_dz]; rfl)),
      (h.out_eq c 4).trans (arr_dyg m c),
      (h.rest_eq c main_v11 (Pipeline.mem_restRefs_of main_v11 (by decide) (by decide))).trans (bias_eq m c)⟩) (run_main m ρ)

end Cert.Glu
end
-- ==== Proof.GluClaims.lean ====
module

public import proofs.«01_k».proof.Defs
public import proofs.«01_k».proof.Proof.Glu

@[expose] public section

noncomputable section

namespace Cert.Glu

open Idealize.ShloMosaic Idealize.ShloMosaic.TcCoe Idealize.SL.Sem Cert.Kernel2Ideal Cert.Kernel2Ideal.Gen

theorem frame_ref : Cert.quiescent_Reference2Ideal := fun m ρ _ => by
  refine (θ_run Cert.Reference2Ideal.defs _ _).mono (fun r h => ⟨fun c => (h c).2.2.2, sem_eq_zero_of_no_sems (by decide) r.2⟩)
    (Cert.Reference2Ideal.Value.run (F := Ideal) m ρ)

theorem algebraic : Cert.algebraic_Kernel2Ideal_Reference2Ideal := by
  intro m ρ m' ρ' _ hagree
  refine ⟨_, _, _, (θ_run defs _ _).mono (fun r h c => ⟨(h.1 c).1, (h.1 c).2.1, (h.1 c).2.2, (h.2 c)⟩)
    (θ_run_and (kernel_run m ρ) (unchanged m ρ)), ?_⟩
  refine (θ_run Cert.Reference2Ideal.defs _ _).mono (fun _ h c => ?_) (Cert.Reference2Ideal.Value.run (F := Ideal) m' ρ')
  obtain ⟨h0, h1, h2, hargs⟩ := h c
  obtain ⟨a0, a1, a2, a3⟩ := hagree c
  simp only [Cert.Reference2Ideal.Read.val_main_v24_eq, Cert.Reference2Ideal.Read.val_main_v23_eq, Cert.Reference2Ideal.Read.val_main_v27_eq] at h0 h1 h2
  rw [a0, a1, a2, a3] at h0 h1 h2
  exact ⟨h0.trans (ref_dz m c), h1.trans (ref_dyg m c), h2.trans (ref_bias m c), hargs⟩

end Cert.Glu

end
-- ==== Proof.Norm.lean ====
/- The derivative of the root-mean-square norm at one row, in the form the row-tiled kernels compute it and in the form
   the chain rule through the reciprocal root gives. Over real numbers the two are equal. -/
module

public import proofs.«01_k».proof.Proof.Finite

@[expose] public section

noncomputable section

namespace Cert.Norm

open Idealize.ShloMosaic Cert.Finite

variable {n : ℕ}

/-- What the norm adds to the mean of the squares. -/
abbrev eps : EReal := Ideal.ofBits .f32 0x358637BD#32

/-- The mean of the squares, `eps` added. -/
def ms (N : EReal) (x : Fin n → EReal) : EReal := Ideal.div (∑ k, x k * x k) N + eps

/-- The reciprocal root of the mean square. -/
def rs (N : EReal) (x : Fin n → EReal) : EReal := Ideal.rsqrt (ms N x)

/-- The normed row's cotangent carried back to the row, as the kernels compute it. -/
def back (N : EReal) (x d : Fin n → EReal) (k : Fin n) : EReal :=
  rs N x * (d k - x k * rs N x * Ideal.div (∑ j, d j * (x j * rs N x)) N)

/-- Half of what reaches the row through the root. -/
def root (N : EReal) (x d : Fin n → EReal) : EReal :=
  Ideal.div ((∑ j, x j * d j) * (Ideal.ofBits .f32 0xBF000000#32 * Ideal.div (rs N x) (ms N x))) N

theorem ofBits_mhalf : Ideal.ofBits .f32 0xBF000000#32 = ((-(1 / 2) : ℝ) : EReal) := by
  simp [Ideal.ofBits, Ideal.ieee]
  rw [← EReal.coe_mul]; norm_num

theorem ofBits_half : Ideal.ofBits .f32 0x3F000000#32 = ((1 / 2 : ℝ) : EReal) := by
  simp [Ideal.ofBits, Ideal.ieee]
  rw [← EReal.coe_mul]; norm_num

theorem ofBits_4096 : Ideal.ofBits .f32 0x45800000#32 = ((4096 : ℝ) : EReal) := by
  simp [Ideal.ofBits, Ideal.ieee]
  rw [← EReal.coe_mul]; norm_num

theorem ofBits_2048 : Ideal.ofBits .f32 0x45000000#32 = ((2048 : ℝ) : EReal) := by
  simp [Ideal.ofBits, Ideal.ieee]
  rw [← EReal.coe_mul]; norm_num

theorem eps_pos : ∃ e : ℝ, 0 < e ∧ eps = (e : EReal) := by
  refine ⟨_, ?_, by simp only [eps, Ideal.ofBits, Ideal.ieee]; simp; rw [← EReal.coe_mul]⟩
  norm_num

theorem coe_sum (f : Fin n → ℝ) : ((∑ j, f j : ℝ) : EReal) = ∑ j, (f j : EReal) := by
  classical
  induction (Finset.univ : Finset (Fin n)) using Finset.induction_on with
  | empty => simp
  | insert a s ha ih => rw [Finset.sum_insert ha, Finset.sum_insert ha, EReal.coe_add, ih]

theorem div_coe (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

theorem ms_coe (ν e : ℝ) (hν : 0 < ν) (he : eps = (e : EReal)) (X : Fin n → ℝ) :
    ms (ν : EReal) (fun k => (X k : EReal)) = (((∑ k, X k * X k) / ν + e : ℝ) : EReal) := by
  unfold ms
  simp only [← EReal.coe_mul, ← coe_sum, div_coe _ _ hν.ne', he, ← EReal.coe_add]

theorem ms_pos (ν e : ℝ) (hν : 0 < ν) (he : 0 < e) (X : Fin n → ℝ) : 0 < (∑ k, X k * X k) / ν + e :=
  add_pos_of_nonneg_of_pos (div_nonneg (Finset.sum_nonneg fun k _ => mul_self_nonneg (X k)) hν.le) he

theorem rs_coe (ν e : ℝ) (hν : 0 < ν) (h0 : 0 < e) (he : eps = (e : EReal)) (X : Fin n → ℝ) :
    rs (ν : EReal) (fun k => (X k : EReal)) = (((Real.sqrt ((∑ k, X k * X k) / ν + e))⁻¹ : ℝ) : EReal) := by
  have h := ms_pos ν e hν h0 X
  unfold rs
  rw [ms_coe ν e hν he X, Ideal.rsqrt_coe, if_neg (not_lt.2 h.le), if_neg h.ne']

theorem exists_real {f : Fin n → EReal} (h : ∀ k, IsReal (f k)) : ∃ F : Fin n → ℝ, f = fun k => (F k : EReal) :=
  ⟨fun k => (f k).toReal, funext fun k => (h k).coe_toReal.symm⟩

theorem isReal_rs {ν : ℝ} (hν : 0 < ν) {x : Fin n → EReal} (hx : ∀ k, IsReal (x k)) : IsReal (rs (ν : EReal) x) := by
  obtain ⟨X, rfl⟩ := exists_real hx
  obtain ⟨e, h0, he⟩ := eps_pos
  rw [rs_coe ν e hν h0 he]; exact isReal_coe _

theorem isReal_back {ν : ℝ} (hν : 0 < ν) {x d : Fin n → EReal} (hx : ∀ k, IsReal (x k)) (hd : ∀ k, IsReal (d k)) (k : Fin n) :
    IsReal (back (ν : EReal) x d k) := by
  have hr := isReal_rs hν hx
  exact hr.mul ((hd k).sub (((hx k).mul hr).mul ((IsReal.sum _ fun j => (hd j).mul ((hx j).mul hr)).div (isReal_coe _)
    (by exact_mod_cast hν.ne'))))

/-- The two forms of the norm's derivative agree at a row of real numbers. -/
theorem back_eq {ν : ℝ} (hν : 0 < ν) {x d : Fin n → EReal} (hx : ∀ k, IsReal (x k)) (hd : ∀ k, IsReal (d k)) (k : Fin n) :
    back (ν : EReal) x d k = d k * rs (ν : EReal) x + x k * root (ν : EReal) x d + root (ν : EReal) x d * x k := by
  obtain ⟨X, rfl⟩ := exists_real hx
  obtain ⟨D, rfl⟩ := exists_real hd
  obtain ⟨e, h0, he⟩ := eps_pos
  have h := ms_pos ν e hν h0 X
  unfold back root
  rw [rs_coe ν e hν h0 he X, ms_coe ν e hν he X, ofBits_mhalf]
  generalize (∑ k, X k * X k) / ν + e = v at h ⊢
  have hs : Real.sqrt v ≠ 0 := (Real.sqrt_pos.2 h).ne'
  simp only [← EReal.coe_mul, ← coe_sum, div_coe _ _ hν.ne', div_coe _ _ h.ne', ← EReal.coe_sub, ← EReal.coe_add]
  have hS : (∑ j, D j * (X j * (Real.sqrt v)⁻¹)) = (∑ j, X j * D j) * (Real.sqrt v)⁻¹ := by
    rw [Finset.sum_mul]; exact Finset.sum_congr rfl fun j _ => by ring
  have hv : (Real.sqrt v)⁻¹ / v = (Real.sqrt v)⁻¹ * (Real.sqrt v)⁻¹ * (Real.sqrt v)⁻¹ := by
    rw [mul_assoc, ← mul_inv, Real.mul_self_sqrt h.le, div_eq_mul_inv]
  rw [hS, hv]
  congr 1
  ring

end Cert.Norm
end
-- ==== Proof.Norm2Ref.lean ====
/- The backward of the second normalisation: the reference's results, row by row. -/
module

public import proofs.«01_k».proof.Proof.Gen.Reference3Ideal.Read
public import proofs.«01_k».proof.Proof.Norm
public import Idealize.ShloMosaic.Lib.Pipeline.ValueKit
public import Idealize.ShloMosaic.PureOps.Ideal.Laws

@[expose] public section

set_option maxRecDepth 16384

noncomputable section

namespace Cert.Norm2

open Idealize.ShloMosaic Cert.Reference3Ideal Cert.Reference3Ideal.Read Cert.Finite Cert.Norm

/-- The row length as the program's word. -/
abbrev len : EReal := Ideal.ofBits .f32 0x45800000#32

/-- The stream with the gated result added, normed; the cotangents of the normed stream times the gain and of the stream. -/
def mid (x mo : S4096x4096.Idx → EReal) (gate : S1x4096.Idx → EReal) (r k : Fin 4096) : EReal := x (ix2 r k) + gate (ix2 0 k) * mo (ix2 r k)
def xn (x mo : S4096x4096.Idx → EReal) (gate : S1x4096.Idx → EReal) (r k : Fin 4096) : EReal := mid x mo gate r k * rs len (mid x mo gate r)
def dt (sc : S1x4096.Idx → EReal) (dh : S4096x4096.Idx → EReal) (r k : Fin 4096) : EReal := dh (ix2 r k) * (1 + sc (ix2 0 k))
def dx (x mo : S4096x4096.Idx → EReal) (gate g sc : S1x4096.Idx → EReal) (dh dr : S4096x4096.Idx → EReal) (r k : Fin 4096) : EReal :=
  dr (ix2 r k) + back len (mid x mo gate r) (fun k => dt sc dh r k * g (ix2 0 k)) k

variable (x0 x1 : S4096x4096.Idx → EReal) (x2 x3 x4 : S1x4096.Idx → EReal) (x6 x7 : S4096x4096.Idx → EReal)

theorem ref_mid (r k : Fin 4096) : val_main_v7 (F := Ideal) x0 x1 x2 (ix2 r k) = mid x0 x1 x2 r k := by
  pointwise [val_main_v7, val_main_v6, val_main_v5, val_main_v4, val_main_v0]
  rfl

theorem ref_ms (r : Fin 4096) : val_main_v14 (F := Ideal) x0 x1 x2 (ix2 r 0) = ms len (mid x0 x1 x2 r) := by
  pointwise [val_main_v14, val_main_v13, val_main_cst_1, val_main_v12, val_main_v11, val_main_cst_0, val_main_v10, val_main_v9, val_main_v8, val_main_cst]
  simp only [ref_mid]
  rfl

theorem ref_rs (r : Fin 4096) : val_main_v15 (F := Ideal) x0 x1 x2 (ix2 r 0) = rs len (mid x0 x1 x2 r) := by
  pointwise [val_main_v15]
  rw [ref_ms]
  rfl

theorem ref_xn (r k : Fin 4096) : val_main_v20 (F := Ideal) x0 x1 x2 (ix2 r k) = xn x0 x1 x2 r k := by
  pointwise [val_main_v20, val_main_v19]
  rw [ref_rs, ref_mid]
  rfl

theorem ref_dt (r k : Fin 4096) : val_main_v40 (F := Ideal) x4 x6 (ix2 r k) = dt x4 x6 r k := by
  pointwise [val_main_v40, val_main_v39, val_main_v32, val_main_v26, val_main_v25, val_main_v24, val_main_cst_3, val_main_v2]
  rfl

theorem ref_d (r k : Fin 4096) : val_main_v46 (F := Ideal) x3 x4 x6 (ix2 r k) = dt x4 x6 r k * x3 (ix2 0 k) := by
  pointwise [val_main_v46, val_main_v45, val_main_v21, val_main_v1]
  rw [ref_dt]

theorem ref_rootAt (r : Fin 4096) : val_main_v56 (F := Ideal) x0 x1 x2 x3 x4 x6 (ix2 r 0) =
    root len (mid x0 x1 x2 r) (fun k => dt x4 x6 r k * x3 (ix2 0 k)) := by
  pointwise [val_main_v56, val_main_v55, val_main_cst_11, val_main_v54, val_main_v50, val_main_v49, val_main_cst_10,
    val_main_v48, val_main_v18, val_main_v17, val_main_cst_2, val_main_v16]
  simp only [ref_d, ref_ms, ref_rs, ref_mid]
  rfl

theorem ref_root (r : Fin 4096) : val_main_v57 (F := Ideal) x0 x1 x2 x3 x4 x6 (ix1 r) =
    root len (mid x0 x1 x2 r) (fun k => dt x4 x6 r k * x3 (ix2 0 k)) := by
  pointwise [val_main_v57, val_main_cst_12]
  exact (Fin.sum_univ_one _).trans (ref_rootAt x0 x1 x2 x3 x4 x6 r)

theorem ref_dx (h0 : ∀ i, IsReal (x0 i)) (h1 : ∀ i, IsReal (x1 i)) (h2 : ∀ i, IsReal (x2 i)) (h3 : ∀ i, IsReal (x3 i)) (h4 : ∀ i, IsReal (x4 i))
    (h6 : ∀ i, IsReal (x6 i)) (r k : Fin 4096) : val_main_v62 (F := Ideal) x0 x1 x2 x3 x4 x6 x7 (ix2 r k) = dx x0 x1 x2 x3 x4 x6 x7 r k := by
  pointwise [val_main_v62, val_main_v61, val_main_v60, val_main_v59, val_main_v58, val_main_v53, val_main_v52, val_main_v51]
  have hx : ∀ k, IsReal (mid x0 x1 x2 r k) := fun k => (h0 _).add ((h2 _).mul (h1 _))
  have hd : ∀ k, IsReal (dt x4 x6 r k * x3 (ix2 0 k)) := fun k => ((h6 _).mul (isReal_one.add (h4 _))).mul (h3 _)
  rw [ref_d, ref_rs, ref_root, ref_mid, dx, len, ofBits_4096, back_eq (by norm_num) hx hd]
  simp only [add_assoc]

theorem ref_dmo (r k : Fin 4096) : val_main_v65 (F := Ideal) x0 x1 x2 x3 x4 x6 x7 (ix2 r k) =
    val_main_v62 (F := Ideal) x0 x1 x2 x3 x4 x6 x7 (ix2 r k) * x2 (ix2 0 k) := by
  pointwise [val_main_v65, val_main_v64, val_main_v63, val_main_v4, val_main_v0]
  exact mul_comm _ _

theorem ref_gate (k : Fin 4096) : val_main_v69 (F := Ideal) x0 x1 x2 x3 x4 x6 x7 (ix1 k) =
    ∑ r : Fin 4096, val_main_v62 (F := Ideal) x0 x1 x2 x3 x4 x6 x7 (ix2 r k) * x1 (ix2 r k) := by
  pointwise [val_main_v69, val_main_v68, val_main_v67, val_main_cst_13, val_main_cst_14, val_main_v66, val_main_v63]
  exact Fin.sum_univ_one _

theorem ref_shift (k : Fin 4096) : val_main_v35 (F := Ideal) x6 (ix1 k) = ∑ r : Fin 4096, x6 (ix2 r k) := by
  pointwise [val_main_v35, val_main_v34, val_main_v33, val_main_cst_4, val_main_cst_5]
  exact Fin.sum_univ_one _

theorem ref_scale (k : Fin 4096) : val_main_v41 (F := Ideal) x0 x1 x2 x3 x6 (ix1 k) =
    ∑ r : Fin 4096, x6 (ix2 r k) * (xn x0 x1 x2 r k * x3 (ix2 0 k)) := by
  pointwise [val_main_v41, val_main_v38, val_main_v37, val_main_cst_6, val_main_cst_7, val_main_v36, val_main_v32, val_main_v23, val_main_v22,
    val_main_v21, val_main_v1]
  simp only [ref_xn]
  exact (Fin.sum_univ_one _).trans (Fin.sum_fin_congr fun r => mul_comm _ _)

theorem ref_gain (k : Fin 4096) : val_main_v47 (F := Ideal) x0 x1 x2 x4 x6 (ix1 k) =
    ∑ r : Fin 4096, dt x4 x6 r k * xn x0 x1 x2 r k := by
  pointwise [val_main_v47, val_main_v44, val_main_v43, val_main_cst_8, val_main_cst_9, val_main_v42]
  simp only [ref_xn, ref_dt]
  exact (Fin.sum_univ_one _).trans (Fin.sum_fin_congr fun r => mul_comm _ _)

end Cert.Norm2
end
-- ==== Proof.Sublanes.lean ====
/- A row-tiled kernel's accumulator of eight sublanes: what one tile adds to it, and the sum over all rows its sublanes hold
   together at the end. -/
module

public import proofs.«01_k».proof.Proof.Rows
public import Idealize.ShloMosaic.Lib.Pipeline.ValueKit
public import Idealize.ShloMosaic.PureOps.Ideal.Laws

@[expose] public section

noncomputable section

namespace Cert.Sublanes

open Idealize.ShloMosaic

/-- The row of a tile that sublane `q` of group `x` holds. -/
abbrev sub (x : Fin 16) (q : Fin 8) : Fin 128 := ⟨x.val * 8 + q.val, by omega⟩

/-- The row of the array that row `r` of tile `t` is. -/
abbrev row {N : ℕ} (t : Fin N) (r : Fin 128) (h : N = 32 := by rfl) : Fin 4096 := ⟨t.val * 128 + r.val, by omega⟩

/-- One tile's addition to the accumulator: sixteen groups of eight rows. -/
def part {n : ℕ} (v : (⟨2, ![128, n]⟩ : Shape).Idx → EReal) (j : (⟨2, ![8, n]⟩ : Shape).Idx) : EReal :=
  ∑ x : Fin 16, v (ix2 (sub x (j 0)) (j 1))

/-- The sublanes of the tiles' sums together: the sum over all rows. -/
theorem total {n : ℕ} (f : Fin 32 → (⟨2, ![128, n]⟩ : Shape).Idx → EReal) (g : Fin 4096 → Fin n → EReal)
    (h : ∀ t r k, f t (ix2 r k) = g (row t r) k) (k : Fin n) :
    ∑ q : Fin 8, ∑ t : Fin 32, part (f t) (ix2 q k) = ∑ r, g r k := by
  rw [← Rows.sum_rows (N := 32) rfl]
  exact Fin.sum_fin_congr fun q => Fin.sum_fin_congr fun t => Fin.sum_fin_congr fun x => h t (sub x q) k

/-- An accumulator that the first tile starts from zero and every later tile adds to holds the tiles' sums after the last. -/
theorem acc_last {n N : ℕ} (hN : N ≤ 32) (A : (i : ℕ) → i < N → (⟨2, ![8, n]⟩ : Shape).Idx → EReal)
    (f : Fin N → (⟨2, ![128, n]⟩ : Shape).Idx → EReal)
    (first : ∀ t : Fin N, t.val % 32 = 0 → ∀ j, A t.val t.isLt j = 0 + part (f t) j)
    (step : ∀ t : Fin N, ¬t.val % 32 = 0 → ∀ j,
      A t.val t.isLt j = A (t.val - 1) (Nat.lt_of_le_of_lt (Nat.sub_le _ _) t.isLt) j + part (f t) j)
    (s : Fin N) (hs : s.val + 1 = N) (j) : A s.val s.isLt j = ∑ t : Fin N, part (f t) j :=
  (Pipeline.eq_sum_fin_of_reset_step_apply_last A 32 (fun _ => 0) (fun t j => part (f t) j) first step hN s hs j).trans (zero_add _)

end Cert.Sublanes
end
-- ==== Proof.Norm2.lean ====
/- The backward of the second normalisation: its kernel's arrays in the terms of the reference's results. -/
module

public import proofs.«01_k».proof.Proof.Gen.Kernel3Ideal.Frame
public import proofs.«01_k».proof.Proof.Norm2Ref
public import proofs.«01_k».proof.Proof.Sublanes
public import Idealize.ShloMosaic.Lib.Pipeline.ValueKit
public import Idealize.ShloMosaic.PureOps.Ideal.Laws

@[expose] public section

set_option maxRecDepth 16384

noncomputable section

namespace Cert.Norm2

open Idealize.ShloMosaic Idealize.ShloMosaic.TcCoe Idealize.SL.Sem Cert.Kernel3Ideal Cert.Kernel3Ideal.Gen Cert.Finite Cert.Norm Cert.Sublanes

theorem pay4_apply (x : Vec Ideal S128x4096 .f32) (j : S128x1.Idx) : k0_pay4 x j = rs len fun k => x (ix2 (j 0) k) := by
  pointwise [k0_pay4, k0_pay2]
  rfl

theorem pay5_apply (x : Vec Ideal S128x4096 .f32) (r : Fin 128) (k : Fin 4096) :
    k0_pay5 x (ix2 r k) = x (ix2 r k) * rs len fun k => x (ix2 r k) := by
  pointwise [k0_pay5, k0_pay2]
  rw [pay4_apply]
  rfl

theorem pay6_apply (x : Vec Ideal S128x4096 .f32) (g : Vec Ideal S1x4096 .f32) (r : Fin 128) (k : Fin 4096) :
    k0_pay6 x g (ix2 r k) = x (ix2 r k) * (rs len fun k => x (ix2 r k)) * g (ix2 0 k) := by
  pointwise [k0_pay6]
  rw [pay5_apply]

theorem pay7_apply (dh : Vec Ideal S128x4096 .f32) (sc : Vec Ideal S1x4096 .f32) (r : Fin 128) (k : Fin 4096) :
    k0_pay7 dh sc (ix2 r k) = dh (ix2 r k) * (1 + sc (ix2 0 k)) := by
  pointwise [k0_pay7]

theorem pay8_apply (x dh dr : Vec Ideal S128x4096 .f32) (g sc : Vec Ideal S1x4096 .f32) (r : Fin 128) (k : Fin 4096) :
    k0_pay8 x dh dr g sc (ix2 r k) = dr (ix2 r k) + back len (fun k => x (ix2 r k))
      (fun k => dh (ix2 r k) * (1 + sc (ix2 0 k)) * g (ix2 0 k)) k := by
  pointwise [k0_pay8]
  simp only [pay4_apply, pay5_apply, pay7_apply]
  rfl

theorem pay11_apply (d : Vec Ideal S128x4096 .f32) (gate : Vec Ideal S1x4096 .f32) (r : Fin 128) (k : Fin 4096) :
    k0_pay11 d (k0_pay9 gate) (ix2 r k) = d (ix2 r k) * gate (ix2 0 k) := by
  pointwise [k0_pay11, k0_pay9]

/-- The tile's terms of the accumulated cotangents of the scale, of the gain and of the gate. -/
abbrev scaleTerm (x dh : Vec Ideal S128x4096 .f32) (g : Vec Ideal S1x4096 .f32) : S128x4096.Idx → EReal := fun i => dh i * k0_pay6 (F := Ideal) x g i
abbrev gainTerm (x dh : Vec Ideal S128x4096 .f32) (sc : Vec Ideal S1x4096 .f32) : S128x4096.Idx → EReal :=
  fun i => k0_pay7 (F := Ideal) dh sc i * k0_pay5 (F := Ideal) x i
abbrev gateTerm (d : Vec Ideal S128x4096 .f32) (mo : Vec Ideal S128x4096 .bf16) : S128x4096.Idx → EReal := fun i => d i * mo i

theorem pay16_apply (x dh : Vec Ideal S128x4096 .f32) (g : Vec Ideal S1x4096 .f32) (a : Vec Ideal S8x4096 .f32) (j : S8x4096.Idx) :
    k0_pay16 dh (k0_pay6 x g) a j = a j + part (scaleTerm x dh g) j := by
  pointwise [k0_pay16]
  rfl
theorem pay17_apply (v : Vec Ideal S128x4096 .f32) (a : Vec Ideal S8x4096 .f32) (j : S8x4096.Idx) : k0_pay17 v a j = a j + part v j := by
  pointwise [k0_pay17]
  rfl
theorem pay18_apply (x dh : Vec Ideal S128x4096 .f32) (sc : Vec Ideal S1x4096 .f32) (a : Vec Ideal S8x4096 .f32) (j : S8x4096.Idx) :
    k0_pay18 (k0_pay5 x) (k0_pay7 dh sc) a j = a j + part (gainTerm x dh sc) j := by
  pointwise [k0_pay18]
  rfl
theorem pay10_apply (d : Vec Ideal S128x4096 .f32) (mo : Vec Ideal S128x4096 .bf16) (i : S128x4096.Idx) :
    k0_pay10 (k0_pay3 mo) d i = gateTerm d mo i := by
  pointwise [k0_pay10, k0_pay3]
theorem pay1_apply (d : Vec Ideal S128x4096 .f32) (mo : Vec Ideal S128x4096 .bf16) (a : Vec Ideal S8x4096 .f32) (j : S8x4096.Idx) :
    k0_pay1 (k0_pay10 (k0_pay3 mo) d) (k0_pay19 a) j = a j + part (gateTerm d mo) j := by
  pointwise [k0_pay1, k0_pay19]
  simp only [pay10_apply]
  rfl
theorem pay12_apply (j : S8x4096.Idx) : k0_pay12 (F := Ideal) j = 0 := by pointwise [k0_pay12]
theorem pay13_apply (j : S8x4096.Idx) : k0_pay13 (F := Ideal) j = 0 := by pointwise [k0_pay13]
theorem pay14_apply (j : S8x4096.Idx) : k0_pay14 (F := Ideal) j = 0 := by pointwise [k0_pay14]
theorem pay15_apply (j : S8x4096.Idx) : k0_pay15 (F := Ideal) j = 0 := by pointwise [k0_pay15]

/-! ## The arrays -/

variable (m : (ℓ : Loc nD τ sig) → Buf (Elt Ideal) ℓ)

/-- The stream before the mixer's result, that result, its gate, the gain, the scale, and the two cotangents. -/
def X (c : Dev nD) : S4096x4096.Idx → EReal := m ((c.tc : Thread nD τ).loc main_arg0)
def MO (c : Dev nD) : S4096x4096.Idx → EReal := m ((c.tc : Thread nD τ).loc main_arg1)
def GT (c : Dev nD) : S1x4096.Idx → EReal := m ((c.tc : Thread nD τ).loc main_arg2)
def G (c : Dev nD) : S1x4096.Idx → EReal := m ((c.tc : Thread nD τ).loc main_arg3)
def S (c : Dev nD) : S1x4096.Idx → EReal := m ((c.tc : Thread nD τ).loc main_arg4)
def DH (c : Dev nD) : S4096x4096.Idx → EReal := m ((c.tc : Thread nD τ).loc main_arg6)
def DR (c : Dev nD) : S4096x4096.Idx → EReal := m ((c.tc : Thread nD τ).loc main_arg7)

abbrev kdx (c : Dev nD) := dx (X m c) (MO m c) (GT m c) (G m c) (S m c) (DH m c) (DR m c)

/-- The stream with the gated result added, as the host computes it before the kernel. -/
def Y (c : Dev nD) : S4096x4096.Idx → EReal := V m c main_v2
theorem Y_apply (c : Dev nD) (i : S4096x4096.Idx) : Y m c i = mid (X m c) (MO m c) (GT m c) (i 0) (i 1) := by
  obtain ⟨r, k, rfl⟩ : ∃ (r : Fin 4096) (k : Fin 4096), i = ix2 r k := ⟨i 0, i 1, by idx_vars i⟩
  unfold Y V V0
  simp only [List.flatten_cons, List.flatten_nil, List.append_nil]
  after_results
  pointwise
  rfl
theorem V_MO (c : Dev nD) : V m c main_v3 = MO m c := by
  unfold V V0
  simp only [List.flatten_cons, List.flatten_nil, List.append_nil]
  after_results
  rfl
theorem V_Y (c : Dev nD) : V m c main_v2 = Y m c := rfl
theorem V_GT (c : Dev nD) : V m c main_arg2 = GT m c := V_main_arg2 m c
theorem V_G (c : Dev nD) : V m c main_arg3 = G m c := V_main_arg3 m c
theorem V_S (c : Dev nD) : V m c main_arg4 = S m c := V_main_arg4 m c
theorem V_DH (c : Dev nD) : V m c main_arg6 = DH m c := V_main_arg6 m c
theorem V_DR (c : Dev nD) : V m c main_arg7 = DR m c := V_main_arg7 m c

theorem idx0 : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] ∧ win0_8.index t = ![t.val, 0] :=
  (by decide +kernel : ∀ t : Fin grid0.N, _)

theorem blk_Y (c : Dev nD) (t : Fin cfg0.N) (r : Fin 128) (k : Fin 4096) :
    iblk m c 0 t (ix2 r k) = mid (X m c) (MO m c) (GT m c) (row t r) k := by
  refine Eq.trans ?_ (Y_apply m c (ix2 (row t r) k))
  rw [← V_Y]; blk_point [iblk, (idx0 t).1]
theorem blk_DH (c : Dev nD) (t : Fin cfg0.N) (r : Fin 128) (k : Fin 4096) : iblk m c 1 t (ix2 r k) = DH m c (ix2 (row t r) k) := by
  rw [← V_DH]; blk_point [iblk, (idx0 t).2.1]
theorem blk_DR (c : Dev nD) (t : Fin cfg0.N) (r : Fin 128) (k : Fin 4096) : iblk m c 2 t (ix2 r k) = DR m c (ix2 (row t r) k) := by
  rw [← V_DR]; blk_point [iblk, (idx0 t).2.2.1]
theorem blk_MO (c : Dev nD) (t : Fin cfg0.N) (r : Fin 128) (k : Fin 4096) : iblk m c 3 t (ix2 r k) = MO m c (ix2 (row t r) k) := by
  rw [← V_MO]; blk_point [iblk, (idx0 t).2.2.2.1]
theorem blk_G (c : Dev nD) (t : Fin cfg0.N) (k : Fin 4096) : iblk m c 4 t (ix2 0 k) = G m c (ix2 0 k) := by
  rw [← V_G]; blk_point [iblk, (idx0 t).2.2.2.2.1]
theorem blk_S (c : Dev nD) (t : Fin cfg0.N) (k : Fin 4096) : iblk m c 5 t (ix2 0 k) = S m c (ix2 0 k) := by
  rw [← V_S]; blk_point [iblk, (idx0 t).2.2.2.2.2.1]
theorem blk_GT (c : Dev nD) (t : Fin cfg0.N) (k : Fin 4096) : iblk m c 6 t (ix2 0 k) = GT m c (ix2 0 k) := by
  rw [← V_GT]; blk_point [iblk, (idx0 t).2.2.2.2.2.2.1]
theorem emb_dx (t : Fin cfg0.N) (r : Fin 128) (k : Fin 4096) : (win0_7.blk t).view.emb (ix2 r k) = ix2 (row t r) k := by
  blk_ext [(idx0 t).2.2.2.2.2.2.2.1]
theorem emb_dmo (t : Fin cfg0.N) (r : Fin 128) (k : Fin 4096) : (win0_8.blk t).view.emb (ix2 r k) = ix2 (row t r) k := by
  blk_ext [(idx0 t).2.2.2.2.2.2.2.2]

/-- The tile of the stream's cotangent. -/
abbrev tileDx (c : Dev nD) (t : Fin cfg0.N) :=
  k0_pay8 (F := Ideal) (iblk m c 0 t) (iblk m c 1 t) (iblk m c 2 t) (iblk m c 4 t) (iblk m c 5 t)
theorem tileDx_apply (c : Dev nD) (t : Fin cfg0.N) (r : Fin 128) (k : Fin 4096) : tileDx m c t (ix2 r k) = kdx m c (row t r) k := by
  rw [tileDx, pay8_apply]
  simp only [blk_Y, blk_DH, blk_DR, blk_G, blk_S]
  rfl

theorem arr_dx (c : Dev nD) : (dats m 0 c).arrAt 7 cfg0.N = fun i : S4096x4096.Idx => kdx m c (i 0) (i 1) := by
  refine (dats m 0 c).arrAt_eq_of_covers 7 _ (by decide +kernel) fun t hf y => ?_
  obtain ⟨r, k, rfl⟩ : ∃ (r : Fin 128) (k : Fin 4096), y = ix2 r k := ⟨y 0, y 1, by idx_vars y⟩
  have point : tileDx m c t (ix2 r k) = (fun i : S4096x4096.Idx => kdx m c (i 0) (i 1)) ((win0_7.blk t).view.emb (ix2 r k)) := by
    rw [tileDx_apply, emb_dx]
    rfl
  blk_simp
  rw [after0_7]
  by_cases h : t.val % 32 = 0
  · rw [outsAt0_A m c t h]
    frame_out
    exact point
  · rw [outsAt0_B m c t h]
    frame_out
    exact point

theorem arr_dmo (c : Dev nD) : (dats m 0 c).arrAt 8 cfg0.N = fun i : S4096x4096.Idx => kdx m c (i 0) (i 1) * GT m c (ix2 0 (i 1)) := by
  refine (dats m 0 c).arrAt_eq_of_covers 8 _ (by decide +kernel) fun t hf y => ?_
  obtain ⟨r, k, rfl⟩ : ∃ (r : Fin 128) (k : Fin 4096), y = ix2 r k := ⟨y 0, y 1, by idx_vars y⟩
  have point : k0_pay11 (F := Ideal) (tileDx m c t) (k0_pay9 (iblk m c 6 t)) (ix2 r k) =
      (fun i : S4096x4096.Idx => kdx m c (i 0) (i 1) * GT m c (ix2 0 (i 1))) ((win0_8.blk t).view.emb (ix2 r k)) := by
    rw [pay11_apply, tileDx_apply, blk_GT, emb_dmo]
    rfl
  blk_simp
  rw [after0_8]
  by_cases h : t.val % 32 = 0
  · rw [outsAt0_A m c t h]
    frame_out
    exact point
  · rw [outsAt0_B m c t h]
    frame_out
    exact point

/-- The tile's terms of the four accumulated cotangents. -/
abbrev termScale (c : Dev nD) (t : Fin cfg0.N) := scaleTerm (iblk m c 0 t) (iblk m c 1 t) (iblk m c 4 t)
abbrev termGain (c : Dev nD) (t : Fin cfg0.N) := gainTerm (iblk m c 0 t) (iblk m c 1 t) (iblk m c 5 t)
abbrev termGate (c : Dev nD) (t : Fin cfg0.N) := gateTerm (tileDx m c t) (iblk m c 3 t)

/-- The accumulators after a tile: the first tile starts from zero. -/
theorem acc_A (c : Dev nD) (t : Fin cfg0.N) (h : t.val % 32 = 0) (j : S8x4096.Idx) :
    (outsAt0 m c t.val t.isLt).2.2.1 j = 0 + part (termScale m c t) j ∧ (outsAt0 m c t.val t.isLt).2.2.2.1 j = 0 + part (iblk m c 1 t) j
      ∧ (outsAt0 m c t.val t.isLt).2.2.2.2.1 j = 0 + part (termGain m c t) j
      ∧ (outsAt0 m c t.val t.isLt).2.2.2.2.2 j = 0 + part (termGate m c t) j := by
  rw [outsAt0_A m c t h]
  refine ⟨?_, ?_, ?_, ?_⟩
  · frame_out; rw [pay16_apply, pay12_apply]
  · frame_out; rw [pay17_apply, pay13_apply]
  · frame_out; rw [pay18_apply, pay14_apply]
  · frame_out; rw [pay1_apply, pay15_apply]

theorem acc_B (c : Dev nD) (t : Fin cfg0.N) (h : ¬t.val % 32 = 0) (j : S8x4096.Idx) :
    (outsAt0 m c t.val t.isLt).2.2.1 j = (outsAt0 m c (t.val - 1) (Nat.lt_of_le_of_lt (Nat.sub_le _ _) t.isLt)).2.2.1 j + part (termScale m c t) j
      ∧ (outsAt0 m c t.val t.isLt).2.2.2.1 j = (outsAt0 m c (t.val - 1) (Nat.lt_of_le_of_lt (Nat.sub_le _ _) t.isLt)).2.2.2.1 j + part (iblk m c 1 t) j
      ∧ (outsAt0 m c t.val t.isLt).2.2.2.2.1 j = (outsAt0 m c (t.val - 1) (Nat.lt_of_le_of_lt (Nat.sub_le _ _) t.isLt)).2.2.2.2.1 j + part (termGain m c t) j
      ∧ (outsAt0 m c t.val t.isLt).2.2.2.2.2 j = (outsAt0 m c (t.val - 1) (Nat.lt_of_le_of_lt (Nat.sub_le _ _) t.isLt)).2.2.2.2.2 j + part (termGate m c t) j := by
  rw [outsAt0_B m c t h]
  refine ⟨?_, ?_, ?_, ?_⟩
  · frame_out; rw [pay16_apply]
  · frame_out; rw [pay17_apply]
  · frame_out; rw [pay18_apply]
  · frame_out; rw [pay1_apply]

theorem arr_scale (c : Dev nD) : (dats m 0 c).arrAt 9 cfg0.N = fun j : S8x4096.Idx => ∑ t : Fin cfg0.N, part (termScale m c t) j := by
  refine (dats m 0 c).arrAt_eq_of_after_last 9 ⟨31, by decide⟩ (by decide +kernel) _ fun y => ?_
  rw [after0_9]
  blk_simp
  exact acc_last (le_of_eq N_0) (fun n h => (outsAt0 m c n h).2.2.1) (termScale m c) (fun t h j => (acc_A m c t h j).1)
    (fun t h j => (acc_B m c t h j).1) ⟨31, by decide⟩ N_0.symm _
theorem arr_shift (c : Dev nD) : (dats m 0 c).arrAt 10 cfg0.N = fun j : S8x4096.Idx => ∑ t : Fin cfg0.N, part (iblk m c 1 t) j := by
  refine (dats m 0 c).arrAt_eq_of_after_last 10 ⟨31, by decide⟩ (by decide +kernel) _ fun y => ?_
  rw [after0_10]
  blk_simp
  exact acc_last (le_of_eq N_0) (fun n h => (outsAt0 m c n h).2.2.2.1) (iblk m c 1) (fun t h j => (acc_A m c t h j).2.1)
    (fun t h j => (acc_B m c t h j).2.1) ⟨31, by decide⟩ N_0.symm _
theorem arr_gain (c : Dev nD) : (dats m 0 c).arrAt 11 cfg0.N = fun j : S8x4096.Idx => ∑ t : Fin cfg0.N, part (termGain m c t) j := by
  refine (dats m 0 c).arrAt_eq_of_after_last 11 ⟨31, by decide⟩ (by decide +kernel) _ fun y => ?_
  rw [after0_11]
  blk_simp
  exact acc_last (le_of_eq N_0) (fun n h => (outsAt0 m c n h).2.2.2.2.1) (termGain m c) (fun t h j => (acc_A m c t h j).2.2.1)
    (fun t h j => (acc_B m c t h j).2.2.1) ⟨31, by decide⟩ N_0.symm _
theorem arr_gate (c : Dev nD) : (dats m 0 c).arrAt 12 cfg0.N = fun j : S8x4096.Idx => ∑ t : Fin cfg0.N, part (termGate m c t) j := by
  refine (dats m 0 c).arrAt_eq_of_after_last 12 ⟨31, by decide⟩ (by decide +kernel) _ fun y => ?_
  rw [after0_12]
  blk_simp
  exact acc_last (le_of_eq N_0) (fun n h => (outsAt0 m c n h).2.2.2.2.2) (termGate m c) (fun t h j => (acc_A m c t h j).2.2.2)
    (fun t h j => (acc_B m c t h j).2.2.2) ⟨31, by decide⟩ N_0.symm _

/-- The host adds an accumulator's eight sublanes. -/
abbrev hostSum (x : S8x4096.Idx → EReal) : S4096.Idx → EReal :=
  Host.reduceAdd (F := Ideal) x (constant S_ .f32 0x00000000#32) reducesTo_S8x4096_S4096_d0 h_S_

theorem tail_scale (c : Dev nD) : Pipeline.afterTail₀ cfgs (dats m) 0 (V0 m) [hostOps1] c main_v5 = hostSum ((dats m 0 c).arrAt 9 cfg0.N) := by
  unfold Pipeline.afterTail₀
  simp only [List.flatten_cons, List.flatten_nil, List.append_nil]
  after_results
  exact congrArg hostSum (Pipeline.withArrays_arr spec0 launch0.win.arr_inj c _ _ 9)
theorem tail_shift (c : Dev nD) : Pipeline.afterTail₀ cfgs (dats m) 0 (V0 m) [hostOps1] c main_v6 = hostSum ((dats m 0 c).arrAt 10 cfg0.N) := by
  unfold Pipeline.afterTail₀
  simp only [List.flatten_cons, List.flatten_nil, List.append_nil]
  after_results
  exact congrArg hostSum (Pipeline.withArrays_arr spec0 launch0.win.arr_inj c _ _ 10)
theorem tail_gain (c : Dev nD) : Pipeline.afterTail₀ cfgs (dats m) 0 (V0 m) [hostOps1] c main_v7 = hostSum ((dats m 0 c).arrAt 11 cfg0.N) := by
  unfold Pipeline.afterTail₀
  simp only [List.flatten_cons, List.flatten_nil, List.append_nil]
  after_results
  exact congrArg hostSum (Pipeline.withArrays_arr spec0 launch0.win.arr_inj c _ _ 11)
theorem tail_gate (c : Dev nD) : Pipeline.afterTail₀ cfgs (dats m) 0 (V0 m) [hostOps1] c main_v8 = hostSum ((dats m 0 c).arrAt 12 cfg0.N) := by
  unfold Pipeline.afterTail₀
  simp only [List.flatten_cons, List.flatten_nil, List.append_nil]
  after_results
  exact congrArg hostSum (Pipeline.withArrays_arr spec0 launch0.win.arr_inj c _ _ 12)
/-- The cotangent of the mixer's result, widened by the host. -/
theorem tail_dmo (c : Dev nD) : Pipeline.afterTail₀ cfgs (dats m) 0 (V0 m) [hostOps1] c main_v9 =
    fun i : S4096x4096.Idx => kdx m c (i 0) (i 1) * GT m c (ix2 0 (i 1)) := by
  rw [← arr_dmo]
  unfold Pipeline.afterTail₀
  simp only [List.flatten_cons, List.flatten_nil, List.append_nil]
  after_results
  exact congrArg (fun x => extf (F := Ideal) .f32 x bitsLt_bf16_f32) (Pipeline.withArrays_arr spec0 launch0.win.arr_inj c _ _ 8)

/-- The sum of the sublanes of the tiles' sums is the sum over all rows. -/
theorem sum_all (f : Fin cfg0.N → Vec Ideal S128x4096 .f32) (g : Fin 4096 → Fin 4096 → EReal)
    (h : ∀ t r k, f t (ix2 r k) = g (row t r) k) :
    hostSum (fun j : S8x4096.Idx => ∑ t : Fin cfg0.N, part (f t) j) = fun i : S4096.Idx => ∑ r : Fin 4096, g r (i 0) := by
  funext i
  pointwise
  exact total f g h (i 0)

theorem scale_eq (c : Dev nD) : Pipeline.afterTail₀ cfgs (dats m) 0 (V0 m) [hostOps1] c main_v5 =
    fun i : S4096.Idx => ∑ r : Fin 4096, DH m c (ix2 r (i 0)) * (xn (X m c) (MO m c) (GT m c) r (i 0) * G m c (ix2 0 (i 0))) := by
  rw [tail_scale, arr_scale]
  refine sum_all (termScale m c) (fun r k => DH m c (ix2 r k) * (xn (X m c) (MO m c) (GT m c) r k * G m c (ix2 0 k))) fun t r k => ?_
  rw [termScale, scaleTerm, pay6_apply]; simp only [blk_Y, blk_DH, blk_G]; rfl
theorem shift_eq (c : Dev nD) : Pipeline.afterTail₀ cfgs (dats m) 0 (V0 m) [hostOps1] c main_v6 =
    fun i : S4096.Idx => ∑ r : Fin 4096, DH m c (ix2 r (i 0)) := by
  rw [tail_shift, arr_shift]
  exact sum_all (iblk m c 1) (fun r k => DH m c (ix2 r k)) fun t r k => blk_DH m c t r k
theorem gain_eq (c : Dev nD) : Pipeline.afterTail₀ cfgs (dats m) 0 (V0 m) [hostOps1] c main_v7 =
    fun i : S4096.Idx => ∑ r : Fin 4096, dt (S m c) (DH m c) r (i 0) * xn (X m c) (MO m c) (GT m c) r (i 0) := by
  rw [tail_gain, arr_gain]
  refine sum_all (termGain m c) (fun r k => dt (S m c) (DH m c) r k * xn (X m c) (MO m c) (GT m c) r k) fun t r k => ?_
  rw [termGain, gainTerm, pay5_apply, pay7_apply]; simp only [blk_Y, blk_DH, blk_S]; rfl
theorem gate_eq (c : Dev nD) : Pipeline.afterTail₀ cfgs (dats m) 0 (V0 m) [hostOps1] c main_v8 =
    fun i : S4096.Idx => ∑ r : Fin 4096, kdx m c r (i 0) * MO m c (ix2 r (i 0)) := by
  rw [tail_gate, arr_gate]
  refine sum_all (termGate m c) (fun r k => kdx m c r k * MO m c (ix2 r k)) fun t r k => ?_
  rw [termGate, gateTerm, tileDx_apply, blk_MO]

theorem kernel_run (ρ : Dev nD → PrngReg) :
    θ_run defs (onTc (τ := τ) (main (F := Ideal))) ⟨m, fun _ => 0, ρ⟩ (fun r => ∀ c : Dev nD,
      r.2.mem ((c.tc : Thread nD τ).loc main_v4_0) = (fun i : S4096x4096.Idx => kdx m c (i 0) (i 1))
      ∧ r.2.mem ((c.tc : Thread nD τ).loc main_v9) = (fun i : S4096x4096.Idx => kdx m c (i 0) (i 1) * GT m c (ix2 0 (i 1)))
      ∧ r.2.mem ((c.tc : Thread nD τ).loc main_v8) = (fun i : S4096.Idx => ∑ r : Fin 4096, kdx m c r (i 0) * MO m c (ix2 r (i 0)))
      ∧ r.2.mem ((c.tc : Thread nD τ).loc main_v7) =
          (fun i : S4096.Idx => ∑ r : Fin 4096, dt (S m c) (DH m c) r (i 0) * xn (X m c) (MO m c) (GT m c) r (i 0))
      ∧ r.2.mem ((c.tc : Thread nD τ).loc main_v5) =
          (fun i : S4096.Idx => ∑ r : Fin 4096, DH m c (ix2 r (i 0)) * (xn (X m c) (MO m c) (GT m c) r (i 0) * G m c (ix2 0 (i 0))))
      ∧ r.2.mem ((c.tc : Thread nD τ).loc main_v6) = (fun i : S4096.Idx => ∑ r : Fin 4096, DH m c (ix2 r (i 0)))) :=
  (θ_run defs _ _).mono (fun _ h c =>
    ⟨(h.out_eq c 7).trans (arr_dx m c),
      (h.rest_eq c main_v9 (Pipeline.mem_restRefs_of main_v9 (by decide) (by decide))).trans (tail_dmo m c),
      (h.rest_eq c main_v8 (Pipeline.mem_restRefs_of main_v8 (by decide) (by decide))).trans (gate_eq m c),
      (h.rest_eq c main_v7 (Pipeline.mem_restRefs_of main_v7 (by decide) (by decide))).trans (gain_eq m c),
      (h.rest_eq c main_v5 (Pipeline.mem_restRefs_of main_v5 (by decide) (by decide))).trans (scale_eq m c),
      (h.rest_eq c main_v6 (Pipeline.mem_restRefs_of main_v6 (by decide) (by decide))).trans (shift_eq m c)⟩) (run_main m ρ)

end Cert.Norm2
end
-- ==== Proof.Norm2Claims.lean ====
/- The claims of the second normalisation's backward. -/
module

public import proofs.«01_k».proof.Defs
public import proofs.«01_k».proof.Proof.Norm2
public import proofs.«01_k».proof.Proof.Reals
public import proofs.«01_k».proof.Proof.Gen.Pre_finite3

@[expose] public section

set_option maxRecDepth 16384

noncomputable section

namespace Cert.Norm2

open Idealize.ShloMosaic Idealize.ShloMosaic.TcCoe Idealize.SL.Sem Cert.Kernel3Ideal Cert.Kernel3Ideal.Gen Cert.Finite

/-- What the precondition says: the arguments it names hold real numbers. -/
theorem real (m : (ℓ : Loc nD τ sig) → Buf (Elt Ideal) ℓ) (h : Cert.Pre_Kernel3Ideal_finite3 m) (c : Dev nD) :
    (∀ i, IsReal (X m c i)) ∧ (∀ i, IsReal (MO m c i)) ∧ (∀ i, IsReal (GT m c i)) ∧ (∀ i, IsReal (G m c i)) ∧ (∀ i, IsReal (S m c i)) ∧ (∀ i, IsReal (DH m c i)) := by
  have e := congrFun (h c) ix0
  obtain ⟨e, e6⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨-, e0⟩ := IntOp.andi_eq_one.1 e
  haveI : Subsingleton (Cert.Pre_finite3.S_).Idx := ⟨fun a b => funext fun i => i.elim0⟩
  exact ⟨allReal_of_reduce _ _ (fun _ => ofBits_inf) _ _ _ _ e0,
    allReal_of_reduce _ _ (fun _ => ofBits_inf) _ _ _ _ e1,
    allReal_of_reduce _ _ (fun _ => ofBits_inf) _ _ _ _ e2,
    allReal_of_reduce _ _ (fun _ => ofBits_inf) _ _ _ _ e3,
    allReal_of_reduce _ _ (fun _ => ofBits_inf) _ _ _ _ e4,
    allReal_of_reduce _ _ (fun _ => ofBits_inf) _ _ _ _ e6⟩

theorem frame_ref : Cert.quiescent_Reference3Ideal := fun m ρ _ => by
  refine (θ_run Cert.Reference3Ideal.defs _ _).mono (fun r h => ⟨fun c => (h c).2.2.2.2.2.2, sem_eq_zero_of_no_sems (by decide) r.2⟩)
    (Cert.Reference3Ideal.Value.run (F := Ideal) m ρ)

theorem algebraic : Cert.algebraic_Kernel3Ideal_Reference3Ideal_pre_finite3 := by
  intro m ρ m' ρ' hpre hagree
  refine ⟨_, _, _, _, _, _, (θ_run defs _ _).mono (fun r h c => ⟨(h.1 c).1, (h.1 c).2.1, (h.1 c).2.2.1, (h.1 c).2.2.2.1, (h.1 c).2.2.2.2.1, (h.1 c).2.2.2.2.2, (h.2 c)⟩)
    (θ_run_and (kernel_run m ρ) (unchanged m ρ)), ?_⟩
  refine (θ_run Cert.Reference3Ideal.defs _ _).mono (fun _ h c => ?_) (Cert.Reference3Ideal.Value.run (F := Ideal) m' ρ')
  obtain ⟨h0, h1, h2, h3, h4, h5, hargs⟩ := h c
  obtain ⟨a0, a1, a2, a3, a4, a5, a6, a7⟩ := hagree c
  obtain ⟨r0, r1, r2, r3, r4, r6⟩ := real m hpre c
  replace h0 := h0.trans (Cert.Reference3Ideal.Read.val_main_v62_eq m' c)
  replace h1 := h1.trans (Cert.Reference3Ideal.Read.val_main_v65_eq m' c)
  replace h2 := h2.trans (Cert.Reference3Ideal.Read.val_main_v69_eq m' c)
  replace h3 := h3.trans (Cert.Reference3Ideal.Read.val_main_v47_eq _ _ _ _ _)
  replace h4 := h4.trans (Cert.Reference3Ideal.Read.val_main_v41_eq _ _ _ _ _)
  replace h5 := h5.trans (Cert.Reference3Ideal.Read.val_main_v35_eq _)
  rw [a0, a1, a2, a3, a4, a6, a7] at h0
  rw [a0, a1, a2, a3, a4, a6, a7] at h1
  rw [a0, a1, a2, a3, a4, a6, a7] at h2
  rw [a0, a1, a2, a4, a6] at h3
  rw [a0, a1, a2, a3, a6] at h4
  rw [a6] at h5
  refine ⟨h0.trans (funext fun i => ?_), h1.trans (funext fun i => ?_), h2.trans (funext fun i => ?_), h3.trans (funext fun i => ?_), h4.trans (funext fun i => ?_), h5.trans (funext fun i => ?_), hargs⟩
  · obtain ⟨r, k, rfl⟩ : ∃ (r : Fin 4096) (k : Fin 4096), i = ix2 r k := ⟨i 0, i 1, by idx_vars i⟩
    exact ref_dx (X m c) (MO m c) (GT m c) (G m c) (S m c) (DH m c) (DR m c) r0 r1 r2 r3 r4 r6 r k
  · obtain ⟨r, k, rfl⟩ : ∃ (r : Fin 4096) (k : Fin 4096), i = ix2 r k := ⟨i 0, i 1, by idx_vars i⟩
    exact (ref_dmo (X m c) (MO m c) (GT m c) (G m c) (S m c) (DH m c) (DR m c) r k).trans (congrArg (· * GT m c (ix2 0 k)) (ref_dx (X m c) (MO m c) (GT m c) (G m c) (S m c) (DH m c) (DR m c) r0 r1 r2 r3 r4 r6 r k))
  · obtain ⟨k, rfl⟩ : ∃ k : Fin 4096, i = ix1 k := ⟨i 0, by idx_vars i⟩
    exact (ref_gate (X m c) (MO m c) (GT m c) (G m c) (S m c) (DH m c) (DR m c) k).trans (Fin.sum_fin_congr fun r => congrArg (· * MO m c (ix2 r k)) (ref_dx (X m c) (MO m c) (GT m c) (G m c) (S m c) (DH m c) (DR m c) r0 r1 r2 r3 r4 r6 r k))
  · obtain ⟨k, rfl⟩ : ∃ k : Fin 4096, i = ix1 k := ⟨i 0, by idx_vars i⟩
    exact ref_gain (X m c) (MO m c) (GT m c) (S m c) (DH m c) k
  · obtain ⟨k, rfl⟩ : ∃ k : Fin 4096, i = ix1 k := ⟨i 0, by idx_vars i⟩
    exact ref_scale (X m c) (MO m c) (GT m c) (G m c) (DH m c) k
  · obtain ⟨k, rfl⟩ : ∃ k : Fin 4096, i = ix1 k := ⟨i 0, by idx_vars i⟩
    exact ref_shift (DH m c) k

end Cert.Norm2

end
-- ==== Proof.Norm1.lean ====
module

public import proofs.«01_k».proof.Proof.Gen.Kernel4Ideal.Frame
public import proofs.«01_k».proof.Proof.Gen.Reference4Ideal.Read
public import proofs.«01_k».proof.Proof.Sublanes
public import proofs.«01_k».proof.Proof.Norm
public import Idealize.ShloMosaic.Lib.Pipeline.ValueKit
public import Idealize.ShloMosaic.PureOps.Ideal.Laws

@[expose] public section

set_option maxRecDepth 16384

noncomputable section

namespace Cert.Norm1

open Idealize.ShloMosaic Idealize.ShloMosaic.TcCoe Idealize.SL.Sem Cert.Kernel4Ideal Cert.Kernel4Ideal.Gen Cert.Finite Cert.Norm Cert.Sublanes

/-- The row length as the program's word. -/
abbrev len : EReal := Ideal.ofBits .f32 0x45800000#32

theorem pay7_apply (x : Vec Ideal S128x4096 .f32) (j : S128x1.Idx) : k0_pay7 x j = rs len fun k => x (ix2 (j 0) k) := by
  pointwise [k0_pay7]
  rfl

theorem pay8_apply (x : Vec Ideal S128x4096 .f32) (r : Fin 128) (k : Fin 4096) :
    k0_pay8 x (ix2 r k) = x (ix2 r k) * rs len fun k => x (ix2 r k) := by
  pointwise [k0_pay8]
  rw [pay7_apply]
  rfl

theorem pay9_apply (dh : Vec Ideal S128x4096 .f32) (sc : Vec Ideal S1x4096 .f32) (r : Fin 128) (k : Fin 4096) :
    k0_pay9 dh sc (ix2 r k) = dh (ix2 r k) * (1 + sc (ix2 0 k)) := by
  pointwise [k0_pay9]

theorem pay10_apply (x dh dr : Vec Ideal S128x4096 .f32) (g sc : Vec Ideal S1x4096 .f32) (r : Fin 128) (k : Fin 4096) :
    k0_pay10 x dh dr g sc (ix2 r k) = dr (ix2 r k) + back len (fun k => x (ix2 r k))
      (fun k => dh (ix2 r k) * (1 + sc (ix2 0 k)) * g (ix2 0 k)) k := by
  pointwise [k0_pay10]
  simp only [pay7_apply, pay8_apply, pay9_apply]
  rfl

theorem pay11_apply (x dh : Vec Ideal S128x4096 .f32) (g : Vec Ideal S1x4096 .f32) (r : Fin 128) (k : Fin 4096) :
    k0_pay11 x dh g (ix2 r k) = dh (ix2 r k) * (x (ix2 r k) * (rs len fun k => x (ix2 r k)) * g (ix2 0 k)) := by
  pointwise [k0_pay11]
  rw [pay8_apply]

theorem pay12_apply (x dh : Vec Ideal S128x4096 .f32) (sc : Vec Ideal S1x4096 .f32) (r : Fin 128) (k : Fin 4096) :
    k0_pay12 x dh sc (ix2 r k) = dh (ix2 r k) * (1 + sc (ix2 0 k)) * (x (ix2 r k) * rs len fun k => x (ix2 r k)) := by
  pointwise [k0_pay12]
  rw [pay8_apply, pay9_apply]

theorem pay4_apply (v : Vec Ideal S128x4096 .f32) (a : Vec Ideal S8x4096 .f32) (j : S8x4096.Idx) : k0_pay4 v a j = a j + part v j := by
  pointwise [k0_pay4]
  rfl
theorem pay5_apply (v : Vec Ideal S128x4096 .f32) (a : Vec Ideal S8x4096 .f32) (j : S8x4096.Idx) : k0_pay5 v a j = a j + part v j := by
  pointwise [k0_pay5]
  rfl
theorem pay6_apply (v : Vec Ideal S128x4096 .f32) (a : Vec Ideal S8x4096 .f32) (j : S8x4096.Idx) : k0_pay6 v a j = a j + part v j := by
  pointwise [k0_pay6]
  rfl
theorem pay1_apply (j : S8x4096.Idx) : k0_pay1 (F := Ideal) j = 0 := by pointwise [k0_pay1]
theorem pay2_apply (j : S8x4096.Idx) : k0_pay2 (F := Ideal) j = 0 := by pointwise [k0_pay2]
theorem pay3_apply (j : S8x4096.Idx) : k0_pay3 (F := Ideal) j = 0 := by pointwise [k0_pay3]

/-! ## The arrays -/

variable (m : (ℓ : Loc nD τ sig) → Buf (Elt Ideal) ℓ)

/-- The stream, the gain, the scale, and the two cotangents. -/
def X (c : Dev nD) : S4096x4096.Idx → EReal := m ((c.tc : Thread nD τ).loc main_arg0)
def G (c : Dev nD) : S1x4096.Idx → EReal := m ((c.tc : Thread nD τ).loc main_arg1)
def S (c : Dev nD) : S1x4096.Idx → EReal := m ((c.tc : Thread nD τ).loc main_arg2)
def DH (c : Dev nD) : S4096x4096.Idx → EReal := m ((c.tc : Thread nD τ).loc main_arg4)
def DR (c : Dev nD) : S4096x4096.Idx → EReal := m ((c.tc : Thread nD τ).loc main_arg5)

/-- The normed stream and the cotangent of the normed stream times the gain. -/
def xn (c : Dev nD) (r k : Fin 4096) : EReal := X m c (ix2 r k) * rs len fun k => X m c (ix2 r k)
def dt (c : Dev nD) (r k : Fin 4096) : EReal := DH m c (ix2 r k) * (1 + S m c (ix2 0 k))
def dx (c : Dev nD) (r k : Fin 4096) : EReal :=
  DR m c (ix2 r k) + back len (fun k => X m c (ix2 r k)) (fun k => dt m c r k * G m c (ix2 0 k)) k

theorem V_X (c : Dev nD) : V m c main_arg0 = X m c := V_main_arg0 m c
theorem V_G (c : Dev nD) : V m c main_arg1 = G m c := V_main_arg1 m c
theorem V_S (c : Dev nD) : V m c main_arg2 = S m c := V_main_arg2 m c
theorem V_DH (c : Dev nD) : V m c main_arg4 = DH m c := V_main_arg4 m c
theorem V_DR (c : Dev nD) : V m c main_arg5 = DR m c := V_main_arg5 m c

theorem idx0 : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] :=
  (by decide +kernel : ∀ t : Fin grid0.N, _)

theorem blk_X (c : Dev nD) (t : Fin cfg0.N) (r : Fin 128) (k : Fin 4096) : iblk m c 0 t (ix2 r k) = X m c (ix2 (row t r) k) := by
  rw [← V_X]; blk_point [iblk, (idx0 t).1]
theorem blk_DH (c : Dev nD) (t : Fin cfg0.N) (r : Fin 128) (k : Fin 4096) : iblk m c 1 t (ix2 r k) = DH m c (ix2 (row t r) k) := by
  rw [← V_DH]; blk_point [iblk, (idx0 t).2.1]
theorem blk_DR (c : Dev nD) (t : Fin cfg0.N) (r : Fin 128) (k : Fin 4096) : iblk m c 2 t (ix2 r k) = DR m c (ix2 (row t r) k) := by
  rw [← V_DR]; blk_point [iblk, (idx0 t).2.2.1]
theorem blk_G (c : Dev nD) (t : Fin cfg0.N) (k : Fin 4096) : iblk m c 3 t (ix2 0 k) = G m c (ix2 0 k) := by
  rw [← V_G]; blk_point [iblk, (idx0 t).2.2.2.1]
theorem blk_S (c : Dev nD) (t : Fin cfg0.N) (k : Fin 4096) : iblk m c 4 t (ix2 0 k) = S m c (ix2 0 k) := by
  rw [← V_S]; blk_point [iblk, (idx0 t).2.2.2.2.1]
theorem emb_dx (t : Fin cfg0.N) (r : Fin 128) (k : Fin 4096) : (win0_5.blk t).view.emb (ix2 r k) = ix2 (row t r) k := by
  blk_ext [(idx0 t).2.2.2.2.2]

theorem arr_dx (c : Dev nD) : (dats m 0 c).arrAt 5 cfg0.N = fun i : S4096x4096.Idx => dx m c (i 0) (i 1) := by
  refine (dats m 0 c).arrAt_eq_of_covers 5 _ (by decide +kernel) fun t hf y => ?_
  obtain ⟨r, k, rfl⟩ : ∃ (r : Fin 128) (k : Fin 4096), y = ix2 r k := ⟨y 0, y 1, by idx_vars y⟩
  have point : k0_pay10 (iblk m c 0 t) (iblk m c 1 t) (iblk m c 2 t) (iblk m c 3 t) (iblk m c 4 t) (ix2 r k) =
      (fun i : S4096x4096.Idx => dx m c (i 0) (i 1)) ((win0_5.blk t).view.emb (ix2 r k)) := by
    rw [pay10_apply, emb_dx]
    simp only [blk_X, blk_DH, blk_DR, blk_G, blk_S]
    rfl
  blk_simp
  rw [after0_5]
  by_cases h : t.val % 32 = 0
  · rw [outsAt0_A m c t h]
    frame_out
    exact point
  · rw [outsAt0_B m c t h]
    frame_out
    exact point

/-- The tile's terms of the three accumulated cotangents. -/
abbrev termScale (c : Dev nD) (t : Fin cfg0.N) := k0_pay11 (F := Ideal) (iblk m c 0 t) (iblk m c 1 t) (iblk m c 3 t)
abbrev termGain (c : Dev nD) (t : Fin cfg0.N) := k0_pay12 (F := Ideal) (iblk m c 0 t) (iblk m c 1 t) (iblk m c 4 t)

/-- The accumulators after a tile: the first tile starts from zero. -/
theorem acc_A (c : Dev nD) (t : Fin cfg0.N) (h : t.val % 32 = 0) (j : S8x4096.Idx) :
    (outsAt0 m c t.val t.isLt).2.1 j = 0 + part (termScale m c t) j ∧ (outsAt0 m c t.val t.isLt).2.2.1 j = 0 + part (iblk m c 1 t) j
      ∧ (outsAt0 m c t.val t.isLt).2.2.2 j = 0 + part (termGain m c t) j := by
  rw [outsAt0_A m c t h]
  refine ⟨?_, ?_, ?_⟩
  · frame_out; rw [pay4_apply, pay1_apply]
  · frame_out; rw [pay5_apply, pay2_apply]
  · frame_out; rw [pay6_apply, pay3_apply]

theorem acc_B (c : Dev nD) (t : Fin cfg0.N) (h : ¬t.val % 32 = 0) (j : S8x4096.Idx) :
    (outsAt0 m c t.val t.isLt).2.1 j = (outsAt0 m c (t.val - 1) (Nat.lt_of_le_of_lt (Nat.sub_le _ _) t.isLt)).2.1 j + part (termScale m c t) j
      ∧ (outsAt0 m c t.val t.isLt).2.2.1 j = (outsAt0 m c (t.val - 1) (Nat.lt_of_le_of_lt (Nat.sub_le _ _) t.isLt)).2.2.1 j + part (iblk m c 1 t) j
      ∧ (outsAt0 m c t.val t.isLt).2.2.2 j = (outsAt0 m c (t.val - 1) (Nat.lt_of_le_of_lt (Nat.sub_le _ _) t.isLt)).2.2.2 j + part (termGain m c t) j := by
  rw [outsAt0_B m c t h]
  refine ⟨?_, ?_, ?_⟩
  · frame_out; rw [pay4_apply]
  · frame_out; rw [pay5_apply]
  · frame_out; rw [pay6_apply]

theorem arr_scale (c : Dev nD) : (dats m 0 c).arrAt 6 cfg0.N = fun j : S8x4096.Idx => ∑ t : Fin cfg0.N, part (termScale m c t) j := by
  refine (dats m 0 c).arrAt_eq_of_after_last 6 ⟨31, by decide⟩ (by decide +kernel) _ fun y => ?_
  rw [after0_6]
  blk_simp
  exact acc_last (le_of_eq N_0) (fun n h => (outsAt0 m c n h).2.1) (termScale m c) (fun t h j => (acc_A m c t h j).1)
    (fun t h j => (acc_B m c t h j).1) ⟨31, by decide⟩ N_0.symm _

theorem arr_shift (c : Dev nD) : (dats m 0 c).arrAt 7 cfg0.N = fun j : S8x4096.Idx => ∑ t : Fin cfg0.N, part (iblk m c 1 t) j := by
  refine (dats m 0 c).arrAt_eq_of_after_last 7 ⟨31, by decide⟩ (by decide +kernel) _ fun y => ?_
  rw [after0_7]
  blk_simp
  exact acc_last (le_of_eq N_0) (fun n h => (outsAt0 m c n h).2.2.1) (iblk m c 1) (fun t h j => (acc_A m c t h j).2.1)
    (fun t h j => (acc_B m c t h j).2.1) ⟨31, by decide⟩ N_0.symm _

theorem arr_gain (c : Dev nD) : (dats m 0 c).arrAt 8 cfg0.N = fun j : S8x4096.Idx => ∑ t : Fin cfg0.N, part (termGain m c t) j := by
  refine (dats m 0 c).arrAt_eq_of_after_last 8 ⟨31, by decide⟩ (by decide +kernel) _ fun y => ?_
  rw [after0_8]
  blk_simp
  exact acc_last (le_of_eq N_0) (fun n h => (outsAt0 m c n h).2.2.2) (termGain m c) (fun t h j => (acc_A m c t h j).2.2)
    (fun t h j => (acc_B m c t h j).2.2) ⟨31, by decide⟩ N_0.symm _

/-- The host adds an accumulator's eight sublanes. -/
theorem tail_scale (c : Dev nD) : Pipeline.afterTail₀ cfgs (dats m) 0 (V0 m) [hostOps1] c main_v1 =
    Host.reduceAdd (F := Ideal) ((dats m 0 c).arrAt 6 cfg0.N) (constant S_ .f32 0x00000000#32) reducesTo_S8x4096_S4096_d0 h_S_ := by
  unfold Pipeline.afterTail₀
  simp only [List.flatten_cons, List.flatten_nil, List.append_nil]
  after_results
  exact congrArg (fun x => Host.reduceAdd (F := Ideal) x _ reducesTo_S8x4096_S4096_d0 h_S_)
    (Pipeline.withArrays_arr spec0 launch0.win.arr_inj c _ _ 6)
theorem tail_shift (c : Dev nD) : Pipeline.afterTail₀ cfgs (dats m) 0 (V0 m) [hostOps1] c main_v2 =
    Host.reduceAdd (F := Ideal) ((dats m 0 c).arrAt 7 cfg0.N) (constant S_ .f32 0x00000000#32) reducesTo_S8x4096_S4096_d0 h_S_ := by
  unfold Pipeline.afterTail₀
  simp only [List.flatten_cons, List.flatten_nil, List.append_nil]
  after_results
  exact congrArg (fun x => Host.reduceAdd (F := Ideal) x _ reducesTo_S8x4096_S4096_d0 h_S_)
    (Pipeline.withArrays_arr spec0 launch0.win.arr_inj c _ _ 7)
theorem tail_gain (c : Dev nD) : Pipeline.afterTail₀ cfgs (dats m) 0 (V0 m) [hostOps1] c main_v3 =
    Host.reduceAdd (F := Ideal) ((dats m 0 c).arrAt 8 cfg0.N) (constant S_ .f32 0x00000000#32) reducesTo_S8x4096_S4096_d0 h_S_ := by
  unfold Pipeline.afterTail₀
  simp only [List.flatten_cons, List.flatten_nil, List.append_nil]
  after_results
  exact congrArg (fun x => Host.reduceAdd (F := Ideal) x _ reducesTo_S8x4096_S4096_d0 h_S_)
    (Pipeline.withArrays_arr spec0 launch0.win.arr_inj c _ _ 8)

/-- The sum of the sublanes of the tiles' sums is the sum over all rows. -/
theorem sum_all (f : Fin cfg0.N → Vec Ideal S128x4096 .f32) (g : Fin 4096 → Fin 4096 → EReal)
    (h : ∀ t r k, f t (ix2 r k) = g (row t r) k) :
    Host.reduceAdd (F := Ideal) (fun j : S8x4096.Idx => ∑ t : Fin cfg0.N, part (f t) j) (constant S_ .f32 0x00000000#32) reducesTo_S8x4096_S4096_d0 h_S_
      = fun i : S4096.Idx => ∑ r : Fin 4096, g r (i 0) := by
  funext i
  pointwise
  exact total f g h (i 0)

theorem scale_eq (c : Dev nD) : Pipeline.afterTail₀ cfgs (dats m) 0 (V0 m) [hostOps1] c main_v1 =
    fun i : S4096.Idx => ∑ r : Fin 4096, DH m c (ix2 r (i 0)) * (xn m c r (i 0) * G m c (ix2 0 (i 0))) := by
  rw [tail_scale, arr_scale]
  refine sum_all (termScale m c) (fun r k => DH m c (ix2 r k) * (xn m c r k * G m c (ix2 0 k))) fun t r k => ?_
  rw [termScale, pay11_apply]; simp only [blk_X, blk_DH, blk_G]; rfl
theorem shift_eq (c : Dev nD) : Pipeline.afterTail₀ cfgs (dats m) 0 (V0 m) [hostOps1] c main_v2 =
    fun i : S4096.Idx => ∑ r : Fin 4096, DH m c (ix2 r (i 0)) := by
  rw [tail_shift, arr_shift]
  exact sum_all (iblk m c 1) (fun r k => DH m c (ix2 r k)) fun t r k => blk_DH m c t r k
theorem gain_eq (c : Dev nD) : Pipeline.afterTail₀ cfgs (dats m) 0 (V0 m) [hostOps1] c main_v3 =
    fun i : S4096.Idx => ∑ r : Fin 4096, dt m c r (i 0) * xn m c r (i 0) := by
  rw [tail_gain, arr_gain]
  refine sum_all (termGain m c) (fun r k => dt m c r k * xn m c r k) fun t r k => ?_
  rw [termGain, pay12_apply]; simp only [blk_X, blk_DH, blk_S]; rfl

theorem kernel_run (ρ : Dev nD → PrngReg) :
    θ_run defs (onTc (τ := τ) (main (F := Ideal))) ⟨m, fun _ => 0, ρ⟩ (fun r => ∀ c : Dev nD,
      r.2.mem ((c.tc : Thread nD τ).loc main_v0_0) = (fun i : S4096x4096.Idx => dx m c (i 0) (i 1))
      ∧ r.2.mem ((c.tc : Thread nD τ).loc main_v3) = (fun i : S4096.Idx => ∑ r : Fin 4096, dt m c r (i 0) * xn m c r (i 0))
      ∧ r.2.mem ((c.tc : Thread nD τ).loc main_v1) =
          (fun i : S4096.Idx => ∑ r : Fin 4096, DH m c (ix2 r (i 0)) * (xn m c r (i 0) * G m c (ix2 0 (i 0))))
      ∧ r.2.mem ((c.tc : Thread nD τ).loc main_v2) = (fun i : S4096.Idx => ∑ r : Fin 4096, DH m c (ix2 r (i 0)))) :=
  (θ_run defs _ _).mono (fun _ h c =>
    ⟨(h.out_eq c 5).trans (arr_dx m c),
      (h.rest_eq c main_v3 (Pipeline.mem_restRefs_of main_v3 (by decide) (by decide))).trans (gain_eq m c),
      (h.rest_eq c main_v1 (Pipeline.mem_restRefs_of main_v1 (by decide) (by decide))).trans (scale_eq m c),
      (h.rest_eq c main_v2 (Pipeline.mem_restRefs_of main_v2 (by decide) (by decide))).trans (shift_eq m c)⟩) (run_main m ρ)

/-! ## The reference -/

section Reference

open Cert.Reference4Ideal.Read

variable (x0 : S4096x4096.Idx → EReal) (x1 x2 : S1x4096.Idx → EReal) (x4 x5 : S4096x4096.Idx → EReal)

theorem ref_ms (r : Fin 4096) : val_main_v9 (F := Ideal) x0 (ix2 r 0) = ms len fun k => x0 (ix2 r k) := by
  pointwise [val_main_v9, val_main_v8, val_main_cst_1, val_main_v7, val_main_v6, val_main_cst_0, val_main_v5, val_main_v4, val_main_v3, val_main_cst]
  rfl

theorem ref_rs (r : Fin 4096) : val_main_v10 (F := Ideal) x0 (ix2 r 0) = rs len fun k => x0 (ix2 r k) := by
  pointwise [val_main_v10]
  rw [ref_ms]
  rfl

theorem ref_dt (r k : Fin 4096) : val_main_v35 (F := Ideal) x2 x4 (ix2 r k) = x4 (ix2 r k) * (1 + x2 (ix2 0 k)) := by
  pointwise [val_main_v35, val_main_v34, val_main_v27, val_main_v21, val_main_v20, val_main_v19, val_main_cst_3, val_main_v1]

theorem ref_xn (r k : Fin 4096) : val_main_v15 (F := Ideal) x0 (ix2 r k) = x0 (ix2 r k) * rs len fun k => x0 (ix2 r k) := by
  pointwise [val_main_v15, val_main_v14]
  rw [ref_rs]

theorem ref_d (r k : Fin 4096) :
    val_main_v41 (F := Ideal) x1 x2 x4 (ix2 r k) = x4 (ix2 r k) * (1 + x2 (ix2 0 k)) * x1 (ix2 0 k) := by
  pointwise [val_main_v41, val_main_v40, val_main_v16, val_main_v0]
  rw [ref_dt]

theorem ref_rootAt (r : Fin 4096) : val_main_v51 (F := Ideal) x0 x1 x2 x4 (ix2 r 0) =
    root len (fun k => x0 (ix2 r k)) (fun k => x4 (ix2 r k) * (1 + x2 (ix2 0 k)) * x1 (ix2 0 k)) := by
  pointwise [val_main_v51, val_main_v50, val_main_cst_11, val_main_v49, val_main_v45, val_main_v44, val_main_cst_10,
    val_main_v43, val_main_v13, val_main_v12, val_main_cst_2, val_main_v11]
  simp only [ref_d, ref_ms, ref_rs]
  rfl

theorem ref_root (r : Fin 4096) : val_main_v52 (F := Ideal) x0 x1 x2 x4 (ix1 r) =
    root len (fun k => x0 (ix2 r k)) (fun k => x4 (ix2 r k) * (1 + x2 (ix2 0 k)) * x1 (ix2 0 k)) := by
  pointwise [val_main_v52, val_main_cst_12]
  exact (Fin.sum_univ_one _).trans (ref_rootAt x0 x1 x2 x4 r)

theorem ref_dx (h0 : ∀ i, IsReal (x0 i)) (h1 : ∀ i, IsReal (x1 i)) (h2 : ∀ i, IsReal (x2 i)) (h4 : ∀ i, IsReal (x4 i))
    (r k : Fin 4096) : val_main_v57 (F := Ideal) x0 x1 x2 x4 x5 (ix2 r k) = x5 (ix2 r k) + back len (fun k => x0 (ix2 r k))
      (fun k => x4 (ix2 r k) * (1 + x2 (ix2 0 k)) * x1 (ix2 0 k)) k := by
  pointwise [val_main_v57, val_main_v56, val_main_v55, val_main_v54, val_main_v53, val_main_v48, val_main_v47, val_main_v46]
  rw [ref_d, ref_rs, ref_root, len, ofBits_4096, back_eq (by norm_num) (fun k => h0 _)
    (fun k => ((h4 _).mul (isReal_one.add (h2 _))).mul (h1 _))]
  simp only [add_assoc]

theorem ref_shift (k : Fin 4096) : val_main_v30 (F := Ideal) x4 (ix1 k) = ∑ r : Fin 4096, x4 (ix2 r k) := by
  pointwise [val_main_v30, val_main_v29, val_main_v28, val_main_cst_4, val_main_cst_5]
  exact Fin.sum_univ_one _

theorem ref_scale (k : Fin 4096) : val_main_v36 (F := Ideal) x0 x1 x4 (ix1 k) =
    ∑ r : Fin 4096, x4 (ix2 r k) * (x0 (ix2 r k) * (rs len fun k => x0 (ix2 r k)) * x1 (ix2 0 k)) := by
  pointwise [val_main_v36, val_main_v33, val_main_v32, val_main_cst_6, val_main_cst_7, val_main_v31, val_main_v27, val_main_v18, val_main_v17,
    val_main_v16, val_main_v0]
  simp only [ref_xn]
  exact (Fin.sum_univ_one _).trans (Fin.sum_fin_congr fun r => mul_comm _ _)

theorem ref_gain (k : Fin 4096) : val_main_v42 (F := Ideal) x0 x2 x4 (ix1 k) =
    ∑ r : Fin 4096, x4 (ix2 r k) * (1 + x2 (ix2 0 k)) * (x0 (ix2 r k) * rs len fun k => x0 (ix2 r k)) := by
  pointwise [val_main_v42, val_main_v39, val_main_v38, val_main_cst_8, val_main_cst_9, val_main_v37]
  simp only [ref_xn, ref_dt]
  exact (Fin.sum_univ_one _).trans (Fin.sum_fin_congr fun r => mul_comm _ _)

end Reference

end Cert.Norm1
end
-- ==== Proof.Norm1Claims.lean ====
/- The claims of the first normalisation's backward. -/
module

public import proofs.«01_k».proof.Defs
public import proofs.«01_k».proof.Proof.Norm1
public import proofs.«01_k».proof.Proof.Reals
public import proofs.«01_k».proof.Proof.Gen.Pre_finite4

@[expose] public section

set_option maxRecDepth 16384

noncomputable section

namespace Cert.Norm1

open Idealize.ShloMosaic Idealize.ShloMosaic.TcCoe Idealize.SL.Sem Cert.Kernel4Ideal Cert.Kernel4Ideal.Gen Cert.Finite

/-- What the precondition says: the arguments it names hold real numbers. -/
theorem real (m : (ℓ : Loc nD τ sig) → Buf (Elt Ideal) ℓ) (h : Cert.Pre_Kernel4Ideal_finite4 m) (c : Dev nD) :
    (∀ i, IsReal (X m c i)) ∧ (∀ i, IsReal (G m c i)) ∧ (∀ i, IsReal (S m c i)) ∧ (∀ i, IsReal (DH m c i)) := by
  have e := congrFun (h c) ix0
  obtain ⟨e, e4⟩ := IntOp.andi_eq_one.1 e
  obtain ⟨e, e2⟩ := IntOp.andi_eq_one.1 e
  obtain ⟨e, e1⟩ := IntOp.andi_eq_one.1 e
  obtain ⟨-, e0⟩ := IntOp.andi_eq_one.1 e
  haveI : Subsingleton (Cert.Pre_finite4.S_).Idx := ⟨fun a b => funext fun i => i.elim0⟩
  exact ⟨allReal_of_reduce _ _ (fun _ => ofBits_inf) _ _ _ _ e0, allReal_of_reduce _ _ (fun _ => ofBits_inf) _ _ _ _ e1,
    allReal_of_reduce _ _ (fun _ => ofBits_inf) _ _ _ _ e2, allReal_of_reduce _ _ (fun _ => ofBits_inf) _ _ _ _ e4⟩

theorem frame_ref : Cert.quiescent_Reference4Ideal := fun m ρ _ => by
  refine (θ_run Cert.Reference4Ideal.defs _ _).mono (fun r h => ⟨fun c => (h c).2.2.2.2, sem_eq_zero_of_no_sems (by decide) r.2⟩)
    (Cert.Reference4Ideal.Value.run (F := Ideal) m ρ)

theorem algebraic : Cert.algebraic_Kernel4Ideal_Reference4Ideal_pre_finite4 := by
  intro m ρ m' ρ' hpre hagree
  refine ⟨_, _, _, _, (θ_run defs _ _).mono (fun r h c => ⟨(h.1 c).1, (h.1 c).2.1, (h.1 c).2.2.1, (h.1 c).2.2.2, (h.2 c)⟩)
    (θ_run_and (kernel_run m ρ) (unchanged m ρ)), ?_⟩
  refine (θ_run Cert.Reference4Ideal.defs _ _).mono (fun _ h c => ?_) (Cert.Reference4Ideal.Value.run (F := Ideal) m' ρ')
  obtain ⟨h0, h1, h2, h3, hargs⟩ := h c
  obtain ⟨a0, a1, a2, a3, a4, a5⟩ := hagree c
  obtain ⟨r0, r1, r2, r4⟩ := real m hpre c
  replace h0 := h0.trans (Cert.Reference4Ideal.Read.val_main_v57_eq m' c)
  replace h1 := h1.trans (Cert.Reference4Ideal.Read.val_main_v42_eq _ _ _)
  replace h2 := h2.trans (Cert.Reference4Ideal.Read.val_main_v36_eq _ _ _)
  replace h3 := h3.trans (Cert.Reference4Ideal.Read.val_main_v30_eq _)
  rw [a0, a1, a2, a4, a5] at h0
  rw [a0, a2, a4] at h1
  rw [a0, a1, a4] at h2
  rw [a4] at h3
  refine ⟨h0.trans (funext fun i => ?_), h1.trans (funext fun i => ?_), h2.trans (funext fun i => ?_), h3.trans (funext fun i => ?_), hargs⟩
  · obtain ⟨r, k, rfl⟩ : ∃ (r : Fin 4096) (k : Fin 4096), i = ix2 r k := ⟨i 0, i 1, by idx_vars i⟩
    exact ref_dx (X m c) (G m c) (S m c) (DH m c) (DR m c) r0 r1 r2 r4 r k
  · obtain ⟨k, rfl⟩ : ∃ k : Fin 4096, i = ix1 k := ⟨i 0, by idx_vars i⟩
    exact ref_gain (X m c) (S m c) (DH m c) k
  · obtain ⟨k, rfl⟩ : ∃ k : Fin 4096, i = ix1 k := ⟨i 0, by idx_vars i⟩
    exact ref_scale (X m c) (G m c) (DH m c) k
  · obtain ⟨k, rfl⟩ : ∃ k : Fin 4096, i = ix1 k := ⟨i 0, by idx_vars i⟩
    exact ref_shift (DH m c) k

end Cert.Norm1

end
-- ==== Proof.LossRef.lean ====
/- The loss of the normed stream against the target, and its derivative: the reference's results, row by row. -/
module

public import proofs.«01_k».proof.Proof.Gen.Reference5Ideal.Read
public import proofs.«01_k».proof.Proof.Norm
public import Idealize.ShloMosaic.Lib.Pipeline.ValueKit
public import Idealize.ShloMosaic.PureOps.Ideal.Laws

@[expose] public section

set_option maxRecDepth 16384

noncomputable section

namespace Cert.Loss

open Idealize.ShloMosaic Cert.Reference5Ideal Cert.Reference5Ideal.Read Cert.Finite Cert.Norm

/-- The row length as the program's word, and its reciprocal. -/
abbrev len : EReal := Ideal.ofBits .f32 0x45800000#32
abbrev rlen : EReal := Ideal.ofBits .f32 0x39800000#32

theorem ofBits_rlen : Ideal.ofBits .f32 0x39800000#32 = ((1 / 4096 : ℝ) : EReal) := by
  simp [Ideal.ofBits, Ideal.ieee]
  rw [← EReal.coe_mul]; norm_num

theorem ofBits_two : Ideal.ofBits .f32 0x40000000#32 = ((2 : ℝ) : EReal) := by
  simp [Ideal.ofBits, Ideal.ieee]
  try (rw [← EReal.coe_mul]; norm_num)

variable (x0 x1 : S4096x4096.Idx → EReal) (x2 x3 : S1x4096.Idx → EReal) (x4 : S4096x4096.Idx → EReal)

/-- The stream with the gated result added, normed; the error against the target, the loss's derivative in the normed
    stream, and the stream's cotangent. -/
def mid (r k : Fin 4096) : EReal := x0 (ix2 r k) + x2 (ix2 0 k) * x1 (ix2 r k)
def xn (r k : Fin 4096) : EReal := mid x0 x1 x2 r k * rs len (mid x0 x1 x2 r)
def err (r k : Fin 4096) : EReal := xn x0 x1 x2 r k * x3 (ix2 0 k) - x4 (ix2 r k)
def dy (r k : Fin 4096) : EReal := err x0 x1 x2 x3 x4 r k * rlen
def dx (r k : Fin 4096) : EReal := back len (mid x0 x1 x2 r) (fun k => dy x0 x1 x2 x3 x4 r k * x3 (ix2 0 k)) k

theorem ref_mid (r k : Fin 4096) : val_main_v5 (F := Ideal) x0 x1 x2 (ix2 r k) = mid x0 x1 x2 r k := by
  pointwise [val_main_v5, val_main_v4, val_main_v3, val_main_v2, val_main_v0]
  rfl

theorem ref_ms (r : Fin 4096) : val_main_v12 (F := Ideal) x0 x1 x2 (ix2 r 0) = ms len (mid x0 x1 x2 r) := by
  pointwise [val_main_v12, val_main_v11, val_main_cst_1, val_main_v10, val_main_v9, val_main_cst_0, val_main_v8, val_main_v7, val_main_v6, val_main_cst]
  simp only [ref_mid]
  rfl

theorem ref_rs (r : Fin 4096) : val_main_v13 (F := Ideal) x0 x1 x2 (ix2 r 0) = rs len (mid x0 x1 x2 r) := by
  pointwise [val_main_v13]
  rw [ref_ms]
  rfl

theorem ref_xn (r k : Fin 4096) : val_main_v18 (F := Ideal) x0 x1 x2 (ix2 r k) = xn x0 x1 x2 r k := by
  pointwise [val_main_v18, val_main_v17]
  rw [ref_rs, ref_mid]
  rfl

theorem ref_err (r k : Fin 4096) : val_main_v22 (F := Ideal) x0 x1 x2 x3 x4 (ix2 r k) = err x0 x1 x2 x3 x4 r k := by
  pointwise [val_main_v22, val_main_v21, val_main_v20, val_main_v19, val_main_v1]
  rw [ref_xn]
  rfl

theorem half_mean : Ideal.div (Ideal.ofBits .f32 0x3F000000#32 * 1) len * Ideal.ofBits .f32 0x40000000#32 = rlen := by
  rw [len, rlen, ofBits_half, ofBits_4096, ofBits_rlen, ofBits_two, mul_one, div_coe _ _ (by norm_num), ← EReal.coe_mul]
  norm_num

theorem ref_dy (r k : Fin 4096) : val_main_v36 (F := Ideal) x0 x1 x2 x3 x4 (ix2 r k) = dy x0 x1 x2 x3 x4 r k := by
  pointwise [val_main_v36, val_main_v35, val_main_v34, val_main_v33, val_main_cst_10, val_main_v32, val_main_v31, val_main_cst_8, val_main_cst_9,
    val_main_v25, val_main_v24, val_main_cst_3]
  rw [ref_err, dy, ← half_mean, ← mul_assoc, mul_one, mul_comm (err x0 x1 x2 x3 x4 r k)]

theorem ref_d (r k : Fin 4096) : val_main_v41 (F := Ideal) x0 x1 x2 x3 x4 (ix2 r k) = dy x0 x1 x2 x3 x4 r k * x3 (ix2 0 k) := by
  pointwise [val_main_v41, val_main_v40, val_main_v19, val_main_v1]
  rw [ref_dy]

theorem ref_rootAt (r : Fin 4096) : val_main_v50 (F := Ideal) x0 x1 x2 x3 x4 (ix2 r 0) =
    root len (mid x0 x1 x2 r) (fun k => dy x0 x1 x2 x3 x4 r k * x3 (ix2 0 k)) := by
  pointwise [val_main_v50, val_main_v49, val_main_cst_14, val_main_v48, val_main_v45, val_main_v44, val_main_cst_13,
    val_main_v43, val_main_v16, val_main_v15, val_main_cst_2, val_main_v14]
  simp only [ref_d, ref_ms, ref_rs, ref_mid]
  rfl

theorem ref_root (r : Fin 4096) : val_main_v51 (F := Ideal) x0 x1 x2 x3 x4 (ix1 r) =
    root len (mid x0 x1 x2 r) (fun k => dy x0 x1 x2 x3 x4 r k * x3 (ix2 0 k)) := by
  pointwise [val_main_v51, val_main_cst_15]
  exact (Fin.sum_univ_one _).trans (ref_rootAt x0 x1 x2 x3 x4 r)

section Real

variable (h0 : ∀ i, IsReal (x0 i)) (h1 : ∀ i, IsReal (x1 i)) (h2 : ∀ i, IsReal (x2 i)) (h3 : ∀ i, IsReal (x3 i)) (h4 : ∀ i, IsReal (x4 i))
include h0 h1 h2

theorem isReal_mid (r k : Fin 4096) : IsReal (mid x0 x1 x2 r k) := (h0 _).add ((h2 _).mul (h1 _))

include h3 h4

theorem isReal_err (r k : Fin 4096) : IsReal (err x0 x1 x2 x3 x4 r k) := by
  have hr : IsReal (rs len (mid x0 x1 x2 r)) := by
    rw [len, ofBits_4096]; exact isReal_rs (by norm_num) (isReal_mid x0 x1 x2 h0 h1 h2 r)
  exact ((((isReal_mid x0 x1 x2 h0 h1 h2 r k).mul hr).mul (h3 _)).sub (h4 _))

theorem isReal_dy (r k : Fin 4096) : IsReal (dy x0 x1 x2 x3 x4 r k) := by
  refine (isReal_err x0 x1 x2 x3 x4 h0 h1 h2 h3 h4 r k).mul ?_
  rw [rlen, ofBits_rlen]; exact isReal_coe _

theorem ref_dx (r k : Fin 4096) : val_main_v56 (F := Ideal) x0 x1 x2 x3 x4 (ix2 r k) = dx x0 x1 x2 x3 x4 r k := by
  pointwise [val_main_v56, val_main_v55, val_main_v54, val_main_v53, val_main_v52, val_main_v47, val_main_v46]
  have hx := isReal_mid x0 x1 x2 h0 h1 h2 r
  have hd : ∀ k, IsReal (dy x0 x1 x2 x3 x4 r k * x3 (ix2 0 k)) := fun k => (isReal_dy x0 x1 x2 x3 x4 h0 h1 h2 h3 h4 r k).mul (h3 _)
  rw [ref_d, ref_rs, ref_root, ref_mid, dx, len, ofBits_4096, back_eq (by norm_num) hx hd]

/-- Half the sum of the rows' mean squares is the half sum of all squares over the row length. -/
theorem ref_loss (i : S_.Idx) : val_main_v30 (F := Ideal) x0 x1 x2 x3 x4 i =
    Ideal.div (Ideal.ofBits .f32 0x3F000000#32 * ∑ k : Fin 4096, ∑ r : Fin 4096, err x0 x1 x2 x3 x4 r k * err x0 x1 x2 x3 x4 r k) len := by
  pointwise [val_main_v30, val_main_cst_7, val_main_v29, val_main_cst_6, val_main_v28, val_main_v27, val_main_cst_5, val_main_v26, val_main_cst_4,
    val_main_v23]
  simp only [ref_err]
  rw [Finset.sum_comm]
  obtain ⟨E, hE⟩ : ∃ E : Fin 4096 → Fin 4096 → ℝ, err x0 x1 x2 x3 x4 = fun r k => (E r k : EReal) :=
    ⟨fun r k => (err x0 x1 x2 x3 x4 r k).toReal, funext fun r => funext fun k => (isReal_err x0 x1 x2 x3 x4 h0 h1 h2 h3 h4 r k).coe_toReal.symm⟩
  rw [hE, len, ofBits_half, ofBits_4096]
  simp only [← EReal.coe_mul, ← coe_sum, div_coe _ _ (by norm_num : (4096 : ℝ) ≠ 0)]
  rw [← Finset.sum_div, mul_div_assoc]

end Real

theorem ref_dval (r k : Fin 4096) : val_main_v58 (F := Ideal) x0 x1 x2 x3 x4 (ix2 r k) =
    val_main_v56 (F := Ideal) x0 x1 x2 x3 x4 (ix2 r k) * x2 (ix2 0 k) := by
  pointwise [val_main_v58, val_main_v57, val_main_v2, val_main_v0]
  exact mul_comm _ _

theorem ref_gate (k : Fin 4096) : val_main_v62 (F := Ideal) x0 x1 x2 x3 x4 (ix1 k) =
    ∑ r : Fin 4096, val_main_v56 (F := Ideal) x0 x1 x2 x3 x4 (ix2 r k) * x1 (ix2 r k) := by
  pointwise [val_main_v62, val_main_v61, val_main_v60, val_main_cst_16, val_main_cst_17, val_main_v59]
  exact Fin.sum_univ_one _

theorem ref_gain (k : Fin 4096) : val_main_v42 (F := Ideal) x0 x1 x2 x3 x4 (ix1 k) =
    ∑ r : Fin 4096, dy x0 x1 x2 x3 x4 r k * xn x0 x1 x2 r k := by
  pointwise [val_main_v42, val_main_v39, val_main_v38, val_main_cst_11, val_main_cst_12, val_main_v37]
  simp only [ref_xn, ref_dy]
  exact (Fin.sum_univ_one _).trans (Fin.sum_fin_congr fun r => mul_comm _ _)

end Cert.Loss
end
-- ==== Proof.Loss.lean ====
/- The loss and its derivative: the kernel's arrays in the terms of the reference's results. -/
module

public import proofs.«01_k».proof.Proof.Gen.Kernel5Ideal.Frame
public import proofs.«01_k».proof.Proof.LossRef
public import proofs.«01_k».proof.Proof.Sublanes

@[expose] public section

set_option maxRecDepth 16384

noncomputable section

namespace Cert.Loss

open Idealize.ShloMosaic Idealize.ShloMosaic.TcCoe Idealize.SL.Sem Cert.Kernel5Ideal Cert.Kernel5Ideal.Gen Cert.Finite Cert.Norm Cert.Sublanes

/-- A row's error against the target, over the row itself. -/
abbrev rowErr (x t g : Fin 4096 → EReal) (k : Fin 4096) : EReal := x k * rs len x * g k - t k

theorem pay9_apply (x : Vec Ideal S128x4096 .f32) (j : S128x1.Idx) : k0_pay9 x j = rs len fun k => x (ix2 (j 0) k) := by
  pointwise [k0_pay9, k0_pay8]
  rfl
theorem pay10_apply (x : Vec Ideal S128x4096 .f32) (r : Fin 128) (k : Fin 4096) :
    k0_pay10 x (ix2 r k) = x (ix2 r k) * rs len fun k => x (ix2 r k) := by
  pointwise [k0_pay10, k0_pay8]
  rw [pay9_apply]
  rfl
theorem pay11_apply (x t : Vec Ideal S128x4096 .f32) (g : Vec Ideal S1x4096 .f32) (r : Fin 128) (k : Fin 4096) :
    k0_pay11 x t g (ix2 r k) = rowErr (fun k => x (ix2 r k)) (fun k => t (ix2 r k)) (fun k => g (ix2 0 k)) k := by
  pointwise [k0_pay11]
  rw [pay10_apply]
theorem pay12_apply (x t : Vec Ideal S128x4096 .f32) (g : Vec Ideal S1x4096 .f32) (r : Fin 128) (k : Fin 4096) :
    k0_pay12 x t g (ix2 r k) = rowErr (fun k => x (ix2 r k)) (fun k => t (ix2 r k)) (fun k => g (ix2 0 k)) k * rlen := by
  pointwise [k0_pay12]
  rw [pay11_apply]
theorem pay13_apply (x t : Vec Ideal S128x4096 .f32) (g : Vec Ideal S1x4096 .f32) (r : Fin 128) (k : Fin 4096) :
    k0_pay13 x t g (ix2 r k) = back len (fun k => x (ix2 r k))
      (fun k => rowErr (fun k => x (ix2 r k)) (fun k => t (ix2 r k)) (fun k => g (ix2 0 k)) k * rlen * g (ix2 0 k)) k := by
  pointwise [k0_pay13]
  simp only [pay9_apply, pay10_apply, pay12_apply]
  rfl
theorem pay1_apply (x t : Vec Ideal S128x4096 .f32) (g gate : Vec Ideal S1x4096 .f32) (r : Fin 128) (k : Fin 4096) :
    k0_pay1 (k0_pay14 x t g gate) (ix2 r k) = k0_pay13 x t g (ix2 r k) * gate (ix2 0 k) := by
  pointwise [k0_pay1, k0_pay14]

/-- A tile's terms of the loss, of the gain's cotangent and of the gate's. -/
abbrev sqTerm (x t : Vec Ideal S128x4096 .f32) (g : Vec Ideal S1x4096 .f32) : S128x4096.Idx → EReal :=
  fun i => k0_pay11 (F := Ideal) x t g i * k0_pay11 (F := Ideal) x t g i
abbrev gainTerm (x t : Vec Ideal S128x4096 .f32) (g : Vec Ideal S1x4096 .f32) : S128x4096.Idx → EReal :=
  fun i => k0_pay12 (F := Ideal) x t g i * k0_pay10 (F := Ideal) x i
abbrev gateTerm (x t : Vec Ideal S128x4096 .f32) (v : Vec Ideal S128x4096 .bf16) (g : Vec Ideal S1x4096 .f32) : S128x4096.Idx → EReal :=
  fun i => k0_pay13 (F := Ideal) x t g i * v i

theorem pay15_apply (x t : Vec Ideal S128x4096 .f32) (g : Vec Ideal S1x4096 .f32) : k0_pay15 (F := Ideal) x t g = sqTerm x t g := rfl
theorem pay16_apply (x t : Vec Ideal S128x4096 .f32) (g : Vec Ideal S1x4096 .f32) : k0_pay16 (F := Ideal) x t g = gainTerm x t g := rfl
theorem pay17_apply (x t : Vec Ideal S128x4096 .f32) (v : Vec Ideal S128x4096 .bf16) (g : Vec Ideal S1x4096 .f32) :
    k0_pay17 (F := Ideal) x t v g = gateTerm x t v g := by
  funext i
  pointwise [k0_pay17]
theorem pay5_apply (v : Vec Ideal S128x4096 .f32) (a : Vec Ideal S8x4096 .f32) (j : S8x4096.Idx) : k0_pay5 v a j = a j + part v j := by
  pointwise [k0_pay5]
  rfl
theorem pay6_apply (v : Vec Ideal S128x4096 .f32) (a : Vec Ideal S8x4096 .f32) (j : S8x4096.Idx) : k0_pay6 v a j = a j + part v j := by
  pointwise [k0_pay6]
  rfl
theorem pay7_apply (v : Vec Ideal S128x4096 .f32) (a : Vec Ideal S8x4096 .f32) (j : S8x4096.Idx) : k0_pay7 v a j = a j + part v j := by
  pointwise [k0_pay7]
  rfl
theorem pay2_apply (j : S8x4096.Idx) : k0_pay2 (F := Ideal) j = 0 := by pointwise [k0_pay2]
theorem pay3_apply (j : S8x4096.Idx) : k0_pay3 (F := Ideal) j = 0 := by pointwise [k0_pay3]
theorem pay4_apply (j : S8x4096.Idx) : k0_pay4 (F := Ideal) j = 0 := by pointwise [k0_pay4]

/-! ## The arrays -/

variable (m : (ℓ : Loc nD τ sig) → Buf (Elt Ideal) ℓ)

/-- The stream before the channel mixer's result, that result, its gate, the gain, and the target. -/
def X (c : Dev nD) : S4096x4096.Idx → EReal := m ((c.tc : Thread nD τ).loc main_arg0)
def VL (c : Dev nD) : S4096x4096.Idx → EReal := m ((c.tc : Thread nD τ).loc main_arg1)
def GT (c : Dev nD) : S1x4096.Idx → EReal := m ((c.tc : Thread nD τ).loc main_arg2)
def G (c : Dev nD) : S1x4096.Idx → EReal := m ((c.tc : Thread nD τ).loc main_arg3)
def T (c : Dev nD) : S4096x4096.Idx → EReal := m ((c.tc : Thread nD τ).loc main_arg4)

abbrev kmid (c : Dev nD) := mid (X m c) (VL m c) (GT m c)
abbrev kxn (c : Dev nD) := xn (X m c) (VL m c) (GT m c)
abbrev kerr (c : Dev nD) := err (X m c) (VL m c) (GT m c) (G m c) (T m c)
abbrev kdy (c : Dev nD) := dy (X m c) (VL m c) (GT m c) (G m c) (T m c)
abbrev kdx (c : Dev nD) := dx (X m c) (VL m c) (GT m c) (G m c) (T m c)

/-- The stream with the gated result added, as the host computes it before the kernel. -/
def Y (c : Dev nD) : S4096x4096.Idx → EReal := V m c main_v2
theorem Y_apply (c : Dev nD) (i : S4096x4096.Idx) : Y m c i = kmid m c (i 0) (i 1) := by
  obtain ⟨r, k, rfl⟩ : ∃ (r : Fin 4096) (k : Fin 4096), i = ix2 r k := ⟨i 0, i 1, by idx_vars i⟩
  unfold Y V V0
  simp only [List.flatten_cons, List.flatten_nil, List.append_nil]
  after_results
  pointwise
  rfl
theorem V_VL (c : Dev nD) : V m c main_v3 = VL m c := by
  unfold V V0
  simp only [List.flatten_cons, List.flatten_nil, List.append_nil]
  after_results
  rfl
theorem V_Y (c : Dev nD) : V m c main_v2 = Y m c := rfl
theorem V_GT (c : Dev nD) : V m c main_arg2 = GT m c := V_main_arg2 m c
theorem V_G (c : Dev nD) : V m c main_arg3 = G m c := V_main_arg3 m c
theorem V_T (c : Dev nD) : V m c main_arg4 = T m c := V_main_arg4 m c

theorem idx0 : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

theorem blk_Y (c : Dev nD) (t : Fin cfg0.N) (r : Fin 128) (k : Fin 4096) : iblk m c 0 t (ix2 r k) = kmid m c (row t r) k := by
  refine Eq.trans ?_ (Y_apply m c (ix2 (row t r) k))
  rw [← V_Y]; blk_point [iblk, (idx0 t).1]
theorem blk_T (c : Dev nD) (t : Fin cfg0.N) (r : Fin 128) (k : Fin 4096) : iblk m c 1 t (ix2 r k) = T m c (ix2 (row t r) k) := by
  rw [← V_T]; blk_point [iblk, (idx0 t).2.1]
theorem blk_VL (c : Dev nD) (t : Fin cfg0.N) (r : Fin 128) (k : Fin 4096) : iblk m c 2 t (ix2 r k) = VL m c (ix2 (row t r) k) := by
  rw [← V_VL]; blk_point [iblk, (idx0 t).2.2.1]
theorem blk_G (c : Dev nD) (t : Fin cfg0.N) (k : Fin 4096) : iblk m c 3 t (ix2 0 k) = G m c (ix2 0 k) := by
  rw [← V_G]; blk_point [iblk, (idx0 t).2.2.2.1]
theorem blk_GT (c : Dev nD) (t : Fin cfg0.N) (k : Fin 4096) : iblk m c 4 t (ix2 0 k) = GT m c (ix2 0 k) := by
  rw [← V_GT]; blk_point [iblk, (idx0 t).2.2.2.2.1]
theorem emb_dx (t : Fin cfg0.N) (r : Fin 128) (k : Fin 4096) : (win0_5.blk t).view.emb (ix2 r k) = ix2 (row t r) k := by
  blk_ext [(idx0 t).2.2.2.2.2.1]
theorem emb_dval (t : Fin cfg0.N) (r : Fin 128) (k : Fin 4096) : (win0_6.blk t).view.emb (ix2 r k) = ix2 (row t r) k := by
  blk_ext [(idx0 t).2.2.2.2.2.2]

theorem tile_err (c : Dev nD) (t : Fin cfg0.N) (r : Fin 128) (k : Fin 4096) :
    k0_pay11 (iblk m c 0 t) (iblk m c 1 t) (iblk m c 3 t) (ix2 r k) = kerr m c (row t r) k := by
  rw [pay11_apply]; simp only [blk_Y, blk_T, blk_G]; rfl
theorem tile_dy (c : Dev nD) (t : Fin cfg0.N) (r : Fin 128) (k : Fin 4096) :
    k0_pay12 (iblk m c 0 t) (iblk m c 1 t) (iblk m c 3 t) (ix2 r k) = kdy m c (row t r) k := by
  rw [pay12_apply]; simp only [blk_Y, blk_T, blk_G]; rfl
theorem tile_xn (c : Dev nD) (t : Fin cfg0.N) (r : Fin 128) (k : Fin 4096) : k0_pay10 (iblk m c 0 t) (ix2 r k) = kxn m c (row t r) k := by
  rw [pay10_apply]; simp only [blk_Y]; rfl
theorem tile_dx (c : Dev nD) (t : Fin cfg0.N) (r : Fin 128) (k : Fin 4096) :
    k0_pay13 (iblk m c 0 t) (iblk m c 1 t) (iblk m c 3 t) (ix2 r k) = kdx m c (row t r) k := by
  rw [pay13_apply]; simp only [blk_Y, blk_T, blk_G]; rfl

theorem arr_dx (c : Dev nD) : (dats m 0 c).arrAt 5 cfg0.N = fun i : S4096x4096.Idx => kdx m c (i 0) (i 1) := by
  refine (dats m 0 c).arrAt_eq_of_covers 5 _ (by decide +kernel) fun t hf y => ?_
  obtain ⟨r, k, rfl⟩ : ∃ (r : Fin 128) (k : Fin 4096), y = ix2 r k := ⟨y 0, y 1, by idx_vars y⟩
  have point : k0_pay13 (iblk m c 0 t) (iblk m c 1 t) (iblk m c 3 t) (ix2 r k) =
      (fun i : S4096x4096.Idx => kdx m c (i 0) (i 1)) ((win0_5.blk t).view.emb (ix2 r k)) := by
    rw [tile_dx, emb_dx]
    rfl
  blk_simp
  rw [after0_5]
  by_cases h : t.val % 32 = 0
  · rw [outsAt0_A m c t h]
    frame_out
    exact point
  · rw [outsAt0_B m c t h]
    frame_out
    exact point

theorem arr_dval (c : Dev nD) : (dats m 0 c).arrAt 6 cfg0.N = fun i : S4096x4096.Idx => kdx m c (i 0) (i 1) * GT m c (ix2 0 (i 1)) := by
  refine (dats m 0 c).arrAt_eq_of_covers 6 _ (by decide +kernel) fun t hf y => ?_
  obtain ⟨r, k, rfl⟩ : ∃ (r : Fin 128) (k : Fin 4096), y = ix2 r k := ⟨y 0, y 1, by idx_vars y⟩
  have point : k0_pay1 (F := Ideal) (k0_pay14 (iblk m c 0 t) (iblk m c 1 t) (iblk m c 3 t) (iblk m c 4 t)) (ix2 r k) =
      (fun i : S4096x4096.Idx => kdx m c (i 0) (i 1) * GT m c (ix2 0 (i 1))) ((win0_6.blk t).view.emb (ix2 r k)) := by
    rw [pay1_apply, tile_dx, blk_GT, emb_dval]
    rfl
  blk_simp
  rw [after0_6]
  by_cases h : t.val % 32 = 0
  · rw [outsAt0_A m c t h]
    frame_out
    exact point
  · rw [outsAt0_B m c t h]
    frame_out
    exact point

/-- The tile's terms of the three accumulated sums. -/
abbrev termSq (c : Dev nD) (t : Fin cfg0.N) := sqTerm (iblk m c 0 t) (iblk m c 1 t) (iblk m c 3 t)
abbrev termGain (c : Dev nD) (t : Fin cfg0.N) := gainTerm (iblk m c 0 t) (iblk m c 1 t) (iblk m c 3 t)
abbrev termGate (c : Dev nD) (t : Fin cfg0.N) := gateTerm (iblk m c 0 t) (iblk m c 1 t) (iblk m c 2 t) (iblk m c 3 t)

/-- The accumulators after a tile: the first tile starts from zero. -/
theorem acc_A (c : Dev nD) (t : Fin cfg0.N) (h : t.val % 32 = 0) (j : S8x4096.Idx) :
    (outsAt0 m c t.val t.isLt).2.2.1 j = 0 + part (termSq m c t) j ∧ (outsAt0 m c t.val t.isLt).2.2.2.1 j = 0 + part (termGain m c t) j
      ∧ (outsAt0 m c t.val t.isLt).2.2.2.2 j = 0 + part (termGate m c t) j := by
  rw [outsAt0_A m c t h]
  refine ⟨?_, ?_, ?_⟩
  · frame_out; rw [pay5_apply, pay2_apply, pay15_apply]
  · frame_out; rw [pay6_apply, pay3_apply, pay16_apply]
  · frame_out; rw [pay7_apply, pay4_apply, pay17_apply]

theorem acc_B (c : Dev nD) (t : Fin cfg0.N) (h : ¬t.val % 32 = 0) (j : S8x4096.Idx) :
    (outsAt0 m c t.val t.isLt).2.2.1 j = (outsAt0 m c (t.val - 1) (Nat.lt_of_le_of_lt (Nat.sub_le _ _) t.isLt)).2.2.1 j + part (termSq m c t) j
      ∧ (outsAt0 m c t.val t.isLt).2.2.2.1 j = (outsAt0 m c (t.val - 1) (Nat.lt_of_le_of_lt (Nat.sub_le _ _) t.isLt)).2.2.2.1 j + part (termGain m c t) j
      ∧ (outsAt0 m c t.val t.isLt).2.2.2.2 j = (outsAt0 m c (t.val - 1) (Nat.lt_of_le_of_lt (Nat.sub_le _ _) t.isLt)).2.2.2.2 j + part (termGate m c t) j := by
  rw [outsAt0_B m c t h]
  refine ⟨?_, ?_, ?_⟩
  · frame_out; rw [pay5_apply, pay15_apply]
  · frame_out; rw [pay6_apply, pay16_apply]
  · frame_out; rw [pay7_apply, pay17_apply]

theorem arr_sq (c : Dev nD) : (dats m 0 c).arrAt 7 cfg0.N = fun j : S8x4096.Idx => ∑ t : Fin cfg0.N, part (termSq m c t) j := by
  refine (dats m 0 c).arrAt_eq_of_after_last 7 ⟨31, by decide⟩ (by decide +kernel) _ fun y => ?_
  rw [after0_7]
  blk_simp
  exact acc_last (le_of_eq N_0) (fun n h => (outsAt0 m c n h).2.2.1) (termSq m c) (fun t h j => (acc_A m c t h j).1)
    (fun t h j => (acc_B m c t h j).1) ⟨31, by decide⟩ N_0.symm _
theorem arr_gain (c : Dev nD) : (dats m 0 c).arrAt 8 cfg0.N = fun j : S8x4096.Idx => ∑ t : Fin cfg0.N, part (termGain m c t) j := by
  refine (dats m 0 c).arrAt_eq_of_after_last 8 ⟨31, by decide⟩ (by decide +kernel) _ fun y => ?_
  rw [after0_8]
  blk_simp
  exact acc_last (le_of_eq N_0) (fun n h => (outsAt0 m c n h).2.2.2.1) (termGain m c) (fun t h j => (acc_A m c t h j).2.1)
    (fun t h j => (acc_B m c t h j).2.1) ⟨31, by decide⟩ N_0.symm _
theorem arr_gate (c : Dev nD) : (dats m 0 c).arrAt 9 cfg0.N = fun j : S8x4096.Idx => ∑ t : Fin cfg0.N, part (termGate m c t) j := by
  refine (dats m 0 c).arrAt_eq_of_after_last 9 ⟨31, by decide⟩ (by decide +kernel) _ fun y => ?_
  rw [after0_9]
  blk_simp
  exact acc_last (le_of_eq N_0) (fun n h => (outsAt0 m c n h).2.2.2.2) (termGate m c) (fun t h j => (acc_A m c t h j).2.2)
    (fun t h j => (acc_B m c t h j).2.2) ⟨31, by decide⟩ N_0.symm _

/-! ## The host's sums -/

/-- The host adds an accumulator's eight sublanes, and all of one accumulator. -/
abbrev hostSum (x : S8x4096.Idx → EReal) : S4096.Idx → EReal :=
  Host.reduceAdd (F := Ideal) x (constant S_ .f32 0x00000000#32) reducesTo_S8x4096_S4096_d0 h_S_
abbrev hostLoss (x : S8x4096.Idx → EReal) : S_.Idx → EReal :=
  Host.divf (F := Ideal) (φ := .f32) (mulf (constant S_ .f32 0x3F000000#32)
    (Host.reduceAdd (F := Ideal) x (constant S_ .f32 0x00000000#32) reducesTo_S8x4096_S_d0_1 h_S_)) (constant S_ .f32 0x45800000#32)

theorem tail_loss (c : Dev nD) : Pipeline.afterTail₀ cfgs (dats m) 0 (V0 m) [hostOps1] c main_v7 = hostLoss ((dats m 0 c).arrAt 7 cfg0.N) := by
  unfold Pipeline.afterTail₀
  simp only [List.flatten_cons, List.flatten_nil, List.append_nil]
  after_results
  exact congrArg hostLoss (Pipeline.withArrays_arr spec0 launch0.win.arr_inj c _ _ 7)
theorem tail_gain (c : Dev nD) : Pipeline.afterTail₀ cfgs (dats m) 0 (V0 m) [hostOps1] c main_v8 = hostSum ((dats m 0 c).arrAt 8 cfg0.N) := by
  unfold Pipeline.afterTail₀
  simp only [List.flatten_cons, List.flatten_nil, List.append_nil]
  after_results
  exact congrArg hostSum (Pipeline.withArrays_arr spec0 launch0.win.arr_inj c _ _ 8)
theorem tail_gate (c : Dev nD) : Pipeline.afterTail₀ cfgs (dats m) 0 (V0 m) [hostOps1] c main_v9 = hostSum ((dats m 0 c).arrAt 9 cfg0.N) := by
  unfold Pipeline.afterTail₀
  simp only [List.flatten_cons, List.flatten_nil, List.append_nil]
  after_results
  exact congrArg hostSum (Pipeline.withArrays_arr spec0 launch0.win.arr_inj c _ _ 9)
/-- The cotangent of the channel mixer's result, widened by the host. -/
theorem tail_dval (c : Dev nD) : Pipeline.afterTail₀ cfgs (dats m) 0 (V0 m) [hostOps1] c main_v10 =
    fun i : S4096x4096.Idx => kdx m c (i 0) (i 1) * GT m c (ix2 0 (i 1)) := by
  rw [← arr_dval]
  unfold Pipeline.afterTail₀
  simp only [List.flatten_cons, List.flatten_nil, List.append_nil]
  after_results
  exact congrArg (fun x => extf (F := Ideal) .f32 x bitsLt_bf16_f32) (Pipeline.withArrays_arr spec0 launch0.win.arr_inj c _ _ 6)

/-- The sum of the sublanes of the tiles' sums is the sum over all rows. -/
theorem sum_all (f : Fin cfg0.N → Vec Ideal S128x4096 .f32) (g : Fin 4096 → Fin 4096 → EReal)
    (h : ∀ t r k, f t (ix2 r k) = g (row t r) k) :
    hostSum (fun j : S8x4096.Idx => ∑ t : Fin cfg0.N, part (f t) j) = fun i : S4096.Idx => ∑ r : Fin 4096, g r (i 0) := by
  funext i
  pointwise
  exact total f g h (i 0)

theorem gain_eq (c : Dev nD) : Pipeline.afterTail₀ cfgs (dats m) 0 (V0 m) [hostOps1] c main_v8 =
    fun i : S4096.Idx => ∑ r : Fin 4096, kdy m c r (i 0) * kxn m c r (i 0) := by
  rw [tail_gain, arr_gain]
  refine sum_all (termGain m c) (fun r k => kdy m c r k * kxn m c r k) fun t r k => ?_
  rw [termGain, gainTerm, tile_dy, tile_xn]
theorem gate_eq (c : Dev nD) : Pipeline.afterTail₀ cfgs (dats m) 0 (V0 m) [hostOps1] c main_v9 =
    fun i : S4096.Idx => ∑ r : Fin 4096, kdx m c r (i 0) * VL m c (ix2 r (i 0)) := by
  rw [tail_gate, arr_gate]
  refine sum_all (termGate m c) (fun r k => kdx m c r k * VL m c (ix2 r k)) fun t r k => ?_
  rw [termGate, gateTerm, tile_dx, blk_VL]
/-- The same for the loss, which adds every column too. -/
theorem loss_all (f : Fin cfg0.N → Vec Ideal S128x4096 .f32) (g : Fin 4096 → Fin 4096 → EReal)
    (h : ∀ t r k, f t (ix2 r k) = g (row t r) k) :
    hostLoss (fun j : S8x4096.Idx => ∑ t : Fin cfg0.N, part (f t) j)
      = fun _ : S_.Idx => Ideal.div (Ideal.ofBits .f32 0x3F000000#32 * ∑ k : Fin 4096, ∑ r : Fin 4096, g r k) len := by
  funext i
  have e : ∑ k : Fin 4096, ∑ r : Fin 4096, g r k = ∑ q : Fin 8, ∑ k : Fin 4096, ∑ t : Fin cfg0.N, part (f t) (ix2 q k) := by
    rw [Finset.sum_comm (s := (Finset.univ : Finset (Fin 8)))]
    exact Finset.sum_congr rfl fun k _ => (total f g h k).symm
  rw [e]
  pointwise
theorem loss_eq (c : Dev nD) : Pipeline.afterTail₀ cfgs (dats m) 0 (V0 m) [hostOps1] c main_v7 =
    fun _ : S_.Idx => Ideal.div (Ideal.ofBits .f32 0x3F000000#32 * ∑ k : Fin 4096, ∑ r : Fin 4096, kerr m c r k * kerr m c r k) len := by
  rw [tail_loss, arr_sq]
  exact loss_all (termSq m c) (fun r k => kerr m c r k * kerr m c r k) fun t r k =>
    congrArg₂ (· * ·) (tile_err m c t r k) (tile_err m c t r k)

theorem kernel_run (ρ : Dev nD → PrngReg) :
    θ_run defs (onTc (τ := τ) (main (F := Ideal))) ⟨m, fun _ => 0, ρ⟩ (fun r => ∀ c : Dev nD,
      r.2.mem ((c.tc : Thread nD τ).loc main_v7) =
          (fun _ : S_.Idx => Ideal.div (Ideal.ofBits .f32 0x3F000000#32 * ∑ k : Fin 4096, ∑ r : Fin 4096, kerr m c r k * kerr m c r k) len)
      ∧ r.2.mem ((c.tc : Thread nD τ).loc main_v4_0) = (fun i : S4096x4096.Idx => kdx m c (i 0) (i 1))
      ∧ r.2.mem ((c.tc : Thread nD τ).loc main_v10) = (fun i : S4096x4096.Idx => kdx m c (i 0) (i 1) * GT m c (ix2 0 (i 1)))
      ∧ r.2.mem ((c.tc : Thread nD τ).loc main_v9) = (fun i : S4096.Idx => ∑ r : Fin 4096, kdx m c r (i 0) * VL m c (ix2 r (i 0)))
      ∧ r.2.mem ((c.tc : Thread nD τ).loc main_v8) = (fun i : S4096.Idx => ∑ r : Fin 4096, kdy m c r (i 0) * kxn m c r (i 0))) :=
  (θ_run defs _ _).mono (fun _ h c =>
    ⟨(h.rest_eq c main_v7 (Pipeline.mem_restRefs_of main_v7 (by decide) (by decide))).trans (loss_eq m c),
      (h.out_eq c 5).trans (arr_dx m c),
      (h.rest_eq c main_v10 (Pipeline.mem_restRefs_of main_v10 (by decide) (by decide))).trans (tail_dval m c),
      (h.rest_eq c main_v9 (Pipeline.mem_restRefs_of main_v9 (by decide) (by decide))).trans (gate_eq m c),
      (h.rest_eq c main_v8 (Pipeline.mem_restRefs_of main_v8 (by decide) (by decide))).trans (gain_eq m c)⟩) (run_main m ρ)

end Cert.Loss
end
-- ==== Proof.LossClaims.lean ====
/- The claims of the loss and of its derivative. -/
module

public import proofs.«01_k».proof.Defs
public import proofs.«01_k».proof.Proof.Loss
public import proofs.«01_k».proof.Proof.Reals
public import proofs.«01_k».proof.Proof.Gen.Pre_finite5

@[expose] public section

set_option maxRecDepth 16384

noncomputable section

namespace Cert.Loss

open Idealize.ShloMosaic Idealize.ShloMosaic.TcCoe Idealize.SL.Sem Cert.Kernel5Ideal Cert.Kernel5Ideal.Gen Cert.Finite

/-- What the precondition says: every argument holds real numbers. -/
theorem real (m : (ℓ : Loc nD τ sig) → Buf (Elt Ideal) ℓ) (h : Cert.Pre_Kernel5Ideal_finite5 m) (c : Dev nD) :
    (∀ i, IsReal (X m c i)) ∧ (∀ i, IsReal (VL m c i)) ∧ (∀ i, IsReal (GT m c i)) ∧ (∀ i, IsReal (G m c i)) ∧ (∀ i, IsReal (T m c i)) := by
  have e := congrFun (h c) ix0
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨-, e0⟩ := IntOp.andi_eq_one.1 e
  haveI : Subsingleton (Cert.Pre_finite5.S_).Idx := ⟨fun a b => funext fun i => i.elim0⟩
  exact ⟨allReal_of_reduce _ _ (fun _ => ofBits_inf) _ _ _ _ e0,
    allReal_of_reduce _ _ (fun _ => ofBits_inf) _ _ _ _ e1,
    allReal_of_reduce _ _ (fun _ => ofBits_inf) _ _ _ _ e2,
    allReal_of_reduce _ _ (fun _ => ofBits_inf) _ _ _ _ e3,
    allReal_of_reduce _ _ (fun _ => ofBits_inf) _ _ _ _ e4⟩

theorem frame_ref : Cert.quiescent_Reference5Ideal := fun m ρ _ => by
  refine (θ_run Cert.Reference5Ideal.defs _ _).mono (fun r h => ⟨fun c => (h c).2.2.2.2.2, sem_eq_zero_of_no_sems (by decide) r.2⟩)
    (Cert.Reference5Ideal.Value.run (F := Ideal) m ρ)

theorem algebraic : Cert.algebraic_Kernel5Ideal_Reference5Ideal_pre_finite5 := by
  intro m ρ m' ρ' hpre hagree
  refine ⟨_, _, _, _, _, (θ_run defs _ _).mono (fun r h c => ⟨(h.1 c).1, (h.1 c).2.1, (h.1 c).2.2.1, (h.1 c).2.2.2.1, (h.1 c).2.2.2.2, (h.2 c)⟩)
    (θ_run_and (kernel_run m ρ) (unchanged m ρ)), ?_⟩
  refine (θ_run Cert.Reference5Ideal.defs _ _).mono (fun _ h c => ?_) (Cert.Reference5Ideal.Value.run (F := Ideal) m' ρ')
  obtain ⟨h0, h1, h2, h3, h4, hargs⟩ := h c
  obtain ⟨a0, a1, a2, a3, a4⟩ := hagree c
  obtain ⟨r0, r1, r2, r3, r4⟩ := real m hpre c
  replace h0 := h0.trans (Cert.Reference5Ideal.Read.val_main_v30_eq _ _ _ _ _)
  replace h1 := h1.trans (Cert.Reference5Ideal.Read.val_main_v56_eq m' c)
  replace h2 := h2.trans (Cert.Reference5Ideal.Read.val_main_v58_eq m' c)
  replace h3 := h3.trans (Cert.Reference5Ideal.Read.val_main_v62_eq m' c)
  replace h4 := h4.trans (Cert.Reference5Ideal.Read.val_main_v42_eq _ _ _ _ _)
  rw [a0, a1, a2, a3, a4] at h0
  rw [a0, a1, a2, a3, a4] at h1
  rw [a0, a1, a2, a3, a4] at h2
  rw [a0, a1, a2, a3, a4] at h3
  rw [a0, a1, a2, a3, a4] at h4
  refine ⟨h0.trans (funext fun i => ?_), h1.trans (funext fun i => ?_), h2.trans (funext fun i => ?_), h3.trans (funext fun i => ?_), h4.trans (funext fun i => ?_), hargs⟩
  · exact ref_loss (X m c) (VL m c) (GT m c) (G m c) (T m c) r0 r1 r2 r3 r4 i
  · obtain ⟨r, k, rfl⟩ : ∃ (r : Fin 4096) (k : Fin 4096), i = ix2 r k := ⟨i 0, i 1, by idx_vars i⟩
    exact ref_dx (X m c) (VL m c) (GT m c) (G m c) (T m c) r0 r1 r2 r3 r4 r k
  · obtain ⟨r, k, rfl⟩ : ∃ (r : Fin 4096) (k : Fin 4096), i = ix2 r k := ⟨i 0, i 1, by idx_vars i⟩
    exact (ref_dval (X m c) (VL m c) (GT m c) (G m c) (T m c) r k).trans (congrArg (· * GT m c (ix2 0 k)) (ref_dx (X m c) (VL m c) (GT m c) (G m c) (T m c) r0 r1 r2 r3 r4 r k))
  · obtain ⟨k, rfl⟩ : ∃ k : Fin 4096, i = ix1 k := ⟨i 0, by idx_vars i⟩
    exact (ref_gate (X m c) (VL m c) (GT m c) (G m c) (T m c) k).trans (Fin.sum_fin_congr fun r => congrArg (· * VL m c (ix2 r k)) (ref_dx (X m c) (VL m c) (GT m c) (G m c) (T m c) r0 r1 r2 r3 r4 r k))
  · obtain ⟨k, rfl⟩ : ∃ k : Fin 4096, i = ix1 k := ⟨i 0, by idx_vars i⟩
    exact ref_gain (X m c) (VL m c) (GT m c) (G m c) (T m c) k

end Cert.Loss

end
-- ==== Proof.GroupRef.lean ====
/- The two groups' normalisations: the reference's derivatives, row by row. -/
module

public import proofs.«01_k».proof.Proof.Gen.Reference6Ideal.Read
public import proofs.«01_k».proof.Proof.Norm
public import Idealize.ShloMosaic.Lib.Pipeline.ValueKit
public import Idealize.ShloMosaic.PureOps.Ideal.Laws

@[expose] public section

set_option maxRecDepth 16384

noncomputable section

namespace Cert.Group

open Idealize.ShloMosaic Cert.Reference6Ideal Cert.Reference6Ideal.Read Cert.Finite Cert.Norm

/-- The length of a group's row as the program's word. -/
abbrev len : EReal := Ideal.ofBits .f32 0x45000000#32

/-- A column of the mixed row: of the first group, of the second. -/
abbrev lo (k : Fin 2048) : Fin 4096 := ⟨k.val, by omega⟩
abbrev hi (k : Fin 2048) : Fin 4096 := ⟨2048 + k.val, by omega⟩

/-- A group's normed row, its row's cotangent, and the cotangent of its gain. -/
def xn (x : S4096x2048.Idx → EReal) (r : Fin 4096) (k : Fin 2048) : EReal := x (ix2 r k) * rs len fun k => x (ix2 r k)
def dx (col : Fin 2048 → Fin 4096) (x : S4096x2048.Idx → EReal) (g : S1x2048.Idx → EReal) (d : S4096x4096.Idx → EReal)
    (r : Fin 4096) (k : Fin 2048) : EReal := back len (fun k => x (ix2 r k)) (fun k => d (ix2 r (col k)) * g (ix2 0 k)) k
def dg (col : Fin 2048 → Fin 4096) (x : S4096x2048.Idx → EReal) (d : S4096x4096.Idx → EReal) (k : Fin 2048) : EReal :=
  ∑ r : Fin 4096, d (ix2 r (col k)) * xn x r k

variable (x0 x1 : S4096x2048.Idx → EReal) (x2 x3 : S1x2048.Idx → EReal) (x4 : S4096x4096.Idx → EReal)

theorem ref_lo (r : Fin 4096) (k : Fin 2048) : val_main_v35 (F := Ideal) x4 (ix2 r k) = x4 (ix2 r (lo k)) := by
  pointwise [val_main_v35]
theorem ref_hi (r : Fin 4096) (k : Fin 2048) : val_main_v36 (F := Ideal) x4 (ix2 r k) = x4 (ix2 r (hi k)) := by
  pointwise [val_main_v36]

/-! ## The first group -/

theorem ref_ms (r : Fin 4096) : val_main_v8 (F := Ideal) x0 (ix2 r 0) = ms len fun k => x0 (ix2 r k) := by
  pointwise [val_main_v8, val_main_v7, val_main_cst_1, val_main_v6, val_main_v5, val_main_cst_0, val_main_v4, val_main_v3, val_main_v2, val_main_cst]
  rfl

theorem ref_rs (r : Fin 4096) : val_main_v9 (F := Ideal) x0 (ix2 r 0) = rs len fun k => x0 (ix2 r k) := by
  pointwise [val_main_v9]
  rw [ref_ms]
  rfl

theorem ref_xn (r : Fin 4096) (k : Fin 2048) : val_main_v14 (F := Ideal) x0 (ix2 r k) = xn x0 r k := by
  pointwise [val_main_v14, val_main_v13]
  rw [ref_rs]
  rfl

theorem ref_d (r : Fin 4096) (k : Fin 2048) : val_main_v61 (F := Ideal) x2 x4 (ix2 r k) = x4 (ix2 r (lo k)) * x2 (ix2 0 k) := by
  pointwise [val_main_v61, val_main_v60, val_main_v15, val_main_v0]
  rw [ref_lo]

theorem ref_rootAt (r : Fin 4096) : val_main_v70 (F := Ideal) x0 x2 x4 (ix2 r 0) =
    root len (fun k => x0 (ix2 r k)) (fun k => x4 (ix2 r (lo k)) * x2 (ix2 0 k)) := by
  pointwise [val_main_v70, val_main_v69, val_main_cst_15, val_main_v68, val_main_v65, val_main_v64, val_main_cst_14,
    val_main_v63, val_main_v12, val_main_v11, val_main_cst_2, val_main_v10]
  simp only [ref_d, ref_ms, ref_rs]
  rfl

theorem ref_root (r : Fin 4096) : val_main_v71 (F := Ideal) x0 x2 x4 (ix1 r) =
    root len (fun k => x0 (ix2 r k)) (fun k => x4 (ix2 r (lo k)) * x2 (ix2 0 k)) := by
  pointwise [val_main_v71, val_main_cst_16]
  exact (Fin.sum_univ_one _).trans (ref_rootAt x0 x2 x4 r)

theorem ref_dx (h0 : ∀ i, IsReal (x0 i)) (h2 : ∀ i, IsReal (x2 i)) (h4 : ∀ i, IsReal (x4 i)) (r : Fin 4096) (k : Fin 2048) :
    val_main_v76 (F := Ideal) x0 x2 x4 (ix2 r k) = dx lo x0 x2 x4 r k := by
  pointwise [val_main_v76, val_main_v75, val_main_v74, val_main_v73, val_main_v72, val_main_v67, val_main_v66]
  have hx : ∀ k, IsReal (x0 (ix2 r k)) := fun k => h0 _
  have hd : ∀ k, IsReal (x4 (ix2 r (lo k)) * x2 (ix2 0 k)) := fun k => (h4 _).mul (h2 _)
  rw [ref_d, ref_rs, ref_root, dx, len, ofBits_2048, back_eq (by norm_num) hx hd]

theorem ref_dg (k : Fin 2048) : val_main_v62 (F := Ideal) x0 x4 (ix1 k) = dg lo x0 x4 k := by
  pointwise [val_main_v62, val_main_v59, val_main_v58, val_main_cst_12, val_main_cst_13, val_main_v57]
  simp only [ref_xn, ref_lo]
  exact (Fin.sum_univ_one _).trans (Fin.sum_fin_congr fun r => mul_comm _ _)

/-! ## The second group -/

theorem ref_ms' (r : Fin 4096) : val_main_v24 (F := Ideal) x1 (ix2 r 0) = ms len fun k => x1 (ix2 r k) := by
  pointwise [val_main_v24, val_main_v23, val_main_cst_5, val_main_v22, val_main_v21, val_main_cst_4, val_main_v20, val_main_v19, val_main_v18, val_main_cst_3]
  rfl

theorem ref_rs' (r : Fin 4096) : val_main_v25 (F := Ideal) x1 (ix2 r 0) = rs len fun k => x1 (ix2 r k) := by
  pointwise [val_main_v25]
  rw [ref_ms']
  rfl

theorem ref_xn' (r : Fin 4096) (k : Fin 2048) : val_main_v30 (F := Ideal) x1 (ix2 r k) = xn x1 r k := by
  pointwise [val_main_v30, val_main_v29]
  rw [ref_rs']
  rfl

theorem ref_d' (r : Fin 4096) (k : Fin 2048) : val_main_v41 (F := Ideal) x3 x4 (ix2 r k) = x4 (ix2 r (hi k)) * x3 (ix2 0 k) := by
  pointwise [val_main_v41, val_main_v40, val_main_v31, val_main_v1]
  rw [ref_hi]

theorem ref_rootAt' (r : Fin 4096) : val_main_v50 (F := Ideal) x1 x3 x4 (ix2 r 0) =
    root len (fun k => x1 (ix2 r k)) (fun k => x4 (ix2 r (hi k)) * x3 (ix2 0 k)) := by
  pointwise [val_main_v50, val_main_v49, val_main_cst_10, val_main_v48, val_main_v45, val_main_v44, val_main_cst_9,
    val_main_v43, val_main_v28, val_main_v27, val_main_cst_6, val_main_v26]
  simp only [ref_d', ref_ms', ref_rs']
  rfl

theorem ref_root' (r : Fin 4096) : val_main_v51 (F := Ideal) x1 x3 x4 (ix1 r) =
    root len (fun k => x1 (ix2 r k)) (fun k => x4 (ix2 r (hi k)) * x3 (ix2 0 k)) := by
  pointwise [val_main_v51, val_main_cst_11]
  exact (Fin.sum_univ_one _).trans (ref_rootAt' x1 x3 x4 r)

theorem ref_dx' (h1 : ∀ i, IsReal (x1 i)) (h3 : ∀ i, IsReal (x3 i)) (h4 : ∀ i, IsReal (x4 i)) (r : Fin 4096) (k : Fin 2048) :
    val_main_v56 (F := Ideal) x1 x3 x4 (ix2 r k) = dx hi x1 x3 x4 r k := by
  pointwise [val_main_v56, val_main_v55, val_main_v54, val_main_v53, val_main_v52, val_main_v47, val_main_v46]
  have hx : ∀ k, IsReal (x1 (ix2 r k)) := fun k => h1 _
  have hd : ∀ k, IsReal (x4 (ix2 r (hi k)) * x3 (ix2 0 k)) := fun k => (h4 _).mul (h3 _)
  rw [ref_d', ref_rs', ref_root', dx, len, ofBits_2048, back_eq (by norm_num) hx hd]

theorem ref_dg' (k : Fin 2048) : val_main_v42 (F := Ideal) x1 x4 (ix1 k) = dg hi x1 x4 k := by
  pointwise [val_main_v42, val_main_v39, val_main_v38, val_main_cst_7, val_main_cst_8, val_main_v37]
  simp only [ref_xn', ref_hi]
  exact (Fin.sum_univ_one _).trans (Fin.sum_fin_congr fun r => mul_comm _ _)

end Cert.Group
end
-- ==== Proof.Group.lean ====
/- The backward of the two groups' normalisations: its kernel's arrays in the terms of the reference's results. -/
module

public import proofs.«01_k».proof.Proof.Gen.Kernel6Ideal.Frame
public import proofs.«01_k».proof.Proof.GroupRef
public import proofs.«01_k».proof.Proof.Sublanes

@[expose] public section

set_option maxRecDepth 16384

noncomputable section

namespace Cert.Group

open Idealize.ShloMosaic Idealize.ShloMosaic.TcCoe Idealize.SL.Sem Cert.Kernel6Ideal Cert.Kernel6Ideal.Gen Cert.Finite Cert.Norm Cert.Sublanes

theorem pay6_apply (x : Vec Ideal S128x2048 .f32) (j : S128x1.Idx) : k0_pay6 x j = rs len fun k => x (ix2 (j 0) k) := by
  pointwise [k0_pay6]
  rfl
theorem pay7_apply (x : Vec Ideal S128x2048 .f32) (r : Fin 128) (k : Fin 2048) :
    k0_pay7 x (ix2 r k) = x (ix2 r k) * rs len fun k => x (ix2 r k) := by
  pointwise [k0_pay7]
  rw [pay6_apply]
  rfl
theorem pay8_apply (x : Vec Ideal S128x2048 .f32) (j : S128x1.Idx) : k0_pay8 x j = rs len fun k => x (ix2 (j 0) k) := by
  pointwise [k0_pay8]
  rfl
theorem pay9_apply (x : Vec Ideal S128x2048 .f32) (r : Fin 128) (k : Fin 2048) :
    k0_pay9 x (ix2 r k) = x (ix2 r k) * rs len fun k => x (ix2 r k) := by
  pointwise [k0_pay9]
  rw [pay8_apply]
  rfl
theorem pay10_apply (d : Vec Ideal S128x4096 .f32) (r : Fin 128) (k : Fin 2048) : k0_pay10 d (ix2 r k) = d (ix2 r (lo k)) := by
  pointwise [k0_pay10]
theorem pay11_apply (d : Vec Ideal S128x4096 .f32) (r : Fin 128) (k : Fin 2048) : k0_pay11 d (ix2 r k) = d (ix2 r (hi k)) := by
  pointwise [k0_pay11]
theorem pay12_apply (x : Vec Ideal S128x2048 .f32) (d : Vec Ideal S128x4096 .f32) (g : Vec Ideal S1x2048 .f32) (r : Fin 128) (k : Fin 2048) :
    k0_pay12 x d g (ix2 r k) = back len (fun k => x (ix2 r k)) (fun k => d (ix2 r (lo k)) * g (ix2 0 k)) k := by
  pointwise [k0_pay12]
  simp only [pay6_apply, pay7_apply, pay10_apply]
  rfl
theorem pay13_apply (d : Vec Ideal S128x4096 .f32) (g : Vec Ideal S1x2048 .f32) (r : Fin 128) (k : Fin 2048) :
    k0_pay13 d g (ix2 r k) = d (ix2 r (hi k)) * g (ix2 0 k) := by
  pointwise [k0_pay13]
  rw [pay11_apply]
theorem pay1_apply (x : Vec Ideal S128x2048 .f32) (d : Vec Ideal S128x4096 .f32) (g : Vec Ideal S1x2048 .f32) (r : Fin 128) (k : Fin 2048) :
    k0_pay1 (k0_pay8 x) (k0_pay9 x) (k0_pay13 d g) (ix2 r k) = back len (fun k => x (ix2 r k)) (fun k => d (ix2 r (hi k)) * g (ix2 0 k)) k := by
  pointwise [k0_pay1]
  simp only [pay8_apply, pay9_apply, pay13_apply]
  rfl

/-- A tile's terms of a gain's cotangent. -/
abbrev term (x d : Vec Ideal S128x2048 .f32) : S128x2048.Idx → EReal := fun i => d i * x i

theorem pay4_apply (x d : Vec Ideal S128x2048 .f32) (a : Vec Ideal S8x2048 .f32) (j : S8x2048.Idx) :
    k0_pay4 x d a j = a j + part (term x d) j := by
  pointwise [k0_pay4]
  rfl
theorem pay5_apply (x d : Vec Ideal S128x2048 .f32) (a : Vec Ideal S8x2048 .f32) (j : S8x2048.Idx) :
    k0_pay5 x d a j = a j + part (term x d) j := by
  pointwise [k0_pay5]
  rfl
theorem pay2_apply (j : S8x2048.Idx) : k0_pay2 (F := Ideal) j = 0 := by pointwise [k0_pay2]
theorem pay3_apply (j : S8x2048.Idx) : k0_pay3 (F := Ideal) j = 0 := by pointwise [k0_pay3]

/-! ## The arrays -/

variable (m : (ℓ : Loc nD τ sig) → Buf (Elt Ideal) ℓ)

/-- The two groups, their gains, and the cotangent of the mixed rows. -/
def XA (c : Dev nD) : S4096x2048.Idx → EReal := m ((c.tc : Thread nD τ).loc main_arg0)
def XS (c : Dev nD) : S4096x2048.Idx → EReal := m ((c.tc : Thread nD τ).loc main_arg1)
def GA (c : Dev nD) : S1x2048.Idx → EReal := m ((c.tc : Thread nD τ).loc main_arg2)
def GS (c : Dev nD) : S1x2048.Idx → EReal := m ((c.tc : Thread nD τ).loc main_arg3)
def DM (c : Dev nD) : S4096x4096.Idx → EReal := m ((c.tc : Thread nD τ).loc main_arg4)

theorem V_XA (c : Dev nD) : V m c main_arg0 = XA m c := V_main_arg0 m c
theorem V_XS (c : Dev nD) : V m c main_arg1 = XS m c := V_main_arg1 m c
theorem V_GA (c : Dev nD) : V m c main_arg2 = GA m c := V_main_arg2 m c
theorem V_GS (c : Dev nD) : V m c main_arg3 = GS m c := V_main_arg3 m c
theorem V_DM (c : Dev nD) : V m c main_arg4 = DM m c := V_main_arg4 m c

theorem idx0 : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

theorem blk_XA (c : Dev nD) (t : Fin cfg0.N) (r : Fin 128) (k : Fin 2048) : iblk m c 0 t (ix2 r k) = XA m c (ix2 (row t r) k) := by
  rw [← V_XA]; blk_point [iblk, (idx0 t).1]
theorem blk_XS (c : Dev nD) (t : Fin cfg0.N) (r : Fin 128) (k : Fin 2048) : iblk m c 1 t (ix2 r k) = XS m c (ix2 (row t r) k) := by
  rw [← V_XS]; blk_point [iblk, (idx0 t).2.1]
theorem blk_DM (c : Dev nD) (t : Fin cfg0.N) (r : Fin 128) (k : Fin 4096) : iblk m c 2 t (ix2 r k) = DM m c (ix2 (row t r) k) := by
  rw [← V_DM]; blk_point [iblk, (idx0 t).2.2.1]
theorem blk_GA (c : Dev nD) (t : Fin cfg0.N) (k : Fin 2048) : iblk m c 3 t (ix2 0 k) = GA m c (ix2 0 k) := by
  rw [← V_GA]; blk_point [iblk, (idx0 t).2.2.2.1]
theorem blk_GS (c : Dev nD) (t : Fin cfg0.N) (k : Fin 2048) : iblk m c 4 t (ix2 0 k) = GS m c (ix2 0 k) := by
  rw [← V_GS]; blk_point [iblk, (idx0 t).2.2.2.2.1]
theorem emb_da (t : Fin cfg0.N) (r : Fin 128) (k : Fin 2048) : (win0_5.blk t).view.emb (ix2 r k) = ix2 (row t r) k := by
  blk_ext [(idx0 t).2.2.2.2.2.1]
theorem emb_ds (t : Fin cfg0.N) (r : Fin 128) (k : Fin 2048) : (win0_6.blk t).view.emb (ix2 r k) = ix2 (row t r) k := by
  blk_ext [(idx0 t).2.2.2.2.2.2]

theorem arr_da (c : Dev nD) : (dats m 0 c).arrAt 5 cfg0.N = fun i : S4096x2048.Idx => dx lo (XA m c) (GA m c) (DM m c) (i 0) (i 1) := by
  refine (dats m 0 c).arrAt_eq_of_covers 5 _ (by decide +kernel) fun t hf y => ?_
  obtain ⟨r, k, rfl⟩ : ∃ (r : Fin 128) (k : Fin 2048), y = ix2 r k := ⟨y 0, y 1, by idx_vars y⟩
  have point : k0_pay12 (iblk m c 0 t) (iblk m c 2 t) (iblk m c 3 t) (ix2 r k) =
      (fun i : S4096x2048.Idx => dx lo (XA m c) (GA m c) (DM m c) (i 0) (i 1)) ((win0_5.blk t).view.emb (ix2 r k)) := by
    rw [pay12_apply, emb_da]
    simp only [blk_XA, blk_DM, blk_GA]
    rfl
  blk_simp
  rw [after0_5]
  by_cases h : t.val % 32 = 0
  · rw [outsAt0_A m c t h]
    frame_out
    exact point
  · rw [outsAt0_B m c t h]
    frame_out
    exact point

theorem arr_ds (c : Dev nD) : (dats m 0 c).arrAt 6 cfg0.N = fun i : S4096x2048.Idx => dx hi (XS m c) (GS m c) (DM m c) (i 0) (i 1) := by
  refine (dats m 0 c).arrAt_eq_of_covers 6 _ (by decide +kernel) fun t hf y => ?_
  obtain ⟨r, k, rfl⟩ : ∃ (r : Fin 128) (k : Fin 2048), y = ix2 r k := ⟨y 0, y 1, by idx_vars y⟩
  have point : k0_pay1 (k0_pay8 (iblk m c 1 t)) (k0_pay9 (iblk m c 1 t)) (k0_pay13 (iblk m c 2 t) (iblk m c 4 t)) (ix2 r k) =
      (fun i : S4096x2048.Idx => dx hi (XS m c) (GS m c) (DM m c) (i 0) (i 1)) ((win0_6.blk t).view.emb (ix2 r k)) := by
    rw [pay1_apply, emb_ds]
    simp only [blk_XS, blk_DM, blk_GS]
    rfl
  blk_simp
  rw [after0_6]
  by_cases h : t.val % 32 = 0
  · rw [outsAt0_A m c t h]
    frame_out
    exact point
  · rw [outsAt0_B m c t h]
    frame_out
    exact point

/-- The tile's terms of the two gains' cotangents. -/
abbrev termA (c : Dev nD) (t : Fin cfg0.N) := term (k0_pay7 (F := Ideal) (iblk m c 0 t)) (k0_pay10 (iblk m c 2 t))
abbrev termS (c : Dev nD) (t : Fin cfg0.N) := term (k0_pay9 (F := Ideal) (iblk m c 1 t)) (k0_pay11 (iblk m c 2 t))

/-- The accumulators after a tile: the first tile starts from zero. -/
theorem acc_A (c : Dev nD) (t : Fin cfg0.N) (h : t.val % 32 = 0) (j : S8x2048.Idx) :
    (outsAt0 m c t.val t.isLt).2.2.1 j = 0 + part (termA m c t) j ∧ (outsAt0 m c t.val t.isLt).2.2.2 j = 0 + part (termS m c t) j := by
  rw [outsAt0_A m c t h]
  refine ⟨?_, ?_⟩
  · frame_out; rw [pay4_apply, pay2_apply]
  · frame_out; rw [pay5_apply, pay3_apply]

theorem acc_B (c : Dev nD) (t : Fin cfg0.N) (h : ¬t.val % 32 = 0) (j : S8x2048.Idx) :
    (outsAt0 m c t.val t.isLt).2.2.1 j = (outsAt0 m c (t.val - 1) (Nat.lt_of_le_of_lt (Nat.sub_le _ _) t.isLt)).2.2.1 j + part (termA m c t) j
      ∧ (outsAt0 m c t.val t.isLt).2.2.2 j = (outsAt0 m c (t.val - 1) (Nat.lt_of_le_of_lt (Nat.sub_le _ _) t.isLt)).2.2.2 j + part (termS m c t) j := by
  rw [outsAt0_B m c t h]
  refine ⟨?_, ?_⟩
  · frame_out; rw [pay4_apply]
  · frame_out; rw [pay5_apply]

theorem arr_ga (c : Dev nD) : (dats m 0 c).arrAt 7 cfg0.N = fun j : S8x2048.Idx => ∑ t : Fin cfg0.N, part (termA m c t) j := by
  refine (dats m 0 c).arrAt_eq_of_after_last 7 ⟨31, by decide⟩ (by decide +kernel) _ fun y => ?_
  rw [after0_7]
  blk_simp
  exact acc_last (le_of_eq N_0) (fun n h => (outsAt0 m c n h).2.2.1) (termA m c) (fun t h j => (acc_A m c t h j).1)
    (fun t h j => (acc_B m c t h j).1) ⟨31, by decide⟩ N_0.symm _
theorem arr_gs (c : Dev nD) : (dats m 0 c).arrAt 8 cfg0.N = fun j : S8x2048.Idx => ∑ t : Fin cfg0.N, part (termS m c t) j := by
  refine (dats m 0 c).arrAt_eq_of_after_last 8 ⟨31, by decide⟩ (by decide +kernel) _ fun y => ?_
  rw [after0_8]
  blk_simp
  exact acc_last (le_of_eq N_0) (fun n h => (outsAt0 m c n h).2.2.2) (termS m c) (fun t h j => (acc_A m c t h j).2)
    (fun t h j => (acc_B m c t h j).2) ⟨31, by decide⟩ N_0.symm _

/-- The host adds an accumulator's eight sublanes. -/
abbrev hostSum (x : S8x2048.Idx → EReal) : S2048.Idx → EReal :=
  Host.reduceAdd (F := Ideal) x (constant S_ .f32 0x00000000#32) reducesTo_S8x2048_S2048_d0 h_S_

theorem tail_ga (c : Dev nD) : Pipeline.afterTail₀ cfgs (dats m) 0 (V0 m) [hostOps1] c main_v1 = hostSum ((dats m 0 c).arrAt 7 cfg0.N) := by
  unfold Pipeline.afterTail₀
  simp only [List.flatten_cons, List.flatten_nil, List.append_nil]
  after_results
  exact congrArg hostSum (Pipeline.withArrays_arr spec0 launch0.win.arr_inj c _ _ 7)
theorem tail_gs (c : Dev nD) : Pipeline.afterTail₀ cfgs (dats m) 0 (V0 m) [hostOps1] c main_v2 = hostSum ((dats m 0 c).arrAt 8 cfg0.N) := by
  unfold Pipeline.afterTail₀
  simp only [List.flatten_cons, List.flatten_nil, List.append_nil]
  after_results
  exact congrArg hostSum (Pipeline.withArrays_arr spec0 launch0.win.arr_inj c _ _ 8)

/-- The sum of the sublanes of the tiles' sums is the sum over all rows. -/
theorem sum_all (f : Fin cfg0.N → Vec Ideal S128x2048 .f32) (g : Fin 4096 → Fin 2048 → EReal)
    (h : ∀ t r k, f t (ix2 r k) = g (row t r) k) :
    hostSum (fun j : S8x2048.Idx => ∑ t : Fin cfg0.N, part (f t) j) = fun i : S2048.Idx => ∑ r : Fin 4096, g r (i 0) := by
  funext i
  pointwise
  exact total f g h (i 0)

theorem ga_eq (c : Dev nD) : Pipeline.afterTail₀ cfgs (dats m) 0 (V0 m) [hostOps1] c main_v1 =
    fun i : S2048.Idx => dg lo (XA m c) (DM m c) (i 0) := by
  rw [tail_ga, arr_ga]
  refine sum_all (termA m c) (fun r k => DM m c (ix2 r (lo k)) * xn (XA m c) r k) fun t r k => ?_
  rw [termA, term, pay7_apply, pay10_apply]; simp only [blk_XA, blk_DM]; rfl
theorem gs_eq (c : Dev nD) : Pipeline.afterTail₀ cfgs (dats m) 0 (V0 m) [hostOps1] c main_v2 =
    fun i : S2048.Idx => dg hi (XS m c) (DM m c) (i 0) := by
  rw [tail_gs, arr_gs]
  refine sum_all (termS m c) (fun r k => DM m c (ix2 r (hi k)) * xn (XS m c) r k) fun t r k => ?_
  rw [termS, term, pay9_apply, pay11_apply]; simp only [blk_XS, blk_DM]; rfl

theorem kernel_run (ρ : Dev nD → PrngReg) :
    θ_run defs (onTc (τ := τ) (main (F := Ideal))) ⟨m, fun _ => 0, ρ⟩ (fun r => ∀ c : Dev nD,
      r.2.mem ((c.tc : Thread nD τ).loc main_v0_0) = (fun i : S4096x2048.Idx => dx lo (XA m c) (GA m c) (DM m c) (i 0) (i 1))
      ∧ r.2.mem ((c.tc : Thread nD τ).loc main_v0_1) = (fun i : S4096x2048.Idx => dx hi (XS m c) (GS m c) (DM m c) (i 0) (i 1))
      ∧ r.2.mem ((c.tc : Thread nD τ).loc main_v1) = (fun i : S2048.Idx => dg lo (XA m c) (DM m c) (i 0))
      ∧ r.2.mem ((c.tc : Thread nD τ).loc main_v2) = (fun i : S2048.Idx => dg hi (XS m c) (DM m c) (i 0))) :=
  (θ_run defs _ _).mono (fun _ h c =>
    ⟨(h.out_eq c 5).trans (arr_da m c), (h.out_eq c 6).trans (arr_ds m c),
      (h.rest_eq c main_v1 (Pipeline.mem_restRefs_of main_v1 (by decide) (by decide))).trans (ga_eq m c),
      (h.rest_eq c main_v2 (Pipeline.mem_restRefs_of main_v2 (by decide) (by decide))).trans (gs_eq m c)⟩) (run_main m ρ)

end Cert.Group
end
-- ==== Proof.GroupClaims.lean ====
/- The claims of the backward of the groups' normalisations. -/
module

public import proofs.«01_k».proof.Defs
public import proofs.«01_k».proof.Proof.Group
public import proofs.«01_k».proof.Proof.Reals
public import proofs.«01_k».proof.Proof.Gen.Pre_finite6

@[expose] public section

set_option maxRecDepth 16384

noncomputable section

namespace Cert.Group

open Idealize.ShloMosaic Idealize.ShloMosaic.TcCoe Idealize.SL.Sem Cert.Kernel6Ideal Cert.Kernel6Ideal.Gen Cert.Finite

/-- What the precondition says: every argument holds real numbers. -/
theorem real (m : (ℓ : Loc nD τ sig) → Buf (Elt Ideal) ℓ) (h : Cert.Pre_Kernel6Ideal_finite6 m) (c : Dev nD) :
    (∀ i, IsReal (XA m c i)) ∧ (∀ i, IsReal (XS m c i)) ∧ (∀ i, IsReal (GA m c i)) ∧ (∀ i, IsReal (GS m c i)) ∧ (∀ i, IsReal (DM m c i)) := by
  have e := congrFun (h c) ix0
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨-, e0⟩ := IntOp.andi_eq_one.1 e
  haveI : Subsingleton (Cert.Pre_finite6.S_).Idx := ⟨fun a b => funext fun i => i.elim0⟩
  exact ⟨allReal_of_reduce _ _ (fun _ => ofBits_inf) _ _ _ _ e0,
    allReal_of_reduce _ _ (fun _ => ofBits_inf) _ _ _ _ e1,
    allReal_of_reduce _ _ (fun _ => ofBits_inf) _ _ _ _ e2,
    allReal_of_reduce _ _ (fun _ => ofBits_inf) _ _ _ _ e3,
    allReal_of_reduce _ _ (fun _ => ofBits_inf) _ _ _ _ e4⟩

theorem frame_ref : Cert.quiescent_Reference6Ideal := fun m ρ _ => by
  refine (θ_run Cert.Reference6Ideal.defs _ _).mono (fun r h => ⟨fun c => (h c).2.2.2.2, sem_eq_zero_of_no_sems (by decide) r.2⟩)
    (Cert.Reference6Ideal.Value.run (F := Ideal) m ρ)

theorem algebraic : Cert.algebraic_Kernel6Ideal_Reference6Ideal_pre_finite6 := by
  intro m ρ m' ρ' hpre hagree
  refine ⟨_, _, _, _, (θ_run defs _ _).mono (fun r h c => ⟨(h.1 c).1, (h.1 c).2.1, (h.1 c).2.2.1, (h.1 c).2.2.2, (h.2 c)⟩)
    (θ_run_and (kernel_run m ρ) (unchanged m ρ)), ?_⟩
  refine (θ_run Cert.Reference6Ideal.defs _ _).mono (fun _ h c => ?_) (Cert.Reference6Ideal.Value.run (F := Ideal) m' ρ')
  obtain ⟨h0, h1, h2, h3, hargs⟩ := h c
  obtain ⟨a0, a1, a2, a3, a4⟩ := hagree c
  obtain ⟨r0, r1, r2, r3, r4⟩ := real m hpre c
  replace h0 := h0.trans (Cert.Reference6Ideal.Read.val_main_v76_eq m' c)
  replace h1 := h1.trans (Cert.Reference6Ideal.Read.val_main_v56_eq m' c)
  replace h2 := h2.trans (Cert.Reference6Ideal.Read.val_main_v62_eq _ _)
  replace h3 := h3.trans (Cert.Reference6Ideal.Read.val_main_v42_eq _ _)
  rw [a0, a2, a4] at h0
  rw [a1, a3, a4] at h1
  rw [a0, a4] at h2
  rw [a1, a4] at h3
  refine ⟨h0.trans (funext fun i => ?_), h1.trans (funext fun i => ?_), h2.trans (funext fun i => ?_), h3.trans (funext fun i => ?_), hargs⟩
  · obtain ⟨r, k, rfl⟩ : ∃ (r : Fin 4096) (k : Fin 2048), i = ix2 r k := ⟨i 0, i 1, by idx_vars i⟩
    exact ref_dx (XA m c) (GA m c) (DM m c) r0 r2 r4 r k
  · obtain ⟨r, k, rfl⟩ : ∃ (r : Fin 4096) (k : Fin 2048), i = ix2 r k := ⟨i 0, i 1, by idx_vars i⟩
    exact ref_dx' (XS m c) (GS m c) (DM m c) r1 r3 r4 r k
  · obtain ⟨k, rfl⟩ : ∃ k : Fin 2048, i = ix1 k := ⟨i 0, by idx_vars i⟩
    exact ref_dg (XA m c) (DM m c) k
  · obtain ⟨k, rfl⟩ : ∃ k : Fin 2048, i = ix1 k := ⟨i 0, by idx_vars i⟩
    exact ref_dg' (XS m c) (DM m c) k

end Cert.Group

end
-- ==== Proof.AttnFwd.Heads.lean ====
module

public import proofs.«01_k».proof.Proof.Attn.Pieces
public import proofs.«01_k».proof.Proof.Gen.Kernel7Ideal.Frame
public import Idealize.ShloMosaic.Lib.Pipeline.ValueKit

@[expose] public section

set_option maxRecDepth 16384

noncomputable section

namespace Cert.AttnFwd

open Idealize.ShloMosaic Idealize.SL.Sem Cert.Kernel7Ideal Cert.Kernel7Ideal.Gen
open Cert.AttnBwd (Blocks slices_rows slices_col inb_dq inb_lse)
open Cert.AttnBwd.Blocks (qHead qAt qHeads piecesOf_map canon_of_piecesOf)

variable {F : FTy → Type} [FloatOps F] [Named F]

/-! # One block of the attention forward pass, one key-value head at a time

The rotated queries, the keys and the values of a head are those of the backward pass; what follows is the
softmax of the eight query heads that share key-value head `h`, stacked as 1024 rows. `n` is the block's number. -/

variable (B : Blocks F) (n : ℕ) (h : Fin 4)

/-- The scores, `-∞` where a key is not seen. -/
def scores : FVec F S1024x256 .f32 :=
  select (Cert.KernelIdeal.Gen.k0_pay18 (BitVec.ofNat 32 n))
    (mulf (matmul dot_S1024x64_S256x64_S1024x256_1_1_0_0_n_n none (B.q8 h) (B.k8 h) (constant S1024x256 .f32 0x00000000#32))
      (broadcast S1024x256 (Scalar.ofBits .f32 0x3E000000#32 : F .f32)))
    (broadcast S1024x256 (Named.named κ "masked" 0xF149F2CA#32 : F .f32))
/-- The greatest score of a row and its sink. -/
def most8 : FVec F S1024x1 .f32 :=
  maximumf (shapeCast S1024x1 (multiReduction .maximumf [1] S1024 (scores B n h) 0xFF800000#32 reduces_S1024x256_S1024 (.inl rfl) rfl) shapeCasts_S1024_S1024x1)
    (B.sink8 h)
/-- The exponentials, and their sum with the sink's. -/
def exps8 : FVec F S1024x256 .f32 := exp (subf (scores B n h) (broadcastTo S1024x256 (most8 B n h) broadcasts_S1024x1_S1024x256))
def den8 : FVec F S1024x1 .f32 :=
  addf (shapeCast S1024x1 (multiReduction .add [1] S1024 (exps8 B n h) 0x00000000#32 reduces_S1024x256_S1024 (.inl rfl) rfl) shapeCasts_S1024_S1024x1)
    (exp (subf (B.sink8 h) (most8 B n h)))
/-- The output of head `h`, and the logarithm the backward pass reads. -/
def o8 : FVec F S1024x64 .f32 :=
  matmul dot_S1024x256_S256x64_S1024x64_1_0_0_1_n_n none
    (truncf .bf16 (divf (exps8 B n h) (broadcastTo S1024x256 (den8 B n h) broadcasts_S1024x1_S1024x256)) bitsLt_bf16_f32)
    (B.v8 h) (constant S1024x64 .f32 0x00000000#32)
def lse8 : FVec F S1024x1 .f32 := addf (most8 B n h) (log (den8 B n h))

/-- What the block leaves, entry by entry. -/
def outBlock : Vec F S128x2048 .f32 := fun j => o8 B n (qHead j) (qAt j)
def sHead (j : S128x32.Idx) : Fin 4 := ⟨(j 1).val / 8, by have : (j 1).val < 32 := (j 1).isLt; omega⟩
def sAt (j : S128x32.Idx) : S1024x1.Idx :=
  ix2 ⟨128 * ((j 1).val % 8) + (j 0).val, by have : (j 0).val < 128 := (j 0).isLt; omega⟩ 0
def lseBlock : Vec F S128x32 .f32 := fun j => lse8 B n (sHead j) (sAt j)

theorem out_piece (g : Fin 8) (x : S128x64.Idx) :
    extractStridedSlice S128x64 ![128 * g.val, 0] (o8 B n h) (slices_rows g) x
      = outBlock B n ((Rect.unit (s := S128x2048) ![0, 512 * h.val + 64 * g.val] S128x64.size (inb_dq h g)).emb x) := by
  have h0 := h.isLt; have h1 := g.isLt
  have x0 : (x 0).val < 128 := (x 0).isLt
  have x1 : (x 1).val < 64 := (x 1).isLt
  unfold outBlock
  generalize hj : (Rect.unit (s := S128x2048) ![0, 512 * h.val + 64 * g.val] S128x64.size (inb_dq h g)).emb x = j
  have j0 : (j 0).val = (x 0).val := by rw [← hj, Rect.emb_apply]; show 0 + 1 * (x 0).val = _; omega
  have j1 : (j 1).val = 512 * h.val + 64 * g.val + (x 1).val := by
    rw [← hj, Rect.emb_apply]; show 512 * h.val + 64 * g.val + 1 * (x 1).val = _; omega
  have hh : qHead j = h := Fin.ext (by show (j 1).val / 512 = h.val; omega)
  rw [hh]
  refine congrArg (o8 B n h) (funext fun a => Fin.ext ?_)
  match a with
  | ⟨0, _⟩ => show 128 * g.val + (x 0).val = 128 * ((j 1).val / 64 % 8) + (j 0).val; omega
  | ⟨1, _⟩ => show 0 + (x 1).val = (j 1).val % 64; omega

theorem lse_piece (g : Fin 8) (x : S128x1.Idx) :
    extractStridedSlice S128x1 ![128 * g.val, 0] (lse8 B n h) (slices_col g) x
      = lseBlock B n ((Rect.unit (s := S128x32) ![0, 8 * h.val + g.val] S128x1.size (inb_lse h g)).emb x) := by
  have h0 := h.isLt; have h1 := g.isLt
  have x0 : (x 0).val < 128 := (x 0).isLt
  have x1 : (x 1).val < 1 := (x 1).isLt
  unfold lseBlock
  generalize hj : (Rect.unit (s := S128x32) ![0, 8 * h.val + g.val] S128x1.size (inb_lse h g)).emb x = j
  have j0 : (j 0).val = (x 0).val := by rw [← hj, Rect.emb_apply]; show 0 + 1 * (x 0).val = _; omega
  have j1 : (j 1).val = 8 * h.val + g.val := by
    rw [← hj, Rect.emb_apply]; show 8 * h.val + g.val + 1 * (x 1).val = _; omega
  have hh : sHead j = h := Fin.ext (by show (j 1).val / 8 = h.val; omega)
  rw [hh]
  refine congrArg (lse8 B n h) (funext fun a => Fin.ext ?_)
  match a with
  | ⟨0, _⟩ => show 128 * g.val + (x 0).val = 128 * ((j 1).val % 8) + (j 0).val; omega
  | ⟨1, _⟩ => show 0 + (x 1).val = 0; omega

/-! ### The stores of a block, the last one first -/

def outPieces : List (View.Piece (Elt F) S128x2048 .f32) :=
  qHeads.map fun p => ⟨Rect.unit ![0, 512 * p.1.val + 64 * p.2.val] S128x64.size (inb_dq p.1 p.2),
    extractStridedSlice S128x64 ![128 * p.2.val, 0] (o8 B n p.1) (slices_rows p.2)⟩
def lsePieces : List (View.Piece (Elt F) S128x32 .f32) :=
  qHeads.map fun p => ⟨Rect.unit ![0, 8 * p.1.val + p.2.val] S128x1.size (inb_lse p.1 p.2),
    extractStridedSlice S128x1 ![128 * p.2.val, 0] (lse8 B n p.1) (slices_col p.2)⟩

theorem out_cover (y : S128x2048.Idx) : ∃ p ∈ outPieces B n, y ∈ p.1.set := View.cover_of_tiledL (outPieces B n) S128x64.size (by sl_kernel_rfl) y
theorem lse_cover (y : S128x32.Idx) : ∃ p ∈ lsePieces B n, y ∈ p.1.set := View.cover_of_tiledL (lsePieces B n) S128x1.size (by sl_kernel_rfl) y
theorem out_canon : View.canon (outPieces B n) = outBlock B n :=
  canon_of_piecesOf _ _ (piecesOf_map _ _ (fun p => out_piece B n p.1 p.2) _) (out_cover B n)
theorem lse_canon : View.canon (lsePieces B n) = lseBlock B n :=
  canon_of_piecesOf _ _ (piecesOf_map _ _ (fun p => lse_piece B n p.1 p.2) _) (lse_cover B n)

/-- The body's stores are these. -/
theorem out_stores (i : grid0.Coords) : out0_10 i B.q B.kp B.kc B.vp B.vc B.cc B.sc B.cp B.sp B.sink = View.canon (outPieces B (i 0).val) := by
  sl_kernel_rfl
theorem lse_stores (i : grid0.Coords) : out0_11 i B.q B.kp B.kc B.vp B.vc B.cc B.sc B.cp B.sp B.sink = View.canon (lsePieces B (i 0).val) := by
  sl_kernel_rfl

end Cert.AttnFwd

end
-- ==== Proof.AttnFwd.Rows.lean ====
module

public import proofs.«01_k».proof.Proof.AttnFwd.Heads
public import proofs.«01_k».proof.Proof.Attn.Arrays

@[expose] public section

set_option maxRecDepth 16384

noncomputable section

namespace Cert.AttnFwd

open Idealize.ShloMosaic Idealize.SL.Sem Cert.Kernel7Ideal Cert.Kernel7Ideal.Gen Cert.AttnBwd Cert.Finite
open Cert.ReferenceIdeal.Read

/-! # One block of the forward kernel computes the reference's values of that block -/

theorem masked : (Named.named (F := Ideal) κ "masked" (φ := .f32) 0xF149F2CA#32) = (⊥ : EReal) :=
  IdealRules.named_const.ideal_named_scalar _ _ _ _ rfl

/-- The greatest of a row is determined. -/
theorem fold_eq {f : Fin 256 → EReal} {M : EReal} (hM : (∀ j, f j ≤ M) ∧ ∃ j, f j = M) : Finset.univ.fold max ⊥ f = M := by
  obtain ⟨hle, j, hj⟩ := fold_max (k := 255) f
  obtain ⟨hle', j', hj'⟩ := hM
  exact le_antisymm (hj ▸ hle' j) (hj' ▸ hle j')

variable {x0 : S4096x2048.Idx → EReal} {x1 x2 : S4096x256.Idx → EReal} {x3 : S1x32.Idx → EReal} {x4 : S4096x2048.Idx → EReal}
variable {B : Blocks Ideal} {i : Cert.KernelIdeal.grid0.Coords} {n : Fin 32} (H : IsBlock B i n x0 x1 x2 x3 x4)
variable (h : Fin 4) (g : Fin 8) (r : Fin 128)

/-- The body's mask. -/
theorem valid_at (i : Cert.KernelIdeal.grid0.Coords) (hi : (i 0).val = n.val) (c : Fin 256) :
    Cert.KernelIdeal.Gen.k0_pay18 (BitVec.ofNat 32 n.val) (ix2 (row8 g r) c) = if mask n r c then 1#1 else 0#1 := by
  have e := Blocks.valid_apply i g r c
  unfold Blocks.valid at e
  rw [hi] at e
  rw [e]
  unfold mask
  simp only [decide_eq_true_eq]

section rows
variable (h0 : AllReal x0) (h1 : AllReal x1) (h3 : AllReal x3)
include H h0 h1

theorem scores_eq (j : Fin 256) : scores B n.val h (ix2 (row8 g r) j) = Row.score (mask n r) (τ' x0 x1 n h g r) j := by
  have e : scores B n.val h (ix2 (row8 g r) j) = if mask n r j then
      (∑ d : Fin 64, B.q8 h (ix2 (row8 g r) d) * B.k8 h (ix2 j d)) * eighth else ⊥ := by
    unfold scores
    pointwise [valid_at g r i H.point, masked]
    cases mask n r j <;> rfl
  rw [e]
  unfold Row.score
  cases hm : mask n r j with
  | true =>
    have c : r.val < j.val ∧ j.val ≤ r.val + 128 ∧ (0 < n.val ∨ 128 ≤ j.val) := of_decide_eq_true hm
    rw [if_pos rfl, if_pos rfl, ← v60_eq x0 x1 n h g r h0 h1, v60_apply]
    exact congrArg (· * eighth) (Finset.sum_congr rfl fun d _ => by rw [q8_eq H, k8_eq H h j c.2.2, mul_comm])
  | false => rfl

include h3
theorem most8_eq : most8 B n.val h (ix2 (row8 g r) 0) = Row.most (σ' x3 h g) (M' x0 x1 n h g r) := by
  have e : most8 B n.val h (ix2 (row8 g r) 0)
      = max (Finset.univ.fold max ⊥ fun j => scores B n.val h (ix2 (row8 g r) j)) (B.sink (ix2 0 (head32 h g))) := by
    unfold most8
    pointwise [B.sink8_apply]
    rw [ofBits_neg_inf]
  rw [e, H.sink, sink_eq x3 h g h3]
  simp only [scores_eq H h g r h0 h1]
  rw [fold_eq (hM x0 x1 n h g r h0 h1)]
  rfl

theorem exps8_eq (j : Fin 256) : exps8 B n.val h (ix2 (row8 g r) j) = Row.expo (mask n r) (τ' x0 x1 n h g r) (σ' x3 h g) (M' x0 x1 n h g r) j := by
  unfold exps8
  pointwise
  rw [scores_eq H h g r h0 h1, most8_eq H h g r h0 h1 h3]
  rfl

theorem den8_eq : den8 B n.val h (ix2 (row8 g r) 0) = Row.den (mask n r) (τ' x0 x1 n h g r) (σ' x3 h g) (M' x0 x1 n h g r) := by
  unfold den8
  pointwise [B.sink8_apply]
  simp only [exps8_eq H h g r h0 h1 h3]
  rw [most8_eq H h g r h0 h1 h3, H.sink, sink_eq x3 h g h3]
  unfold Row.den Row.expoSink
  rw [zero_add]

theorem lse8_eq : lse8 B n.val h (ix2 (row8 g r) 0) = val_main_v121 (F := Ideal) x0 x1 x3 (ix2 (row n r) (head32 h g)) := by
  rw [v121_apply, v118_eq x0 x1 x3 n h g r h0 h1 h3]
  unfold lse8 Row.lse
  pointwise
  rw [most8_eq H h g r h0 h1 h3, den8_eq H h g r h0 h1 h3]

theorem o8_eq (d : Fin 64) : o8 B n.val h (ix2 (row8 g r) d) = val_main_v119 (F := Ideal) x0 x1 x2 x3 (ix2 (row n r) (colQ h g d)) := by
  rw [v119_apply]
  have e : o8 B n.val h (ix2 (row8 g r) d)
      = ∑ j : Fin 256, Ideal.div (exps8 B n.val h (ix2 (row8 g r) j)) (den8 B n.val h (ix2 (row8 g r) 0)) * B.v8 h (ix2 j d) := by
    unfold o8
    pointwise
  rw [e]
  refine Finset.sum_congr rfl fun j _ => ?_
  rw [exps8_eq H h g r h0 h1 h3, den8_eq H h g r h0 h1 h3, v111_eq x0 x1 x3 n h g r h0 h1 h3, mul_comm]
  show _ * Row.prob (mask n r) (τ' x0 x1 n h g r) (σ' x3 h g) (M' x0 x1 n h g r) j = _
  cases hm : mask n r j with
  | true =>
    have c : r.val < j.val ∧ j.val ≤ r.val + 128 ∧ (0 < n.val ∨ 128 ≤ j.val) := of_decide_eq_true hm
    rw [v8_eq H h j c.2.2]
  | false => rw [Row.prob_masked (hM x0 x1 n h g r h0 h1) (σ := σ' x3 h g) j hm, mul_zero, mul_zero]

theorem out_at (d : Fin 64) : outBlock B n.val (ix2 r (colQ h g d)) = val_main_v119 (F := Ideal) x0 x1 x2 x3 (ix2 (row n r) (colQ h g d)) := by
  unfold outBlock
  rw [qHead_col, qAt_col, o8_eq H h g r h0 h1 h3]
theorem lse_at : lseBlock B n.val (ix2 r (head32 h g)) = val_main_v121 (F := Ideal) x0 x1 x3 (ix2 (row n r) (head32 h g)) := by
  have a : sHead (ix2 r (head32 h g)) = h := Fin.ext (show (8 * h.val + g.val) / 8 = h.val by omega)
  have b : sAt (ix2 r (head32 h g)) = ix2 (row8 g r) 0 :=
    congrArg (fun x => ix2 x 0) (Fin.ext (show 128 * ((8 * h.val + g.val) % 8) + r.val = 128 * g.val + r.val by omega))
  unfold lseBlock
  rw [a, b, lse8_eq H h g r h0 h1 h3]
end rows

end Cert.AttnFwd

end
-- ==== Proof.AttnFwd.Arrays.lean ====
module

public import proofs.«01_k».proof.Proof.AttnFwd.Rows

@[expose] public section

set_option maxRecDepth 16384

noncomputable section

namespace Cert.AttnFwd

open Idealize.ShloMosaic Idealize.ShloMosaic.TcCoe Idealize.SL.Sem Cert.Kernel7Ideal Cert.Kernel7Ideal.Gen Cert.Finite
open Cert.AttnBwd (AllReal Blocks IsBlock row before cosT sinT colQ_cases head32_cases)
open Cert.ReferenceIdeal.Read

/-! # The arrays the forward kernel leaves -/

variable (m : (ℓ : Loc nD τ sig) → Buf (Elt Ideal) ℓ) (c : Dev nD)

/-- The four arguments. -/
def X0 : S4096x2048.Idx → EReal := m ((c.tc : Thread nD τ).loc main_arg0)
def X1 : S4096x256.Idx → EReal := m ((c.tc : Thread nD τ).loc main_arg1)
def X2 : S4096x256.Idx → EReal := m ((c.tc : Thread nD τ).loc main_arg2)
def X3 : S1x32.Idx → EReal := m ((c.tc : Thread nD τ).loc main_arg3)

/-- The tables of the angles. -/
def Cos : S4096x128.Idx → EReal := V m c main_v16
def Sin : S4096x128.Idx → EReal := V m c main_v19

theorem V_Cos : V m c main_v16 = Cos m c := rfl
theorem V_Sin : V m c main_v19 = Sin m c := rfl
theorem V_X0 : V m c main_arg0 = X0 m c := V_main_arg0 m c
theorem V_X1 : V m c main_arg1 = X1 m c := V_main_arg1 m c
theorem V_X2 : V m c main_arg2 = X2 m c := V_main_arg2 m c
theorem V_X3 : V m c main_arg3 = X3 m c := V_main_arg3 m c

theorem V_cos : V m c main_v12 = val_main_v13 (F := Ideal) := by
  unfold V
  after_results
  sl_kernel_rfl
theorem V_sin : V m c main_v13 = val_main_v14 (F := Ideal) := by
  unfold V
  after_results
  sl_kernel_rfl
/-- Four copies of a table side by side. -/
theorem Cos_eq (t : Fin 4096) (k : Fin 128) : Cos m c (ix2 t k) = cosT t ⟨k.val % 32, Nat.mod_lt _ (by decide)⟩ := by
  show _ = val_main_v13 (F := Ideal) (ix2 t ⟨k.val % 32, Nat.mod_lt _ (by decide)⟩)
  rw [← V_cos m c]
  unfold Cos V
  after_results
  pointwise
theorem Sin_eq (t : Fin 4096) (k : Fin 128) : Sin m c (ix2 t k) = sinT t ⟨k.val % 32, Nat.mod_lt _ (by decide)⟩ := by
  show _ = val_main_v14 (F := Ideal) (ix2 t ⟨k.val % 32, Nat.mod_lt _ (by decide)⟩)
  rw [← V_sin m c]
  unfold Sin V
  after_results
  pointwise

theorem idxIn : ∀ t : Fin cfg0.N, win0_0.index t = ![t.val, 0] ∧ win0_1.index t = ![t.val - 1, 0] ∧ win0_2.index t = ![t.val, 0]
    ∧ win0_3.index t = ![t.val - 1, 0] ∧ win0_4.index t = ![t.val, 0] ∧ win0_5.index t = ![t.val, 0] ∧ win0_6.index t = ![t.val, 0]
    ∧ win0_7.index t = ![t.val - 1, 0] ∧ win0_8.index t = ![t.val - 1, 0] ∧ win0_9.index t = ![0, 0] :=
  (by decide +kernel : ∀ t : Fin grid0.N, _)
theorem idxOut : ∀ t : Fin cfg0.N, win0_10.index t = ![t.val, 0] ∧ win0_11.index t = ![t.val, 0] :=
  (by decide +kernel : ∀ t : Fin grid0.N, _)
theorem coord0 : ∀ t : Fin cfg0.N, (grid0.coords t 0).val = t.val := (by decide +kernel : ∀ t : Fin grid0.N, _)
theorem point_lt (t : Fin cfg0.N) : t.val < 32 := lt_of_lt_of_eq t.isLt (show cfg0.N = 32 from N_0)

/-- The block of rows of point `t`. -/
abbrev blockOf (t : Fin cfg0.N) : Fin 32 := ⟨t.val, point_lt t⟩

/-! ### The blocks the body reads -/

section blocks
variable (t : Fin cfg0.N) (r : Fin 128)

theorem at0 (k : Fin 2048) : iblk m c 0 t (ix2 r k) = X0 m c (ix2 (row (blockOf t) r) k) := by
  obtain ⟨e0, e1, e2, e3, e4, e5, e6, e7, e8, e9⟩ := idxIn t
  rw [← V_X0]; blk_point [iblk, e0]
theorem at1 (k : Fin 256) : iblk m c 1 t (ix2 r k) = X1 m c (ix2 (row (before (blockOf t)) r) k) := by
  obtain ⟨e0, e1, e2, e3, e4, e5, e6, e7, e8, e9⟩ := idxIn t
  rw [← V_X1]; blk_point [iblk, e1]
theorem at2 (k : Fin 256) : iblk m c 2 t (ix2 r k) = X1 m c (ix2 (row (blockOf t) r) k) := by
  obtain ⟨e0, e1, e2, e3, e4, e5, e6, e7, e8, e9⟩ := idxIn t
  rw [← V_X1]; blk_point [iblk, e2]
theorem at3 (k : Fin 256) : iblk m c 3 t (ix2 r k) = X2 m c (ix2 (row (before (blockOf t)) r) k) := by
  obtain ⟨e0, e1, e2, e3, e4, e5, e6, e7, e8, e9⟩ := idxIn t
  rw [← V_X2]; blk_point [iblk, e3]
theorem at4 (k : Fin 256) : iblk m c 4 t (ix2 r k) = X2 m c (ix2 (row (blockOf t) r) k) := by
  obtain ⟨e0, e1, e2, e3, e4, e5, e6, e7, e8, e9⟩ := idxIn t
  rw [← V_X2]; blk_point [iblk, e4]
theorem at5 (k : Fin 128) : iblk m c 5 t (ix2 r k) = cosT (row (blockOf t) r) ⟨k.val % 32, Nat.mod_lt _ (by decide)⟩ := by
  obtain ⟨e0, e1, e2, e3, e4, e5, e6, e7, e8, e9⟩ := idxIn t
  rw [← Cos_eq m c, ← V_Cos]; blk_point [iblk, e5]
theorem at6 (k : Fin 128) : iblk m c 6 t (ix2 r k) = sinT (row (blockOf t) r) ⟨k.val % 32, Nat.mod_lt _ (by decide)⟩ := by
  obtain ⟨e0, e1, e2, e3, e4, e5, e6, e7, e8, e9⟩ := idxIn t
  rw [← Sin_eq m c, ← V_Sin]; blk_point [iblk, e6]
theorem at7 (k : Fin 128) : iblk m c 7 t (ix2 r k) = cosT (row (before (blockOf t)) r) ⟨k.val % 32, Nat.mod_lt _ (by decide)⟩ := by
  obtain ⟨e0, e1, e2, e3, e4, e5, e6, e7, e8, e9⟩ := idxIn t
  rw [← Cos_eq m c, ← V_Cos]; blk_point [iblk, e7]
theorem at8 (k : Fin 128) : iblk m c 8 t (ix2 r k) = sinT (row (before (blockOf t)) r) ⟨k.val % 32, Nat.mod_lt _ (by decide)⟩ := by
  obtain ⟨e0, e1, e2, e3, e4, e5, e6, e7, e8, e9⟩ := idxIn t
  rw [← Sin_eq m c, ← V_Sin]; blk_point [iblk, e8]
theorem at9 (k : Fin 32) : iblk m c 9 t (ix2 0 k) = X3 m c (ix2 0 k) := by
  obtain ⟨e0, e1, e2, e3, e4, e5, e6, e7, e8, e9⟩ := idxIn t
  rw [← V_X3]; blk_point [iblk, e9]

/-- The blocks of point `t`; the last three, which only the backward pass reads, are the block's own results. -/
def blocks : Blocks Ideal where
  q := iblk m c 0 t
  kp := iblk m c 1 t
  kc := iblk m c 2 t
  vp := iblk m c 3 t
  vc := iblk m c 4 t
  cc := iblk m c 5 t
  sc := iblk m c 6 t
  cp := iblk m c 7 t
  sp := iblk m c 8 t
  sink := iblk m c 9 t
  o := fun j => val_main_v119 (F := Ideal) (X0 m c) (X1 m c) (X2 m c) (X3 m c) (ix2 (row (blockOf t) (j 0)) (j 1))
  lse := fun j => val_main_v121 (F := Ideal) (X0 m c) (X1 m c) (X3 m c) (ix2 (row (blockOf t) (j 0)) (j 1))
  dout := fun j => X0 m c (ix2 (row (blockOf t) (j 0)) (j 1))

/-- The backward pass's grid point of the same block. -/
def point : Cert.KernelIdeal.grid0.Coords := Cert.KernelIdeal.grid0.coords ⟨t.val, by have := point_lt t; show t.val < 33; omega⟩

theorem blocks_q : (blocks m c t).q = iblk m c 0 t := rfl
theorem blocks_kp : (blocks m c t).kp = iblk m c 1 t := rfl
theorem blocks_kc : (blocks m c t).kc = iblk m c 2 t := rfl
theorem blocks_vp : (blocks m c t).vp = iblk m c 3 t := rfl
theorem blocks_vc : (blocks m c t).vc = iblk m c 4 t := rfl
theorem blocks_cc : (blocks m c t).cc = iblk m c 5 t := rfl
theorem blocks_sc : (blocks m c t).sc = iblk m c 6 t := rfl
theorem blocks_cp : (blocks m c t).cp = iblk m c 7 t := rfl
theorem blocks_sp : (blocks m c t).sp = iblk m c 8 t := rfl
theorem blocks_sink : (blocks m c t).sink = iblk m c 9 t := rfl

theorem pointBlock : IsBlock (blocks m c t) (point t) (blockOf t) (X0 m c) (X1 m c) (X2 m c) (X3 m c) (X0 m c) := by
  constructor
  · exact Cert.AttnBwd.coord0 _
  · intro r k; rw [blocks_q]; exact at0 m c t r k
  · intro r k; rw [blocks_kc]; exact at2 m c t r k
  · intro r k; rw [blocks_kp]; exact at1 m c t r k
  · intro r k; rw [blocks_vc]; exact at4 m c t r k
  · intro r k; rw [blocks_vp]; exact at3 m c t r k
  · intro r; rw [blocks_cc, blocks_sc]; exact ⟨fun k => at5 m c t r k, fun k => at6 m c t r k⟩
  · intro r; rw [blocks_cp, blocks_sp]; exact ⟨fun k => at7 m c t r k, fun k => at8 m c t r k⟩
  · intro k; rw [blocks_sink]; exact at9 m c t k
  · intro r k; exact rfl
  · intro r k; exact rfl
  · intro r k; exact rfl

theorem after_out : (dats m 0 c).after 10 t = outBlock (blocks m c t) t.val := by
  rw [after0_10, ← out_canon]
  refine (out_stores (blocks m c t) (grid0.coords t)).trans ?_
  rw [coord0]
theorem after_lse : (dats m 0 c).after 11 t = lseBlock (blocks m c t) t.val := by
  rw [after0_11, ← lse_canon]
  refine (lse_stores (blocks m c t) (grid0.coords t)).trans ?_
  rw [coord0]
theorem emb10 (k : Fin 2048) : (win0_10.blk t).view.emb (ix2 r k : S128x2048.Idx) = (ix2 (row (blockOf t) r) k : S4096x2048.Idx) := by
  obtain ⟨e10, e11⟩ := idxOut t
  blk_ext [e10]
theorem emb11 (k : Fin 32) : (win0_11.blk t).view.emb (ix2 r k : S128x32.Idx) = (ix2 (row (blockOf t) r) k : S4096x32.Idx) := by
  obtain ⟨e10, e11⟩ := idxOut t
  blk_ext [e11]
end blocks

section arrays
variable (h0 : AllReal (X0 m c)) (h1 : AllReal (X1 m c)) (h3 : AllReal (X3 m c))
include h0 h1 h3

theorem arr_out : (dats m 0 c).arrAt 10 cfg0.N = val_main_v119 (F := Ideal) (X0 m c) (X1 m c) (X2 m c) (X3 m c) := by
  refine (dats m 0 c).arrAt_eq_of_covers 10 _ (by decide +kernel) fun t hf y => ?_
  blk_simp
  rw [after_out]
  obtain ⟨r, k, rfl⟩ : ∃ (r : Fin 128) (k : Fin 2048), y = ix2 r k := ⟨y 0, y 1, by idx_vars y⟩
  obtain ⟨h, g, d, rfl⟩ := colQ_cases k
  rw [emb10]
  exact out_at (pointBlock m c t) h g r h0 h1 h3 d

theorem arr_lse : (dats m 0 c).arrAt 11 cfg0.N = val_main_v121 (F := Ideal) (X0 m c) (X1 m c) (X3 m c) := by
  refine (dats m 0 c).arrAt_eq_of_covers 11 _ (by decide +kernel) fun t hf y => ?_
  blk_simp
  rw [after_lse]
  obtain ⟨r, k, rfl⟩ : ∃ (r : Fin 128) (k : Fin 32), y = ix2 r k := ⟨y 0, y 1, by idx_vars y⟩
  obtain ⟨h, g, rfl⟩ := head32_cases k
  rw [emb11]
  exact lse_at (pointBlock m c t) h g r h0 h1 h3

omit h0 h1 h3 in
/-- The run leaves the output and the logarithms. -/
theorem kernel_run (ρ : Dev nD → PrngReg) (h : ∀ c : Dev nD, AllReal (X0 m c) ∧ AllReal (X1 m c) ∧ AllReal (X3 m c)) :
    θ_run defs (onTc (τ := τ) (main (F := Ideal))) ⟨m, fun _ => 0, ρ⟩ (fun r => ∀ c : Dev nD,
      r.2.mem ((c.tc : Thread nD τ).loc main_v20_0) = val_main_v119 (F := Ideal) (X0 m c) (X1 m c) (X2 m c) (X3 m c)
      ∧ r.2.mem ((c.tc : Thread nD τ).loc main_v20_1) = val_main_v121 (F := Ideal) (X0 m c) (X1 m c) (X3 m c)) :=
  (θ_run defs _ _).mono (fun _ H c =>
    ⟨(H.out_eq c 10).trans (arr_out m c (h c).1 (h c).2.1 (h c).2.2), (H.out_eq c 11).trans (arr_lse m c (h c).1 (h c).2.1 (h c).2.2)⟩) (run_main m ρ)
end arrays

end Cert.AttnFwd

end
-- ==== Proof.AttnFwdClaims.lean ====
module

public import proofs.«01_k».proof.Defs
public import proofs.«01_k».proof.Proof.AttnFwd.Arrays
public import proofs.«01_k».proof.Proof.Reals
public import proofs.«01_k».proof.Proof.Gen.Reference7Ideal.Run
public import proofs.«01_k».proof.Proof.Gen.Pre_finite7

@[expose] public section

set_option maxRecDepth 16384

noncomputable section

namespace Cert.AttnFwd

open Idealize.ShloMosaic Idealize.ShloMosaic.TcCoe Idealize.SL.Sem Cert.Kernel7Ideal Cert.Kernel7Ideal.Gen Cert.Finite
open Cert.AttnBwd (AllReal)

/-- What the precondition says: the arguments it names hold real numbers. -/
theorem real (m : (ℓ : Loc nD τ sig) → Buf (Elt Ideal) ℓ) (h : Cert.Pre_Kernel7Ideal_finite7 m) (c : Dev nD) :
    AllReal (X0 m c) ∧ AllReal (X1 m c) ∧ AllReal (X3 m c) := by
  have e := congrFun (h c) ix0
  obtain ⟨e, e3⟩ := IntOp.andi_eq_one.1 e
  obtain ⟨e, e1⟩ := IntOp.andi_eq_one.1 e
  obtain ⟨-, e0⟩ := IntOp.andi_eq_one.1 e
  haveI : Subsingleton (Cert.Pre_finite7.S_).Idx := ⟨fun a b => funext fun i => i.elim0⟩
  exact ⟨allReal_of_reduce _ _ (fun _ => ofBits_inf) _ _ _ _ e0, allReal_of_reduce _ _ (fun _ => ofBits_inf) _ _ _ _ e1,
    allReal_of_reduce _ _ (fun _ => ofBits_inf) _ _ _ _ e3⟩

theorem frame_ref : Cert.quiescent_Reference7Ideal := fun m ρ _ => by
  refine (θ_run Cert.Reference7Ideal.defs _ _).mono (fun r h => ⟨fun c => (h c).2.2, sem_eq_zero_of_no_sems (by decide) r.2⟩)
    (Cert.Reference7Ideal.Value.run (F := Ideal) m ρ)

/-- The mask's constant is read as `-∞`. -/
theorem preserves : Cert.preserves_Kernel7_Kernel7Ideal := IdealRules.named_const.statement Cert.Kernel7Ideal.κ "masked" .f32 0xF149F2CA#32 ⊥ rfl

/-- The reference's results are the forward values of the backward pass's reference. -/
theorem ref_out (m : (ℓ : Loc Cert.Reference7Ideal.nD Cert.Reference7Ideal.τ Cert.Reference7Ideal.sig) → Buf (Elt Ideal) ℓ) (c : Dev Cert.Reference7Ideal.nD) :
    Cert.Reference7Ideal.Value.res_out0 (F := Ideal) m c
      = Cert.ReferenceIdeal.Read.val_main_v119 (F := Ideal) (m ((c.tc : Thread Cert.Reference7Ideal.nD Cert.Reference7Ideal.τ).loc Cert.Reference7Ideal.main_arg0))
        (m ((c.tc : Thread Cert.Reference7Ideal.nD Cert.Reference7Ideal.τ).loc Cert.Reference7Ideal.main_arg1))
        (m ((c.tc : Thread Cert.Reference7Ideal.nD Cert.Reference7Ideal.τ).loc Cert.Reference7Ideal.main_arg2))
        (m ((c.tc : Thread Cert.Reference7Ideal.nD Cert.Reference7Ideal.τ).loc Cert.Reference7Ideal.main_arg3)) := by
  sl_kernel_rfl
theorem ref_lse (m : (ℓ : Loc Cert.Reference7Ideal.nD Cert.Reference7Ideal.τ Cert.Reference7Ideal.sig) → Buf (Elt Ideal) ℓ) (c : Dev Cert.Reference7Ideal.nD) :
    Cert.Reference7Ideal.Value.res_out1 (F := Ideal) m c
      = Cert.ReferenceIdeal.Read.val_main_v121 (F := Ideal) (m ((c.tc : Thread Cert.Reference7Ideal.nD Cert.Reference7Ideal.τ).loc Cert.Reference7Ideal.main_arg0))
        (m ((c.tc : Thread Cert.Reference7Ideal.nD Cert.Reference7Ideal.τ).loc Cert.Reference7Ideal.main_arg1))
        (m ((c.tc : Thread Cert.Reference7Ideal.nD Cert.Reference7Ideal.τ).loc Cert.Reference7Ideal.main_arg3)) := by
  sl_kernel_rfl

theorem algebraic : Cert.algebraic_Kernel7Ideal_Reference7Ideal_pre_finite7 := by
  intro m ρ m' ρ' hpre hagree
  refine ⟨_, _, (θ_run defs _ _).mono (fun r h c => ⟨(h.1 c).1, (h.1 c).2, (h.2 c)⟩)
    (θ_run_and (kernel_run m ρ (real m hpre)) (unchanged m ρ)), ?_⟩
  refine (θ_run Cert.Reference7Ideal.defs _ _).mono (fun _ h c => ?_) (Cert.Reference7Ideal.Value.run (F := Ideal) m' ρ')
  obtain ⟨h0, h1, hargs⟩ := h c
  obtain ⟨a0, a1, a2, a3⟩ := hagree c
  replace h0 := h0.trans (ref_out m' c)
  replace h1 := h1.trans (ref_lse m' c)
  rw [a0, a1, a2, a3] at h0
  rw [a0, a1, a3] at h1
  exact ⟨h0, h1, hargs⟩

end Cert.AttnFwd

end
-- ==== Proof.PairAdd.lean ====
/- The sum of each pair of blocks' halves: the first row of every pair of one array plus the other array. The kernel reads which row of a pair it takes from a one-word table, which holds zero. -/
module

public import proofs.«01_k».proof.Defs
public import proofs.«01_k».proof.Proof.Gen.Kernel21.Frame
public import proofs.«01_k».proof.Proof.Gen.Kernel21Ideal.Frame
public import proofs.«01_k».proof.Proof.Gen.Reference21Ideal.Read
public import proofs.«01_k».proof.Proof.Gen.Reference21Ideal.Run
public import Idealize.ShloMosaic.Lib.Pipeline.ValueKit
public import Idealize.ShloMosaic.PureOps.Ideal.Laws

@[expose] public section

set_option maxRecDepth 16384

noncomputable section

namespace Cert.PairAdd

open Idealize.ShloMosaic Idealize.ShloMosaic.TcCoe Idealize.SL.Sem Cert.Kernel21Ideal Cert.Kernel21Ideal.Gen

/-! ## The table -/

/-- The table of one zero word. -/
def zeros : pre0.Contents (Elt Ideal) := fun | 0 => fun _ => 0#32 | ⟨_ + 1, h⟩ => absurd h (Nat.not_lt.2 (Nat.le_add_left _ _))

theorem ok_zeros : ok0 (F := Ideal) zeros := by decide +kernel

variable (m : (ℓ : Loc nD τ sig) → Buf (Elt Ideal) ℓ) (c : Dev nD)

theorem tbl_eq : tbl m = zeros := by
  funext j
  obtain rfl : j = 0 := Subsingleton.elim _ _
  show V m (0 : Dev nD) main_v2 = fun _ => 0#32
  unfold V V0
  simp only [List.flatten_cons, List.flatten_nil, List.append_nil]
  after_results
  rfl

theorem ok : Ok m := by
  show ok0 (F := Ideal) (tbl m)
  rw [tbl_eq]
  exact ok_zeros

/-- The kernel's own words: the same table. -/
def zerosBits : Cert.Kernel21.pre0.Contents (Elt Bits) := fun | 0 => fun _ => 0#32 | ⟨_ + 1, h⟩ => absurd h (Nat.not_lt.2 (Nat.le_add_left _ _))

theorem ok_zerosBits : Cert.Kernel21.ok0 (F := Bits) zerosBits := by decide +kernel

theorem ok_bits (m : (ℓ : Loc Cert.Kernel21.nD Cert.Kernel21.τ Cert.Kernel21.sig) → Buf (Elt Bits) ℓ) : Cert.Kernel21.Gen.Ok m := by
  have e : Cert.Kernel21.Gen.tbl m = zerosBits := by
    funext j
    obtain rfl : j = 0 := Subsingleton.elim _ _
    show Cert.Kernel21.Gen.V m (0 : Dev Cert.Kernel21.nD) Cert.Kernel21.main_v2 = fun _ => 0#32
    unfold Cert.Kernel21.Gen.V Cert.Kernel21.Gen.V0
    simp only [List.flatten_cons, List.flatten_nil, List.append_nil]
    after_results
    rfl
  show Cert.Kernel21.ok0 (F := Bits) (Cert.Kernel21.Gen.tbl m)
  rw [e]
  exact ok_zerosBits

/-! ## The sum -/

theorem pay1_apply (a b : Vec Ideal S1x256x4096 .bf16) (r : Fin 256) (k : Fin 4096) :
    k0_pay1 a b (ix3 0 r k) = a (ix3 0 r k) + b (ix3 0 r k) := by
  pointwise [k0_pay1]

/-- The halves of every pair, and what is added to the first. -/
def A : S8x2048x4096.Idx → EReal := m ((c.tc : Thread nD τ).loc main_arg0)
def B : S4x2048x4096.Idx → EReal := m ((c.tc : Thread nD τ).loc main_arg1)

def sum (a : S8x2048x4096.Idx → EReal) (b : S4x2048x4096.Idx → EReal) (i : S4x2048x4096.Idx) : EReal :=
  a (ix3 ⟨2 * (i 0).val, by have : (i 0).val < 4 := (i 0).isLt; omega⟩ (i 1) (i 2)) + b i

theorem sum_at (a : S8x2048x4096.Idx → EReal) (b : S4x2048x4096.Idx → EReal) (p : Fin 4) (r : Fin 2048) (k : Fin 4096) :
    sum a b (ix3 p r k) = a (ix3 ⟨2 * p.val, by have := p.isLt; omega⟩ r k) + b (ix3 p r k) := rfl

theorem V_A (i : S8x2048x4096.Idx) : V m c main_v0 i = A m c i := by
  unfold V V0; simp only [List.flatten_cons, List.flatten_nil, List.append_nil]; after_results; pointwise; rfl
theorem V_B (i : S4x2048x4096.Idx) : V m c main_v1 i = B m c i := by
  unfold V V0; simp only [List.flatten_cons, List.flatten_nil, List.append_nil]; after_results; pointwise; rfl

theorem idx0 : ∀ t : Fin grid0.N, cc0_transform_0 (F := Ideal) inb_S1_S1_0 numel1_S1 zeros (grid0.coords t) = ![2 * (t.val / 8), t.val % 8, 0]
    ∧ cc0_transform_1 (grid0.coords t) = ![t.val / 8, t.val % 8, 0] ∧ cc0_transform_2 (grid0.coords t) = ![t.val / 8, t.val % 8, 0] := by
  decide +kernel

variable (hO : Ok m)

theorem index0 (t : Fin (cfgM m hO).N) : ((cfgM m hO).win 0).index t = ![2 * (t.val / 8), t.val % 8, 0] := by
  show cc0_transform_0 (F := Ideal) inb_S1_S1_0 numel1_S1 (tbl m) (grid0.coords t) = _
  rw [tbl_eq]
  exact (idx0 t).1
theorem index1 (t : Fin (cfgM m hO).N) : ((cfgM m hO).win 1).index t = ![t.val / 8, t.val % 8, 0] := (idx0 t).2.1
theorem index2 (t : Fin (cfgM m hO).N) : ((cfgM m hO).win 2).index t = ![t.val / 8, t.val % 8, 0] := (idx0 t).2.2

theorem point_lt (t : Fin (cfgM m hO).N) : t.val < 32 := lt_of_lt_of_eq t.isLt (show (cfgM m hO).N = 32 from N_0)

/-- The blocks at a point. -/
def blk0 (t : Fin (cfgM m hO).N) : Vec Ideal S1x256x4096 .bf16 := iblk m hO c 0 t
def blk1 (t : Fin (cfgM m hO).N) : Vec Ideal S1x256x4096 .bf16 := iblk m hO c 1 t
/-- Where the result's block puts an index of it. -/
def place (t : Fin (cfgM m hO).N) (y : S1x256x4096.Idx) : S4x2048x4096.Idx := (((cfgM m hO).win 2).blk t).view.emb y

/-- The pair and the row of the array that tile `t` and its row are. -/
abbrev pair (t : Fin (cfgM m hO).N) : Fin 4 := ⟨t.val / 8, by have := point_lt m hO t; omega⟩
abbrev row (t : Fin (cfgM m hO).N) (r : Fin 256) : Fin 2048 := ⟨t.val % 8 * 256 + r.val, by omega⟩

theorem blk_A (t : Fin (cfgM m hO).N) (r : Fin 256) (k : Fin 4096) :
    blk0 m c hO t (ix3 0 r k) = A m c (ix3 ⟨2 * (pair m hO t).val, by have := (pair m hO t).isLt; omega⟩ (row m hO t r) k) := by
  rw [← V_A]; unfold blk0 iblk; blk_point [ index0 m hO t]
theorem blk_B (t : Fin (cfgM m hO).N) (r : Fin 256) (k : Fin 4096) : blk1 m c hO t (ix3 0 r k) = B m c (ix3 (pair m hO t) (row m hO t r) k) := by
  rw [← V_B]; unfold blk1 iblk; blk_point [ index1 m hO t]
theorem emb_out (t : Fin (cfgM m hO).N) (r : Fin 256) (k : Fin 4096) :
    place m hO t (ix3 0 r k) = ix3 (pair m hO t) (row m hO t r) k := by
  unfold place; blk_ext [index2 m hO t]

theorem covers : ((cfgM m hO).win 2).Covers :=
  (by decide +kernel : ((cfg0 (F := Ideal) ⟨zeros, ok_zeros⟩).win 2).Covers)

theorem leaves (t : Fin (cfgM m hO).N) : outsAt0 m hO c t = k0_pay1 (blk0 m c hO t) (blk1 m c hO t) := by
  unfold outsAt0
  frame_out
  exact congrArg₂ k0_pay1 ((hs0_0 m hO t).read_unread _) ((hs0_1 m hO t).read_unread _)

theorem point (t : Fin (cfgM m hO).N) (y : S1x256x4096.Idx) :
    k0_pay1 (blk0 m c hO t) (blk1 m c hO t) y = sum (A m c) (B m c) (place m hO t y) := by
  obtain ⟨r, k, rfl⟩ : ∃ (r : Fin 256) (k : Fin 4096), y = ix3 0 r k := ⟨y 1, y 2, by idx_vars y; obtain rfl : y0 = 0 := Subsingleton.elim _ _; rfl⟩
  rw [pay1_apply, emb_out, blk_A, blk_B, sum_at]

theorem arr_out : (dats m hO 0 c).arrAt 2 (cfgM m hO).N = sum (A m c) (B m c) := by
  refine (dats m hO 0 c).arrAt_eq_of_covers 2 _ ?_ ?_ ?_
  · exact covers m hO
  · intro t hf y
    have e : (dats m hO 0 c).after 2 t = k0_pay1 (blk0 m c hO t) (blk1 m c hO t) := (after0_2 m hO c t).trans (leaves m c hO t)
    rw [e]
    exact point m c hO t y
  · exact Memref.isWhole_whole main_v3

theorem tail_out (hO : Ok m) : Pipeline.afterTail pcfgs (fun _ => adm m hO) (dats m hO) 0 (V0 m) [hostOps1] c main_v4 =
    extf (F := Ideal) .f32 ((dats m hO 0 c).arrAt 2 (cfgM m hO).N) bitsLt_bf16_f32 := by
  unfold Pipeline.afterTail
  simp only [List.flatten_cons, List.flatten_nil, List.append_nil]
  after_results
  exact congrArg (fun x => extf (F := Ideal) .f32 x bitsLt_bf16_f32) (Pipeline.withArrays_arr spec0 (launch0 (F := Ideal)).win.arr_inj c _ _ 2)

theorem kernel_run (hO : Ok m) (ρ : Dev nD → PrngReg) :
    θ_run defs (onTc (τ := τ) (main (F := Ideal))) ⟨m, fun _ => 0, ρ⟩ (fun r => ∀ c : Dev nD,
      r.2.mem ((c.tc : Thread nD τ).loc main_v4) = sum (A m c) (B m c)) :=
  (θ_run defs _ _).mono (fun _ h c =>
    (h.rest_eq c main_v4 (Pipeline.mem_restRefs_of main_v4 (by decide) (by exact (by decide : ∀ w, (spec0 w).arr.view.ref ≠ main_v4)))).trans ((tail_out m c hO).trans (by rw [arr_out]; rfl))) (run_main m ρ hO)

section Reference

open Cert.Reference21Ideal.Read

theorem ref_sum (a : S8x2048x4096.Idx → EReal) (b : S4x2048x4096.Idx → EReal) : val_main_v1 (F := Ideal) a b = sum a b := by
  funext i
  pointwise [val_main_v1, val_main_v0]
  blk_point [sum]

end Reference

/-! ## The claims -/

theorem frame_ref : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

theorem algebraic : Cert.algebraic_Kernel21Ideal_Reference21Ideal := by
  intro m ρ m' ρ' _ hagree
  refine ⟨_, (θ_run defs _ _).mono (fun r h c => ⟨h.1 c, h.2 c⟩) (θ_run_and (kernel_run m (ok m) ρ) (unchanged m ρ (ok m))), ?_⟩
  refine (θ_run Cert.Reference21Ideal.defs _ _).mono (fun _ h c => ?_) (Cert.Reference21Ideal.Value.run (F := Ideal) m' ρ')
  obtain ⟨h0, hargs⟩ := h c
  obtain ⟨a0, a1⟩ := hagree c
  replace h0 := h0.trans (Cert.Reference21Ideal.Read.val_main_v1_eq _ _)
  rw [a0, a1] at h0
  exact ⟨h0.trans (ref_sum (A m c) (B m c)), hargs⟩

end Cert.PairAdd
end
-- ==== Proof.Ff2Dw.lean ====
/- The cotangent of the channel mixer's second weight: the squared positive part, transposed, times the cotangent of the mixer's result. -/
module

public import proofs.«01_k».proof.Defs
public import proofs.«01_k».proof.Proof.Gen.Kernel20Ideal.Frame
public import proofs.«01_k».proof.Proof.Gen.Reference20Ideal.Read
public import proofs.«01_k».proof.Proof.Gen.Reference20Ideal.Run
public import Idealize.ShloMosaic.Lib.Pipeline.ValueKit
public import Idealize.ShloMosaic.PureOps.Ideal.Laws

@[expose] public section

set_option maxRecDepth 16384

noncomputable section

namespace Cert.Ff2Dw

open Idealize.ShloMosaic Idealize.ShloMosaic.TcCoe Idealize.SL.Sem Cert.Kernel20Ideal Cert.Kernel20Ideal.Gen

/-- The square of the positive part. -/
def sq (a : EReal) : EReal := max a 0 * max a 0

theorem pay1_apply (f d : Vec Ideal S4096x1024 .bf16) (r k : Fin 1024) : k0_pay1 f d (ix2 r k) = ∑ x : Fin 4096, f (ix2 x r) * d (ix2 x k) := by
  pointwise [k0_pay1]

variable (m : (ℓ : Loc nD τ sig) → Buf (Elt Ideal) ℓ) (c : Dev nD)

/-- The rows, the first weight, and the cotangent of the mixer's result. -/
def H : S4096x4096.Idx → EReal := m ((c.tc : Thread nD τ).loc main_arg0)
def W1 : S4096x16384.Idx → EReal := m ((c.tc : Thread nD τ).loc main_arg1)
def D : S4096x4096.Idx → EReal := m ((c.tc : Thread nD τ).loc main_arg3)

/-- The activation, and the second weight's cotangent. -/
def act (h : S4096x4096.Idx → EReal) (w : S4096x16384.Idx → EReal) (r : Fin 4096) (k : Fin 16384) : EReal :=
  sq (∑ x : Fin 4096, h (ix2 r x) * w (ix2 x k))
def dw (h : S4096x4096.Idx → EReal) (w : S4096x16384.Idx → EReal) (d : S4096x4096.Idx → EReal) (i : S16384x4096.Idx) : EReal :=
  ∑ r : Fin 4096, act h w r (i 0) * d (ix2 r (i 1))

theorem V_F (r : Fin 4096) (k : Fin 16384) : V m c main_v3 (ix2 r k) = act (H m c) (W1 m c) r k := by
  unfold V V0
  simp only [hostOps0, hostOps0_1, hostOps0_2, List.flatten_cons, List.flatten_nil, List.append_nil, List.cons_append, List.nil_append]
  after_results
  simp only [StableHlo.TRef.ofBuf_toBuf]
  exact (by pointwise; rfl : maximumf (Host.dotGeneral (F := Ideal) (φ₁ := .f32) (φ₂ := .f32) dot_S4096x4096_S4096x16384_S4096x16384_1_0_0_1_n_n none (H m c) (W1 m c)) (broadcastInDim S4096x16384 ![] bcast_S_S4096x16384 (constant (F := Ideal) S_ .f32 0#32)) (ix2 r k) * maximumf (Host.dotGeneral (F := Ideal) (φ₁ := .f32) (φ₂ := .f32) dot_S4096x4096_S4096x16384_S4096x16384_1_0_0_1_n_n none (H m c) (W1 m c)) (broadcastInDim S4096x16384 ![] bcast_S_S4096x16384 (constant (F := Ideal) S_ .f32 0#32)) (ix2 r k) = act (H m c) (W1 m c) r k)
theorem V_D (i : S4096x4096.Idx) : V m c main_v4 i = D m c i := by
  unfold V V0
  simp only [hostOps0, hostOps0_1, hostOps0_2, List.flatten_cons, List.flatten_nil, List.append_nil, List.cons_append, List.nil_append]
  after_results; pointwise; rfl

theorem idx0 : ∀ t : Fin cfg0.N, win0_0.index t = ![0, t.val / 4] ∧ win0_1.index t = ![0, t.val % 4] ∧ win0_2.index t = ![t.val / 4, t.val % 4] :=
  (by decide +kernel : ∀ t : Fin grid0.N, _)

theorem point_lt (t : Fin cfg0.N) : t.val < 64 := lt_of_lt_of_eq t.isLt (show cfg0.N = 64 from N_0)

/-- The row and the column of the array that a row and a column of tile `t` are. -/
abbrev row (t : Fin cfg0.N) (r : Fin 1024) : Fin 16384 := ⟨t.val / 4 * 1024 + r.val, by have := point_lt t; omega⟩
abbrev col (t : Fin cfg0.N) (k : Fin 1024) : Fin 4096 := ⟨t.val % 4 * 1024 + k.val, by omega⟩

theorem blk_F (t : Fin cfg0.N) (x : Fin 4096) (r : Fin 1024) : iblk m c 0 t (ix2 x r) = act (H m c) (W1 m c) x (row t r) := by
  rw [← V_F]; blk_point [iblk, (idx0 t).1]
theorem blk_D (t : Fin cfg0.N) (x : Fin 4096) (k : Fin 1024) : iblk m c 1 t (ix2 x k) = D m c (ix2 x (col t k)) := by
  rw [← V_D]; blk_point [iblk, (idx0 t).2.1]
theorem emb_out (t : Fin cfg0.N) (r k : Fin 1024) : (win0_2.blk t).view.emb (ix2 r k) = ix2 (row t r) (col t k) := by
  blk_ext [(idx0 t).2.2]

theorem arr_out : (dats m 0 c).arrAt 2 cfg0.N = dw (H m c) (W1 m c) (D m c) := by
  refine (dats m 0 c).arrAt_eq_of_covers 2 _ (by decide +kernel) fun t hf y => ?_
  obtain ⟨r, k, rfl⟩ : ∃ r k : Fin 1024, y = ix2 r k := ⟨y 0, y 1, by idx_vars y⟩
  have point : k0_pay1 (iblk m c 0 t) (iblk m c 1 t) (ix2 r k) = dw (H m c) (W1 m c) (D m c) ((win0_2.blk t).view.emb (ix2 r k)) := by
    rw [pay1_apply, emb_out]
    simp only [blk_F, blk_D]
    rfl
  blk_simp
  rw [after0_2]
  frame_out
  exact point

theorem tail_out : Pipeline.afterTail₀ cfgs (dats m) 0 (V0 m) [hostOps1] c main_v6 = extf (F := Ideal) .f32 ((dats m 0 c).arrAt 2 cfg0.N) bitsLt_bf16_f32 := by
  unfold Pipeline.afterTail₀
  simp only [List.flatten_cons, List.flatten_nil, List.append_nil]
  after_results
  exact congrArg (fun x => extf (F := Ideal) .f32 x bitsLt_bf16_f32) (Pipeline.withArrays_arr spec0 launch0.win.arr_inj c _ _ 2)

theorem kernel_run (ρ : Dev nD → PrngReg) :
    θ_run defs (onTc (τ := τ) (main (F := Ideal))) ⟨m, fun _ => 0, ρ⟩ (fun r => ∀ c : Dev nD,
      r.2.mem ((c.tc : Thread nD τ).loc main_v6) = dw (H m c) (W1 m c) (D m c)) :=
  (θ_run defs _ _).mono (fun _ h c =>
    (h.rest_eq c main_v6 (Pipeline.mem_restRefs_of main_v6 (by decide) (by decide))).trans ((tail_out m c).trans (by rw [arr_out]; rfl))) (run_main m ρ)

section Reference

open Cert.Reference20Ideal.Read

variable (h : S4096x4096.Idx → EReal) (w : S4096x16384.Idx → EReal) (d : S4096x4096.Idx → EReal)

theorem ref_act (i : S4096x16384.Idx) : val_main_v2 (F := Ideal) h w i = act h w (i 0) (i 1) := by
  pointwise [val_main_v2, val_main_v1, val_main_call0_v0, val_main_call0_cst, val_main_v0]
  rfl
theorem ref_dw : val_main_v5 (F := Ideal) h w d = dw h w d := by
  funext i
  pointwise [val_main_v5, val_main_v4]
  simp only [ref_act]
  exact Fin.sum_fin_congr fun r => mul_comm _ _

end Reference

/-! ## The claims -/

theorem frame_ref : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

theorem algebraic : Cert.algebraic_Kernel20Ideal_Reference20Ideal := by
  intro m ρ m' ρ' _ hagree
  refine ⟨_, (θ_run defs _ _).mono (fun r h c => ⟨h.1 c, h.2 c⟩) (θ_run_and (kernel_run m ρ) (unchanged m ρ)), ?_⟩
  refine (θ_run Cert.Reference20Ideal.defs _ _).mono (fun _ h c => ?_) (Cert.Reference20Ideal.Value.run (F := Ideal) m' ρ')
  obtain ⟨h0, hargs⟩ := h c
  obtain ⟨a0, a1, -, a3⟩ := hagree c
  replace h0 := h0.trans (Cert.Reference20Ideal.Read.val_main_v5_eq _ _ _)
  rw [a0, a1, a3] at h0
  exact ⟨h0.trans (ref_dw (H m c) (W1 m c) (D m c)), hargs⟩

end Cert.Ff2Dw
end
-- ==== Proof.Ff2Fwd.lean ====
/- The channel mixer's second product: four steps along the rows of the weight into an accumulator, then the residual, the gate times the product added to the stream. -/
module

public import proofs.«01_k».proof.Defs
public import proofs.«01_k».proof.Proof.Gen.Kernel19Ideal.Frame
public import proofs.«01_k».proof.Proof.Gen.Reference19Ideal.Read
public import proofs.«01_k».proof.Proof.Gen.Reference19Ideal.Run
public import Idealize.ShloMosaic.Lib.Pipeline.ReadBack
public import Idealize.ShloMosaic.Lib.Pipeline.ValueKit
public import Idealize.ShloMosaic.PureOps.Ideal.Laws

@[expose] public section

set_option maxRecDepth 16384

noncomputable section

namespace Cert.Ff2Fwd

open Idealize.ShloMosaic Idealize.ShloMosaic.TcCoe Idealize.SL.Sem Cert.Kernel19Ideal Cert.Kernel19Ideal.Gen

theorem pay1_apply (f : Vec Ideal S1024x4096 .bf16) (w : Vec Ideal S4096x512 .bf16) (r : Fin 1024) (k : Fin 512) :
    k0_pay1 f w (ix2 r k) = ∑ x : Fin 4096, f (ix2 r x) * w (ix2 x k) := by
  pointwise [k0_pay1]
theorem pay2_apply (a : Vec Ideal S1024x512 .f32) (f : Vec Ideal S1024x4096 .bf16) (w : Vec Ideal S4096x512 .bf16) (r : Fin 1024) (k : Fin 512) :
    k0_pay2 a f w (ix2 r k) = a (ix2 r k) + ∑ x : Fin 4096, f (ix2 r x) * w (ix2 x k) := by
  pointwise [k0_pay2]
theorem pay3_apply (a x : Vec Ideal S1024x512 .f32) (g : Vec Ideal S1x512 .f32) (r : Fin 1024) (k : Fin 512) :
    k0_pay3 a x g (ix2 r k) = x (ix2 r k) + g (ix2 0 k) * a (ix2 r k) := by
  pointwise [k0_pay3]
theorem pay4_apply (a : Vec Ideal S1024x512 .f32) (j : S1024x512.Idx) : k0_pay4 a j = a j := by
  pointwise [k0_pay4]

variable (m : (ℓ : Loc nD τ sig) → Buf (Elt Ideal) ℓ) (c : Dev nD)

/-- The stream, the activation, the weight, the gate. -/
def X : S4096x4096.Idx → EReal := m ((c.tc : Thread nD τ).loc main_arg0)
def H : S4096x16384.Idx → EReal := m ((c.tc : Thread nD τ).loc main_arg1)
def W : S16384x4096.Idx → EReal := m ((c.tc : Thread nD τ).loc main_arg2)
def G : S1x4096.Idx → EReal := m ((c.tc : Thread nD τ).loc main_arg3)

/-- The product, and the stream after it. -/
def prod (h : S4096x16384.Idx → EReal) (w : S16384x4096.Idx → EReal) (i : S4096x4096.Idx) : EReal := ∑ x : Fin 16384, h (ix2 (i 0) x) * w (ix2 x (i 1))
def out (x : S4096x4096.Idx → EReal) (h : S4096x16384.Idx → EReal) (w : S16384x4096.Idx → EReal) (g : S1x4096.Idx → EReal) (i : S4096x4096.Idx) : EReal :=
  x i + g (ix2 0 (i 1)) * prod h w i

theorem V_X : V m c main_arg0 = X m c := V_main_arg0 m c
theorem V_G : V m c main_arg3 = G m c := V_main_arg3 m c
theorem V_H (i : S4096x16384.Idx) : V m c main_v0 i = H m c i := by
  unfold V V0; simp only [List.flatten_cons, List.flatten_nil, List.append_nil]; after_results; pointwise; rfl
theorem V_W (i : S16384x4096.Idx) : V m c main_v1 i = W m c i := by
  unfold V V0; simp only [List.flatten_cons, List.flatten_nil, List.append_nil]; after_results; pointwise; rfl

theorem idx0 : ∀ t : Fin cfg0.N, win0_0.index t = ![t.val / 32, t.val % 4] ∧ win0_1.index t = ![t.val % 4, t.val / 4 % 8]
    ∧ win0_2.index t = ![t.val / 32, t.val / 4 % 8] ∧ win0_3.index t = ![0, t.val / 4 % 8]
    ∧ win0_4.index t = ![t.val / 32, t.val / 4 % 8] ∧ win0_5.index t = ![t.val / 32, t.val / 4 % 8] :=
  (by decide +kernel : ∀ t : Fin grid0.N, _)

theorem point_lt (t : Fin cfg0.N) : t.val < 128 := lt_of_lt_of_eq t.isLt (show cfg0.N = 128 from N_0)

theorem step_lt (t : Fin cfg0.N) (s : Fin 4) : 4 * (t.val / 4) + s.val < cfg0.N :=
  lt_of_lt_of_eq (by have := point_lt t; have := s.isLt; omega) (show 128 = cfg0.N from N_0.symm)

/-- The row and the column of the array that a row and a column of tile `t` are, and the place along the product of step `t`'s place `x`. -/
abbrev row (t : Fin cfg0.N) (r : Fin 1024) : Fin 4096 := ⟨t.val / 32 * 1024 + r.val, by have := point_lt t; omega⟩
abbrev col (t : Fin cfg0.N) (k : Fin 512) : Fin 4096 := ⟨t.val / 4 % 8 * 512 + k.val, by omega⟩
abbrev mid (t : Fin cfg0.N) (x : Fin 4096) : Fin 16384 := ⟨t.val % 4 * 4096 + x.val, by omega⟩

theorem blk_H (t : Fin cfg0.N) (r : Fin 1024) (x : Fin 4096) : iblk m c 0 t (ix2 r x) = H m c (ix2 (row t r) (mid t x)) := by
  rw [← V_H]; blk_point [iblk, (idx0 t).1]
theorem blk_W (t : Fin cfg0.N) (x : Fin 4096) (k : Fin 512) : iblk m c 1 t (ix2 x k) = W m c (ix2 (mid t x) (col t k)) := by
  rw [← V_W]; blk_point [iblk, (idx0 t).2.1]
theorem blk_X (t : Fin cfg0.N) (r : Fin 1024) (k : Fin 512) : iblk m c 2 t (ix2 r k) = X m c (ix2 (row t r) (col t k)) := by
  rw [← V_X]; blk_point [iblk, (idx0 t).2.2.1]
theorem blk_G (t : Fin cfg0.N) (k : Fin 512) : iblk m c 3 t (ix2 0 k) = G m c (ix2 0 (col t k)) := by
  rw [← V_G]; blk_point [iblk, (idx0 t).2.2.2.1]
theorem emb_out (t : Fin cfg0.N) (r : Fin 1024) (k : Fin 512) : (win0_4.blk t).view.emb (ix2 r k) = ix2 (row t r) (col t k) := by
  blk_ext [(idx0 t).2.2.2.2.1]
theorem emb_prod (t : Fin cfg0.N) (r : Fin 1024) (k : Fin 512) : (win0_5.blk t).view.emb (ix2 r k) = ix2 (row t r) (col t k) := by
  blk_ext [(idx0 t).2.2.2.2.2]

/-- One step's part of the product. -/
def part (t : Fin cfg0.N) (j : S1024x512.Idx) : EReal := ∑ x : Fin 4096, H m c (ix2 (row t (j 0)) (mid t x)) * W m c (ix2 (mid t x) (col t (j 1)))

/-- What a step adds to the accumulator. -/
theorem pay2_blk (a : Vec Ideal S1024x512 .f32) (t : Fin cfg0.N) (j : S1024x512.Idx) : k0_pay2 a (iblk m c 0 t) (iblk m c 1 t) j = a j + part m c t j := by
  obtain ⟨r, k, rfl⟩ : ∃ (r : Fin 1024) (k : Fin 512), j = ix2 r k := ⟨j 0, j 1, by idx_vars j⟩
  rw [pay2_apply]
  simp only [blk_H, blk_W]
  rfl

/-- The accumulator after the last of four steps holds the whole product. -/
theorem acc (t : Fin cfg0.N) (h : t.val % 4 = 3) (r : Fin 1024) (k : Fin 512) :
    (outsAt0 m c t.val t.isLt).2.2 (ix2 r k) = prod (H m c) (W m c) (ix2 (row t r) (col t k)) := by
  have run := Pipeline.eq_sum_fin_of_reset_step_apply_of_flush (fun n h => (outsAt0 m c n h).2.2) 4 (fun _ => 0) (fun t j => part m c t j)
    (fun t h j => by
      rw [outsAt0_A m c t h (by omega) (by omega)]
      frame_out
      obtain ⟨r, k, rfl⟩ : ∃ (r : Fin 1024) (k : Fin 512), j = ix2 r k := ⟨j 0, j 1, by idx_vars j⟩
      rw [pay1_apply, zero_add]
      simp only [blk_H, blk_W]
      rfl)
    (fun t h j => by
      by_cases h3 : t.val % 4 = 3
      · rw [outsAt0_C m c t h (by omega) h3]
        frame_out
        rw [read_unread_whole, pay2_blk]
      · rw [outsAt0_B m c t h (by omega) h3]
        frame_out
        rw [read_unread_whole, pay2_blk])
    t h (ix2 r k)
  refine run.trans ((zero_add _).trans (Fin.sum_mul_add_congr (S := 4) (n := 4096)
    (F := fun s x => H m c (ix2 (row ⟨4 * (t.val / 4) + s.val, step_lt t s⟩ r) (mid _ x)) * W m c (ix2 (mid _ x) (col _ k)))
    (f := fun x => H m c (ix2 (row t r) x) * W m c (ix2 x (col t k))) fun s x hl => ?_))
  have bound := point_lt t
  have hs := s.isLt
  have e1 : row ⟨4 * (t.val / 4) + s.val, step_lt t s⟩ r = row t r := Fin.ext (by simp only; omega)
  have e2 : mid ⟨4 * (t.val / 4) + s.val, step_lt t s⟩ x = ⟨s.val * 4096 + x.val, hl⟩ := Fin.ext (by simp only; omega)
  have e3 : col ⟨4 * (t.val / 4) + s.val, step_lt t s⟩ k = col t k := Fin.ext (by simp only; omega)
  rw [e1, e2, e3]

/-- The last step's accumulator, as the two results read it. -/
theorem last (t : Fin cfg0.N) (h : t.val % 4 = 3) (r : Fin 1024) (k : Fin 512) :
    k0_pay2 (outsAt0 m c (t.val - 1) (Nat.lt_of_le_of_lt (Nat.sub_le _ _) t.isLt)).2.2 (iblk m c 0 t) (iblk m c 1 t) (ix2 r k) =
      prod (H m c) (W m c) (ix2 (row t r) (col t k)) := by
  rw [← acc m c t h, outsAt0_C m c t (by omega) (by omega) h]
  frame_out
  rw [read_unread_whole]

theorem arr_out : (dats m 0 c).arrAt 4 cfg0.N = out (X m c) (H m c) (W m c) (G m c) := by
  refine (dats m 0 c).arrAt_eq_of_covers 4 _ (by decide +kernel) fun t hf y => ?_
  obtain ⟨r, k, rfl⟩ : ∃ (r : Fin 1024) (k : Fin 512), y = ix2 r k := ⟨y 0, y 1, by idx_vars y⟩
  have h3 : t.val % 4 = 3 := (flush0_4 t).mp hf
  have point : k0_pay3 (k0_pay2 (outsAt0 m c (t.val - 1) (Nat.lt_of_le_of_lt (Nat.sub_le _ _) t.isLt)).2.2 (iblk m c 0 t) (iblk m c 1 t)) (iblk m c 2 t) (iblk m c 3 t) (ix2 r k) =
      out (X m c) (H m c) (W m c) (G m c) ((win0_4.blk t).view.emb (ix2 r k)) := by
    rw [pay3_apply, last m c t h3, emb_out, blk_X, blk_G]
    rfl
  blk_simp
  rw [after0_4, outsAt0_C m c t (by omega) (by omega) h3]
  frame_out
  rw [read_unread_whole]
  exact point

theorem arr_prod : (dats m 0 c).arrAt 5 cfg0.N = prod (H m c) (W m c) := by
  refine (dats m 0 c).arrAt_eq_of_covers 5 _ (by decide +kernel) fun t hf y => ?_
  obtain ⟨r, k, rfl⟩ : ∃ (r : Fin 1024) (k : Fin 512), y = ix2 r k := ⟨y 0, y 1, by idx_vars y⟩
  have h3 : t.val % 4 = 3 := (flush0_5 t).mp hf
  have point : k0_pay4 (k0_pay2 (outsAt0 m c (t.val - 1) (Nat.lt_of_le_of_lt (Nat.sub_le _ _) t.isLt)).2.2 (iblk m c 0 t) (iblk m c 1 t)) (ix2 r k) =
      prod (H m c) (W m c) ((win0_5.blk t).view.emb (ix2 r k)) := by
    rw [pay4_apply, last m c t h3, emb_prod]
  blk_simp
  rw [after0_5, outsAt0_C m c t (by omega) (by omega) h3]
  frame_out
  rw [read_unread_whole]
  exact point

theorem tail_prod : Pipeline.afterTail₀ cfgs (dats m) 0 (V0 m) [hostOps1] c main_v3 = extf (F := Ideal) .f32 ((dats m 0 c).arrAt 5 cfg0.N) bitsLt_bf16_f32 := by
  unfold Pipeline.afterTail₀
  simp only [List.flatten_cons, List.flatten_nil, List.append_nil]
  after_results
  exact congrArg (fun x => extf (F := Ideal) .f32 x bitsLt_bf16_f32) (Pipeline.withArrays_arr spec0 launch0.win.arr_inj c _ _ 5)

theorem kernel_run (ρ : Dev nD → PrngReg) :
    θ_run defs (onTc (τ := τ) (main (F := Ideal))) ⟨m, fun _ => 0, ρ⟩ (fun r => ∀ c : Dev nD,
      r.2.mem ((c.tc : Thread nD τ).loc main_v2_0) = out (X m c) (H m c) (W m c) (G m c)
      ∧ r.2.mem ((c.tc : Thread nD τ).loc main_v3) = prod (H m c) (W m c)) :=
  (θ_run defs _ _).mono (fun _ h c => ⟨(h.out_eq c 4).trans (arr_out m c),
    (h.rest_eq c main_v3 (Pipeline.mem_restRefs_of main_v3 (by decide) (by decide))).trans ((tail_prod m c).trans (by rw [arr_prod]; funext i; pointwise))⟩) (run_main m ρ)

section Reference

open Cert.Reference19Ideal.Read

variable (x : S4096x4096.Idx → EReal) (h : S4096x16384.Idx → EReal) (w : S16384x4096.Idx → EReal) (g : S1x4096.Idx → EReal)

theorem ref_prod : val_main_v0 (F := Ideal) h w = prod h w := by
  funext i
  pointwise [val_main_v0]
  rfl
theorem ref_out : val_main_v3 (F := Ideal) x h w g = out x h w g := by
  funext i
  pointwise [val_main_v3, val_main_v2, val_main_v1]
  rw [ref_prod]
  rfl

end Reference

/-! ## The claims -/

theorem frame_ref : Cert.quiescent_Reference19Ideal := fun m ρ _ =>
  (θ_run Cert.Reference19Ideal.defs _ _).mono (fun r h => ⟨fun c => (h c).2.2, sem_eq_zero_of_no_sems (by decide) r.2⟩)
    (Cert.Reference19Ideal.Value.run (F := Ideal) m ρ)

theorem algebraic : Cert.algebraic_Kernel19Ideal_Reference19Ideal := by
  intro m ρ m' ρ' _ hagree
  refine ⟨_, _, (θ_run defs _ _).mono (fun r h c => ⟨(h.1 c).1, (h.1 c).2, h.2 c⟩) (θ_run_and (kernel_run m ρ) (unchanged m ρ)), ?_⟩
  refine (θ_run Cert.Reference19Ideal.defs _ _).mono (fun _ h c => ?_) (Cert.Reference19Ideal.Value.run (F := Ideal) m' ρ')
  obtain ⟨h0, h1, hargs⟩ := h c
  obtain ⟨a0, a1, a2, a3⟩ := hagree c
  replace h0 := h0.trans (Cert.Reference19Ideal.Read.val_main_v3_eq _ _ _ _)
  replace h1 := h1.trans (Cert.Reference19Ideal.Read.val_main_v0_eq _ _)
  rw [a0, a1, a2, a3] at h0
  rw [a1, a2] at h1
  exact ⟨h0.trans (ref_out (X m c) (H m c) (W m c) (G m c)), h1.trans (ref_prod (H m c) (W m c)), hargs⟩

end Cert.Ff2Fwd
end
-- ==== Proof.AdaMod.lean ====
/- The modulation: silu of the conditioning rows times the weights, the bias added; three tiles of columns. -/
module

public import proofs.«01_k».proof.Defs
public import proofs.«01_k».proof.Proof.Gen.Kernel18Ideal.Frame
public import proofs.«01_k».proof.Proof.Gen.Reference18Ideal.Read
public import proofs.«01_k».proof.Proof.Gen.Reference18Ideal.Run
public import Idealize.ShloMosaic.Lib.Pipeline.ValueKit
public import Idealize.ShloMosaic.PureOps.Ideal.Laws

@[expose] public section

set_option maxRecDepth 16384

noncomputable section

namespace Cert.AdaMod

open Idealize.ShloMosaic Idealize.ShloMosaic.TcCoe Idealize.SL.Sem Cert.Kernel18Ideal Cert.Kernel18Ideal.Gen

/-- The silu, with the logistic function as the kernel divides it out. -/
def silu (t : EReal) : EReal := t * Ideal.div 1 (1 + Ideal.exp (-t))

theorem pay1_apply (s : Vec Ideal S8x4096 .f32) (w : Vec Ideal S4096x1024 .f32) (b : Vec Ideal S1x1024 .f32) (r : Fin 8) (k : Fin 1024) :
    k0_pay1 s w b (ix2 r k) = ∑ x : Fin 4096, silu (s (ix2 r x)) * w (ix2 x k) + b (ix2 0 k) := by
  pointwise [k0_pay1]
  simp only [zero_sub]
  rfl

variable (m : (ℓ : Loc nD τ sig) → Buf (Elt Ideal) ℓ) (c : Dev nD)

/-- The conditioning rows, the weights, the bias. -/
def S : S8x4096.Idx → EReal := m ((c.tc : Thread nD τ).loc main_arg0)
def W : S4096x3072.Idx → EReal := m ((c.tc : Thread nD τ).loc main_arg1)
def B : S1x3072.Idx → EReal := m ((c.tc : Thread nD τ).loc main_arg2)

/-- The modulation. -/
def mod (s : S8x4096.Idx → EReal) (w : S4096x3072.Idx → EReal) (b : S1x3072.Idx → EReal) (i : S8x3072.Idx) : EReal :=
  ∑ x : Fin 4096, silu (s (ix2 (i 0) x)) * w (ix2 x (i 1)) + b (ix2 0 (i 1))

theorem V_S : V m c main_arg0 = S m c := V_main_arg0 m c
theorem V_W : V m c main_arg1 = W m c := V_main_arg1 m c
theorem V_B : V m c main_arg2 = B m c := V_main_arg2 m c

theorem idx0 : ∀ t : Fin cfg0.N, win0_0.index t = ![0, 0] ∧ win0_1.index t = ![0, t.val] ∧ win0_2.index t = ![0, t.val] ∧ win0_3.index t = ![0, t.val] :=
  (by decide +kernel : ∀ t : Fin grid0.N, _)

theorem point_lt (t : Fin cfg0.N) : t.val < 3 := lt_of_lt_of_eq t.isLt (show cfg0.N = 3 from N_0)

/-- The column of the array that a column of tile `t` is. -/
abbrev col (t : Fin cfg0.N) (k : Fin 1024) : Fin 3072 := ⟨t.val * 1024 + k.val, by have := point_lt t; omega⟩

theorem blk_S (t : Fin cfg0.N) (r : Fin 8) (x : Fin 4096) : iblk m c 0 t (ix2 r x) = S m c (ix2 r x) := by
  rw [← V_S]; blk_point [iblk, (idx0 t).1]
theorem blk_W (t : Fin cfg0.N) (x : Fin 4096) (k : Fin 1024) : iblk m c 1 t (ix2 x k) = W m c (ix2 x (col t k)) := by
  rw [← V_W]; blk_point [iblk, (idx0 t).2.1]
theorem blk_B (t : Fin cfg0.N) (k : Fin 1024) : iblk m c 2 t (ix2 0 k) = B m c (ix2 0 (col t k)) := by
  rw [← V_B]; blk_point [iblk, (idx0 t).2.2.1]
theorem emb_out (t : Fin cfg0.N) (r : Fin 8) (k : Fin 1024) : (win0_3.blk t).view.emb (ix2 r k) = ix2 r (col t k) := by
  blk_ext [(idx0 t).2.2.2]

theorem arr_out : (dats m 0 c).arrAt 3 cfg0.N = mod (S m c) (W m c) (B m c) := by
  refine (dats m 0 c).arrAt_eq_of_covers 3 _ (by decide +kernel) fun t hf y => ?_
  obtain ⟨r, k, rfl⟩ : ∃ (r : Fin 8) (k : Fin 1024), y = ix2 r k := ⟨y 0, y 1, by idx_vars y⟩
  have point : k0_pay1 (iblk m c 0 t) (iblk m c 1 t) (iblk m c 2 t) (ix2 r k) = mod (S m c) (W m c) (B m c) ((win0_3.blk t).view.emb (ix2 r k)) := by
    rw [pay1_apply, emb_out]
    simp only [blk_S, blk_W, blk_B]
    rfl
  blk_simp
  rw [after0_3]
  frame_out
  exact point

theorem kernel_run (ρ : Dev nD → PrngReg) :
    θ_run defs (onTc (τ := τ) (main (F := Ideal))) ⟨m, fun _ => 0, ρ⟩ (fun r => ∀ c : Dev nD,
      r.2.mem ((c.tc : Thread nD τ).loc main_v0) = mod (S m c) (W m c) (B m c)) :=
  (θ_run defs _ _).mono (fun _ h c => (h.out_eq c 3).trans (arr_out m c)) (run_main m ρ)

section Reference

open Cert.Reference18Ideal.Read

theorem ref_mod (s : S8x4096.Idx → EReal) (w : S4096x3072.Idx → EReal) (b : S1x3072.Idx → EReal) : val_main_v5 (F := Ideal) s w b = mod s w b := by
  funext i
  pointwise [val_main_v5, val_main_v4, val_main_v3, val_main_v2, val_main_v1, val_main_v0, val_main_call0_v5, val_main_call0_v4, val_main_call0_cst_0,
    val_main_call0_v3, val_main_call0_v2, val_main_call0_cst, val_main_call0_v1, val_main_call0_v0]
  rfl

end Reference

/-! ## The claims -/

theorem frame_ref : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

theorem algebraic : Cert.algebraic_Kernel18Ideal_Reference18Ideal := by
  intro m ρ m' ρ' _ hagree
  refine ⟨_, (θ_run defs _ _).mono (fun r h c => ⟨h.1 c, h.2 c⟩) (θ_run_and (kernel_run m ρ) (unchanged m ρ)), ?_⟩
  refine (θ_run Cert.Reference18Ideal.defs _ _).mono (fun _ h c => ?_) (Cert.Reference18Ideal.Value.run (F := Ideal) m' ρ')
  obtain ⟨h0, hargs⟩ := h c
  obtain ⟨a0, a1, a2⟩ := hagree c
  replace h0 := h0.trans (Cert.Reference18Ideal.Read.val_main_v5_eq _ _ _)
  rw [a0, a1, a2] at h0
  exact ⟨h0.trans (ref_mod (S m c) (W m c) (B m c)), hargs⟩

end Cert.AdaMod
end
-- ==== Proof.GluDw.lean ====
/- The cotangent of the gate's weights: gelu of the rows, transposed, times the cotangent of the gate's argument. -/
module

public import proofs.«01_k».proof.Defs
public import proofs.«01_k».proof.Proof.Gen.Kernel17Ideal.Frame
public import proofs.«01_k».proof.Proof.Gen.Reference17Ideal.Read
public import proofs.«01_k».proof.Proof.Gen.Reference17Ideal.Run
public import proofs.«01_k».proof.Proof.Glu
public import Idealize.ShloMosaic.Lib.Pipeline.ValueKit
public import Idealize.ShloMosaic.PureOps.Ideal.Laws

@[expose] public section

set_option maxRecDepth 16384

noncomputable section

namespace Cert.GluDw

open Idealize.ShloMosaic Idealize.ShloMosaic.TcCoe Idealize.SL.Sem Cert.Kernel17Ideal Cert.Kernel17Ideal.Gen
open Cert.Glu (sg gelu)

theorem pay1_apply (y : Vec Ideal S4096x512 .f32) (d : Vec Ideal S4096x1024 .bf16) (r : Fin 512) (k : Fin 1024) :
    k0_pay1 y d (ix2 r k) = ∑ x : Fin 4096, gelu (y (ix2 x r)) * d (ix2 x k) := by
  pointwise [k0_pay1]
  rfl

variable (m : (ℓ : Loc nD τ sig) → Buf (Elt Ideal) ℓ) (c : Dev nD)

/-- The rows, the weights, the bias, the cotangent of the gated rows. -/
def Y : S4096x2048.Idx → EReal := m ((c.tc : Thread nD τ).loc main_arg0)
def W : S2048x2048.Idx → EReal := m ((c.tc : Thread nD τ).loc main_arg1)
def B : S1x2048.Idx → EReal := m ((c.tc : Thread nD τ).loc main_arg2)
def D : S4096x2048.Idx → EReal := m ((c.tc : Thread nD τ).loc main_arg3)

section Spec

variable (y : S4096x2048.Idx → EReal) (w : S2048x2048.Idx → EReal) (b : S1x2048.Idx → EReal) (d : S4096x2048.Idx → EReal)

/-- The gate's argument, its cotangent, and the weights' cotangent. -/
def arg (i : S4096x2048.Idx) : EReal := ∑ x : Fin 2048, gelu (y (ix2 (i 0) x)) * w (ix2 x (i 1)) + b (ix2 0 (i 1))
def dz (i : S4096x2048.Idx) : EReal := gelu (y i) * d i * (sg (arg y w b i) * (1 - sg (arg y w b i)))
def dw (i : S2048x2048.Idx) : EReal := ∑ r : Fin 4096, gelu (y (ix2 r (i 0))) * dz y w b d (ix2 r (i 1))

end Spec

theorem V_Y : V m c main_arg0 = Y m c := V_main_arg0 m c
theorem V_DZ (i : S4096x2048.Idx) : V m c main_v28 i = dz (Y m c) (W m c) (B m c) (D m c) i := by
  unfold V V0; simp only [List.flatten_cons, List.flatten_nil, List.append_nil]; after_results; pointwise
  simp only [neg_mul, Ideal.erfc_neg]
  rfl

theorem idx0 : ∀ t : Fin cfg0.N, win0_0.index t = ![0, t.val / 2] ∧ win0_1.index t = ![0, t.val % 2] ∧ win0_2.index t = ![t.val / 2, t.val % 2] :=
  (by decide +kernel : ∀ t : Fin grid0.N, _)

theorem point_lt (t : Fin cfg0.N) : t.val < 8 := lt_of_lt_of_eq t.isLt (show cfg0.N = 8 from N_0)

/-- The row and the column of the array that a row and a column of tile `t` are. -/
abbrev row (t : Fin cfg0.N) (r : Fin 512) : Fin 2048 := ⟨t.val / 2 * 512 + r.val, by have := point_lt t; omega⟩
abbrev col (t : Fin cfg0.N) (k : Fin 1024) : Fin 2048 := ⟨t.val % 2 * 1024 + k.val, by omega⟩

theorem blk_Y (t : Fin cfg0.N) (x : Fin 4096) (r : Fin 512) : iblk m c 0 t (ix2 x r) = Y m c (ix2 x (row t r)) := by
  rw [← V_Y]; blk_point [iblk, (idx0 t).1]
theorem blk_DZ (t : Fin cfg0.N) (x : Fin 4096) (k : Fin 1024) : iblk m c 1 t (ix2 x k) = dz (Y m c) (W m c) (B m c) (D m c) (ix2 x (col t k)) := by
  rw [← V_DZ]; blk_point [iblk, (idx0 t).2.1]
theorem emb_out (t : Fin cfg0.N) (r : Fin 512) (k : Fin 1024) : (win0_2.blk t).view.emb (ix2 r k) = ix2 (row t r) (col t k) := by
  blk_ext [(idx0 t).2.2]

theorem arr_out : (dats m 0 c).arrAt 2 cfg0.N = dw (Y m c) (W m c) (B m c) (D m c) := by
  refine (dats m 0 c).arrAt_eq_of_covers 2 _ (by decide +kernel) fun t hf y => ?_
  obtain ⟨r, k, rfl⟩ : ∃ (r : Fin 512) (k : Fin 1024), y = ix2 r k := ⟨y 0, y 1, by idx_vars y⟩
  have point : k0_pay1 (iblk m c 0 t) (iblk m c 1 t) (ix2 r k) =
      dw (Y m c) (W m c) (B m c) (D m c) ((win0_2.blk t).view.emb (ix2 r k)) := by
    rw [pay1_apply, emb_out]
    simp only [blk_Y, blk_DZ]
    rfl
  blk_simp
  rw [after0_2]
  frame_out
  exact point

theorem tail_out : Pipeline.afterTail₀ cfgs (dats m) 0 (V0 m) [hostOps1] c main_v30 = extf (F := Ideal) .f32 ((dats m 0 c).arrAt 2 cfg0.N) bitsLt_bf16_f32 := by
  unfold Pipeline.afterTail₀
  simp only [List.flatten_cons, List.flatten_nil, List.append_nil]
  after_results
  exact congrArg (fun x => extf (F := Ideal) .f32 x bitsLt_bf16_f32) (Pipeline.withArrays_arr spec0 launch0.win.arr_inj c _ _ 2)

theorem kernel_run (ρ : Dev nD → PrngReg) :
    θ_run defs (onTc (τ := τ) (main (F := Ideal))) ⟨m, fun _ => 0, ρ⟩ (fun r => ∀ c : Dev nD,
      r.2.mem ((c.tc : Thread nD τ).loc main_v30) = dw (Y m c) (W m c) (B m c) (D m c)) :=
  (θ_run defs _ _).mono (fun _ h c =>
    (h.rest_eq c main_v30 (Pipeline.mem_restRefs_of main_v30 (by decide) (by decide))).trans ((tail_out m c).trans (by rw [arr_out]; rfl))) (run_main m ρ)

section Reference

open Cert.Reference17Ideal.Read

variable (y : S4096x2048.Idx → EReal) (w : S2048x2048.Idx → EReal) (b : S1x2048.Idx → EReal) (d : S4096x2048.Idx → EReal)

theorem ref_gelu (i : S4096x2048.Idx) : val_main_v6 (F := Ideal) y i = gelu (y i) := by
  pointwise [val_main_v6, val_main_v5, val_main_v4, val_main_v3, val_main_v2, val_main_v1, val_main_v0, val_main_cst, val_main_cst_0]
  simp only [neg_mul, Ideal.erfc_neg]
  rfl
theorem ref_arg (i : S4096x2048.Idx) : val_main_v11 (F := Ideal) y w b i = arg y w b i := by
  pointwise [val_main_v11, val_main_v10, val_main_v9, val_main_v8, val_main_v7]
  simp only [ref_gelu]
  rfl
theorem ref_dz (i : S4096x2048.Idx) : val_main_v23 (F := Ideal) y w b d i = dz y w b d i := by
  pointwise [val_main_v23, val_main_v22, val_main_v20, val_main_v19, val_main_v18, val_main_v17, val_main_v16, val_main_v15, val_main_v14, val_main_v13,
    val_main_v12, val_main_cst_1, val_main_cst_2, val_main_cst_3]
  rw [ref_arg, ref_gelu]
  rfl
theorem ref_dw : val_main_v25 (F := Ideal) y w b d = dw y w b d := by
  funext i
  pointwise [val_main_v25, val_main_v24]
  simp only [ref_dz, ref_gelu]
  exact Fin.sum_fin_congr fun r => mul_comm _ _

end Reference

/-! ## The claims -/

theorem frame_ref : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

theorem algebraic : Cert.algebraic_Kernel17Ideal_Reference17Ideal := by
  intro m ρ m' ρ' _ hagree
  refine ⟨_, (θ_run defs _ _).mono (fun r h c => ⟨h.1 c, h.2 c⟩) (θ_run_and (kernel_run m ρ) (unchanged m ρ)), ?_⟩
  refine (θ_run Cert.Reference17Ideal.defs _ _).mono (fun _ h c => ?_) (Cert.Reference17Ideal.Value.run (F := Ideal) m' ρ')
  obtain ⟨h0, hargs⟩ := h c
  obtain ⟨a0, a1, a2, a3⟩ := hagree c
  replace h0 := h0.trans (Cert.Reference17Ideal.Read.val_main_v25_eq _ _ _ _)
  rw [a0, a1, a2, a3] at h0
  exact ⟨h0.trans (ref_dw (Y m c) (W m c) (B m c) (D m c)), hargs⟩

end Cert.GluDw
end
-- ==== Proof.GluDx.lean ====
/- The cotangent of the gate's rows: the cotangent of the gate's argument times the weights' transpose, the direct path added, and all of it times gelu's derivative. The kernel holds two rounded constants there, which are read as the numbers they round. -/
module

public import proofs.«01_k».proof.Defs
public import proofs.«01_k».proof.Proof.Gen.Kernel16Ideal.Frame
public import proofs.«01_k».proof.Proof.Gen.Reference16Ideal.Read
public import proofs.«01_k».proof.Proof.Gen.Reference16Ideal.Run
public import proofs.«01_k».proof.Proof.Gen.Pre_finite16
public import proofs.«01_k».proof.Proof.Glu
public import proofs.«01_k».proof.Proof.Reals
public import Idealize.ShloMosaic.Lib.Pipeline.ValueKit
public import Idealize.ShloMosaic.PureOps.Ideal.Laws

@[expose] public section

set_option maxRecDepth 16384

noncomputable section

namespace Cert.GluDx

open Idealize.ShloMosaic Idealize.ShloMosaic.TcCoe Idealize.SL.Sem Cert.Kernel16Ideal Cert.Kernel16Ideal.Gen
open Cert.Glu (sg)
open Cert.Finite

/-! ## Gelu and its derivative at one element -/

/-- `√½`, and the two numbers that the kernel's constants round: `1/√2`, and the slope of gelu's exponential part. -/
def root : EReal := Ideal.sqrt (Ideal.ofBits .f32 0x3F000000#32)
def rho : ℝ := (Real.sqrt 2)⁻¹
def slope : ℝ := (9465531 / 16777216) * (Real.sqrt 2)⁻¹

/-- Gelu, with the complementary error function. -/
def gelu (y : EReal) : EReal := Ideal.ofBits .f32 0x3F000000#32 * y * Ideal.erfc (-y * root)

/-- Gelu's derivative as the kernel writes it, and the derivative times the cotangent `g` as differentiation writes it. -/
def gradK (y : EReal) : EReal :=
  Ideal.ofBits .f32 0x3F000000#32 * (1 + Ideal.erf (y * (rho : EReal))) + y * ((slope : EReal) * Ideal.exp (Ideal.ofBits .f32 0xBF000000#32 * y * y))
def gradR (y g : EReal) : EReal :=
  -(Ideal.ofBits .f32 0xBF906EBB#32 * (Ideal.ofBits .f32 0x3F000000#32 * y * g) * Ideal.exp (-(-y * root * (-y * root))) * root)
    + Ideal.ofBits .f32 0x3F000000#32 * (g * Ideal.erfc (-y * root))

theorem half : Ideal.ofBits .f32 0x3F000000#32 = ((1 / 2 : ℝ) : EReal) := by
  simp [Ideal.ofBits, Ideal.ieee]; norm_num
  try (rw [← EReal.coe_mul]; norm_num)
theorem neg_half : Ideal.ofBits .f32 0xBF000000#32 = ((-(1 / 2) : ℝ) : EReal) := by
  simp [Ideal.ofBits, Ideal.ieee]; norm_num
  try (rw [← EReal.coe_mul]; norm_num)
theorem scale : Ideal.ofBits .f32 0xBF906EBB#32 = ((-(9465531 / 8388608) : ℝ) : EReal) := by
  simp [Ideal.ofBits, Ideal.ieee]; norm_num
  try (rw [← EReal.coe_mul]; norm_num)
theorem root_eq : root = (rho : EReal) := by
  rw [root, half, Ideal.sqrt_coe, if_neg (by norm_num), rho, one_div, Real.sqrt_inv]
theorem rho_sq : rho * rho = 1 / 2 := by
  rw [rho, ← mul_inv, Real.mul_self_sqrt (by norm_num), one_div]

theorem isReal_erf (r : ℝ) : IsReal (Ideal.erf (r : EReal)) := ⟨_, rfl⟩

/-- The two derivatives are one function of real numbers. -/
theorem grad_eq {y g : EReal} (hy : IsReal y) (hg : IsReal g) : gradR y g = g * gradK y := by
  obtain ⟨a, rfl⟩ := hy
  obtain ⟨b, rfl⟩ := hg
  obtain ⟨e, he⟩ := isReal_erf (a * rho)
  have arg : -(-a * rho * (-a * rho)) = -(1 / 2) * a * a := by
    rw [show -(-a * rho * (-a * rho)) = -(rho * rho) * a * a by ring, rho_sq]
  rw [gradR, gradK, root_eq, half, neg_half, scale, neg_mul, Ideal.erfc_neg]
  simp only [← EReal.coe_mul, ← EReal.coe_neg, he, ← EReal.coe_one, ← EReal.coe_add]
  rw [show -(-(a * rho) * -(a * rho)) = -(1 / 2) * a * a by rw [← arg]; ring, Ideal.exp_coe]
  simp only [← EReal.coe_mul, ← EReal.coe_neg, ← EReal.coe_add]
  refine congrArg _ ?_
  rw [slope, rho]
  ring

theorem isReal_half : IsReal (Ideal.ofBits .f32 0x3F000000#32) := half ▸ isReal_coe _
theorem isReal_gelu {y : EReal} (hy : IsReal y) : IsReal (gelu y) := by
  obtain ⟨a, rfl⟩ := hy
  rw [gelu, root_eq, neg_mul, Ideal.erfc_neg, ← EReal.coe_mul a rho]
  exact (isReal_half.mul (isReal_coe _)).mul (isReal_one.add (isReal_erf _))
theorem isReal_sg {z : EReal} (hz : IsReal z) : IsReal (sg z) := by
  obtain ⟨a, rfl⟩ := hz
  rw [sg, ← EReal.coe_neg, Ideal.exp_coe]
  refine isReal_one.div (isReal_one.add (isReal_coe _)) ?_
  rw [← EReal.coe_one, ← EReal.coe_add]
  exact_mod_cast (by positivity : (1 + Real.exp (-a)) ≠ 0)

/-! ## The kernel -/

theorem named_rho : Named.named (F := Ideal) κ "inv_sqrt2" (φ := .f32) 0x3F3504F3#32 = (rho : EReal) :=
  IdealRules.named_const.ideal_named_scalar _ _ _ _ rfl
theorem named_slope : Named.named (F := Ideal) κ "inv_sqrt2pi" (φ := .f32) 0x3ECC422A#32 = (slope : EReal) :=
  IdealRules.named_const.ideal_named_scalar _ _ _ _ rfl

theorem pay1_apply (a b : Vec Ideal S1024x2048 .bf16) (e y : Vec Ideal S1024x1024 .f32) (r k : Fin 1024) :
    k0_pay1 a b e y (ix2 r k) = (∑ x : Fin 2048, a (ix2 r x) * b (ix2 k x) + e (ix2 r k)) * gradK (y (ix2 r k)) := by
  pointwise [k0_pay1]
  rw [named_rho, named_slope]
  rfl

variable (m : (ℓ : Loc nD τ sig) → Buf (Elt Ideal) ℓ) (c : Dev nD)

/-- The rows, the weights, the bias, the cotangent of the gated rows. -/
def Y : S4096x2048.Idx → EReal := m ((c.tc : Thread nD τ).loc main_arg0)
def W : S2048x2048.Idx → EReal := m ((c.tc : Thread nD τ).loc main_arg1)
def B : S1x2048.Idx → EReal := m ((c.tc : Thread nD τ).loc main_arg2)
def D : S4096x2048.Idx → EReal := m ((c.tc : Thread nD τ).loc main_arg3)

section Spec

variable (y : S4096x2048.Idx → EReal) (w : S2048x2048.Idx → EReal) (b : S1x2048.Idx → EReal) (d : S4096x2048.Idx → EReal)

/-- The gate's argument, its cotangent, the cotangent of gelu's result, and the rows' cotangent. -/
def arg (i : S4096x2048.Idx) : EReal := ∑ x : Fin 2048, gelu (y (ix2 (i 0) x)) * w (ix2 x (i 1)) + b (ix2 0 (i 1))
def dz (i : S4096x2048.Idx) : EReal := gelu (y i) * d i * (sg (arg y w b i) * (1 - sg (arg y w b i)))
def dt (i : S4096x2048.Idx) : EReal := ∑ x : Fin 2048, dz y w b d (ix2 (i 0) x) * w (ix2 (i 1) x) + d i * sg (arg y w b i)
def dy (i : S4096x2048.Idx) : EReal := dt y w b d i * gradK (y i)

variable {y w b d}

theorem isReal_dt (hy : ∀ i, IsReal (y i)) (hw : ∀ i, IsReal (w i)) (hb : ∀ i, IsReal (b i)) (hd : ∀ i, IsReal (d i)) (i : S4096x2048.Idx) :
    IsReal (dt y w b d i) := by
  have s : ∀ j, IsReal (sg (arg y w b j)) := fun j => isReal_sg ((IsReal.sum _ fun x => (isReal_gelu (hy _)).mul (hw _)).add (hb _))
  exact (IsReal.sum _ fun x => (((isReal_gelu (hy _)).mul (hd _)).mul ((s _).mul (isReal_one.sub (s _)))).mul (hw _)).add ((hd _).mul (s _))

end Spec

theorem V_Y : V m c main_arg0 = Y m c := V_main_arg0 m c
theorem V_W (i : S2048x2048.Idx) : V m c main_v30 i = W m c i := by
  unfold V; after_results; pointwise; rfl
theorem V_DZ (i : S4096x2048.Idx) : V m c main_v29 i = dz (Y m c) (W m c) (B m c) (D m c) i := by
  unfold V; after_results; pointwise; rfl
theorem V_E (i : S4096x2048.Idx) : V m c main_v24 i = D m c i * sg (arg (Y m c) (W m c) (B m c) i) := by
  unfold V; after_results; pointwise; rfl

theorem idx0 : ∀ t : Fin cfg0.N, win0_0.index t = ![t.val / 2, 0] ∧ win0_1.index t = ![t.val % 2, 0] ∧ win0_2.index t = ![t.val / 2, t.val % 2]
    ∧ win0_3.index t = ![t.val / 2, t.val % 2] ∧ win0_4.index t = ![t.val / 2, t.val % 2] :=
  (by decide +kernel : ∀ t : Fin grid0.N, _)

theorem point_lt (t : Fin cfg0.N) : t.val < 8 := lt_of_lt_of_eq t.isLt (show cfg0.N = 8 from N_0)

/-- The row and the column of the array that a row and a column of tile `t` are. -/
abbrev row (t : Fin cfg0.N) (r : Fin 1024) : Fin 4096 := ⟨t.val / 2 * 1024 + r.val, by have := point_lt t; omega⟩
abbrev col (t : Fin cfg0.N) (k : Fin 1024) : Fin 2048 := ⟨t.val % 2 * 1024 + k.val, by omega⟩

theorem blk_DZ (t : Fin cfg0.N) (r : Fin 1024) (x : Fin 2048) : iblk m c 0 t (ix2 r x) = dz (Y m c) (W m c) (B m c) (D m c) (ix2 (row t r) x) := by
  rw [← V_DZ]; blk_point [iblk, (idx0 t).1]
theorem blk_W (t : Fin cfg0.N) (k : Fin 1024) (x : Fin 2048) : iblk m c 1 t (ix2 k x) = W m c (ix2 (col t k) x) := by
  rw [← V_W]; blk_point [iblk, (idx0 t).2.1]
theorem blk_E (t : Fin cfg0.N) (r k : Fin 1024) : iblk m c 2 t (ix2 r k) =
    D m c (ix2 (row t r) (col t k)) * sg (arg (Y m c) (W m c) (B m c) (ix2 (row t r) (col t k))) := by
  rw [← V_E]; blk_point [iblk, (idx0 t).2.2.1]
theorem blk_Y (t : Fin cfg0.N) (r k : Fin 1024) : iblk m c 3 t (ix2 r k) = Y m c (ix2 (row t r) (col t k)) := by
  rw [← V_Y]; blk_point [iblk, (idx0 t).2.2.2.1]
theorem emb_out (t : Fin cfg0.N) (r k : Fin 1024) : (win0_4.blk t).view.emb (ix2 r k) = ix2 (row t r) (col t k) := by
  blk_ext [(idx0 t).2.2.2.2]

theorem arr_out : (dats m 0 c).arrAt 4 cfg0.N = dy (Y m c) (W m c) (B m c) (D m c) := by
  refine (dats m 0 c).arrAt_eq_of_covers 4 _ (by decide +kernel) fun t hf y => ?_
  obtain ⟨r, k, rfl⟩ : ∃ r k : Fin 1024, y = ix2 r k := ⟨y 0, y 1, by idx_vars y⟩
  have point : k0_pay1 (iblk m c 0 t) (iblk m c 1 t) (iblk m c 2 t) (iblk m c 3 t) (ix2 r k) =
      dy (Y m c) (W m c) (B m c) (D m c) ((win0_4.blk t).view.emb (ix2 r k)) := by
    rw [pay1_apply, emb_out]
    simp only [blk_DZ, blk_W, blk_E, blk_Y]
    rfl
  blk_simp
  rw [after0_4]
  frame_out
  exact point

theorem kernel_run (ρ : Dev nD → PrngReg) :
    θ_run defs (onTc (τ := τ) (main (F := Ideal))) ⟨m, fun _ => 0, ρ⟩ (fun r => ∀ c : Dev nD,
      r.2.mem ((c.tc : Thread nD τ).loc main_v31) = dy (Y m c) (W m c) (B m c) (D m c)) :=
  (θ_run defs _ _).mono (fun _ h c => (h.out_eq c 4).trans (arr_out m c)) (run_main m ρ)

/-! ## The reference -/

section Reference

open Cert.Reference16Ideal.Read

variable (y : S4096x2048.Idx → EReal) (w : S2048x2048.Idx → EReal) (b : S1x2048.Idx → EReal) (d : S4096x2048.Idx → EReal)

theorem ref_gelu (i : S4096x2048.Idx) : val_main_v10 (F := Ideal) y i = gelu (y i) := by
  pointwise [val_main_v10, val_main_v6, val_main_v5, val_main_v4, val_main_v3, val_main_v2, val_main_v1, val_main_v0, val_main_cst, val_main_cst_0]
  rfl
theorem ref_arg (i : S4096x2048.Idx) : val_main_v15 (F := Ideal) y w b i = arg y w b i := by
  pointwise [val_main_v15, val_main_v14, val_main_v13, val_main_v12, val_main_v11]
  simp only [ref_gelu]
  rfl
theorem ref_sg (i : S4096x2048.Idx) : val_main_v21 (F := Ideal) y w b i = sg (arg y w b i) := by
  pointwise [val_main_v21, val_main_v20, val_main_v19, val_main_v18, val_main_v17, val_main_v16, val_main_cst_1, val_main_cst_2]
  rw [ref_arg]
  rfl
theorem ref_dz (i : S4096x2048.Idx) : val_main_v28 (F := Ideal) y w b d i = dz y w b d i := by
  pointwise [val_main_v28, val_main_v26, val_main_v24, val_main_v23, val_main_v22, val_main_cst_3]
  rw [ref_sg, ref_gelu]
  rfl
theorem ref_dt (i : S4096x2048.Idx) : val_main_v30 (F := Ideal) y w b d i = dt y w b d i := by
  pointwise [val_main_v30, val_main_v29, val_main_v27]
  simp only [ref_sg, ref_dz]
  exact add_comm _ _
theorem ref_dy (hy : ∀ i, IsReal (y i)) (hw : ∀ i, IsReal (w i)) (hb : ∀ i, IsReal (b i)) (hd : ∀ i, IsReal (d i)) :
    val_main_v40 (F := Ideal) y w b d = dy y w b d := by
  funext i
  refine Eq.trans ?_ (grad_eq (hy i) (isReal_dt hy hw hb hd i))
  rw [← ref_dt]
  pointwise [val_main_v40, val_main_v39, val_main_v38, val_main_v37, val_main_v36, val_main_v35, val_main_v34, val_main_v33, val_main_v32, val_main_v31,
    val_main_v9, val_main_v8, val_main_v7, val_main_v6, val_main_v5, val_main_v4, val_main_v3, val_main_v2, val_main_v1, val_main_v0,
    val_main_cst, val_main_cst_0, val_main_cst_4, val_main_cst_5]
  rfl

end Reference

/-- What the precondition says: every argument holds real numbers. -/
theorem real (h : Cert.Pre_Kernel16Ideal_finite16 m) :
    (∀ i, IsReal (Y m c i)) ∧ (∀ i, IsReal (W m c i)) ∧ (∀ i, IsReal (B m c i)) ∧ (∀ i, IsReal (D m c i)) := by
  have e := congrFun (h c) ix0
  obtain ⟨e, e3⟩ := IntOp.andi_eq_one.1 e
  obtain ⟨e, e2⟩ := IntOp.andi_eq_one.1 e
  obtain ⟨e, e1⟩ := IntOp.andi_eq_one.1 e
  obtain ⟨-, e0⟩ := IntOp.andi_eq_one.1 e
  haveI : Subsingleton (Cert.Pre_finite16.S_).Idx := ⟨fun a b => funext fun i => i.elim0⟩
  exact ⟨allReal_of_reduce _ _ (fun _ => ofBits_inf) _ _ _ _ e0, allReal_of_reduce _ _ (fun _ => ofBits_inf) _ _ _ _ e1,
    allReal_of_reduce _ _ (fun _ => ofBits_inf) _ _ _ _ e2, allReal_of_reduce _ _ (fun _ => ofBits_inf) _ _ _ _ e3⟩

/-! ## The claims -/

theorem frame_ref : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem preserves : Cert.preserves_Kernel16_Kernel16Ideal :=
  ⟨IdealRules.named_const.statement Cert.Kernel16Ideal.κ "inv_sqrt2" .f32 0x3F3504F3#32 (rho : EReal) rfl,
    IdealRules.named_const.statement Cert.Kernel16Ideal.κ "inv_sqrt2pi" .f32 0x3ECC422A#32 (slope : EReal) rfl⟩

theorem algebraic : Cert.algebraic_Kernel16Ideal_Reference16Ideal_pre_finite16 := by
  intro m ρ m' ρ' hpre hagree
  refine ⟨_, (θ_run defs _ _).mono (fun r h c => ⟨h.1 c, h.2 c⟩) (θ_run_and (kernel_run m ρ) (unchanged m ρ)), ?_⟩
  refine (θ_run Cert.Reference16Ideal.defs _ _).mono (fun _ h c => ?_) (Cert.Reference16Ideal.Value.run (F := Ideal) m' ρ')
  obtain ⟨h0, hargs⟩ := h c
  obtain ⟨a0, a1, a2, a3⟩ := hagree c
  obtain ⟨r0, r1, r2, r3⟩ := real m c hpre
  replace h0 := h0.trans (Cert.Reference16Ideal.Read.val_main_v40_eq _ _)
  rw [a0, a1, a2, a3] at h0
  exact ⟨h0.trans (ref_dy (Y m c) (W m c) (B m c) (D m c) r0 r1 r2 r3), hargs⟩

end Cert.GluDx
end
-- ==== Proof.Ff2.lean ====
/- The cotangent of the channel mixer's first product, through the square of the positive part. -/
module

public import proofs.«01_k».proof.Defs
public import proofs.«01_k».proof.Proof.Gen.Kernel8Ideal.Frame
public import proofs.«01_k».proof.Proof.Gen.Reference8Ideal.Read
public import proofs.«01_k».proof.Proof.Gen.Reference8Ideal.Run

public import Idealize.ShloMosaic.Lib.Pipeline.ValueKit
public import Idealize.ShloMosaic.PureOps.Ideal.Laws

@[expose] public section

set_option maxRecDepth 16384

noncomputable section

namespace Cert.Ff2

open Idealize.ShloMosaic Idealize.ShloMosaic.TcCoe Idealize.SL.Sem Cert.Kernel8Ideal Cert.Kernel8Ideal.Gen

/-- The derivative of the square of the positive part: twice the positive part. -/
def slope (a : EReal) : EReal := Ideal.ofBits .f32 0x40000000#32 * max a 0

theorem slope_nonpos {a : EReal} (h : ¬0 < a) : slope a = 0 := by rw [slope, max_eq_right (not_lt.1 h), mul_zero]

theorem pay1_apply (d w : Vec Ideal S1024x4096 .bf16) (a : Vec Ideal S1024x1024 .bf16) (r k : Fin 1024) :
    k0_pay1 d w a (ix2 r k) = (∑ x : Fin 4096, d (ix2 r x) * w (ix2 k x)) * slope (a (ix2 r k)) := by
  pointwise [k0_pay1]
  rfl

variable (m : (ℓ : Loc nD τ sig) → Buf (Elt Ideal) ℓ) (c : Dev nD)

/-- The rows, the two weights, and the cotangent of the mixer's result. -/
def H : S4096x4096.Idx → EReal := m ((c.tc : Thread nD τ).loc main_arg0)
def W1 : S4096x16384.Idx → EReal := m ((c.tc : Thread nD τ).loc main_arg1)
def W2 : S16384x4096.Idx → EReal := m ((c.tc : Thread nD τ).loc main_arg2)
def D : S4096x4096.Idx → EReal := m ((c.tc : Thread nD τ).loc main_arg3)

/-- The first product. -/
def first (h : S4096x4096.Idx → EReal) (w : S4096x16384.Idx → EReal) (r : Fin 4096) (k : Fin 16384) : EReal :=
  ∑ x : Fin 4096, h (ix2 r x) * w (ix2 x k)

/-- The result. -/
def out (i : S4096x16384.Idx) : EReal :=
  (∑ x : Fin 4096, D m c (ix2 (i 0) x) * W2 m c (ix2 (i 1) x)) * slope (first (H m c) (W1 m c) (i 0) (i 1))

theorem V_D (i : S4096x4096.Idx) : V m c main_v2 i = D m c i := by
  unfold V V0; simp only [List.flatten_cons, List.flatten_nil, List.append_nil]; after_results; pointwise; rfl
theorem V_W2 (i : S16384x4096.Idx) : V m c main_v3 i = W2 m c i := by
  unfold V V0; simp only [List.flatten_cons, List.flatten_nil, List.append_nil]; after_results; pointwise; rfl
theorem V_A (r : Fin 4096) (k : Fin 16384) : V m c main_v1 (ix2 r k) = first (H m c) (W1 m c) r k := by
  unfold V V0; simp only [List.flatten_cons, List.flatten_nil, List.append_nil]; after_results; pointwise; rfl

theorem idx0 : ∀ t : Fin cfg0.N, win0_0.index t = ![t.val / 16, 0] ∧ win0_1.index t = ![t.val % 16, 0]
    ∧ win0_2.index t = ![t.val / 16, t.val % 16] ∧ win0_3.index t = ![t.val / 16, t.val % 16] := (by decide +kernel : ∀ t : Fin grid0.N, _)

theorem point_lt (t : Fin cfg0.N) : t.val < 64 := lt_of_lt_of_eq t.isLt (show cfg0.N = 64 from N_0)

/-- The row and the column of the array that a row and a column of tile `t` are. -/
abbrev row (t : Fin cfg0.N) (r : Fin 1024) : Fin 4096 := ⟨t.val / 16 * 1024 + r.val, by have := point_lt t; omega⟩
abbrev col (t : Fin cfg0.N) (k : Fin 1024) : Fin 16384 := ⟨t.val % 16 * 1024 + k.val, by omega⟩

theorem blk_D (t : Fin cfg0.N) (r : Fin 1024) (k : Fin 4096) : iblk m c 0 t (ix2 r k) = D m c (ix2 (row t r) k) := by
  rw [← V_D]; blk_point [iblk, (idx0 t).1]
theorem blk_W2 (t : Fin cfg0.N) (r : Fin 1024) (k : Fin 4096) : iblk m c 1 t (ix2 r k) = W2 m c (ix2 (col t r) k) := by
  rw [← V_W2]; blk_point [iblk, (idx0 t).2.1]
theorem blk_A (t : Fin cfg0.N) (r k : Fin 1024) : iblk m c 2 t (ix2 r k) = first (H m c) (W1 m c) (row t r) (col t k) := by
  rw [← V_A]; blk_point [iblk, (idx0 t).2.2.1]
theorem emb_out (t : Fin cfg0.N) (r k : Fin 1024) : (win0_3.blk t).view.emb (ix2 r k) = ix2 (row t r) (col t k) := by
  blk_ext [(idx0 t).2.2.2]

theorem arr_out : (dats m 0 c).arrAt 3 cfg0.N = out m c := by
  refine (dats m 0 c).arrAt_eq_of_covers 3 _ (by decide +kernel) fun t hf y => ?_
  obtain ⟨r, k, rfl⟩ : ∃ r k : Fin 1024, y = ix2 r k := ⟨y 0, y 1, by idx_vars y⟩
  have point : k0_pay1 (iblk m c 0 t) (iblk m c 1 t) (iblk m c 2 t) (ix2 r k) = out m c ((win0_3.blk t).view.emb (ix2 r k)) := by
    rw [pay1_apply, emb_out]
    simp only [blk_D, blk_W2, blk_A]
    rfl
  blk_simp
  rw [after0_3]
  frame_out
  exact point

theorem tail_out : Pipeline.afterTail₀ cfgs (dats m) 0 (V0 m) [hostOps1] c main_v5 = extf (F := Ideal) .f32 ((dats m 0 c).arrAt 3 cfg0.N) bitsLt_bf16_f32 := by
  unfold Pipeline.afterTail₀
  simp only [List.flatten_cons, List.flatten_nil, List.append_nil]
  after_results
  exact congrArg (fun x => extf (F := Ideal) .f32 x bitsLt_bf16_f32) (Pipeline.withArrays_arr spec0 launch0.win.arr_inj c _ _ 3)

theorem kernel_run (ρ : Dev nD → PrngReg) :
    θ_run defs (onTc (τ := τ) (main (F := Ideal))) ⟨m, fun _ => 0, ρ⟩ (fun r => ∀ c : Dev nD,
      r.2.mem ((c.tc : Thread nD τ).loc main_v5) = out m c) :=
  (θ_run defs _ _).mono (fun _ h c =>
    (h.rest_eq c main_v5 (Pipeline.mem_restRefs_of main_v5 (by decide) (by decide))).trans ((tail_out m c).trans (by rw [arr_out]; rfl))) (run_main m ρ)

section Reference

open Cert.Reference8Ideal.Read

/-- The reference takes the derivative where the first product is positive and zero elsewhere; there twice the positive part is zero. -/
theorem ref_out (h : S4096x4096.Idx → EReal) (w1 : S4096x16384.Idx → EReal) (w2 : S16384x4096.Idx → EReal) (d : S4096x4096.Idx → EReal)
    (r : Fin 4096) (k : Fin 16384) : val_main_v12 (F := Ideal) h w1 w2 d (ix2 r k) =
      (∑ x : Fin 4096, d (ix2 r x) * w2 (ix2 k x)) * slope (first h w1 r k) := by
  pointwise [val_main_v12, val_main_v11, val_main_cst_2, val_main_v10, val_main_v9, val_main_v7, val_main_v6, val_main_cst_1, val_main_v3, val_main_v2,
    val_main_cst, val_main_v1, val_main_v0, val_main_call0_v0, val_main_call0_cst]
  split_ifs with hp
  · rfl
  · exact (by rw [slope_nonpos (a := first h w1 r k) hp, mul_zero] : (∑ x : Fin 4096, d (ix2 r x) * w2 (ix2 k x)) * slope (first h w1 r k) = 0).symm

end Reference

/-! ## The claims -/

theorem frame_ref : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic : Cert.algebraic_Kernel8Ideal_Reference8Ideal := by
  intro m ρ m' ρ' _ hagree
  refine ⟨_, (θ_run defs _ _).mono (fun r h c => ⟨h.1 c, h.2 c⟩) (θ_run_and (kernel_run m ρ) (unchanged m ρ)), ?_⟩
  refine (θ_run Cert.Reference8Ideal.defs _ _).mono (fun _ h c => ?_) (Cert.Reference8Ideal.Value.run (F := Ideal) m' ρ')
  obtain ⟨h0, hargs⟩ := h c
  obtain ⟨a0, a1, a2, a3⟩ := hagree c
  replace h0 := h0.trans (Cert.Reference8Ideal.Read.val_main_v12_eq _ _ _ _)
  rw [a0, a1, a2, a3] at h0
  refine ⟨h0.trans (funext fun i => ?_), hargs⟩
  obtain ⟨r, k, rfl⟩ : ∃ (r : Fin 4096) (k : Fin 16384), i = ix2 r k := ⟨i 0, i 1, by idx_vars i⟩
  exact ref_out (H m c) (W1 m c) (W2 m c) (D m c) r k

end Cert.Ff2
end
-- ==== Proof.NormFwd.lean ====
/- The forward norm of a row, scaled and shifted: the kernel's array and the reference's result are the same rows. -/
module

public import proofs.«01_k».proof.Defs
public import proofs.«01_k».proof.Proof.Gen.Kernel9Ideal.Frame
public import proofs.«01_k».proof.Proof.Gen.Reference9Ideal.Read
public import proofs.«01_k».proof.Proof.Gen.Reference9Ideal.Run
public import proofs.«01_k».proof.Proof.Norm
public import proofs.«01_k».proof.Proof.Sublanes

@[expose] public section

set_option maxRecDepth 16384

noncomputable section

namespace Cert.NormFwd

open Idealize.ShloMosaic Idealize.ShloMosaic.TcCoe Idealize.SL.Sem Cert.Kernel9Ideal Cert.Kernel9Ideal.Gen Cert.Norm Cert.Sublanes

/-- The row length as the program's word. -/
abbrev len : EReal := Ideal.ofBits .f32 0x45800000#32

/-- Element `k` of a row normed, times its gain, scaled by one more than `s` and shifted by `h`. -/
def normed (x : Fin 4096 → EReal) (g s h : EReal) (k : Fin 4096) : EReal := x k * rs len x * g * (1 + s) + h

theorem pay1_apply (x : Vec Ideal S128x4096 .f32) (g s h : Vec Ideal S1x4096 .f32) (r : Fin 128) (k : Fin 4096) :
    k0_pay1 x g s h (ix2 r k) = normed (fun k => x (ix2 r k)) (g (ix2 0 k)) (s (ix2 0 k)) (h (ix2 0 k)) k := by
  pointwise [k0_pay1]
  rfl

variable (m : (ℓ : Loc nD τ sig) → Buf (Elt Ideal) ℓ) (c : Dev nD)

/-- The rows, their gain, scale and shift. -/
def X : S4096x4096.Idx → EReal := m ((c.tc : Thread nD τ).loc main_arg0)
def G : S1x4096.Idx → EReal := m ((c.tc : Thread nD τ).loc main_arg1)
def S : S1x4096.Idx → EReal := m ((c.tc : Thread nD τ).loc main_arg2)
def H : S1x4096.Idx → EReal := m ((c.tc : Thread nD τ).loc main_arg3)

theorem V_X : V m c main_arg0 = X m c := V_main_arg0 m c
theorem V_G : V m c main_arg1 = G m c := V_main_arg1 m c
theorem V_S : V m c main_arg2 = S m c := V_main_arg2 m c
theorem V_H : V m c main_arg3 = H m c := V_main_arg3 m c

/-- The result. -/
def out (i : S4096x4096.Idx) : EReal :=
  normed (fun k => X m c (ix2 (i 0) k)) (G m c (ix2 0 (i 1))) (S m c (ix2 0 (i 1))) (H m c (ix2 0 (i 1))) (i 1)

theorem idx0 : ∀ t : Fin cfg0.N, win0_0.index t = ![t.val, 0] ∧ win0_1.index t = ![0, 0] ∧ win0_2.index t = ![0, 0]
    ∧ win0_3.index t = ![0, 0] ∧ win0_4.index t = ![t.val, 0] := (by decide +kernel : ∀ t : Fin grid0.N, _)

theorem blk_X (t : Fin cfg0.N) (r : Fin 128) (k : Fin 4096) : iblk m c 0 t (ix2 r k) = X m c (ix2 (row t r) k) := by
  rw [← V_X]; blk_point [iblk, (idx0 t).1]
theorem blk_G (t : Fin cfg0.N) (k : Fin 4096) : iblk m c 1 t (ix2 0 k) = G m c (ix2 0 k) := by
  rw [← V_G]; blk_point [iblk, (idx0 t).2.1]
theorem blk_S (t : Fin cfg0.N) (k : Fin 4096) : iblk m c 2 t (ix2 0 k) = S m c (ix2 0 k) := by
  rw [← V_S]; blk_point [iblk, (idx0 t).2.2.1]
theorem blk_H (t : Fin cfg0.N) (k : Fin 4096) : iblk m c 3 t (ix2 0 k) = H m c (ix2 0 k) := by
  rw [← V_H]; blk_point [iblk, (idx0 t).2.2.2.1]
theorem emb_out (t : Fin cfg0.N) (r : Fin 128) (k : Fin 4096) : (win0_4.blk t).view.emb (ix2 r k) = ix2 (row t r) k := by
  blk_ext [(idx0 t).2.2.2.2]

theorem arr_out : (dats m 0 c).arrAt 4 cfg0.N = out m c := by
  refine (dats m 0 c).arrAt_eq_of_covers 4 _ (by decide +kernel) fun t hf y => ?_
  obtain ⟨r, k, rfl⟩ : ∃ (r : Fin 128) (k : Fin 4096), y = ix2 r k := ⟨y 0, y 1, by idx_vars y⟩
  have point : k0_pay1 (iblk m c 0 t) (iblk m c 1 t) (iblk m c 2 t) (iblk m c 3 t) (ix2 r k) = out m c ((win0_4.blk t).view.emb (ix2 r k)) := by
    rw [pay1_apply, emb_out]
    simp only [blk_X, blk_G, blk_S, blk_H]
    rfl
  blk_simp
  rw [after0_4]
  frame_out
  exact point

theorem tail_out : Pipeline.afterTail₀ cfgs (dats m) 0 (V0 m) [hostOps1] c main_v1 = extf (F := Ideal) .f32 ((dats m 0 c).arrAt 4 cfg0.N) bitsLt_bf16_f32 := by
  unfold Pipeline.afterTail₀
  simp only [List.flatten_cons, List.flatten_nil, List.append_nil]
  after_results
  exact congrArg (fun x => extf (F := Ideal) .f32 x bitsLt_bf16_f32) (Pipeline.withArrays_arr spec0 launch0.win.arr_inj c _ _ 4)

theorem kernel_run (ρ : Dev nD → PrngReg) :
    θ_run defs (onTc (τ := τ) (main (F := Ideal))) ⟨m, fun _ => 0, ρ⟩ (fun r => ∀ c : Dev nD,
      r.2.mem ((c.tc : Thread nD τ).loc main_v1) = out m c) :=
  (θ_run defs _ _).mono (fun _ h c =>
    (h.rest_eq c main_v1 (Pipeline.mem_restRefs_of main_v1 (by decide) (by decide))).trans ((tail_out m c).trans (by rw [arr_out]; rfl))) (run_main m ρ)

section Reference

open Cert.Reference9Ideal.Read

variable (x : S4096x4096.Idx → EReal) (g s h : S1x4096.Idx → EReal)

theorem ref_rs (r : Fin 4096) : val_main_v10 (F := Ideal) x (ix2 r 0) = rs len fun k => x (ix2 r k) := by
  pointwise [val_main_v10, val_main_v9, val_main_v8, val_main_cst_1, val_main_v7, val_main_v6, val_main_cst_0, val_main_v5, val_main_v4, val_main_v3, val_main_cst]
  rfl

theorem ref_out (r k : Fin 4096) : val_main_v23 (F := Ideal) x g s h (ix2 r k) =
    normed (fun k => x (ix2 r k)) (g (ix2 0 k)) (s (ix2 0 k)) (h (ix2 0 k)) k := by
  pointwise [val_main_v23, val_main_v22, val_main_v21, val_main_v20, val_main_v19, val_main_v18, val_main_v17, val_main_v16, val_main_cst_2, val_main_v15,
    val_main_v14, val_main_v13, val_main_v12, val_main_v11, val_main_v2, val_main_v1, val_main_v0]
  rw [ref_rs]
  rfl

end Reference

/-! ## The claims -/

theorem frame_ref : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic : Cert.algebraic_Kernel9Ideal_Reference9Ideal := by
  intro m ρ m' ρ' _ hagree
  refine ⟨_, (θ_run defs _ _).mono (fun r h c => ⟨h.1 c, h.2 c⟩) (θ_run_and (kernel_run m ρ) (unchanged m ρ)), ?_⟩
  refine (θ_run Cert.Reference9Ideal.defs _ _).mono (fun _ h c => ?_) (Cert.Reference9Ideal.Value.run (F := Ideal) m' ρ')
  obtain ⟨h0, hargs⟩ := h c
  obtain ⟨a0, a1, a2, a3⟩ := hagree c
  replace h0 := h0.trans (Cert.Reference9Ideal.Read.val_main_v23_eq _ _ _ _)
  rw [a0, a1, a2, a3] at h0
  refine ⟨h0.trans (funext fun i => ?_), hargs⟩
  obtain ⟨r, k, rfl⟩ : ∃ r k : Fin 4096, i = ix2 r k := ⟨i 0, i 1, by idx_vars i⟩
  exact ref_out (X m c) (G m c) (S m c) (H m c) r k

end Cert.NormFwd
end
-- ==== Proof.GroupFwd.lean ====
/- The two groups normed and set side by side: the kernel's array and the reference's result are the same rows. -/
module

public import proofs.«01_k».proof.Defs
public import proofs.«01_k».proof.Proof.Gen.Kernel10Ideal.Frame
public import proofs.«01_k».proof.Proof.Gen.Reference10Ideal.Read
public import proofs.«01_k».proof.Proof.Gen.Reference10Ideal.Run
public import proofs.«01_k».proof.Proof.Norm
public import proofs.«01_k».proof.Proof.Sublanes

@[expose] public section

set_option maxRecDepth 16384

noncomputable section

namespace Cert.GroupFwd

open Idealize.ShloMosaic Idealize.ShloMosaic.TcCoe Idealize.SL.Sem Cert.Kernel10Ideal Cert.Kernel10Ideal.Gen Cert.Norm Cert.Sublanes

/-- The length of a group's row as the program's word. -/
abbrev len : EReal := Ideal.ofBits .f32 0x45000000#32

/-- A column of the mixed row: of the first group, of the second. -/
abbrev lo (k : Fin 2048) : Fin 4096 := ⟨k.val, by omega⟩
abbrev hi (k : Fin 2048) : Fin 4096 := ⟨2048 + k.val, by omega⟩

theorem col_cases (k : Fin 4096) : (∃ j, k = lo j) ∨ ∃ j, k = hi j := by
  by_cases h : k.val < 2048
  · exact .inl ⟨⟨k.val, h⟩, rfl⟩
  · exact .inr ⟨⟨k.val - 2048, by omega⟩, Fin.ext (by show k.val = 2048 + (k.val - 2048); omega)⟩

/-- Element `k` of a group's row normed, times its gain. -/
def normed (x : Fin 2048 → EReal) (g : EReal) (k : Fin 2048) : EReal := x k * rs len x * g

theorem pay1_lo (x y : Vec Ideal S128x2048 .f32) (g h : Vec Ideal S1x2048 .f32) (r : Fin 128) (k : Fin 2048) :
    k0_pay1 x y g h (ix2 r (lo k)) = normed (fun k => x (ix2 r k)) (g (ix2 0 k)) k := by
  pointwise [k0_pay1]
  rfl
theorem pay1_hi (x y : Vec Ideal S128x2048 .f32) (g h : Vec Ideal S1x2048 .f32) (r : Fin 128) (k : Fin 2048) :
    k0_pay1 x y g h (ix2 r (hi k)) = normed (fun k => y (ix2 r k)) (h (ix2 0 k)) k := by
  pointwise [k0_pay1]
  rfl

section Reference

open Cert.Reference10Ideal.Read

variable (x y : S4096x2048.Idx → EReal) (g h : S1x2048.Idx → EReal)

theorem ref_rs (r : Fin 4096) : val_main_v9 (F := Ideal) x (ix2 r 0) = rs len fun k => x (ix2 r k) := by
  pointwise [val_main_v9, val_main_v8, val_main_v7, val_main_cst_1, val_main_v6, val_main_v5, val_main_cst_0, val_main_v4, val_main_v3, val_main_v2, val_main_cst]
  rfl
theorem ref_rs' (r : Fin 4096) : val_main_v22 (F := Ideal) y (ix2 r 0) = rs len fun k => y (ix2 r k) := by
  pointwise [val_main_v22, val_main_v21, val_main_v20, val_main_cst_4, val_main_v19, val_main_v18, val_main_cst_3, val_main_v17, val_main_v16, val_main_v15, val_main_cst_2]
  rfl

theorem ref_first (r : Fin 4096) (k : Fin 2048) : val_main_v14 (F := Ideal) x g (ix2 r k) = normed (fun k => x (ix2 r k)) (g (ix2 0 k)) k := by
  pointwise [val_main_v14, val_main_v13, val_main_v12, val_main_v11, val_main_v10, val_main_v0]
  rw [ref_rs]
  rfl
theorem ref_second (r : Fin 4096) (k : Fin 2048) : val_main_v27 (F := Ideal) y h (ix2 r k) = normed (fun k => y (ix2 r k)) (h (ix2 0 k)) k := by
  pointwise [val_main_v27, val_main_v26, val_main_v25, val_main_v24, val_main_v23, val_main_v1]
  rw [ref_rs']
  rfl

theorem ref_lo (r : Fin 4096) (k : Fin 2048) : val_main_v28 (F := Ideal) x y g h (ix2 r (lo k)) = normed (fun k => x (ix2 r k)) (g (ix2 0 k)) k := by
  pointwise [val_main_v28]
  exact ref_first x g r k
theorem ref_hi (r : Fin 4096) (k : Fin 2048) : val_main_v28 (F := Ideal) x y g h (ix2 r (hi k)) = normed (fun k => y (ix2 r k)) (h (ix2 0 k)) k := by
  pointwise [val_main_v28]
  exact ref_second y h r k

end Reference

variable (m : (ℓ : Loc nD τ sig) → Buf (Elt Ideal) ℓ) (c : Dev nD)

/-- The two groups and their gains. -/
def XA : S4096x2048.Idx → EReal := m ((c.tc : Thread nD τ).loc main_arg0)
def XS : S4096x2048.Idx → EReal := m ((c.tc : Thread nD τ).loc main_arg1)
def GA : S1x2048.Idx → EReal := m ((c.tc : Thread nD τ).loc main_arg2)
def GS : S1x2048.Idx → EReal := m ((c.tc : Thread nD τ).loc main_arg3)

theorem V_XA : V m c main_arg0 = XA m c := V_main_arg0 m c
theorem V_XS : V m c main_arg1 = XS m c := V_main_arg1 m c
theorem V_GA : V m c main_arg2 = GA m c := V_main_arg2 m c
theorem V_GS : V m c main_arg3 = GS m c := V_main_arg3 m c

theorem idx0 : ∀ t : Fin cfg0.N, win0_0.index t = ![t.val, 0] ∧ win0_1.index t = ![t.val, 0] ∧ win0_2.index t = ![0, 0]
    ∧ win0_3.index t = ![0, 0] ∧ win0_4.index t = ![t.val, 0] := (by decide +kernel : ∀ t : Fin grid0.N, _)

theorem blk_XA (t : Fin cfg0.N) (r : Fin 128) (k : Fin 2048) : iblk m c 0 t (ix2 r k) = XA m c (ix2 (row t r) k) := by
  rw [← V_XA]; blk_point [iblk, (idx0 t).1]
theorem blk_XS (t : Fin cfg0.N) (r : Fin 128) (k : Fin 2048) : iblk m c 1 t (ix2 r k) = XS m c (ix2 (row t r) k) := by
  rw [← V_XS]; blk_point [iblk, (idx0 t).2.1]
theorem blk_GA (t : Fin cfg0.N) (k : Fin 2048) : iblk m c 2 t (ix2 0 k) = GA m c (ix2 0 k) := by
  rw [← V_GA]; blk_point [iblk, (idx0 t).2.2.1]
theorem blk_GS (t : Fin cfg0.N) (k : Fin 2048) : iblk m c 3 t (ix2 0 k) = GS m c (ix2 0 k) := by
  rw [← V_GS]; blk_point [iblk, (idx0 t).2.2.2.1]
theorem emb_out (t : Fin cfg0.N) (r : Fin 128) (k : Fin 4096) : (win0_4.blk t).view.emb (ix2 r k) = ix2 (row t r) k := by
  blk_ext [(idx0 t).2.2.2.2]

/-- The mixed rows, as the reference gives them. -/
abbrev out : S4096x4096.Idx → EReal := Cert.Reference10Ideal.Read.val_main_v28 (F := Ideal) (XA m c) (XS m c) (GA m c) (GS m c)

theorem arr_out : (dats m 0 c).arrAt 4 cfg0.N = out m c := by
  refine (dats m 0 c).arrAt_eq_of_covers 4 _ (by decide +kernel) fun t hf y => ?_
  obtain ⟨r, k, rfl⟩ : ∃ (r : Fin 128) (k : Fin 4096), y = ix2 r k := ⟨y 0, y 1, by idx_vars y⟩
  have point : k0_pay1 (iblk m c 0 t) (iblk m c 1 t) (iblk m c 2 t) (iblk m c 3 t) (ix2 r k) = out m c ((win0_4.blk t).view.emb (ix2 r k)) := by
    rw [emb_out]
    obtain ⟨j, rfl⟩ | ⟨j, rfl⟩ := col_cases k
    · rw [pay1_lo]
      refine Eq.trans ?_ (ref_lo (XA m c) (XS m c) (GA m c) (GS m c) (row t r) j).symm
      simp only [blk_XA, blk_GA]
    · rw [pay1_hi]
      refine Eq.trans ?_ (ref_hi (XA m c) (XS m c) (GA m c) (GS m c) (row t r) j).symm
      simp only [blk_XS, blk_GS]
  blk_simp
  rw [after0_4]
  frame_out
  exact point

theorem tail_out : Pipeline.afterTail₀ cfgs (dats m) 0 (V0 m) [hostOps1] c main_v1 = extf (F := Ideal) .f32 ((dats m 0 c).arrAt 4 cfg0.N) bitsLt_bf16_f32 := by
  unfold Pipeline.afterTail₀
  simp only [List.flatten_cons, List.flatten_nil, List.append_nil]
  after_results
  exact congrArg (fun x => extf (F := Ideal) .f32 x bitsLt_bf16_f32) (Pipeline.withArrays_arr spec0 launch0.win.arr_inj c _ _ 4)

theorem kernel_run (ρ : Dev nD → PrngReg) :
    θ_run defs (onTc (τ := τ) (main (F := Ideal))) ⟨m, fun _ => 0, ρ⟩ (fun r => ∀ c : Dev nD,
      r.2.mem ((c.tc : Thread nD τ).loc main_v1) = out m c) :=
  (θ_run defs _ _).mono (fun _ h c =>
    (h.rest_eq c main_v1 (Pipeline.mem_restRefs_of main_v1 (by decide) (by decide))).trans ((tail_out m c).trans (by rw [arr_out]; rfl))) (run_main m ρ)

/-! ## The claims -/

theorem frame_ref : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic : Cert.algebraic_Kernel10Ideal_Reference10Ideal := by
  intro m ρ m' ρ' _ hagree
  refine ⟨_, (θ_run defs _ _).mono (fun r h c => ⟨h.1 c, h.2 c⟩) (θ_run_and (kernel_run m ρ) (unchanged m ρ)), ?_⟩
  refine (θ_run Cert.Reference10Ideal.defs _ _).mono (fun _ h c => ?_) (Cert.Reference10Ideal.Value.run (F := Ideal) m' ρ')
  obtain ⟨h0, hargs⟩ := h c
  obtain ⟨a0, a1, a2, a3⟩ := hagree c
  replace h0 := h0.trans (Cert.Reference10Ideal.Read.val_main_v28_eq _ _ _ _)
  rw [a0, a1, a2, a3] at h0
  exact ⟨h0, hargs⟩

end Cert.GroupFwd
end
-- ==== Proof.GluFwd.lean ====
/- The gate: the product of gelu with the weights, the bias added, and the gated rows; tile by tile in the kernel. -/
module

public import proofs.«01_k».proof.Defs
public import proofs.«01_k».proof.Proof.Gen.Kernel11Ideal.Frame
public import proofs.«01_k».proof.Proof.Gen.Reference11Ideal.Read
public import proofs.«01_k».proof.Proof.Gen.Reference11Ideal.Run
public import proofs.«01_k».proof.Proof.Glu
public import Idealize.ShloMosaic.Lib.Pipeline.ValueKit
public import Idealize.ShloMosaic.PureOps.Ideal.Laws

@[expose] public section

set_option maxRecDepth 16384

noncomputable section

namespace Cert.GluFwd

open Idealize.ShloMosaic Idealize.ShloMosaic.TcCoe Idealize.SL.Sem Cert.Kernel11Ideal Cert.Kernel11Ideal.Gen
open Cert.Glu (sg gelu)

theorem pay3_apply (y : Vec Ideal S512x2048 .f32) (w : Vec Ideal S2048x1024 .bf16) (b : Vec Ideal S1x1024 .f32) (r : Fin 512) (k : Fin 1024) :
    k0_pay3 y w b (ix2 r k) = ∑ x : Fin 2048, gelu (y (ix2 r x)) * w (ix2 x k) + b (ix2 0 k) := by
  pointwise [k0_pay3, k0_pay1]
  rfl

theorem pay2_apply (y : Vec Ideal S512x2048 .f32) (w : Vec Ideal S2048x1024 .bf16) (e : Vec Ideal S512x1024 .f32) (b : Vec Ideal S1x1024 .f32)
    (r : Fin 512) (k : Fin 1024) : k0_pay2 y w e b (ix2 r k) =
      gelu (e (ix2 r k)) * sg (∑ x : Fin 2048, gelu (y (ix2 r x)) * w (ix2 x k) + b (ix2 0 k)) := by
  pointwise [k0_pay2, k0_pay1]
  rw [sg, zero_sub]
  rfl

variable (m : (ℓ : Loc nD τ sig) → Buf (Elt Ideal) ℓ) (c : Dev nD)

/-- The rows, the weights, the bias. -/
def Y : S4096x2048.Idx → EReal := m ((c.tc : Thread nD τ).loc main_arg0)
def W : S2048x2048.Idx → EReal := m ((c.tc : Thread nD τ).loc main_arg1)
def B : S1x2048.Idx → EReal := m ((c.tc : Thread nD τ).loc main_arg2)

/-- The gate's argument, and the gated rows. -/
def gateArg (y : S4096x2048.Idx → EReal) (w : S2048x2048.Idx → EReal) (b : S1x2048.Idx → EReal) (i : S4096x2048.Idx) : EReal :=
  ∑ x : Fin 2048, gelu (y (ix2 (i 0) x)) * w (ix2 x (i 1)) + b (ix2 0 (i 1))
def gated (y : S4096x2048.Idx → EReal) (w : S2048x2048.Idx → EReal) (b : S1x2048.Idx → EReal) (i : S4096x2048.Idx) : EReal :=
  gelu (y i) * sg (gateArg y w b i)

theorem V_Y : V m c main_arg0 = Y m c := V_main_arg0 m c
theorem V_B : V m c main_arg2 = B m c := V_main_arg2 m c
theorem V_W (i : S2048x2048.Idx) : V m c main_v0 i = W m c i := by
  unfold V; after_results; pointwise; rfl

theorem idx0 : ∀ t : Fin cfg0.N, win0_0.index t = ![t.val / 2, 0] ∧ win0_1.index t = ![0, t.val % 2] ∧ win0_2.index t = ![t.val / 2, t.val % 2]
    ∧ win0_3.index t = ![0, t.val % 2] ∧ win0_4.index t = ![t.val / 2, t.val % 2] ∧ win0_5.index t = ![t.val / 2, t.val % 2] :=
  (by decide +kernel : ∀ t : Fin grid0.N, _)

theorem point_lt (t : Fin cfg0.N) : t.val < 16 := lt_of_lt_of_eq t.isLt (show cfg0.N = 16 from N_0)

/-- The row and the column of the array that a row and a column of tile `t` are. -/
abbrev row (t : Fin cfg0.N) (r : Fin 512) : Fin 4096 := ⟨t.val / 2 * 512 + r.val, by have := point_lt t; omega⟩
abbrev col (t : Fin cfg0.N) (k : Fin 1024) : Fin 2048 := ⟨t.val % 2 * 1024 + k.val, by omega⟩

theorem blk_Y (t : Fin cfg0.N) (r : Fin 512) (k : Fin 2048) : iblk m c 0 t (ix2 r k) = Y m c (ix2 (row t r) k) := by
  rw [← V_Y]; blk_point [iblk, (idx0 t).1]
theorem blk_W (t : Fin cfg0.N) (x : Fin 2048) (k : Fin 1024) : iblk m c 1 t (ix2 x k) = W m c (ix2 x (col t k)) := by
  rw [← V_W]; blk_point [iblk, (idx0 t).2.1]
theorem blk_E (t : Fin cfg0.N) (r : Fin 512) (k : Fin 1024) : iblk m c 2 t (ix2 r k) = Y m c (ix2 (row t r) (col t k)) := by
  rw [← V_Y]; blk_point [iblk, (idx0 t).2.2.1]
theorem blk_B (t : Fin cfg0.N) (k : Fin 1024) : iblk m c 3 t (ix2 0 k) = B m c (ix2 0 (col t k)) := by
  rw [← V_B]; blk_point [iblk, (idx0 t).2.2.2.1]
theorem emb_out (t : Fin cfg0.N) (r : Fin 512) (k : Fin 1024) : (win0_4.blk t).view.emb (ix2 r k) = ix2 (row t r) (col t k) := by
  blk_ext [(idx0 t).2.2.2.2.1]
theorem emb_arg (t : Fin cfg0.N) (r : Fin 512) (k : Fin 1024) : (win0_5.blk t).view.emb (ix2 r k) = ix2 (row t r) (col t k) := by
  blk_ext [(idx0 t).2.2.2.2.2]

theorem arr_out : (dats m 0 c).arrAt 4 cfg0.N = gated (Y m c) (W m c) (B m c) := by
  refine (dats m 0 c).arrAt_eq_of_covers 4 _ (by decide +kernel) fun t hf y => ?_
  obtain ⟨r, k, rfl⟩ : ∃ (r : Fin 512) (k : Fin 1024), y = ix2 r k := ⟨y 0, y 1, by idx_vars y⟩
  have point : k0_pay2 (iblk m c 0 t) (iblk m c 1 t) (iblk m c 2 t) (iblk m c 3 t) (ix2 r k) =
      gated (Y m c) (W m c) (B m c) ((win0_4.blk t).view.emb (ix2 r k)) := by
    rw [pay2_apply, emb_out]
    simp only [blk_Y, blk_W, blk_E, blk_B]
    rfl
  blk_simp
  rw [after0_4]
  frame_out
  exact point

theorem arr_arg : (dats m 0 c).arrAt 5 cfg0.N = gateArg (Y m c) (W m c) (B m c) := by
  refine (dats m 0 c).arrAt_eq_of_covers 5 _ (by decide +kernel) fun t hf y => ?_
  obtain ⟨r, k, rfl⟩ : ∃ (r : Fin 512) (k : Fin 1024), y = ix2 r k := ⟨y 0, y 1, by idx_vars y⟩
  have point : k0_pay3 (iblk m c 0 t) (iblk m c 1 t) (iblk m c 3 t) (ix2 r k) =
      gateArg (Y m c) (W m c) (B m c) ((win0_5.blk t).view.emb (ix2 r k)) := by
    rw [pay3_apply, emb_arg]
    simp only [blk_Y, blk_W, blk_B]
    rfl
  blk_simp
  rw [after0_5]
  frame_out
  exact point

theorem kernel_run (ρ : Dev nD → PrngReg) :
    θ_run defs (onTc (τ := τ) (main (F := Ideal))) ⟨m, fun _ => 0, ρ⟩ (fun r => ∀ c : Dev nD,
      r.2.mem ((c.tc : Thread nD τ).loc main_v1_0) = gated (Y m c) (W m c) (B m c)
      ∧ r.2.mem ((c.tc : Thread nD τ).loc main_v1_1) = gateArg (Y m c) (W m c) (B m c)) :=
  (θ_run defs _ _).mono (fun _ h c => ⟨(h.out_eq c 4).trans (arr_out m c), (h.out_eq c 5).trans (arr_arg m c)⟩) (run_main m ρ)

section Reference

open Cert.Reference11Ideal.Read

variable (y : S4096x2048.Idx → EReal) (w : S2048x2048.Idx → EReal) (b : S1x2048.Idx → EReal)

theorem ref_gelu (i : S4096x2048.Idx) : val_main_v6 (F := Ideal) y i = gelu (y i) := by
  pointwise [val_main_v6, val_main_v5, val_main_v4, val_main_v3, val_main_v2, val_main_v1, val_main_v0, val_main_cst, val_main_cst_0]
  simp only [neg_mul, Ideal.erfc_neg]
  rfl

theorem ref_gate (i : S4096x2048.Idx) : val_main_v11 (F := Ideal) y w b i = gateArg y w b i := by
  pointwise [val_main_v11, val_main_v10, val_main_v9, val_main_v8, val_main_v7]
  simp only [ref_gelu]
  rfl
theorem ref_arg : val_main_v23 (F := Ideal) y w b = gateArg y w b := by
  funext i
  pointwise [val_main_v23, val_main_v22, val_main_v21, val_main_v20, val_main_v19]
  simp only [ref_gelu]
  rfl
theorem ref_out : val_main_v18 (F := Ideal) y w b = gated y w b := by
  funext i
  pointwise [val_main_v18, val_main_v17, val_main_v16, val_main_v15, val_main_v14, val_main_v13, val_main_v12, val_main_cst_1, val_main_cst_2]
  rw [ref_gate, ref_gelu]
  rfl

end Reference

/-! ## The claims -/

theorem frame_ref : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)

theorem algebraic : Cert.algebraic_Kernel11Ideal_Reference11Ideal := by
  intro m ρ m' ρ' _ hagree
  refine ⟨_, _, (θ_run defs _ _).mono (fun r h c => ⟨(h.1 c).1, (h.1 c).2, h.2 c⟩) (θ_run_and (kernel_run m ρ) (unchanged m ρ)), ?_⟩
  refine (θ_run Cert.Reference11Ideal.defs _ _).mono (fun _ h c => ?_) (Cert.Reference11Ideal.Value.run (F := Ideal) m' ρ')
  obtain ⟨h0, h1, hargs⟩ := h c
  obtain ⟨a0, a1, a2⟩ := hagree c
  replace h0 := h0.trans (Cert.Reference11Ideal.Read.val_main_v18_eq _ _ _)
  replace h1 := h1.trans (Cert.Reference11Ideal.Read.val_main_v23_eq _ _ _)
  rw [a0, a1, a2] at h0 h1
  exact ⟨h0.trans (ref_out (Y m c) (W m c) (B m c)), h1.trans (ref_arg (Y m c) (W m c) (B m c)), hargs⟩

end Cert.GluFwd
end
-- ==== Proof.Ff1.lean ====
/- The channel mixer's first product and the square of its positive part; the weights in eight slabs of columns. -/
module

public import proofs.«01_k».proof.Defs
public import proofs.«01_k».proof.Proof.Gen.Kernel12Ideal.Frame
public import proofs.«01_k».proof.Proof.Gen.Reference12Ideal.Read
public import proofs.«01_k».proof.Proof.Gen.Reference12Ideal.Run

public import Idealize.ShloMosaic.Lib.Pipeline.ValueKit
public import Idealize.ShloMosaic.PureOps.Ideal.Laws

@[expose] public section

set_option maxRecDepth 16384

noncomputable section

namespace Cert.Ff1

open Idealize.ShloMosaic Idealize.ShloMosaic.TcCoe Idealize.SL.Sem Cert.Kernel12Ideal Cert.Kernel12Ideal.Gen

/-- The square of the positive part. -/
def sq (a : EReal) : EReal := max a 0 * max a 0

theorem pay2_apply (h : Vec Ideal S1024x4096 .bf16) (w : Vec Ideal S1x4096x1024 .bf16) (r k : Fin 1024) :
    k0_pay2 h w (ix2 r k) = ∑ x : Fin 4096, h (ix2 r x) * w (ix3 0 x k) := by
  pointwise [k0_pay2, k0_pay1]
theorem pay3_apply (h : Vec Ideal S1024x4096 .bf16) (w : Vec Ideal S1x4096x1024 .bf16) (r k : Fin 1024) :
    k0_pay3 h w (ix2 r k) = sq (∑ x : Fin 4096, h (ix2 r x) * w (ix3 0 x k)) := by
  pointwise [k0_pay3, k0_pay1]
  rfl

variable (m : (ℓ : Loc nD τ sig) → Buf (Elt Ideal) ℓ) (c : Dev nD)

/-- The rows and the weights. -/
def H : S4096x4096.Idx → EReal := m ((c.tc : Thread nD τ).loc main_arg0)
def W : S4096x16384.Idx → EReal := m ((c.tc : Thread nD τ).loc main_arg1)

/-- The product. -/
def prod (h : S4096x4096.Idx → EReal) (w : S4096x16384.Idx → EReal) (i : S4096x16384.Idx) : EReal :=
  ∑ x : Fin 4096, h (ix2 (i 0) x) * w (ix2 x (i 1))

theorem V_H (i : S4096x4096.Idx) : V m c main_v3 i = H m c i := by
  unfold V V0; simp only [List.flatten_cons, List.flatten_nil, List.append_nil]; after_results; pointwise; rfl
/-- Column `l` of slab `j` is column `2048 j + l` of the weights. -/
theorem V_W (j : Fin 8) (x : Fin 4096) (l : Fin 2048) : V m c main_v2 (ix3 j x l) = W m c (ix2 x ⟨j.val * 2048 + l.val, by omega⟩) := by
  unfold V V0; simp only [List.flatten_cons, List.flatten_nil, List.append_nil]; after_results; pointwise; rfl

theorem idx0 : ∀ t : Fin cfg0.N, win0_0.index t = ![t.val / 16, 0] ∧ win0_1.index t = ![t.val % 16 / 2, 0, t.val % 2]
    ∧ win0_2.index t = ![t.val / 16, t.val % 16] ∧ win0_3.index t = ![t.val / 16, t.val % 16] := (by decide +kernel : ∀ t : Fin grid0.N, _)

theorem point_lt (t : Fin cfg0.N) : t.val < 64 := lt_of_lt_of_eq t.isLt (show cfg0.N = 64 from N_0)

/-- The row and the column of the array that a row and a column of tile `t` are. -/
abbrev row (t : Fin cfg0.N) (r : Fin 1024) : Fin 4096 := ⟨t.val / 16 * 1024 + r.val, by have := point_lt t; omega⟩
abbrev col (t : Fin cfg0.N) (k : Fin 1024) : Fin 16384 := ⟨t.val % 16 * 1024 + k.val, by omega⟩

theorem blk_H (t : Fin cfg0.N) (r : Fin 1024) (k : Fin 4096) : iblk m c 0 t (ix2 r k) = H m c (ix2 (row t r) k) := by
  rw [← V_H]; blk_point [iblk, (idx0 t).1]
theorem blk_W (t : Fin cfg0.N) (x : Fin 4096) (k : Fin 1024) : iblk m c 1 t (ix3 0 x k) = W m c (ix2 x (col t k)) := by
  have e := V_W m c ⟨t.val % 16 / 2, by omega⟩ x ⟨t.val % 2 * 1024 + k.val, by omega⟩
  rw [show (⟨t.val % 16 / 2 * 2048 + (t.val % 2 * 1024 + k.val), by omega⟩ : Fin 16384) = col t k from Fin.ext (by show _ = _; simp only; omega)] at e
  rw [← e]; blk_point [iblk, (idx0 t).2.1]
theorem emb_a (t : Fin cfg0.N) (r k : Fin 1024) : (win0_2.blk t).view.emb (ix2 r k) = ix2 (row t r) (col t k) := by
  blk_ext [(idx0 t).2.2.1]
theorem emb_sq (t : Fin cfg0.N) (r k : Fin 1024) : (win0_3.blk t).view.emb (ix2 r k) = ix2 (row t r) (col t k) := by
  blk_ext [(idx0 t).2.2.2]

theorem arr_a : (dats m 0 c).arrAt 2 cfg0.N = prod (H m c) (W m c) := by
  refine (dats m 0 c).arrAt_eq_of_covers 2 _ (by decide +kernel) fun t hf y => ?_
  obtain ⟨r, k, rfl⟩ : ∃ r k : Fin 1024, y = ix2 r k := ⟨y 0, y 1, by idx_vars y⟩
  have point : k0_pay2 (iblk m c 0 t) (iblk m c 1 t) (ix2 r k) = prod (H m c) (W m c) ((win0_2.blk t).view.emb (ix2 r k)) := by
    rw [pay2_apply, emb_a]
    simp only [blk_H, blk_W]
    rfl
  blk_simp
  rw [after0_2]
  frame_out
  exact point

theorem arr_sq : (dats m 0 c).arrAt 3 cfg0.N = fun i : S4096x16384.Idx => sq (prod (H m c) (W m c) i) := by
  refine (dats m 0 c).arrAt_eq_of_covers 3 _ (by decide +kernel) fun t hf y => ?_
  obtain ⟨r, k, rfl⟩ : ∃ r k : Fin 1024, y = ix2 r k := ⟨y 0, y 1, by idx_vars y⟩
  have point : k0_pay3 (iblk m c 0 t) (iblk m c 1 t) (ix2 r k) =
      (fun i : S4096x16384.Idx => sq (prod (H m c) (W m c) i)) ((win0_3.blk t).view.emb (ix2 r k)) := by
    rw [pay3_apply, emb_sq]
    simp only [blk_H, blk_W]
    rfl
  blk_simp
  rw [after0_3]
  frame_out
  exact point

theorem tail_a : Pipeline.afterTail₀ cfgs (dats m) 0 (V0 m) [hostOps1] c main_v5 = extf (F := Ideal) .f32 ((dats m 0 c).arrAt 2 cfg0.N) bitsLt_bf16_f32 := by
  unfold Pipeline.afterTail₀
  simp only [List.flatten_cons, List.flatten_nil, List.append_nil]
  after_results
  exact congrArg (fun x => extf (F := Ideal) .f32 x bitsLt_bf16_f32) (Pipeline.withArrays_arr spec0 launch0.win.arr_inj c _ _ 2)
theorem tail_sq : Pipeline.afterTail₀ cfgs (dats m) 0 (V0 m) [hostOps1] c main_v6 = extf (F := Ideal) .f32 ((dats m 0 c).arrAt 3 cfg0.N) bitsLt_bf16_f32 := by
  unfold Pipeline.afterTail₀
  simp only [List.flatten_cons, List.flatten_nil, List.append_nil]
  after_results
  exact congrArg (fun x => extf (F := Ideal) .f32 x bitsLt_bf16_f32) (Pipeline.withArrays_arr spec0 launch0.win.arr_inj c _ _ 3)

theorem kernel_run (ρ : Dev nD → PrngReg) :
    θ_run defs (onTc (τ := τ) (main (F := Ideal))) ⟨m, fun _ => 0, ρ⟩ (fun r => ∀ c : Dev nD,
      r.2.mem ((c.tc : Thread nD τ).loc main_v5) = prod (H m c) (W m c)
      ∧ r.2.mem ((c.tc : Thread nD τ).loc main_v6) = fun i : S4096x16384.Idx => sq (prod (H m c) (W m c) i)) :=
  (θ_run defs _ _).mono (fun _ h c =>
    ⟨(h.rest_eq c main_v5 (Pipeline.mem_restRefs_of main_v5 (by decide) (by decide))).trans ((tail_a m c).trans (by rw [arr_a]; rfl)),
      (h.rest_eq c main_v6 (Pipeline.mem_restRefs_of main_v6 (by decide) (by decide))).trans ((tail_sq m c).trans (by rw [arr_sq]; rfl))⟩) (run_main m ρ)

section Reference

open Cert.Reference12Ideal.Read

variable (h : S4096x4096.Idx → EReal) (w : S4096x16384.Idx → EReal)

theorem ref_a : val_main_v0 (F := Ideal) h w = prod h w := by
  funext i
  pointwise [val_main_v0]
  rfl
theorem ref_sq : val_main_v2 (F := Ideal) h w = fun i : S4096x16384.Idx => sq (prod h w i) := by
  funext i
  pointwise [val_main_v2, val_main_v1, val_main_call0_v0, val_main_call0_cst]
  rw [ref_a]
  rfl

end Reference

/-! ## The claims -/

theorem frame_ref : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

theorem algebraic : Cert.algebraic_Kernel12Ideal_Reference12Ideal := by
  intro m ρ m' ρ' _ hagree
  refine ⟨_, _, (θ_run defs _ _).mono (fun r h c => ⟨(h.1 c).1, (h.1 c).2, h.2 c⟩) (θ_run_and (kernel_run m ρ) (unchanged m ρ)), ?_⟩
  refine (θ_run Cert.Reference12Ideal.defs _ _).mono (fun _ h c => ?_) (Cert.Reference12Ideal.Value.run (F := Ideal) m' ρ')
  obtain ⟨h0, h1, hargs⟩ := h c
  obtain ⟨a0, a1⟩ := hagree c
  replace h0 := h0.trans (Cert.Reference12Ideal.Read.val_main_v0_eq _ _)
  replace h1 := h1.trans (Cert.Reference12Ideal.Read.val_main_v2_eq _ _)
  rw [a0, a1] at h0 h1
  exact ⟨h0.trans (ref_a (H m c) (W m c)), h1.trans (ref_sq (H m c) (W m c)), hargs⟩

end Cert.Ff1
end
-- ==== Proof.OutProj.lean ====
/- The mixers' output product and the gated residual added to it. -/
module

public import proofs.«01_k».proof.Defs
public import proofs.«01_k».proof.Proof.Gen.Kernel13Ideal.Frame
public import proofs.«01_k».proof.Proof.Gen.Reference13Ideal.Read
public import proofs.«01_k».proof.Proof.Gen.Reference13Ideal.Run

public import Idealize.ShloMosaic.Lib.Pipeline.ValueKit
public import Idealize.ShloMosaic.PureOps.Ideal.Laws

@[expose] public section

set_option maxRecDepth 16384

noncomputable section

namespace Cert.OutProj

open Idealize.ShloMosaic Idealize.ShloMosaic.TcCoe Idealize.SL.Sem Cert.Kernel13Ideal Cert.Kernel13Ideal.Gen

theorem pay3_apply (h : Vec Ideal S1024x4096 .bf16) (w : Vec Ideal S4096x512 .bf16) (r : Fin 1024) (k : Fin 512) :
    k0_pay3 h w (ix2 r k) = ∑ x : Fin 4096, h (ix2 r x) * w (ix2 x k) := by
  pointwise [k0_pay3, k0_pay1]
theorem pay2_apply (h : Vec Ideal S1024x4096 .bf16) (w : Vec Ideal S4096x512 .bf16) (x : Vec Ideal S1024x512 .f32) (g : Vec Ideal S1x512 .f32)
    (r : Fin 1024) (k : Fin 512) :
    k0_pay2 h w x g (ix2 r k) = x (ix2 r k) + g (ix2 0 k) * ∑ x : Fin 4096, h (ix2 r x) * w (ix2 x k) := by
  pointwise [k0_pay2, k0_pay1]

variable (m : (ℓ : Loc nD τ sig) → Buf (Elt Ideal) ℓ) (c : Dev nD)

/-- The residual stream, the mixed rows, the weights, the gate. -/
def X : S4096x4096.Idx → EReal := m ((c.tc : Thread nD τ).loc main_arg0)
def H : S4096x4096.Idx → EReal := m ((c.tc : Thread nD τ).loc main_arg1)
def W : S4096x4096.Idx → EReal := m ((c.tc : Thread nD τ).loc main_arg2)
def G : S1x4096.Idx → EReal := m ((c.tc : Thread nD τ).loc main_arg3)

/-- The product, and the stream with the gated product added. -/
def prod (h w : S4096x4096.Idx → EReal) (i : S4096x4096.Idx) : EReal := ∑ x : Fin 4096, h (ix2 (i 0) x) * w (ix2 x (i 1))
def stream (x h w : S4096x4096.Idx → EReal) (g : S1x4096.Idx → EReal) (i : S4096x4096.Idx) : EReal := x i + g (ix2 0 (i 1)) * prod h w i

theorem V_X : V m c main_arg0 = X m c := V_main_arg0 m c
theorem V_G : V m c main_arg3 = G m c := V_main_arg3 m c
theorem V_H (i : S4096x4096.Idx) : V m c main_v0 i = H m c i := by
  unfold V V0; simp only [List.flatten_cons, List.flatten_nil, List.append_nil]; after_results; pointwise; rfl
theorem V_W (i : S4096x4096.Idx) : V m c main_v1 i = W m c i := by
  unfold V V0; simp only [List.flatten_cons, List.flatten_nil, List.append_nil]; after_results; pointwise; rfl

theorem idx0 : ∀ t : Fin cfg0.N, win0_0.index t = ![t.val / 8, 0] ∧ win0_1.index t = ![0, t.val % 8] ∧ win0_2.index t = ![t.val / 8, t.val % 8]
    ∧ win0_3.index t = ![0, t.val % 8] ∧ win0_4.index t = ![t.val / 8, t.val % 8] ∧ win0_5.index t = ![t.val / 8, t.val % 8] :=
  (by decide +kernel : ∀ t : Fin grid0.N, _)

theorem point_lt (t : Fin cfg0.N) : t.val < 32 := lt_of_lt_of_eq t.isLt (show cfg0.N = 32 from N_0)

/-- The row and the column of the array that a row and a column of tile `t` are. -/
abbrev row (t : Fin cfg0.N) (r : Fin 1024) : Fin 4096 := ⟨t.val / 8 * 1024 + r.val, by have := point_lt t; omega⟩
abbrev col (t : Fin cfg0.N) (k : Fin 512) : Fin 4096 := ⟨t.val % 8 * 512 + k.val, by omega⟩

theorem blk_H (t : Fin cfg0.N) (r : Fin 1024) (k : Fin 4096) : iblk m c 0 t (ix2 r k) = H m c (ix2 (row t r) k) := by
  rw [← V_H]; blk_point [iblk, (idx0 t).1]
theorem blk_W (t : Fin cfg0.N) (x : Fin 4096) (k : Fin 512) : iblk m c 1 t (ix2 x k) = W m c (ix2 x (col t k)) := by
  rw [← V_W]; blk_point [iblk, (idx0 t).2.1]
theorem blk_X (t : Fin cfg0.N) (r : Fin 1024) (k : Fin 512) : iblk m c 2 t (ix2 r k) = X m c (ix2 (row t r) (col t k)) := by
  rw [← V_X]; blk_point [iblk, (idx0 t).2.2.1]
theorem blk_G (t : Fin cfg0.N) (k : Fin 512) : iblk m c 3 t (ix2 0 k) = G m c (ix2 0 (col t k)) := by
  rw [← V_G]; blk_point [iblk, (idx0 t).2.2.2.1]
theorem emb_stream (t : Fin cfg0.N) (r : Fin 1024) (k : Fin 512) : (win0_4.blk t).view.emb (ix2 r k) = ix2 (row t r) (col t k) := by
  blk_ext [(idx0 t).2.2.2.2.1]
theorem emb_prod (t : Fin cfg0.N) (r : Fin 1024) (k : Fin 512) : (win0_5.blk t).view.emb (ix2 r k) = ix2 (row t r) (col t k) := by
  blk_ext [(idx0 t).2.2.2.2.2]

theorem arr_stream : (dats m 0 c).arrAt 4 cfg0.N = stream (X m c) (H m c) (W m c) (G m c) := by
  refine (dats m 0 c).arrAt_eq_of_covers 4 _ (by decide +kernel) fun t hf y => ?_
  obtain ⟨r, k, rfl⟩ : ∃ (r : Fin 1024) (k : Fin 512), y = ix2 r k := ⟨y 0, y 1, by idx_vars y⟩
  have point : k0_pay2 (iblk m c 0 t) (iblk m c 1 t) (iblk m c 2 t) (iblk m c 3 t) (ix2 r k) =
      stream (X m c) (H m c) (W m c) (G m c) ((win0_4.blk t).view.emb (ix2 r k)) := by
    rw [pay2_apply, emb_stream]
    simp only [blk_H, blk_W, blk_X, blk_G]
    rfl
  blk_simp
  rw [after0_4]
  frame_out
  exact point

theorem arr_prod : (dats m 0 c).arrAt 5 cfg0.N = prod (H m c) (W m c) := by
  refine (dats m 0 c).arrAt_eq_of_covers 5 _ (by decide +kernel) fun t hf y => ?_
  obtain ⟨r, k, rfl⟩ : ∃ (r : Fin 1024) (k : Fin 512), y = ix2 r k := ⟨y 0, y 1, by idx_vars y⟩
  have point : k0_pay3 (iblk m c 0 t) (iblk m c 1 t) (ix2 r k) = prod (H m c) (W m c) ((win0_5.blk t).view.emb (ix2 r k)) := by
    rw [pay3_apply, emb_prod]
    simp only [blk_H, blk_W]
    rfl
  blk_simp
  rw [after0_5]
  frame_out
  exact point

theorem tail_prod : Pipeline.afterTail₀ cfgs (dats m) 0 (V0 m) [hostOps1] c main_v3 = extf (F := Ideal) .f32 ((dats m 0 c).arrAt 5 cfg0.N) bitsLt_bf16_f32 := by
  unfold Pipeline.afterTail₀
  simp only [List.flatten_cons, List.flatten_nil, List.append_nil]
  after_results
  exact congrArg (fun x => extf (F := Ideal) .f32 x bitsLt_bf16_f32) (Pipeline.withArrays_arr spec0 launch0.win.arr_inj c _ _ 5)

theorem kernel_run (ρ : Dev nD → PrngReg) :
    θ_run defs (onTc (τ := τ) (main (F := Ideal))) ⟨m, fun _ => 0, ρ⟩ (fun r => ∀ c : Dev nD,
      r.2.mem ((c.tc : Thread nD τ).loc main_v2_0) = stream (X m c) (H m c) (W m c) (G m c)
      ∧ r.2.mem ((c.tc : Thread nD τ).loc main_v3) = prod (H m c) (W m c)) :=
  (θ_run defs _ _).mono (fun _ h c => ⟨(h.out_eq c 4).trans (arr_stream m c),
    (h.rest_eq c main_v3 (Pipeline.mem_restRefs_of main_v3 (by decide) (by decide))).trans ((tail_prod m c).trans (by rw [arr_prod]; rfl))⟩) (run_main m ρ)

section Reference

open Cert.Reference13Ideal.Read

variable (x h w : S4096x4096.Idx → EReal) (g : S1x4096.Idx → EReal)

theorem ref_prod : val_main_v0 (F := Ideal) h w = prod h w := by
  funext i
  pointwise [val_main_v0]
  rfl
theorem ref_stream : val_main_v3 (F := Ideal) x h w g = stream x h w g := by
  funext i
  pointwise [val_main_v3, val_main_v2, val_main_v1]
  rw [ref_prod]
  rfl

end Reference

/-! ## The claims -/

theorem frame_ref : Cert.quiescent_Reference13Ideal := fun m ρ _ =>
  (θ_run Cert.Reference13Ideal.defs _ _).mono (fun r h => ⟨fun c => (h c).2.2, sem_eq_zero_of_no_sems (by decide) r.2⟩)
    (Cert.Reference13Ideal.Value.run (F := Ideal) m ρ)

theorem algebraic : Cert.algebraic_Kernel13Ideal_Reference13Ideal := by
  intro m ρ m' ρ' _ hagree
  refine ⟨_, _, (θ_run defs _ _).mono (fun r h c => ⟨(h.1 c).1, (h.1 c).2, h.2 c⟩) (θ_run_and (kernel_run m ρ) (unchanged m ρ)), ?_⟩
  refine (θ_run Cert.Reference13Ideal.defs _ _).mono (fun _ h c => ?_) (Cert.Reference13Ideal.Value.run (F := Ideal) m' ρ')
  obtain ⟨h0, h1, hargs⟩ := h c
  obtain ⟨a0, a1, a2, a3⟩ := hagree c
  replace h0 := h0.trans (Cert.Reference13Ideal.Read.val_main_v3_eq _ _ _ _)
  replace h1 := h1.trans (Cert.Reference13Ideal.Read.val_main_v0_eq _ _)
  rw [a0, a1, a2, a3] at h0
  rw [a1, a2] at h1
  exact ⟨h0.trans (ref_stream (X m c) (H m c) (W m c) (G m c)), h1.trans (ref_prod (H m c) (W m c)), hargs⟩

end Cert.OutProj
end
-- ==== Proof.Adamw.lean ====
/- One entry of the optimiser's update: the two moments and the step, of the gradient, the weight and the moments before. -/
module

public import Idealize.ShloMosaic.PureOps.Ideal.Laws

@[expose] public section

noncomputable section

namespace Cert.Adamw

open Idealize.ShloMosaic

/-- The first moment: 0.9 of the old one and 0.1 of the gradient. -/
def newM (g m : EReal) : EReal := Ideal.ofBits .f32 0x3F666666#32 * m + Ideal.ofBits .f32 0x3DCCCCCD#32 * g

/-- The second moment: 0.999 of the old one and 0.001 of the gradient's square. -/
def newV (g v : EReal) : EReal := Ideal.ofBits .f32 0x3F7FBE77#32 * v + Ideal.ofBits .f32 0x3A83126F#32 * (g * g)

/-- The step: the two moments with their start-up factors taken out, and the weight decay, times minus the learning rate. -/
def delta (g w m v : EReal) : EReal :=
  Ideal.ofBits .f32 0xBA83126F#32 *
    (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)

end Cert.Adamw
end
-- ==== Proof.Ada.lean ====
/- The modulation's weight: its gradient, the outer products of the cotangent with the condition's activation, and the optimiser's update. -/
module

public import proofs.«01_k».proof.Defs
public import proofs.«01_k».proof.Proof.Gen.Kernel14Ideal.Frame
public import proofs.«01_k».proof.Proof.Gen.Reference14Ideal.Read
public import proofs.«01_k».proof.Proof.Gen.Reference14Ideal.Run
public import proofs.«01_k».proof.Proof.Adamw
public import Idealize.ShloMosaic.Lib.Pipeline.ValueKit
public import Idealize.ShloMosaic.PureOps.Ideal.Laws

@[expose] public section

set_option maxRecDepth 16384

noncomputable section

namespace Cert.Ada

open Idealize.ShloMosaic Idealize.ShloMosaic.TcCoe Idealize.SL.Sem Cert.Kernel14Ideal Cert.Kernel14Ideal.Gen
open Cert.Adamw

/-- `t · σ(t)`. -/
def silu (t : EReal) : EReal := t * Ideal.div 1 (1 + Ideal.exp (-t))

/-- The gradient in one block, of the block's activations and the cotangent. -/
def grad0 (a : Vec Ideal S128x8 .f32) (d : Vec Ideal S8x3072 .f32) (r : Fin 128) (k : Fin 3072) : EReal := ∑ x : Fin 8, a (ix2 r x) * d (ix2 x k)

section Payloads

variable (a : Vec Ideal S128x8 .f32) (d : Vec Ideal S8x3072 .f32) (w mo v : Vec Ideal S128x3072 .f32) (r : Fin 128) (k : Fin 3072)

theorem pay1_apply : k0_pay1 a d (ix2 r k) = grad0 a d r k := by
  pointwise [k0_pay1]
  rfl
theorem pay2_apply : k0_pay2 a d mo (ix2 r k) = newM (grad0 a d r k) (mo (ix2 r k)) := by
  pointwise [k0_pay2]
  rw [pay1_apply]
  rfl
theorem pay3_apply : k0_pay3 a d v (ix2 r k) = newV (grad0 a d r k) (v (ix2 r k)) := by
  pointwise [k0_pay3]
  rw [pay1_apply]
  rfl
theorem pay4_apply : k0_pay4 a d w mo v (ix2 r k) = delta (grad0 a d r k) (w (ix2 r k)) (mo (ix2 r k)) (v (ix2 r k)) := by
  pointwise [k0_pay4]
  rw [pay2_apply, pay3_apply]
  rfl

end Payloads

variable (m : (ℓ : Loc nD τ sig) → Buf (Elt Ideal) ℓ) (c : Dev nD)

/-- The condition, the cotangent of the modulation, the weight and its two moments. -/
def C : S8x4096.Idx → EReal := m ((c.tc : Thread nD τ).loc main_arg0)
def D : S8x3072.Idx → EReal := m ((c.tc : Thread nD τ).loc main_arg1)
def W : S4096x3072.Idx → EReal := m ((c.tc : Thread nD τ).loc main_arg2)
def M : S4096x3072.Idx → EReal := m ((c.tc : Thread nD τ).loc main_arg3)
def U : S4096x3072.Idx → EReal := m ((c.tc : Thread nD τ).loc main_arg4)

/-- The gradient. -/
def grad (s : S8x4096.Idx → EReal) (d : S8x3072.Idx → EReal) (i : S4096x3072.Idx) : EReal := ∑ x : Fin 8, silu (s (ix2 x (i 0))) * d (ix2 x (i 1))

theorem V_C (k : Fin 4096) (b : Fin 8) : V m c main_v7 (ix2 k b) = silu (C m c (ix2 b k)) := by
  unfold V; after_results; pointwise; rfl
theorem V_D : V m c main_arg1 = D m c := V_main_arg1 m c
theorem V_W : V m c main_arg2 = W m c := V_main_arg2 m c
theorem V_M : V m c main_arg3 = M m c := V_main_arg3 m c
theorem V_U : V m c main_arg4 = U m c := V_main_arg4 m c

theorem idx0 : ∀ t : Fin cfg0.N, win0_0.index t = ![t.val, 0] ∧ win0_1.index t = ![0, 0] ∧ win0_2.index t = ![t.val, 0] ∧ win0_3.index t = ![t.val, 0]
    ∧ win0_4.index t = ![t.val, 0] := (by decide +kernel : ∀ t : Fin grid0.N, _)
theorem idx1 : ∀ t : Fin cfg0.N, win0_5.index t = ![t.val, 0] ∧ win0_6.index t = ![t.val, 0] ∧ win0_7.index t = ![t.val, 0]
    ∧ win0_8.index t = ![t.val, 0] := (by decide +kernel : ∀ t : Fin grid0.N, _)

theorem point_lt (t : Fin cfg0.N) : t.val < 32 := lt_of_lt_of_eq t.isLt (show cfg0.N = 32 from N_0)

/-- The row of the array that row `r` of block `t` is. -/
abbrev row (t : Fin cfg0.N) (r : Fin 128) : Fin 4096 := ⟨t.val * 128 + r.val, by have := point_lt t; omega⟩

theorem blk_C (t : Fin cfg0.N) (r : Fin 128) (b : Fin 8) : iblk m c 0 t (ix2 r b) = silu (C m c (ix2 b (row t r))) := by
  rw [← V_C]; blk_point [iblk, (idx0 t).1]
theorem blk_D (t : Fin cfg0.N) (b : Fin 8) (k : Fin 3072) : iblk m c 1 t (ix2 b k) = D m c (ix2 b k) := by
  rw [← V_D]; blk_point [iblk, (idx0 t).2.1]
theorem blk_W (t : Fin cfg0.N) (r : Fin 128) (k : Fin 3072) : iblk m c 2 t (ix2 r k) = W m c (ix2 (row t r) k) := by
  rw [← V_W]; blk_point [iblk, (idx0 t).2.2.1]
theorem blk_M (t : Fin cfg0.N) (r : Fin 128) (k : Fin 3072) : iblk m c 3 t (ix2 r k) = M m c (ix2 (row t r) k) := by
  rw [← V_M]; blk_point [iblk, (idx0 t).2.2.2.1]
theorem blk_U (t : Fin cfg0.N) (r : Fin 128) (k : Fin 3072) : iblk m c 4 t (ix2 r k) = U m c (ix2 (row t r) k) := by
  rw [← V_U]; blk_point [iblk, (idx0 t).2.2.2.2]
theorem blk_grad (t : Fin cfg0.N) (r : Fin 128) (k : Fin 3072) :
    grad0 (iblk m c 0 t) (iblk m c 1 t) r k = grad (C m c) (D m c) (ix2 (row t r) k) := by
  unfold grad0
  simp only [blk_C, blk_D]
  rfl
theorem emb_grad (t : Fin cfg0.N) (r : Fin 128) (k : Fin 3072) : (win0_5.blk t).view.emb (ix2 r k) = ix2 (row t r) k := by blk_ext [(idx1 t).1]
theorem emb_delta (t : Fin cfg0.N) (r : Fin 128) (k : Fin 3072) : (win0_6.blk t).view.emb (ix2 r k) = ix2 (row t r) k := by blk_ext [(idx1 t).2.1]
theorem emb_m (t : Fin cfg0.N) (r : Fin 128) (k : Fin 3072) : (win0_7.blk t).view.emb (ix2 r k) = ix2 (row t r) k := by blk_ext [(idx1 t).2.2.1]
theorem emb_v (t : Fin cfg0.N) (r : Fin 128) (k : Fin 3072) : (win0_8.blk t).view.emb (ix2 r k) = ix2 (row t r) k := by blk_ext [(idx1 t).2.2.2]

/-- The update, entry by entry, of a gradient `g`. -/
def deltaOf (g w mo v : S4096x3072.Idx → EReal) (i : S4096x3072.Idx) : EReal := delta (g i) (w i) (mo i) (v i)
def mOf (g mo : S4096x3072.Idx → EReal) (i : S4096x3072.Idx) : EReal := newM (g i) (mo i)
def vOf (g v : S4096x3072.Idx → EReal) (i : S4096x3072.Idx) : EReal := newV (g i) (v i)

theorem arr_grad : (dats m 0 c).arrAt 5 cfg0.N = grad (C m c) (D m c) := by
  refine (dats m 0 c).arrAt_eq_of_covers 5 _ (by decide +kernel) fun t hf y => ?_
  obtain ⟨r, k, rfl⟩ : ∃ (r : Fin 128) (k : Fin 3072), y = ix2 r k := ⟨y 0, y 1, by idx_vars y⟩
  have point : k0_pay1 (iblk m c 0 t) (iblk m c 1 t) (ix2 r k) = (grad (C m c) (D m c)) ((win0_5.blk t).view.emb (ix2 r k)) := by
    rw [pay1_apply, emb_grad]
    simp only [blk_grad]
  blk_simp
  rw [after0_5]
  frame_out
  exact point

theorem arr_delta : (dats m 0 c).arrAt 6 cfg0.N = deltaOf (grad (C m c) (D m c)) (W m c) (M m c) (U m c) := by
  refine (dats m 0 c).arrAt_eq_of_covers 6 _ (by decide +kernel) fun t hf y => ?_
  obtain ⟨r, k, rfl⟩ : ∃ (r : Fin 128) (k : Fin 3072), y = ix2 r k := ⟨y 0, y 1, by idx_vars y⟩
  have point : k0_pay4 (iblk m c 0 t) (iblk m c 1 t) (iblk m c 2 t) (iblk m c 3 t) (iblk m c 4 t) (ix2 r k) = (deltaOf (grad (C m c) (D m c)) (W m c) (M m c) (U m c)) ((win0_6.blk t).view.emb (ix2 r k)) := by
    rw [pay4_apply, emb_delta]
    simp only [blk_grad, blk_W, blk_M, blk_U]
    rfl
  blk_simp
  rw [after0_6]
  frame_out
  exact point

theorem arr_m : (dats m 0 c).arrAt 7 cfg0.N = mOf (grad (C m c) (D m c)) (M m c) := by
  refine (dats m 0 c).arrAt_eq_of_covers 7 _ (by decide +kernel) fun t hf y => ?_
  obtain ⟨r, k, rfl⟩ : ∃ (r : Fin 128) (k : Fin 3072), y = ix2 r k := ⟨y 0, y 1, by idx_vars y⟩
  have point : k0_pay2 (iblk m c 0 t) (iblk m c 1 t) (iblk m c 3 t) (ix2 r k) = (mOf (grad (C m c) (D m c)) (M m c)) ((win0_7.blk t).view.emb (ix2 r k)) := by
    rw [pay2_apply, emb_m]
    simp only [blk_grad, blk_M]
    rfl
  blk_simp
  rw [after0_7]
  frame_out
  exact point

theorem arr_v : (dats m 0 c).arrAt 8 cfg0.N = vOf (grad (C m c) (D m c)) (U m c) := by
  refine (dats m 0 c).arrAt_eq_of_covers 8 _ (by decide +kernel) fun t hf y => ?_
  obtain ⟨r, k, rfl⟩ : ∃ (r : Fin 128) (k : Fin 3072), y = ix2 r k := ⟨y 0, y 1, by idx_vars y⟩
  have point : k0_pay3 (iblk m c 0 t) (iblk m c 1 t) (iblk m c 4 t) (ix2 r k) = (vOf (grad (C m c) (D m c)) (U m c)) ((win0_8.blk t).view.emb (ix2 r k)) := by
    rw [pay3_apply, emb_v]
    simp only [blk_grad, blk_U]
    rfl
  blk_simp
  rw [after0_8]
  frame_out
  exact point

theorem kernel_run (ρ : Dev nD → PrngReg) :
    θ_run defs (onTc (τ := τ) (main (F := Ideal))) ⟨m, fun _ => 0, ρ⟩ (fun r => ∀ c : Dev nD,
      r.2.mem ((c.tc : Thread nD τ).loc main_v8_0) = grad (C m c) (D m c)
      ∧ r.2.mem ((c.tc : Thread nD τ).loc main_v8_1) = deltaOf (grad (C m c) (D m c)) (W m c) (M m c) (U m c)
      ∧ r.2.mem ((c.tc : Thread nD τ).loc main_v8_2) = mOf (grad (C m c) (D m c)) (M m c)
      ∧ r.2.mem ((c.tc : Thread nD τ).loc main_v8_3) = vOf (grad (C m c) (D m c)) (U m c)) :=
  (θ_run defs _ _).mono (fun _ h c => ⟨(h.out_eq c 5).trans (arr_grad m c), (h.out_eq c 6).trans (arr_delta m c),
    (h.out_eq c 7).trans (arr_m m c), (h.out_eq c 8).trans (arr_v m c)⟩) (run_main m ρ)

section Reference

open Cert.Reference14Ideal.Read

variable (s : S8x4096.Idx → EReal) (d : S8x3072.Idx → EReal)

theorem ref_grad : val_main_v3 (F := Ideal) s d = grad s d := by
  funext i
  obtain ⟨r, k, rfl⟩ : ∃ (r : Fin 4096) (k : Fin 3072), i = ix2 r k := ⟨i 0, i 1, by idx_vars i⟩
  pointwise [val_main_v3, val_main_v2, val_main_v0, val_main_call0_v5, val_main_call0_v4, val_main_call0_cst_0, val_main_call0_v3, val_main_call0_v2,
    val_main_call0_cst, val_main_call0_v1, val_main_call0_v0]
  exact Finset.sum_congr rfl fun x _ => mul_comm _ _
theorem ref_m (mo : S4096x3072.Idx → EReal) : val_main_v8 (F := Ideal) s d mo = mOf (grad s d) mo := by
  funext i
  pointwise [val_main_v8, val_main_v7, val_main_v6, val_main_cst_0, val_main_v5, val_main_v4, val_main_cst]
  rw [ref_grad]
  rfl
theorem ref_v (v : S4096x3072.Idx → EReal) : val_main_v14 (F := Ideal) s d v = vOf (grad s d) v := by
  funext i
  pointwise [val_main_v14, val_main_v13, val_main_v12, val_main_cst_2, val_main_v11, val_main_v10, val_main_v9, val_main_cst_1]
  rw [ref_grad]
  rfl
theorem ref_delta (w mo v : S4096x3072.Idx → EReal) : val_main_v27 (F := Ideal) s d w mo v = deltaOf (grad s d) w mo v := by
  funext i
  pointwise [val_main_v27, val_main_v26, val_main_cst_7, val_main_v25, val_main_v24, val_main_v23, val_main_cst_6, val_main_v22, val_main_v21, val_main_v20, val_main_cst_5,
    val_main_v19, val_main_v18, val_main_v17, val_main_cst_4, val_main_v16, val_main_v15, val_main_cst_3]
  rw [ref_m, ref_v]
  rfl

end Reference

/-! ## The claims -/

theorem frame_ref : Cert.quiescent_Reference14Ideal := fun m ρ _ =>
  (θ_run Cert.Reference14Ideal.defs _ _).mono (fun r h => ⟨fun c => (h c).2.2.2.2, sem_eq_zero_of_no_sems (by decide) r.2⟩)
    (Cert.Reference14Ideal.Value.run (F := Ideal) m ρ)

theorem algebraic : Cert.algebraic_Kernel14Ideal_Reference14Ideal := by
  intro m ρ m' ρ' _ hagree
  refine ⟨_, _, _, _, (θ_run defs _ _).mono (fun r h c => ⟨(h.1 c).1, (h.1 c).2.1, (h.1 c).2.2.1, (h.1 c).2.2.2, h.2 c⟩)
    (θ_run_and (kernel_run m ρ) (unchanged m ρ)), ?_⟩
  refine (θ_run Cert.Reference14Ideal.defs _ _).mono (fun _ h c => ?_) (Cert.Reference14Ideal.Value.run (F := Ideal) m' ρ')
  obtain ⟨h0, h1, h2, h3, hargs⟩ := h c
  obtain ⟨a0, a1, a2, a3, a4⟩ := hagree c
  replace h0 := h0.trans (Cert.Reference14Ideal.Read.val_main_v3_eq _ _ )
  replace h1 := h1.trans (Cert.Reference14Ideal.Read.val_main_v27_eq _ _ _ _ _ )
  replace h2 := h2.trans (Cert.Reference14Ideal.Read.val_main_v8_eq _ _ _ )
  replace h3 := h3.trans (Cert.Reference14Ideal.Read.val_main_v14_eq _ _ _ )
  rw [a0, a1] at h0
  rw [a0, a1, a2, a3, a4] at h1
  rw [a0, a1, a3] at h2
  rw [a0, a1, a4] at h3
  exact ⟨h0.trans (ref_grad (C m c) (D m c)), h1.trans (ref_delta (C m c) (D m c) (W m c) (M m c) (U m c)), h2.trans (ref_m (C m c) (D m c) (M m c)), h3.trans (ref_v (C m c) (D m c) (U m c)), hargs⟩

end Cert.Ada
end
-- ==== Proof.Adam.lean ====
/- The optimiser's update of a shard: the gradient is the sum of the device's own part and the three parts it was sent. -/
module

public import proofs.«01_k».proof.Defs
public import proofs.«01_k».proof.Proof.Gen.Kernel15Ideal.Frame
public import proofs.«01_k».proof.Proof.Gen.Reference15Ideal.Read
public import proofs.«01_k».proof.Proof.Gen.Reference15Ideal.Run
public import proofs.«01_k».proof.Proof.Adamw
public import Idealize.ShloMosaic.Lib.Pipeline.ValueKit
public import Idealize.ShloMosaic.PureOps.Ideal.Laws

@[expose] public section

set_option maxRecDepth 16384

noncomputable section

namespace Cert.Adam

open Idealize.ShloMosaic Idealize.ShloMosaic.TcCoe Idealize.SL.Sem Cert.Kernel15Ideal Cert.Kernel15Ideal.Gen
open Cert.Adamw

section Payloads

variable (o : Vec Ideal S128x2048 .bf16) (a b e : Vec Ideal S1x128x2048 .bf16) (w mo v : Vec Ideal S128x2048 .f32) (r : Fin 128) (k : Fin 2048)

/-- The four parts added, in one block. -/
def grad0 : EReal := o (ix2 r k) + a (ix3 0 r k) + b (ix3 0 r k) + e (ix3 0 r k)

theorem pay2_apply : k0_pay2 o a b e (ix2 r k) = grad0 o a b e r k := by
  pointwise [k0_pay2]
  rfl
theorem pay3_apply : k0_pay3 o a b e mo (ix2 r k) = newM (grad0 o a b e r k) (mo (ix2 r k)) := by
  pointwise [k0_pay3]
  rw [pay2_apply]
  rfl
theorem pay4_apply : k0_pay4 o a b e v (ix2 r k) = newV (grad0 o a b e r k) (v (ix2 r k)) := by
  pointwise [k0_pay4]
  rw [pay2_apply]
  rfl
theorem pay1_apply : k0_pay1 w (k0_pay5 o a b e mo) (k0_pay6 o a b e v) (k0_pay7 (F := Ideal)) (ix2 r k) =
    delta (grad0 o a b e r k) (w (ix2 r k)) (mo (ix2 r k)) (v (ix2 r k)) := by
  pointwise [k0_pay1, k0_pay5, k0_pay6, k0_pay7]
  rw [pay3_apply, pay4_apply]
  rfl

end Payloads

variable (m : (ℓ : Loc nD τ sig) → Buf (Elt Ideal) ℓ) (c : Dev nD)

/-- The device's own part, the two parts of one exchange, the part of the other, the weight and its two moments. -/
def O : S4096x2048.Idx → EReal := m ((c.tc : Thread nD τ).loc main_arg0)
def A : S2x4096x2048.Idx → EReal := m ((c.tc : Thread nD τ).loc main_arg1)
def B : S1x4096x2048.Idx → EReal := m ((c.tc : Thread nD τ).loc main_arg2)
def W : S4096x2048.Idx → EReal := m ((c.tc : Thread nD τ).loc main_arg3)
def M : S4096x2048.Idx → EReal := m ((c.tc : Thread nD τ).loc main_arg4)
def U : S4096x2048.Idx → EReal := m ((c.tc : Thread nD τ).loc main_arg5)

/-- The gradient: the four parts added. -/
def grad (o : S4096x2048.Idx → EReal) (a : S2x4096x2048.Idx → EReal) (b : S1x4096x2048.Idx → EReal) (i : S4096x2048.Idx) : EReal :=
  o i + a (ix3 0 (i 0) (i 1)) + a (ix3 1 (i 0) (i 1)) + b (ix3 0 (i 0) (i 1))

theorem V_O (i : S4096x2048.Idx) : V m c main_v0 i = O m c i := by
  unfold V; after_results; pointwise; rfl
theorem V_A (i : S2x4096x2048.Idx) : V m c main_v1 i = A m c i := by
  unfold V; after_results; pointwise; rfl
theorem V_B (i : S1x4096x2048.Idx) : V m c main_v2 i = B m c i := by
  unfold V; after_results; pointwise; rfl
theorem V_W : V m c main_arg3 = W m c := V_main_arg3 m c
theorem V_M : V m c main_arg4 = M m c := V_main_arg4 m c
theorem V_U : V m c main_arg5 = U m c := V_main_arg5 m c

theorem idx0 : ∀ t : Fin cfg0.N, win0_0.index t = ![t.val, 0] ∧ win0_1.index t = ![0, t.val, 0] ∧ win0_2.index t = ![0, t.val, 0]
    ∧ win0_3.index t = ![t.val, 0] ∧ win0_4.index t = ![t.val, 0] ∧ win0_5.index t = ![t.val, 0] := (by decide +kernel : ∀ t : Fin grid0.N, _)
theorem idx1 : ∀ t : Fin cfg0.N, win0_6.index t = ![t.val, 0] ∧ win0_7.index t = ![t.val, 0] ∧ win0_8.index t = ![t.val, 0]
    ∧ win0_9.index t = ![t.val, 0] := (by decide +kernel : ∀ t : Fin grid0.N, _)

theorem point_lt (t : Fin cfg0.N) : t.val < 32 := lt_of_lt_of_eq t.isLt (show cfg0.N = 32 from N_0)

/-- The row of the array that row `r` of block `t` is. -/
abbrev row (t : Fin cfg0.N) (r : Fin 128) : Fin 4096 := ⟨t.val * 128 + r.val, by have := point_lt t; omega⟩

theorem blk_O (t : Fin cfg0.N) (r : Fin 128) (k : Fin 2048) : iblk m c 0 t (ix2 r k) = O m c (ix2 (row t r) k) := by
  rw [← V_O]; blk_point [iblk, (idx0 t).1]
theorem blk_A0 (t : Fin cfg0.N) (r : Fin 128) (k : Fin 2048) : View.ld (iblk m c 1 t) r0_1 (ix3 0 r k) = A m c (ix3 0 (row t r) k) := by
  rw [← V_A]; blk_point [iblk, (idx0 t).2.1]
theorem blk_A1 (t : Fin cfg0.N) (r : Fin 128) (k : Fin 2048) : View.ld (iblk m c 1 t) r0_2 (ix3 0 r k) = A m c (ix3 1 (row t r) k) := by
  rw [← V_A]; blk_point [iblk, (idx0 t).2.1]
theorem blk_B (t : Fin cfg0.N) (r : Fin 128) (k : Fin 2048) : iblk m c 2 t (ix3 0 r k) = B m c (ix3 0 (row t r) k) := by
  rw [← V_B]; blk_point [iblk, (idx0 t).2.2.1]
theorem blk_W (t : Fin cfg0.N) (r : Fin 128) (k : Fin 2048) : iblk m c 3 t (ix2 r k) = W m c (ix2 (row t r) k) := by
  rw [← V_W]; blk_point [iblk, (idx0 t).2.2.2.1]
theorem blk_M (t : Fin cfg0.N) (r : Fin 128) (k : Fin 2048) : iblk m c 4 t (ix2 r k) = M m c (ix2 (row t r) k) := by
  rw [← V_M]; blk_point [iblk, (idx0 t).2.2.2.2.1]
theorem blk_U (t : Fin cfg0.N) (r : Fin 128) (k : Fin 2048) : iblk m c 5 t (ix2 r k) = U m c (ix2 (row t r) k) := by
  rw [← V_U]; blk_point [iblk, (idx0 t).2.2.2.2.2]
theorem blk_grad (t : Fin cfg0.N) (r : Fin 128) (k : Fin 2048) :
    grad0 (iblk m c 0 t) (View.ld (iblk m c 1 t) r0_1) (View.ld (iblk m c 1 t) r0_2) (iblk m c 2 t) r k = grad (O m c) (A m c) (B m c) (ix2 (row t r) k) := by
  unfold grad0
  rw [blk_O, blk_A0, blk_A1, blk_B]
  rfl
theorem emb_grad (t : Fin cfg0.N) (r : Fin 128) (k : Fin 2048) : (win0_6.blk t).view.emb (ix2 r k) = ix2 (row t r) k := by blk_ext [(idx1 t).1]
theorem emb_delta (t : Fin cfg0.N) (r : Fin 128) (k : Fin 2048) : (win0_7.blk t).view.emb (ix2 r k) = ix2 (row t r) k := by blk_ext [(idx1 t).2.1]
theorem emb_m (t : Fin cfg0.N) (r : Fin 128) (k : Fin 2048) : (win0_8.blk t).view.emb (ix2 r k) = ix2 (row t r) k := by blk_ext [(idx1 t).2.2.1]
theorem emb_v (t : Fin cfg0.N) (r : Fin 128) (k : Fin 2048) : (win0_9.blk t).view.emb (ix2 r k) = ix2 (row t r) k := by blk_ext [(idx1 t).2.2.2]

/-- The update, entry by entry, of a gradient `g`. -/
def deltaOf (g w mo v : S4096x2048.Idx → EReal) (i : S4096x2048.Idx) : EReal := delta (g i) (w i) (mo i) (v i)
def mOf (g mo : S4096x2048.Idx → EReal) (i : S4096x2048.Idx) : EReal := newM (g i) (mo i)
def vOf (g v : S4096x2048.Idx → EReal) (i : S4096x2048.Idx) : EReal := newV (g i) (v i)

theorem arr_grad : (dats m 0 c).arrAt 6 cfg0.N = grad (O m c) (A m c) (B m c) := by
  refine (dats m 0 c).arrAt_eq_of_covers 6 _ (by decide +kernel) fun t hf y => ?_
  obtain ⟨r, k, rfl⟩ : ∃ (r : Fin 128) (k : Fin 2048), y = ix2 r k := ⟨y 0, y 1, by idx_vars y⟩
  have point : k0_pay2 (iblk m c 0 t) (View.ld (iblk m c 1 t) r0_1) (View.ld (iblk m c 1 t) r0_2) (iblk m c 2 t) (ix2 r k) = (grad (O m c) (A m c) (B m c)) ((win0_6.blk t).view.emb (ix2 r k)) := by
    rw [pay2_apply, emb_grad]
    simp only [blk_grad]
  blk_simp
  rw [after0_6]
  frame_out
  exact point

theorem arr_delta : (dats m 0 c).arrAt 7 cfg0.N = deltaOf (grad (O m c) (A m c) (B m c)) (W m c) (M m c) (U m c) := by
  refine (dats m 0 c).arrAt_eq_of_covers 7 _ (by decide +kernel) fun t hf y => ?_
  obtain ⟨r, k, rfl⟩ : ∃ (r : Fin 128) (k : Fin 2048), y = ix2 r k := ⟨y 0, y 1, by idx_vars y⟩
  have point : k0_pay1 (iblk m c 3 t) (k0_pay5 (iblk m c 0 t) (View.ld (iblk m c 1 t) r0_1) (View.ld (iblk m c 1 t) r0_2) (iblk m c 2 t) (iblk m c 4 t)) (k0_pay6 (iblk m c 0 t) (View.ld (iblk m c 1 t) r0_1) (View.ld (iblk m c 1 t) r0_2) (iblk m c 2 t) (iblk m c 5 t)) (k0_pay7 (F := Ideal)) (ix2 r k) = (deltaOf (grad (O m c) (A m c) (B m c)) (W m c) (M m c) (U m c)) ((win0_7.blk t).view.emb (ix2 r k)) := by
    rw [pay1_apply, emb_delta]
    simp only [blk_grad, blk_W, blk_M, blk_U]
    rfl
  blk_simp
  rw [after0_7]
  frame_out
  exact point

theorem arr_m : (dats m 0 c).arrAt 8 cfg0.N = mOf (grad (O m c) (A m c) (B m c)) (M m c) := by
  refine (dats m 0 c).arrAt_eq_of_covers 8 _ (by decide +kernel) fun t hf y => ?_
  obtain ⟨r, k, rfl⟩ : ∃ (r : Fin 128) (k : Fin 2048), y = ix2 r k := ⟨y 0, y 1, by idx_vars y⟩
  have point : k0_pay3 (iblk m c 0 t) (View.ld (iblk m c 1 t) r0_1) (View.ld (iblk m c 1 t) r0_2) (iblk m c 2 t) (iblk m c 4 t) (ix2 r k) = (mOf (grad (O m c) (A m c) (B m c)) (M m c)) ((win0_8.blk t).view.emb (ix2 r k)) := by
    rw [pay3_apply, emb_m]
    simp only [blk_grad, blk_M]
    rfl
  blk_simp
  rw [after0_8]
  frame_out
  exact point

theorem arr_v : (dats m 0 c).arrAt 9 cfg0.N = vOf (grad (O m c) (A m c) (B m c)) (U m c) := by
  refine (dats m 0 c).arrAt_eq_of_covers 9 _ (by decide +kernel) fun t hf y => ?_
  obtain ⟨r, k, rfl⟩ : ∃ (r : Fin 128) (k : Fin 2048), y = ix2 r k := ⟨y 0, y 1, by idx_vars y⟩
  have point : k0_pay4 (iblk m c 0 t) (View.ld (iblk m c 1 t) r0_1) (View.ld (iblk m c 1 t) r0_2) (iblk m c 2 t) (iblk m c 5 t) (ix2 r k) = (vOf (grad (O m c) (A m c) (B m c)) (U m c)) ((win0_9.blk t).view.emb (ix2 r k)) := by
    rw [pay4_apply, emb_v]
    simp only [blk_grad, blk_U]
    rfl
  blk_simp
  rw [after0_9]
  frame_out
  exact point

theorem kernel_run (ρ : Dev nD → PrngReg) :
    θ_run defs (onTc (τ := τ) (main (F := Ideal))) ⟨m, fun _ => 0, ρ⟩ (fun r => ∀ c : Dev nD,
      r.2.mem ((c.tc : Thread nD τ).loc main_v3_0) = grad (O m c) (A m c) (B m c)
      ∧ r.2.mem ((c.tc : Thread nD τ).loc main_v3_1) = deltaOf (grad (O m c) (A m c) (B m c)) (W m c) (M m c) (U m c)
      ∧ r.2.mem ((c.tc : Thread nD τ).loc main_v3_2) = mOf (grad (O m c) (A m c) (B m c)) (M m c)
      ∧ r.2.mem ((c.tc : Thread nD τ).loc main_v3_3) = vOf (grad (O m c) (A m c) (B m c)) (U m c)) :=
  (θ_run defs _ _).mono (fun _ h c => ⟨(h.out_eq c 6).trans (arr_grad m c), (h.out_eq c 7).trans (arr_delta m c),
    (h.out_eq c 8).trans (arr_m m c), (h.out_eq c 9).trans (arr_v m c)⟩) (run_main m ρ)

section Reference

open Cert.Reference15Ideal.Read

variable (o : S4096x2048.Idx → EReal) (a : S2x4096x2048.Idx → EReal) (b : S1x4096x2048.Idx → EReal)

theorem ref_grad : val_main_v3 (F := Ideal) o a b = grad o a b := by
  funext i
  obtain ⟨r, k, rfl⟩ : ∃ (r : Fin 4096) (k : Fin 2048), i = ix2 r k := ⟨i 0, i 1, by idx_vars i⟩
  pointwise [val_main_v3, val_main_v2, val_main_v1, val_main_v0, val_main_cst]
  rw [Fin.sum_univ_two, ← add_assoc]
  rfl
theorem ref_m (mo : S4096x2048.Idx → EReal) : val_main_v8 (F := Ideal) o a b mo = mOf (grad o a b) mo := by
  funext i
  pointwise [val_main_v8, val_main_v7, val_main_v6, val_main_cst_1, val_main_v5, val_main_v4, val_main_cst_0]
  rw [ref_grad]
  rfl
theorem ref_v (v : S4096x2048.Idx → EReal) : val_main_v14 (F := Ideal) o a b v = vOf (grad o a b) v := by
  funext i
  pointwise [val_main_v14, val_main_v13, val_main_v12, val_main_cst_3, val_main_v11, val_main_v10, val_main_v9, val_main_cst_2]
  rw [ref_grad]
  rfl
theorem ref_delta (w mo v : S4096x2048.Idx → EReal) : val_main_v27 (F := Ideal) o a b w mo v = deltaOf (grad o a b) w mo v := by
  funext i
  pointwise [val_main_v27, val_main_v26, val_main_cst_8, val_main_v25, val_main_v24, val_main_v23, val_main_cst_7, val_main_v22, val_main_v21, val_main_v20, val_main_cst_6,
    val_main_v19, val_main_v18, val_main_v17, val_main_cst_5, val_main_v16, val_main_v15, val_main_cst_4]
  rw [ref_m, ref_v]
  rfl

end Reference

/-! ## The claims -/

theorem frame_ref : Cert.quiescent_Reference15Ideal := fun m ρ _ =>
  (θ_run Cert.Reference15Ideal.defs _ _).mono (fun r h => ⟨fun c => (h c).2.2.2.2, sem_eq_zero_of_no_sems (by decide) r.2⟩)
    (Cert.Reference15Ideal.Value.run (F := Ideal) m ρ)

theorem algebraic : Cert.algebraic_Kernel15Ideal_Reference15Ideal := by
  intro m ρ m' ρ' _ hagree
  refine ⟨_, _, _, _, (θ_run defs _ _).mono (fun r h c => ⟨(h.1 c).1, (h.1 c).2.1, (h.1 c).2.2.1, (h.1 c).2.2.2, h.2 c⟩)
    (θ_run_and (kernel_run m ρ) (unchanged m ρ)), ?_⟩
  refine (θ_run Cert.Reference15Ideal.defs _ _).mono (fun _ h c => ?_) (Cert.Reference15Ideal.Value.run (F := Ideal) m' ρ')
  obtain ⟨h0, h1, h2, h3, hargs⟩ := h c
  obtain ⟨a0, a1, a2, a3, a4, a5⟩ := hagree c
  replace h0 := h0.trans (Cert.Reference15Ideal.Read.val_main_v3_eq _ _ _ )
  replace h1 := h1.trans (Cert.Reference15Ideal.Read.val_main_v27_eq _ _ _ _ _ _ )
  replace h2 := h2.trans (Cert.Reference15Ideal.Read.val_main_v8_eq _ _ _ _ )
  replace h3 := h3.trans (Cert.Reference15Ideal.Read.val_main_v14_eq _ _ _ _ )
  rw [a0, a1, a2] at h0
  rw [a0, a1, a2, a3, a4, a5] at h1
  rw [a0, a1, a2, a4] at h2
  rw [a0, a1, a2, a5] at h3
  exact ⟨h0.trans (ref_grad (O m c) (A m c) (B m c)), h1.trans (ref_delta (O m c) (A m c) (B m c) (W m c) (M m c) (U m c)), h2.trans (ref_m (O m c) (A m c) (B m c) (M m c)), h3.trans (ref_v (O m c) (A m c) (B m c) (U m c)), hargs⟩

end Cert.Adam
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Pre_finite
public import proofs.«01_k».proof.Proof.Gen.Pre_finite3
public import proofs.«01_k».proof.Proof.Gen.Pre_finite4
public import proofs.«01_k».proof.Proof.Gen.Pre_finite5
public import proofs.«01_k».proof.Proof.Gen.Pre_finite6
public import proofs.«01_k».proof.Proof.Gen.Pre_finite7
public import proofs.«01_k».proof.Proof.AttnClaims
public import proofs.«01_k».proof.Proof.GluClaims
public import proofs.«01_k».proof.Proof.Norm2Claims
public import proofs.«01_k».proof.Proof.Norm1Claims
public import proofs.«01_k».proof.Proof.LossClaims
public import proofs.«01_k».proof.Proof.GroupClaims
public import proofs.«01_k».proof.Proof.AttnFwdClaims
public import proofs.«01_k».proof.Proof.PairAdd
public import proofs.«01_k».proof.Proof.Ff2Dw
public import proofs.«01_k».proof.Proof.Ff2Fwd
public import proofs.«01_k».proof.Proof.AdaMod
public import proofs.«01_k».proof.Proof.GluDw
public import proofs.«01_k».proof.Proof.GluDx
public import proofs.«01_k».proof.Proof.Ff2
public import proofs.«01_k».proof.Proof.NormFwd
public import proofs.«01_k».proof.Proof.GroupFwd
public import proofs.«01_k».proof.Proof.GluFwd
public import proofs.«01_k».proof.Proof.Ff1
public import proofs.«01_k».proof.Proof.OutProj
public import proofs.«01_k».proof.Proof.Ada
public import proofs.«01_k».proof.Proof.Adam
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Pre_finite.Gen.facts, Cert.Pre_finite3.Gen.facts, Cert.Pre_finite4.Gen.facts, Cert.Pre_finite5.Gen.facts, Cert.Pre_finite6.Gen.facts, Cert.Pre_finite7.Gen.facts, Cert.Pre_finite16.Gen.facts,
  Cert.AttnBwd.frame_machine, fun m ρ _ => Cert.AttnBwd.frame m ρ, fun m ρ _ => Cert.AttnBwd.frame m ρ,
  Cert.AttnBwd.frame_ref, fun m ρ _ => Cert.AttnBwd.frame_ref m ρ trivial,
  fun m ρ _ => Cert.Kernel2.Gen.frame m ρ, fun m ρ _ => Cert.Kernel2Ideal.Gen.frame m ρ, Cert.Glu.frame_ref,
  fun m ρ _ => Cert.Kernel3.Gen.frame m ρ, fun m ρ _ => Cert.Kernel3Ideal.Gen.frame m ρ, fun m ρ _ => Cert.Kernel3Ideal.Gen.frame m ρ,
  Cert.Norm2.frame_ref, fun m ρ _ => Cert.Norm2.frame_ref m ρ trivial,
  fun m ρ _ => Cert.Kernel4.Gen.frame m ρ, fun m ρ _ => Cert.Kernel4Ideal.Gen.frame m ρ, fun m ρ _ => Cert.Kernel4Ideal.Gen.frame m ρ,
  Cert.Norm1.frame_ref, fun m ρ _ => Cert.Norm1.frame_ref m ρ trivial,
  fun m ρ _ => Cert.Kernel5.Gen.frame m ρ, fun m ρ _ => Cert.Kernel5Ideal.Gen.frame m ρ, fun m ρ _ => Cert.Kernel5Ideal.Gen.frame m ρ,
  Cert.Loss.frame_ref, fun m ρ _ => Cert.Loss.frame_ref m ρ trivial,
  fun m ρ _ => Cert.Kernel6.Gen.frame m ρ, fun m ρ _ => Cert.Kernel6Ideal.Gen.frame m ρ, fun m ρ _ => Cert.Kernel6Ideal.Gen.frame m ρ,
  Cert.Group.frame_ref, fun m ρ _ => Cert.Group.frame_ref m ρ trivial,
  fun m ρ _ => Cert.Kernel7.Gen.frame m ρ, fun m ρ _ => Cert.Kernel7Ideal.Gen.frame m ρ, fun m ρ _ => Cert.Kernel7Ideal.Gen.frame m ρ,
  Cert.AttnFwd.frame_ref, fun m ρ _ => Cert.AttnFwd.frame_ref m ρ trivial,
  fun m ρ _ => Cert.Kernel8.Gen.frame m ρ, fun m ρ _ => Cert.Kernel8Ideal.Gen.frame m ρ, Cert.Ff2.frame_ref,
  fun m ρ _ => Cert.Kernel9.Gen.frame m ρ, fun m ρ _ => Cert.Kernel9Ideal.Gen.frame m ρ, Cert.NormFwd.frame_ref,
  fun m ρ _ => Cert.Kernel10.Gen.frame m ρ, fun m ρ _ => Cert.Kernel10Ideal.Gen.frame m ρ, Cert.GroupFwd.frame_ref,
  fun m ρ _ => Cert.Kernel11.Gen.frame m ρ, fun m ρ _ => Cert.Kernel11Ideal.Gen.frame m ρ, Cert.GluFwd.frame_ref,
  fun m ρ _ => Cert.Kernel12.Gen.frame m ρ, fun m ρ _ => Cert.Kernel12Ideal.Gen.frame m ρ, Cert.Ff1.frame_ref,
  fun m ρ _ => Cert.Kernel13.Gen.frame m ρ, fun m ρ _ => Cert.Kernel13Ideal.Gen.frame m ρ, Cert.OutProj.frame_ref,
  fun m ρ _ => Cert.Kernel14.Gen.frame m ρ, fun m ρ _ => Cert.Kernel14Ideal.Gen.frame m ρ, Cert.Ada.frame_ref,
  fun m ρ _ => Cert.Kernel15.Gen.frame m ρ, fun m ρ _ => Cert.Kernel15Ideal.Gen.frame m ρ, Cert.Adam.frame_ref,
  fun m ρ _ => Cert.Kernel16.Gen.frame m ρ, fun m ρ _ => Cert.Kernel16Ideal.Gen.frame m ρ, fun m ρ _ => Cert.Kernel16Ideal.Gen.frame m ρ,
  Cert.GluDx.frame_ref, fun m ρ _ => Cert.GluDx.frame_ref m ρ trivial,
  fun m ρ _ => Cert.Kernel17.Gen.frame m ρ, fun m ρ _ => Cert.Kernel17Ideal.Gen.frame m ρ, Cert.GluDw.frame_ref,
  fun m ρ _ => Cert.Kernel18.Gen.frame m ρ, fun m ρ _ => Cert.Kernel18Ideal.Gen.frame m ρ, Cert.AdaMod.frame_ref,
  fun m ρ _ => Cert.Kernel19.Gen.frame m ρ, fun m ρ _ => Cert.Kernel19Ideal.Gen.frame m ρ, Cert.Ff2Fwd.frame_ref,
  fun m ρ _ => Cert.Kernel20.Gen.frame m ρ, fun m ρ _ => Cert.Kernel20Ideal.Gen.frame m ρ, Cert.Ff2Dw.frame_ref,
  fun m ρ _ => Cert.Kernel21.Gen.frame m ρ (Cert.PairAdd.ok_bits m), fun m ρ _ => Cert.Kernel21Ideal.Gen.frame m ρ (Cert.PairAdd.ok m), Cert.PairAdd.frame_ref,
  trivial, Cert.AttnBwd.algebraic, trivial, Cert.Glu.algebraic, trivial, Cert.Norm2.algebraic, trivial, Cert.Norm1.algebraic, trivial, Cert.Loss.algebraic, trivial, Cert.Group.algebraic, Cert.AttnFwd.preserves, Cert.AttnFwd.algebraic,
  trivial, Cert.Ff2.algebraic, trivial, Cert.NormFwd.algebraic, trivial, Cert.GroupFwd.algebraic, trivial, Cert.GluFwd.algebraic, trivial, Cert.Ff1.algebraic, trivial, Cert.OutProj.algebraic, trivial, Cert.Ada.algebraic, trivial, Cert.Adam.algebraic,
  Cert.GluDx.preserves, Cert.GluDx.algebraic, trivial, Cert.GluDw.algebraic, trivial, Cert.AdaMod.algebraic, trivial, Cert.Ff2Fwd.algebraic, trivial, Cert.Ff2Dw.algebraic, trivial, Cert.PairAdd.algebraic⟩

end Cert.Proof

end
